-- ==== Defs.lean ====
def Pre_Kernel [hPre_dest_in_rows : Cert.Pre_dest_in_rows.Facts] (m : (ℓ : Loc Cert.Kernel.nD Cert.Kernel.τ Cert.Kernel.sig) → Buf (Elt Bits) ℓ) : Prop :=
  ∀ c : Dev Cert.Kernel.nD,
    (Cert.Pre_dest_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_dest_in_rows : Cert.Pre_dest_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_dest_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_dest_in_rows : Cert.Pre_dest_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dest_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_dest_in_rows : Cert.Pre_dest_in_rows.Facts] (m : (ℓ : Loc Cert.Reference.nD Cert.Reference.τ Cert.Reference.sig) → Buf (Elt Bits) ℓ) : Prop :=
  ∀ c : Dev Cert.Reference.nD,
    (Cert.Pre_dest_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_tiles_in_reach : Cert.Pre_tiles_in_reach.Facts] (m : (ℓ : Loc Cert.Kernel3.nD Cert.Kernel3.τ Cert.Kernel3.sig) → Buf (Elt Bits) ℓ) : Prop :=
  ∀ c : Dev Cert.Kernel3.nD,
    (Cert.Pre_tiles_in_reach.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))) = (fun _ => 1#1)

def Pre_Kernel3Ideal [hPre_tiles_in_reach : Cert.Pre_tiles_in_reach.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tiles_in_reach.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal [hPre_tiles_in_reach : Cert.Pre_tiles_in_reach.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_tiles_in_reach.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def quiescent_Kernel [hKernel : Cert.Kernel.Facts] [hPre_dest_in_rows : Cert.Pre_dest_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_dest_in_rows : Cert.Pre_dest_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_dest_in_rows : Cert.Pre_dest_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_dest_in_rows : Cert.Pre_dest_in_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_tiles_in_reach : Cert.Pre_tiles_in_reach.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] [hPre_tiles_in_reach : Cert.Pre_tiles_in_reach.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] [hPre_tiles_in_reach : Cert.Pre_tiles_in_reach.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_dest_in_rows : Cert.Pre_dest_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_dest_in_rows : Cert.Pre_dest_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v9)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v9) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v19)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.named_const.Statement Cert.Kernel3Ideal.κ "mask" .f32 0xF149F2CA#32 ⊥

def algebraic_Kernel3Ideal_Reference3Ideal [hKernel3Ideal : Cert.Kernel3Ideal.Facts] [hReference3Ideal : Cert.Reference3Ideal.Facts] [hPre_tiles_in_reach : Cert.Pre_tiles_in_reach.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v65)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v65) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v90) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_dest_in_rows : Cert.Pre_dest_in_rows.Facts) (hPre_tiles_in_reach : Cert.Pre_tiles_in_reach.Facts),
    quiescent_Kernel (hKernel := hKernel) (hPre_dest_in_rows := hPre_dest_in_rows)
    ∧ quiescent_KernelIdeal (hKernelIdeal := hKernelIdeal) (hPre_dest_in_rows := hPre_dest_in_rows)
    ∧ quiescent_ReferenceIdeal (hReferenceIdeal := hReferenceIdeal) (hPre_dest_in_rows := hPre_dest_in_rows)
    ∧ quiescent_Reference (hReference := hReference) (hPre_dest_in_rows := hPre_dest_in_rows)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_tiles_in_reach := hPre_tiles_in_reach)
    ∧ quiescent_Kernel3Ideal (hKernel3Ideal := hKernel3Ideal) (hPre_tiles_in_reach := hPre_tiles_in_reach)
    ∧ quiescent_Reference3Ideal (hReference3Ideal := hReference3Ideal) (hPre_tiles_in_reach := hPre_tiles_in_reach)
    ∧ preserves_Kernel_KernelIdeal
    ∧ algebraic_KernelIdeal_ReferenceIdeal (hKernelIdeal := hKernelIdeal) (hReferenceIdeal := hReferenceIdeal) (hPre_dest_in_rows := hPre_dest_in_rows)
    ∧ bitexact_Kernel_Reference (hKernel := hKernel) (hReference := hReference) (hPre_dest_in_rows := hPre_dest_in_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_tiles_in_reach := hPre_tiles_in_reach)
-- ==== Pre_dest_in_rows.lean ====
abbrev S2x294912x256 : Shape := ⟨3, ![2, 294912, 256]⟩
abbrev S8x32768 : Shape := ⟨2, ![8, 32768]⟩
abbrev S_ : Shape := ⟨0, ![]⟩

class Facts : Prop where
  bcast_S_S8x32768 : S_.BroadcastsInDim S8x32768 (![] : Fin 0 → Fin S8x32768.rank)

variable [Facts]

def fn {F : FTy → Type} [FloatOps F] (main_arg0 : IVec S2x294912x256 32) (main_arg1 : IVec S8x32768 32) : IVec S8x32768 1 :=
  let main_c : IVec S_ 32 := constantI S_ 32 0#32
  let main_v0 : IVec S8x32768 32 := broadcastInDim S8x32768 ![] bcast_S_S8x32768 main_c
  let main_v1 : IVec S8x32768 1 := cmpi .sge main_arg1 main_v0
  let main_c_0 : IVec S_ 32 := constantI S_ 32 294912#32
  let main_v2 : IVec S8x32768 32 := broadcastInDim S8x32768 ![] bcast_S_S8x32768 main_c_0
  let main_v3 : IVec S8x32768 1 := cmpi .slt main_arg1 main_v2
  let main_v4 : IVec S8x32768 1 := andi main_v1 main_v3
  main_v4
-- ==== Pre_tiles_in_reach.lean ====
abbrev S8 : Shape := ⟨1, ![8]⟩
abbrev S4x8x16 : Shape := ⟨3, ![4, 8, 16]⟩
abbrev S4x8192x6528 : Shape := ⟨3, ![4, 8192, 6528]⟩
abbrev S64 : Shape := ⟨1, ![64]⟩
abbrev S128 : Shape := ⟨1, ![128]⟩
abbrev S_ : Shape := ⟨0, ![]⟩
abbrev S16 : Shape := ⟨1, ![16]⟩
abbrev S1x1x16 : Shape := ⟨3, ![1, 1, 16]⟩

class Facts : Prop where
  bcast_S_S4x8x16 : S_.BroadcastsInDim S4x8x16 (![] : Fin 0 → Fin S4x8x16.rank)
  bcast_S16_S1x1x16_2 : S16.BroadcastsInDim S1x1x16 (![2] : Fin 1 → Fin S1x1x16.rank)
  bcast_S1x1x16_S4x8x16_0_1_2 : S1x1x16.BroadcastsInDim S4x8x16 (![0, 1, 2] : Fin 3 → Fin S4x8x16.rank)
  bcast_S_S8 : S_.BroadcastsInDim S8 (![] : Fin 0 → Fin S8.rank)
  reducesTo_S8_S_d0 : S8.ReducesTo [0] S_
  h_S_ : 0 < S_.numel
  bitsLt_bf16_f32 : FTy.bits .bf16 < FTy.bits .f32
  bcast_S_S4x8192x6528 : S_.BroadcastsInDim S4x8192x6528 (![] : Fin 0 → Fin S4x8192x6528.rank)
  reducesTo_S4x8192x6528_S_d0_1_2 : S4x8192x6528.ReducesTo [0, 1, 2] S_
  bcast_S_S64 : S_.BroadcastsInDim S64 (![] : Fin 0 → Fin S64.rank)
  reducesTo_S64_S_d0 : S64.ReducesTo [0] S_

variable [Facts]

def fn_part2 {F : FTy → Type} [FloatOps F] (main_arg6 : FVec F S64 .f32) (main_v31 : IVec S4x8x16 1) (main_v36 : IVec S4x8x16 1) : IVec S4x8x16 1 :=
  let main_v37 : IVec S4x8x16 1 := andi main_v31 main_v36
  let main_v38 : FVec F S64 .f32 := Host.absf main_arg6
  let main_cst_9 : FVec F S_ .f32 := constant S_ .f32 0x7F800000#32
  let main_v39 : FVec F S64 .f32 := broadcastInDim S64 ![] bcast_S_S64 main_cst_9
  let main_v40 : IVec S64 1 := cmpf .olt main_v38 main_v39
  let main_c_10 : IVec S_ 1 := constantI S_ 1 1#1
  let main_v41 : IVec S_ 1 := (fun x v => Host.reduce IntOp.andi x v reducesTo_S64_S_d0 h_S_) main_v40 main_c_10
  let main_v42 : IVec S4x8x16 1 := broadcastInDim S4x8x16 ![] bcast_S_S4x8x16 main_v41
  let main_v43 : IVec S4x8x16 1 := andi main_v37 main_v42
  main_v43

def fn_part1 {F : FTy → Type} [FloatOps F] (main_arg3 : FVec F S64 .f32) (main_arg4 : FVec F S64 .f32) (main_arg5 : FVec F S64 .f32) (main_arg6 : FVec F S64 .f32) (main_v12 : IVec S4x8x16 1) (main_v18 : IVec S4x8x16 1) : IVec S4x8x16 1 :=
  let main_v19 : IVec S4x8x16 1 := andi main_v12 main_v18
  let main_v20 : FVec F S64 .f32 := Host.absf main_arg3
  let main_cst_3 : FVec F S_ .f32 := constant S_ .f32 0x7F800000#32
  let main_v21 : FVec F S64 .f32 := broadcastInDim S64 ![] bcast_S_S64 main_cst_3
  let main_v22 : IVec S64 1 := cmpf .olt main_v20 main_v21
  let main_c_4 : IVec S_ 1 := constantI S_ 1 1#1
  let main_v23 : IVec S_ 1 := (fun x v => Host.reduce IntOp.andi x v reducesTo_S64_S_d0 h_S_) main_v22 main_c_4
  let main_v24 : IVec S4x8x16 1 := broadcastInDim S4x8x16 ![] bcast_S_S4x8x16 main_v23
  let main_v25 : IVec S4x8x16 1 := andi main_v19 main_v24
  let main_v26 : FVec F S64 .f32 := Host.absf main_arg4
  let main_cst_5 : FVec F S_ .f32 := constant S_ .f32 0x7F800000#32
  let main_v27 : FVec F S64 .f32 := broadcastInDim S64 ![] bcast_S_S64 main_cst_5
  let main_v28 : IVec S64 1 := cmpf .olt main_v26 main_v27
  let main_c_6 : IVec S_ 1 := constantI S_ 1 1#1
  let main_v29 : IVec S_ 1 := (fun x v => Host.reduce IntOp.andi x v reducesTo_S64_S_d0 h_S_) main_v28 main_c_6
  let main_v30 : IVec S4x8x16 1 := broadcastInDim S4x8x16 ![] bcast_S_S4x8x16 main_v29
  let main_v31 : IVec S4x8x16 1 := andi main_v25 main_v30
  let main_v32 : FVec F S64 .f32 := Host.absf main_arg5
  let main_cst_7 : FVec F S_ .f32 := constant S_ .f32 0x7F800000#32
  let main_v33 : FVec F S64 .f32 := broadcastInDim S64 ![] bcast_S_S64 main_cst_7
  let main_v34 : IVec S64 1 := cmpf .olt main_v32 main_v33
  let main_c_8 : IVec S_ 1 := constantI S_ 1 1#1
  let main_v35 : IVec S_ 1 := (fun x v => Host.reduce IntOp.andi x v reducesTo_S64_S_d0 h_S_) main_v34 main_c_8
  let main_v36 : IVec S4x8x16 1 := broadcastInDim S4x8x16 ![] bcast_S_S4x8x16 main_v35
  fn_part2 (F := F) main_arg6 main_v31 main_v36

def fn {F : FTy → Type} [FloatOps F] (main_arg0 : FVec F S8 .f32) (main_arg1 : IVec S4x8x16 32) (main_arg2 : FVec F S4x8192x6528 .bf16) (main_arg3 : FVec F S64 .f32) (main_arg4 : FVec F S64 .f32) (main_arg5 : FVec F S64 .f32) (main_arg6 : FVec F S64 .f32) (main_arg7 : FVec F S128 .f32) : IVec S4x8x16 1 :=
  let main_c : IVec S_ 32 := constantI S_ 32 0#32
  let main_v0 : IVec S4x8x16 32 := broadcastInDim S4x8x16 ![] bcast_S_S4x8x16 main_c
  let main_v1 : IVec S4x8x16 1 := cmpi .sge main_arg1 main_v0
  let main_v2 : IVec S16 32 := iotaInDim S16 32 0
  let main_v3 : IVec S1x1x16 32 := broadcastInDim S1x1x16 ![2] bcast_S16_S1x1x16_2 main_v2
  let main_v4 : IVec S4x8x16 32 := broadcastInDim S4x8x16 ![0, 1, 2] bcast_S1x1x16_S4x8x16_0_1_2 main_v3
  let main_v5 : IVec S4x8x16 1 := cmpi .sle main_arg1 main_v4
  let main_v6 : IVec S4x8x16 1 := andi main_v1 main_v5
  let main_v7 : FVec F S8 .f32 := Host.absf main_arg0
  let main_cst : FVec F S_ .f32 := constant S_ .f32 0x7F800000#32
  let main_v8 : FVec F S8 .f32 := broadcastInDim S8 ![] bcast_S_S8 main_cst
  let main_v9 : IVec S8 1 := cmpf .olt main_v7 main_v8
  let main_c_0 : IVec S_ 1 := constantI S_ 1 1#1
  let main_v10 : IVec S_ 1 := (fun x v => Host.reduce IntOp.andi x v reducesTo_S8_S_d0 h_S_) main_v9 main_c_0
  let main_v11 : IVec S4x8x16 1 := broadcastInDim S4x8x16 ![] bcast_S_S4x8x16 main_v10
  let main_v12 : IVec S4x8x16 1 := andi main_v6 main_v11
  let main_v13 : FVec F S4x8192x6528 .f32 := (extf .f32 · bitsLt_bf16_f32) main_arg2
  let main_v14 : FVec F S4x8192x6528 .f32 := Host.absf main_v13
  let main_cst_1 : FVec F S_ .f32 := constant S_ .f32 0x7F800000#32
  let main_v15 : FVec F S4x8192x6528 .f32 := broadcastInDim S4x8192x6528 ![] bcast_S_S4x8192x6528 main_cst_1
  let main_v16 : IVec S4x8192x6528 1 := cmpf .olt main_v14 main_v15
  let main_c_2 : IVec S_ 1 := constantI S_ 1 1#1
  let main_v17 : IVec S_ 1 := (fun x v => Host.reduce IntOp.andi x v reducesTo_S4x8192x6528_S_d0_1_2 h_S_) main_v16 main_c_2
  let main_v18 : IVec S4x8x16 1 := broadcastInDim S4x8x16 ![] bcast_S_S4x8x16 main_v17
  fn_part1 (F := F) main_arg3 main_arg4 main_arg5 main_arg6 main_v12 main_v18
-- ==== Kernel.lean ====
abbrev S2x294912x256 : Shape := ⟨3, ![2, 294912, 256]⟩
abbrev S8x32768 : Shape := ⟨2, ![8, 32768]⟩
abbrev S262144 : Shape := ⟨1, ![262144]⟩
abbrev S_ : Shape := ⟨0, ![]⟩
abbrev S524288 : Shape := ⟨1, ![524288]⟩
abbrev S589824x2x128 : Shape := ⟨3, ![589824, 2, 128]⟩
abbrev S1x524288 : Shape := ⟨2, ![1, 524288]⟩
abbrev S524288x2x128 : Shape := ⟨3, ![524288, 2, 128]⟩
abbrev S2x1x128 : Shape := ⟨3, ![2, 1, 128]⟩
abbrev S2 : Shape := ⟨1, ![2]⟩
abbrev S2x128x2x128 : Shape := ⟨4, ![2, 128, 2, 128]⟩
abbrev S1x1x128 : Shape := ⟨3, ![1, 1, 128]⟩
abbrev S1x128 : Shape := ⟨2, ![1, 128]⟩
abbrev S1 : Shape := ⟨1, ![1]⟩
abbrev S1x128x2x128 : Shape := ⟨4, ![1, 128, 2, 128]⟩
abbrev S128x2x128 : Shape := ⟨3, ![128, 2, 128]⟩
abbrev S128 : Shape := ⟨1, ![128]⟩
abbrev S2x8x32768x256 : Shape := ⟨4, ![2, 8, 32768, 256]⟩

abbrev nBuf : Table → Nat
  | .hbm => 14
  | .local .scVector .vmem => 2
  | _ => 0

abbrev bufTy : (tb : Table) → Fin (nBuf tb) → BufTy
  | .hbm, ⟨0, _⟩ => ⟨S2x294912x256, .i32⟩
  | .hbm, ⟨1, _⟩ => ⟨S8x32768, .i32⟩
  | .hbm, ⟨2, _⟩ => ⟨S262144, .i32⟩
  | .hbm, ⟨3, _⟩ => ⟨S_, .i32⟩
  | .hbm, ⟨4, _⟩ => ⟨S262144, .i32⟩
  | .hbm, ⟨5, _⟩ => ⟨S262144, .i32⟩
  | .hbm, ⟨6, _⟩ => ⟨S_, .i32⟩
  | .hbm, ⟨7, _⟩ => ⟨S262144, .i32⟩
  | .hbm, ⟨8, _⟩ => ⟨S262144, .i32⟩
  | .hbm, ⟨9, _⟩ => ⟨S524288, .i32⟩
  | .hbm, ⟨10, _⟩ => ⟨S589824x2x128, .i32⟩
  | .hbm, ⟨11, _⟩ => ⟨S1x524288, .i32⟩
  | .hbm, ⟨12, _⟩ => ⟨S524288x2x128, .i32⟩
  | .hbm, ⟨13, _⟩ => ⟨S2x8x32768x256, .i32⟩
  | .local .scVector .vmem, ⟨0, _⟩ => ⟨S2x1x128, .i32⟩
  | .local .scVector .vmem, ⟨1, _⟩ => ⟨S2x128x2x128, .i32⟩
  | _, _ => ⟨S2x294912x256, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v6_scv : Ref sig .scVector := ⟨.hbm, 10, rfl⟩
abbrev main_v7_scv : Ref sig .scVector := ⟨.hbm, 11, rfl⟩
abbrev main_v8_scv : Ref sig .scVector := ⟨.hbm, 12, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_15_r0 : BitVec 32 := 0#32
  let c0_i32_16_r0 : BitVec 32 := 0#32
  ![v21_r0.toNat, 0, 0]
def k0_off2 (i : grid0.Coords) : Fin 2 → Nat :=
  let c0_i32_17_r0 : BitVec 32 := 0#32
  let c128_i32_14_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v7_r0 : BitVec 32 := Scalar.addi c0_i32_1_r0 v4
  let v22_r0 : BitVec 32 := Scalar.muli c128_i32_14_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_27_r0 : BitVec 32 := 0#32
  let c128_i32_28_r0 : BitVec 32 := 128#32
  let v32_r0 : BitVec 32 := Scalar.addi c0_i32_27_r0 c128_i32_28_r0
  let c1_i32_29_r0 : BitVec 32 := 1#32
  ⟨c0_i32_27_r0, v32_r0, c1_i32_29_r0⟩
def k0_off4 (arg6_r0 : BitVec 32) : Fin 3 → Nat :=
  let c2_i32_104_r0 : BitVec 32 := 2#32
  let v144_r0 : BitVec 32 := Scalar.remui arg6_r0 c2_i32_104_r0
  let c0_i32_106_r0 : BitVec 32 := 0#32
  let c0_i32_107_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v66_r0 : BitVec 32 := Scalar.addi arg10_r0 v4
  let true_66_r0 : BitVec 1 := 1#1
  let c1_i32_65_r0 : BitVec 32 := 1#32
  let v72_r0 : BitVec 32 := Scalar.addi arg10_r0 c1_i32_65_r0
  let v73_r0 : BitVec 32 := Scalar.select true_66_r0 v72_r0 arg10_r0
  let c128_i32_67_r0 : BitVec 32 := 128#32
  let v74_r0 : BitVec 1 := Scalar.cmpi .eq v73_r0 c128_i32_67_r0
  let c0_i32_68_r0 : BitVec 32 := 0#32
  let v75_r0 : BitVec 32 := Scalar.select v74_r0 c0_i32_68_r0 v73_r0
  let v76_r0 : BitVec 32 := Scalar.addi v75_r0 v4
  let v82_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k0_t1
  let c127_i32_73_r0 : BitVec 32 := 127#32
  let v83_r0 : BitVec 1 := Scalar.cmpi .sge arg5_r0 c127_i32_73_r0
  let true_74_r0 : BitVec 1 := 1#1
  let v84_r0 : BitVec 1 := Scalar.xori v83_r0 true_74_r0
  let v85_r0 : BitVec 1 := Scalar.andi v82_r0 v84_r0
  let true_75_r0 : BitVec 1 := 1#1
  let v86_r0 : BitVec 1 := Scalar.andi v85_r0 true_75_r0
  let v87_r0 : BitVec 32 := Scalar.extui v86_r0
  let c0_i32_76_r0 : BitVec 32 := 0#32
  let v88_r0 : BitVec 1 := Scalar.cmpi .ne v87_r0 c0_i32_76_r0
  v88_r0

def k0_off5 (i : grid0.Coords) (arg10_r0 : BitVec 32) : Fin 2 → Nat :=
  let c0_i32_108_r0 : BitVec 32 := 0#32
  let c128_i32_105_r0 : BitVec 32 := 128#32
  let true_66_r0 : BitVec 1 := 1#1
  let c1_i32_65_r0 : BitVec 32 := 1#32
  let v72_r0 : BitVec 32 := Scalar.addi arg10_r0 c1_i32_65_r0
  let v73_r0 : BitVec 32 := Scalar.select true_66_r0 v72_r0 arg10_r0
  let c128_i32_67_r0 : BitVec 32 := 128#32
  let v74_r0 : BitVec 1 := Scalar.cmpi .eq v73_r0 c128_i32_67_r0
  let c0_i32_68_r0 : BitVec 32 := 0#32
  let v75_r0 : BitVec 32 := Scalar.select v74_r0 c0_i32_68_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v76_r0 : BitVec 32 := Scalar.addi v75_r0 v4
  let v145_r0 : BitVec 32 := Scalar.muli c128_i32_105_r0 v76_r0
  ![0, v145_r0.toNat]
def k0_off6 (arg6_r0 : BitVec 32) : Fin 1 → Nat :=
  let c2_i32_104_r0 : BitVec 32 := 2#32
  let v144_r0 : BitVec 32 := Scalar.remui arg6_r0 c2_i32_104_r0
  ![v144_r0.toNat]
def k0_off7 (arg7_r0 : BitVec 32) : Fin 3 → Nat :=
  let c2_i32_105_r0 : BitVec 32 := 2#32
  let v145_r0 : BitVec 32 := Scalar.remui arg7_r0 c2_i32_105_r0
  let c0_i32_106_r0 : BitVec 32 := 0#32
  let c0_i32_107_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v66_r0 : BitVec 32 := Scalar.addi arg10_r0 v4
  let true_62_r0 : BitVec 1 := 1#1
  let c1_i32_61_r0 : BitVec 32 := 1#32
  let v67_r0 : BitVec 32 := Scalar.subi arg10_r0 c1_i32_61_r0
  let v68_r0 : BitVec 32 := Scalar.select true_62_r0 v67_r0 arg10_r0
  let c_m1_i32_63_r0 : BitVec 32 := 4294967295#32
  let v69_r0 : BitVec 1 := Scalar.cmpi .eq v68_r0 c_m1_i32_63_r0
  let c127_i32_64_r0 : BitVec 32 := 127#32
  let v70_r0 : BitVec 32 := Scalar.select v69_r0 c127_i32_64_r0 v68_r0
  let v71_r0 : BitVec 32 := Scalar.addi v70_r0 v4
  let v96_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k0_t1
  let c0_i32_59_r0 : BitVec 32 := 0#32
  let v64_r0 : BitVec 1 := Scalar.cmpi .eq arg5_r0 c0_i32_59_r0
  let v97_r0 : BitVec 1 := Scalar.ori v96_r0 v64_r0
  let c0_i32_81_r0 : BitVec 32 := 0#32
  let v98_r0 : BitVec 1 := Scalar.cmpi .sge arg5_r0 c0_i32_81_r0
  let v99_r0 : BitVec 1 := Scalar.andi v97_r0 v98_r0
  let v100_r0 : BitVec 32 := Scalar.extui v99_r0
  let c0_i32_82_r0 : BitVec 32 := 0#32
  let v101_r0 : BitVec 1 := Scalar.cmpi .ne v100_r0 c0_i32_82_r0
  v101_r0

def k0_off8 (i : grid0.Coords) (arg10_r0 : BitVec 32) : Fin 2 → Nat :=
  let c0_i32_108_r0 : BitVec 32 := 0#32
  let c128_i32_104_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v66_r0 : BitVec 32 := Scalar.addi arg10_r0 v4
  let v144_r0 : BitVec 32 := Scalar.muli c128_i32_104_r0 v66_r0
  ![0, v144_r0.toNat]
def k0_off9 (arg7_r0 : BitVec 32) : Fin 1 → Nat :=
  let c2_i32_105_r0 : BitVec 32 := 2#32
  let v145_r0 : BitVec 32 := Scalar.remui arg7_r0 c2_i32_105_r0
  ![v145_r0.toNat]
def k0_off10 (arg8_r0 : BitVec 32) : Fin 4 → Nat :=
  let c2_i32_86_r0 : BitVec 32 := 2#32
  let v109_r0 : BitVec 32 := Scalar.remui arg8_r0 c2_i32_86_r0
  let c0_i32_104_r1 : BitVec 32 := 0#32
  let c0_i32_105_r1 : BitVec 32 := 0#32
  let c0_i32_106_r1 : BitVec 32 := 0#32
  ![v109_r0.toNat, 0, 0, 0]

def k0_chk2 (arg8_r0 : BitVec 32) : Prop :=
  (∀ a, (k0_off10 arg8_r0) a + S1x128x2x128.size a ≤ S2x128x2x128.size a)
theorem k0_off10_inb : ∀ (arg8_r0 : BitVec 32) (k0_hw2 : k0_chk2 arg8_r0), ∀ a, (k0_off10 arg8_r0) a + S1x128x2x128.size a ≤ S2x128x2x128.size a := fun arg8_r0 k0_hw2 => k0_hw2

def k0_off11 (arg7_r0 : BitVec 32) : Fin 3 → Nat :=
  let c2_i32_85_r0 : BitVec 32 := 2#32
  let v108_r0 : BitVec 32 := Scalar.remui arg7_r0 c2_i32_85_r0
  let c0_i32_107_r1 : BitVec 32 := 0#32
  let c0_i32_108_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 4 → Nat :=
  let c2_i32_104_r0 : BitVec 32 := 2#32
  let v144_r0 : BitVec 32 := Scalar.remui arg8_r0 c2_i32_104_r0
  let c0_i32_106_r0 : BitVec 32 := 0#32
  let c0_i32_107_r0 : BitVec 32 := 0#32
  let c0_i32_108_r0 : BitVec 32 := 0#32
  ![v144_r0.toNat, 0, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v66_r0 : BitVec 32 := Scalar.addi arg10_r0 v4
  let true_66_r0 : BitVec 1 := 1#1
  let c1_i32_65_r0 : BitVec 32 := 1#32
  let v72_r0 : BitVec 32 := Scalar.addi arg10_r0 c1_i32_65_r0
  let v73_r0 : BitVec 32 := Scalar.select true_66_r0 v72_r0 arg10_r0
  let c128_i32_67_r0 : BitVec 32 := 128#32
  let v74_r0 : BitVec 1 := Scalar.cmpi .eq v73_r0 c128_i32_67_r0
  let c0_i32_68_r0 : BitVec 32 := 0#32
  let v75_r0 : BitVec 32 := Scalar.select v74_r0 c0_i32_68_r0 v73_r0
  let v76_r0 : BitVec 32 := Scalar.addi v75_r0 v4
  let v115_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k0_t1
  let c127_i32_60_r0 : BitVec 32 := 127#32
  let v65_r0 : BitVec 1 := Scalar.cmpi .eq arg5_r0 c127_i32_60_r0
  let v116_r0 : BitVec 1 := Scalar.ori v115_r0 v65_r0
  let v117_r0 : BitVec 32 := Scalar.extui v116_r0
  let c0_i32_89_r0 : BitVec 32 := 0#32
  let v118_r0 : BitVec 1 := Scalar.cmpi .ne v117_r0 c0_i32_89_r0
  v118_r0

def k0_off13 (i : grid0.Coords) (arg10_r0 : BitVec 32) : Fin 3 → Nat :=
  let c128_i32_105_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v66_r0 : BitVec 32 := Scalar.addi arg10_r0 v4
  let v145_r0 : BitVec 32 := Scalar.muli c128_i32_105_r0 v66_r0
  let c0_i32_109_r0 : BitVec 32 := 0#32
  let c0_i32_110_r0 : BitVec 32 := 0#32
  ![v145_r0.toNat, 0, 0]
def k0_off14 (arg8_r0 : BitVec 32) : Fin 1 → Nat :=
  let c2_i32_104_r0 : BitVec 32 := 2#32
  let v144_r0 : BitVec 32 := Scalar.remui arg8_r0 c2_i32_104_r0
  ![v144_r0.toNat]
def k0_off15 (arg9_r0 : BitVec 32) : Fin 4 → Nat :=
  let c2_i32_104_r0 : BitVec 32 := 2#32
  let v144_r0 : BitVec 32 := Scalar.remui arg9_r0 c2_i32_104_r0
  let c0_i32_106_r0 : BitVec 32 := 0#32
  let c0_i32_107_r0 : BitVec 32 := 0#32
  let c0_i32_108_r0 : BitVec 32 := 0#32
  ![v144_r0.toNat, 0, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v66_r0 : BitVec 32 := Scalar.addi arg10_r0 v4
  let true_62_r0 : BitVec 1 := 1#1
  let c1_i32_61_r0 : BitVec 32 := 1#32
  let v67_r0 : BitVec 32 := Scalar.subi arg10_r0 c1_i32_61_r0
  let v68_r0 : BitVec 32 := Scalar.select true_62_r0 v67_r0 arg10_r0
  let c_m1_i32_63_r0 : BitVec 32 := 4294967295#32
  let v69_r0 : BitVec 1 := Scalar.cmpi .eq v68_r0 c_m1_i32_63_r0
  let c127_i32_64_r0 : BitVec 32 := 127#32
  let v70_r0 : BitVec 32 := Scalar.select v69_r0 c127_i32_64_r0 v68_r0
  let v71_r0 : BitVec 32 := Scalar.addi v70_r0 v4
  let v128_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k0_t1
  let c0_i32_59_r0 : BitVec 32 := 0#32
  let v64_r0 : BitVec 1 := Scalar.cmpi .eq arg5_r0 c0_i32_59_r0
  let true_95_r0 : BitVec 1 := 1#1
  let v129_r0 : BitVec 1 := Scalar.xori v64_r0 true_95_r0
  let v130_r0 : BitVec 1 := Scalar.andi v128_r0 v129_r0
  let v131_r0 : BitVec 32 := Scalar.extui v130_r0
  let c0_i32_96_r0 : BitVec 32 := 0#32
  let v132_r0 : BitVec 1 := Scalar.cmpi .ne v131_r0 c0_i32_96_r0
  v132_r0

def k0_off16 (i : grid0.Coords) (arg10_r0 : BitVec 32) : Fin 3 → Nat :=
  let c128_i32_105_r0 : BitVec 32 := 128#32
  let true_62_r0 : BitVec 1 := 1#1
  let c1_i32_61_r0 : BitVec 32 := 1#32
  let v67_r0 : BitVec 32 := Scalar.subi arg10_r0 c1_i32_61_r0
  let v68_r0 : BitVec 32 := Scalar.select true_62_r0 v67_r0 arg10_r0
  let c_m1_i32_63_r0 : BitVec 32 := 4294967295#32
  let v69_r0 : BitVec 1 := Scalar.cmpi .eq v68_r0 c_m1_i32_63_r0
  let c127_i32_64_r0 : BitVec 32 := 127#32
  let v70_r0 : BitVec 32 := Scalar.select v69_r0 c127_i32_64_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v71_r0 : BitVec 32 := Scalar.addi v70_r0 v4
  let v145_r0 : BitVec 32 := Scalar.muli c128_i32_105_r0 v71_r0
  let c0_i32_109_r0 : BitVec 32 := 0#32
  let c0_i32_110_r0 : BitVec 32 := 0#32
  ![v145_r0.toNat, 0, 0]
def k0_off17 (arg9_r0 : BitVec 32) : Fin 1 → Nat :=
  let c2_i32_104_r0 : BitVec 32 := 2#32
  let v144_r0 : BitVec 32 := Scalar.remui arg9_r0 c2_i32_104_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x524288.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x524288.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x2x128.size a ≤ S2x128x2x128.size a) ∧
  (∀ (k0_h5 : k0_cond5 i k0_t1 arg10_r0 = 1#1), ∀ a, (k0_off13 i arg10_r0) a + S128x2x128.size a ≤ S524288x2x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x2x128.size a ≤ S2x128x2x128.size a) ∧
  (∀ (k0_h7 : k0_cond7 i k0_t1 arg10_r0 = 1#1), ∀ a, (k0_off16 i arg10_r0) a + S128x2x128.size a ≤ S524288x2x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x524288.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x524288.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x2x128.size a ≤ S2x128x2x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x2x128.size a ≤ S524288x2x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x2x128.size a ≤ S2x128x2x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x2x128.size a ≤ S524288x2x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 4 → Nat :=
  let c2_i32_47_r0 : BitVec 32 := 2#32
  let v54_r0 : BitVec 32 := Scalar.remui v33_3_r0 c2_i32_47_r0
  let c0_i32_49_r0 : BitVec 32 := 0#32
  let c0_i32_50_r0 : BitVec 32 := 0#32
  let c0_i32_51_r0 : BitVec 32 := 0#32
  ![v54_r0.toNat, 0, 0, 0]

def k0_off19 (i : grid0.Coords) (v33_4_r0 : BitVec 32) : Fin 3 → Nat :=
  let c128_i32_48_r0 : BitVec 32 := 128#32
  let true_32_r0 : BitVec 1 := 1#1
  let c1_i32_31_r0 : BitVec 32 := 1#32
  let v34_r0 : BitVec 32 := Scalar.subi v33_4_r0 c1_i32_31_r0
  let v35_r0 : BitVec 32 := Scalar.select true_32_r0 v34_r0 v33_4_r0
  let c_m1_i32_33_r0 : BitVec 32 := 4294967295#32
  let v36_r0 : BitVec 1 := Scalar.cmpi .eq v35_r0 c_m1_i32_33_r0
  let c127_i32_34_r0 : BitVec 32 := 127#32
  let v37_r0 : BitVec 32 := Scalar.select v36_r0 c127_i32_34_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v38_r0 : BitVec 32 := Scalar.addi v37_r0 v4
  let v55_r0 : BitVec 32 := Scalar.muli c128_i32_48_r0 v38_r0
  let c0_i32_52_r0 : BitVec 32 := 0#32
  let c0_i32_53_r0 : BitVec 32 := 0#32
  ![v55_r0.toNat, 0, 0]

def k0_chk5 (i : grid0.Coords) (v33_4_r0 : BitVec 32) : Prop :=
  (∀ a, (k0_off19 i v33_4_r0) a + S128x2x128.size a ≤ S524288x2x128.size a)
theorem k0_off19_inb : ∀ (i : grid0.Coords) (v33_4_r0 : BitVec 32) (k0_hw5 : k0_chk5 i v33_4_r0), ∀ a, (k0_off19 i v33_4_r0) a + S128x2x128.size a ≤ S524288x2x128.size a := fun i v33_4_r0 k0_hw5 => k0_hw5

def k0_off20 (v33_3_r0 : BitVec 32) : Fin 1 → Nat :=
  let c2_i32_47_r0 : BitVec 32 := 2#32
  let v54_r0 : BitVec 32 := Scalar.remui v33_3_r0 c2_i32_47_r0
  ![v54_r0.toNat]
def k0_off21 (v33_3_r0 : BitVec 32) : Fin 4 → Nat :=
  let c2_i32_47_r0 : BitVec 32 := 2#32
  let v54_r0 : BitVec 32 := Scalar.remui v33_3_r0 c2_i32_47_r0
  let c0_i32_56_r0 : BitVec 32 := 0#32
  let c0_i32_57_r0 : BitVec 32 := 0#32
  let c0_i32_58_r0 : BitVec 32 := 0#32
  ![v54_r0.toNat, 0, 0, 0]

def k0_chk4 (v33_3_r0 : BitVec 32) : Prop :=
  (∀ a, (k0_off18 v33_3_r0) a + S1x128x2x128.size a ≤ S2x128x2x128.size a) ∧
  (∀ a, (k0_off20 v33_3_r0) a + S1.size a ≤ S2.size a) ∧
  (∀ a, (k0_off21 v33_3_r0) a + S1x128x2x128.size a ≤ S2x128x2x128.size a)
theorem k0_off18_inb : ∀ (v33_3_r0 : BitVec 32) (k0_hw4 : k0_chk4 v33_3_r0), ∀ a, (k0_off18 v33_3_r0) a + S1x128x2x128.size a ≤ S2x128x2x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x2x128.size a ≤ S2x128x2x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S2x294912x256 : Shape := ⟨3, ![2, 294912, 256]⟩
abbrev S8x32768 : Shape := ⟨2, ![8, 32768]⟩
abbrev S8x32768x1 : Shape := ⟨3, ![8, 32768, 1]⟩
abbrev S2x8x32768x256 : Shape := ⟨4, ![2, 8, 32768, 256]⟩

abbrev nBuf : Space → Nat
  | .hbm => 4
  | .vmem => 0
  | .smem => 0
  | _ => 0

abbrev bufTy : (tb : Table) → Fin (tcTables nBuf tb) → BufTy
  | .hbm, ⟨0, _⟩ => ⟨S2x294912x256, .i32⟩
  | .hbm, ⟨1, _⟩ => ⟨S8x32768, .i32⟩
  | .hbm, ⟨2, _⟩ => ⟨S8x32768x1, .i32⟩
  | .hbm, ⟨3, _⟩ => ⟨S2x8x32768x256, .i32⟩
  | _, _ => ⟨S2x294912x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Kernel2.lean ====
abbrev S4x8192x1024 : Shape := ⟨3, ![4, 8192, 1024]⟩
abbrev S1024 : Shape := ⟨1, ![1024]⟩
abbrev S4x1024 : Shape := ⟨2, ![4, 1024]⟩
abbrev S1024x6424 : Shape := ⟨2, ![1024, 6424]⟩
abbrev S32768x1024 : Shape := ⟨2, ![32768, 1024]⟩
abbrev S1024x1024 : Shape := ⟨2, ![1024, 1024]⟩
abbrev S1024x2048 : Shape := ⟨2, ![1024, 2048]⟩
abbrev S1024x512 : Shape := ⟨2, ![1024, 512]⟩
abbrev S1024x128 : Shape := ⟨2, ![1024, 128]⟩
abbrev S1024x24 : Shape := ⟨2, ![1024, 24]⟩
abbrev S_ : Shape := ⟨0, ![]⟩
abbrev S1024x6528 : Shape := ⟨2, ![1024, 6528]⟩
abbrev S1x1024 : Shape := ⟨2, ![1, 1024]⟩
abbrev S4x1x1024 : Shape := ⟨3, ![4, 1, 1024]⟩
abbrev S32768x6528 : Shape := ⟨2, ![32768, 6528]⟩
abbrev S1x1x1024 : Shape := ⟨3, ![1, 1, 1024]⟩
abbrev S1024x2176 : Shape := ⟨2, ![1024, 2176]⟩
abbrev S1024x1 : Shape := ⟨2, ![1024, 1]⟩

abbrev nBuf : Space → Nat
  | .hbm => 27
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x6424, .f32⟩
  | .hbm, ⟨5, _⟩ => ⟨S32768x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x2048, .f32⟩
  | .hbm, ⟨10, _⟩ => ⟨S1024x512, .f32⟩
  | .hbm, ⟨11, _⟩ => ⟨S1024x128, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S1024x128, .f32⟩
  | .hbm, ⟨16, _⟩ => ⟨S1024x128, .f32⟩
  | .hbm, ⟨17, _⟩ => ⟨S1024x24, .f32⟩
  | .hbm, ⟨18, _⟩ => ⟨S1024x6424, .f32⟩
  | .hbm, ⟨19, _⟩ => ⟨S_, .i32⟩
  | .hbm, ⟨20, _⟩ => ⟨S_, .f32⟩
  | .hbm, ⟨21, _⟩ => ⟨S1024x6528, .f32⟩
  | .hbm, ⟨22, _⟩ => ⟨S1024x6528, .bf16⟩
  | .hbm, ⟨23, _⟩ => ⟨S1x1024, .f32⟩
  | .hbm, ⟨24, _⟩ => ⟨S4x1x1024, .f32⟩
  | .hbm, ⟨25, _⟩ => ⟨S4x1x1024, .f32⟩
  | .hbm, ⟨26, _⟩ => ⟨S32768x6528, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2176, .bf16⟩
  | .local _ .vmem, ⟨8, _⟩ => ⟨S1024x2176, .bf16⟩
  | .local _ .vmem, ⟨9, _⟩ => ⟨S1024x2176, .bf16⟩
  | .local _ .vmem, ⟨10, _⟩ => ⟨S1024x2176, .bf16⟩
  | .local _ .vmem, ⟨11, _⟩ => ⟨S1024x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_call0_v0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x2176 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2176 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4x8192x1024 : Shape := ⟨3, ![4, 8192, 1024]⟩
abbrev S1024 : Shape := ⟨1, ![1024]⟩
abbrev S4x1024 : Shape := ⟨2, ![4, 1024]⟩
abbrev S1024x6424 : Shape := ⟨2, ![1024, 6424]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S32768x1024 : Shape := ⟨2, ![32768, 1024]⟩
abbrev S32768x6424 : Shape := ⟨2, ![32768, 6424]⟩
abbrev S32768x3072 : Shape := ⟨2, ![32768, 3072]⟩
abbrev S32768x2048 : Shape := ⟨2, ![32768, 2048]⟩
abbrev S32768x1304 : Shape := ⟨2, ![32768, 1304]⟩
abbrev S32768x104 : Shape := ⟨2, ![32768, 104]⟩
abbrev S32768x6528 : Shape := ⟨2, ![32768, 6528]⟩

abbrev nBuf : Space → Nat
  | .hbm => 39
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x6424, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S4x1x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x8192x1024, .f32⟩
  | .hbm, ⟨26, _⟩ => ⟨S4x8192x1024, .f32⟩
  | .hbm, ⟨27, _⟩ => ⟨S4x1x1024, .f32⟩
  | .hbm, ⟨28, _⟩ => ⟨S4x8192x1024, .f32⟩
  | .hbm, ⟨29, _⟩ => ⟨S4x8192x1024, .f32⟩
  | .hbm, ⟨30, _⟩ => ⟨S32768x1024, .f32⟩
  | .hbm, ⟨31, _⟩ => ⟨S32768x6424, .f32⟩
  | .hbm, ⟨32, _⟩ => ⟨S32768x3072, .f32⟩
  | .hbm, ⟨33, _⟩ => ⟨S32768x2048, .f32⟩
  | .hbm, ⟨34, _⟩ => ⟨S32768x1304, .f32⟩
  | .hbm, ⟨35, _⟩ => ⟨S_, .f32⟩
  | .hbm, ⟨36, _⟩ => ⟨S32768x104, .f32⟩
  | .hbm, ⟨37, _⟩ => ⟨S32768x6528, .f32⟩
  | .hbm, ⟨38, _⟩ => ⟨S32768x6528, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kernel3.lean ====
abbrev S8 : Shape := ⟨1, ![8]⟩
abbrev S4x8x16 : Shape := ⟨3, ![4, 8, 16]⟩
abbrev S4x8192x6528 : Shape := ⟨3, ![4, 8192, 6528]⟩
abbrev S64 : Shape := ⟨1, ![64]⟩
abbrev S128 : Shape := ⟨1, ![128]⟩
abbrev S4x8192x1024 : Shape := ⟨3, ![4, 8192, 1024]⟩
abbrev S4x16x512x8x128 : Shape := ⟨5, ![4, 16, 512, 8, 128]⟩
abbrev S4x8x16x128x512 : Shape := ⟨5, ![4, 8, 16, 128, 512]⟩
abbrev S512 : Shape := ⟨1, ![512]⟩
abbrev S_ : Shape := ⟨0, ![]⟩
abbrev S4x8x16x16x512 : Shape := ⟨5, ![4, 8, 16, 16, 512]⟩
abbrev S1 : Shape := ⟨1, ![1]⟩
abbrev S4x8x16x512 : Shape := ⟨4, ![4, 8, 16, 512]⟩
abbrev S4x8x16x144x512 : Shape := ⟨5, ![4, 8, 16, 144, 512]⟩
abbrev S8x1 : Shape := ⟨2, ![8, 1]⟩
abbrev S8x16 : Shape := ⟨2, ![8, 16]⟩
abbrev S8x16x1 : Shape := ⟨3, ![8, 16, 1]⟩
abbrev S8x16x128 : Shape := ⟨3, ![8, 16, 128]⟩
abbrev S512x1024 : Shape := ⟨2, ![512, 1024]⟩
abbrev S512x128 : Shape := ⟨2, ![512, 128]⟩
abbrev S1x64 : Shape := ⟨2, ![1, 64]⟩
abbrev S128x1 : Shape := ⟨2, ![128, 1]⟩
abbrev S1x512x128 : Shape := ⟨3, ![1, 512, 128]⟩
abbrev S1x8192x128 : Shape := ⟨3, ![1, 8192, 128]⟩
abbrev S1x1x16x144x512 : Shape := ⟨5, ![1, 1, 16, 144, 512]⟩
abbrev S1x16x128 : Shape := ⟨3, ![1, 16, 128]⟩
abbrev S144x1024 : Shape := ⟨2, ![144, 1024]⟩
abbrev S256x1024 : Shape := ⟨2, ![256, 1024]⟩
abbrev S128x512 : Shape := ⟨2, ![128, 512]⟩
abbrev S128x1024 : Shape := ⟨2, ![128, 1024]⟩
abbrev S16x128 : Shape := ⟨2, ![16, 128]⟩
abbrev S16x1024 : Shape := ⟨2, ![16, 1024]⟩
abbrev S112x1024 : Shape := ⟨2, ![112, 1024]⟩
abbrev S512x256 : Shape := ⟨2, ![512, 256]⟩
abbrev S1024 : Shape := ⟨1, ![1024]⟩
abbrev S1x1024 : Shape := ⟨2, ![1, 1024]⟩
abbrev S1x1x1x144x512 : Shape := ⟨5, ![1, 1, 1, 144, 512]⟩
abbrev S144x512 : Shape := ⟨2, ![144, 512]⟩
abbrev S1x1 : Shape := ⟨2, ![1, 1]⟩
abbrev S1x512 : Shape := ⟨2, ![1, 512]⟩

abbrev nBuf : Space → Nat
  | .hbm => 144
  | .vmem => 23
  | .smem => 2
  | _ => 0

abbrev hbmTy0_0 (i : Nat) : BufTy := match i % 128 with
  | 0 => ⟨S8, .f32⟩
  | 1 => ⟨S4x8x16, .i32⟩
  | 2 => ⟨S4x8192x6528, .bf16⟩
  | 3 => ⟨S64, .f32⟩
  | 4 => ⟨S64, .f32⟩
  | 5 => ⟨S64, .f32⟩
  | 6 => ⟨S64, .f32⟩
  | 7 => ⟨S128, .f32⟩
  | 8 => ⟨S4x8192x1024, .bf16⟩
  | 9 => ⟨S4x16x512x8x128, .bf16⟩
  | 10 => ⟨S4x8x16x128x512, .bf16⟩
  | 11 => ⟨S_, .bf16⟩
  | 12 => ⟨S4x8x16x16x512, .bf16⟩
  | 13 => ⟨S_, .i32⟩
  | 14 => ⟨S1, .i32⟩
  | 15 => ⟨S_, .bf16⟩
  | 16 => ⟨S4x8x16x512, .bf16⟩
  | 17 => ⟨S4x8x16x16x512, .bf16⟩
  | 18 => ⟨S4x8x16x144x512, .bf16⟩
  | 19 => ⟨S8, .bf16⟩
  | 20 => ⟨S8, .f32⟩
  | 21 => ⟨S8, .f32⟩
  | 22 => ⟨S8, .bf16⟩
  | 23 => ⟨S8, .f32⟩
  | 24 => ⟨S8, .f32⟩
  | 25 => ⟨S8, .f32⟩
  | 26 => ⟨S8, .bf16⟩
  | 27 => ⟨S8, .f32⟩
  | 28 => ⟨S_, .f32⟩
  | 29 => ⟨S8, .f32⟩
  | 30 => ⟨S8, .f32⟩
  | 31 => ⟨S_, .f32⟩
  | 32 => ⟨S8, .f32⟩
  | 33 => ⟨S8, .f32⟩
  | 34 => ⟨S_, .f32⟩
  | 35 => ⟨S8, .f32⟩
  | 36 => ⟨S8, .f32⟩
  | 37 => ⟨S_, .f32⟩
  | 38 => ⟨S8, .f32⟩
  | 39 => ⟨S8x1, .f32⟩
  | 40 => ⟨S8x1, .f32⟩
  | 41 => ⟨S8x1, .f32⟩
  | 42 => ⟨S8x1, .f32⟩
  | 43 => ⟨S8x1, .f32⟩
  | 44 => ⟨S8x1, .f32⟩
  | 45 => ⟨S8x1, .f32⟩
  | 46 => ⟨S8x1, .f32⟩
  | 47 => ⟨S8x1, .f32⟩
  | 48 => ⟨S8x1, .f32⟩
  | 49 => ⟨S8x1, .f32⟩
  | 50 => ⟨S8x1, .f32⟩
  | 51 => ⟨S8x1, .f32⟩
  | 52 => ⟨S8x1, .f32⟩
  | 53 => ⟨S8x1, .f32⟩
  | 54 => ⟨S8x1, .f32⟩
  | 55 => ⟨S8x16, .f32⟩
  | 56 => ⟨S8x16x1, .f32⟩
  | 57 => ⟨S8x16x128, .f32⟩
  | 58 => ⟨S512x1024, .i32⟩
  | 59 => ⟨S512x1024, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S512x1024, .i32⟩
  | 67 => ⟨S512x1024, .i32⟩
  | 68 => ⟨S_, .i32⟩
  | 69 => ⟨S512x1024, .i32⟩
  | 70 => ⟨S512x1024, .i1⟩
  | 71 => ⟨S_, .i32⟩
  | 72 => ⟨S512x1024, .i32⟩
  | 73 => ⟨S512x1024, .i1⟩
  | 74 => ⟨S_, .i32⟩
  | 75 => ⟨S_, .i1⟩
  | 76 => ⟨S512x1024, .i1⟩
  | 77 => ⟨S512x1024, .i1⟩
  | 78 => ⟨S512x1024, .i1⟩
  | 79 => ⟨S512x1024, .i32⟩
  | 80 => ⟨S512x1024, .i32⟩
  | 81 => ⟨S512x1024, .i32⟩
  | 82 => ⟨S512x1024, .i32⟩
  | 83 => ⟨S512x128, .i32⟩
  | 84 => ⟨S512x128, .i32⟩
  | 85 => ⟨S_, .i32⟩
  | 86 => ⟨S512x128, .i32⟩
  | 87 => ⟨S512x128, .i1⟩
  | 88 => ⟨S_, .i32⟩
  | 89 => ⟨S_, .i32⟩
  | 90 => ⟨S512x128, .i32⟩
  | 91 => ⟨S512x128, .i32⟩
  | 92 => ⟨S512x128, .i32⟩
  | 93 => ⟨S_, .i32⟩
  | 94 => ⟨S512x128, .i32⟩
  | 95 => ⟨S512x128, .i1⟩
  | 96 => ⟨S512x128, .i32⟩
  | 97 => ⟨S512x128, .i32⟩
  | 98 => ⟨S_, .i32⟩
  | 99 => ⟨S512x128, .i32⟩
  | 100 => ⟨S512x128, .i1⟩
  | 101 => ⟨S512x128, .i1⟩
  | 102 => ⟨S_, .i32⟩
  | 103 => ⟨S512x128, .i32⟩
  | 104 => ⟨S512x128, .i32⟩
  | 105 => ⟨S512x128, .i32⟩
  | 106 => ⟨S_, .i32⟩
  | 107 => ⟨S512x128, .i32⟩
  | 108 => ⟨S512x128, .i1⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S512x128, .i32⟩
  | 116 => ⟨S512x128, .i32⟩
  | 117 => ⟨S_, .i32⟩
  | 118 => ⟨S512x128, .i32⟩
  | 119 => ⟨S512x128, .i1⟩
  | 120 => ⟨S_, .i32⟩
  | 121 => ⟨S512x128, .i32⟩
  | 122 => ⟨S512x128, .i1⟩
  | 123 => ⟨S_, .i32⟩
  | 124 => ⟨S_, .i1⟩
  | 125 => ⟨S512x128, .i1⟩
  | 126 => ⟨S512x128, .i1⟩
  | 127 => ⟨S512x128, .i1⟩
  | _ => ⟨S8, .f32⟩

abbrev hbmTy0_1 (i : Nat) : BufTy := match i % 128 with
  | 0 => ⟨S512x128, .i32⟩
  | 1 => ⟨S512x128, .i32⟩
  | 2 => ⟨S512x128, .i32⟩
  | 3 => ⟨S_, .i32⟩
  | 4 => ⟨S_, .i32⟩
  | 5 => ⟨S512x128, .i32⟩
  | 6 => ⟨S512x128, .i32⟩
  | 7 => ⟨S512x128, .i32⟩
  | 8 => ⟨S512x128, .f32⟩
  | 9 => ⟨S512x128, .bf16⟩
  | 10 => ⟨S1x64, .f32⟩
  | 11 => ⟨S1x64, .f32⟩
  | 12 => ⟨S1x64, .f32⟩
  | 13 => ⟨S1x64, .f32⟩
  | 14 => ⟨S128x1, .f32⟩
  | 15 => ⟨S4x8192x1024, .bf16⟩
  | _ => ⟨S8, .f32⟩

abbrev hbmTy (i : Nat) : BufTy := match i / 128 with
  | 0 => hbmTy0_0 i
  | 1 => hbmTy0_1 i
  | _ => ⟨S8, .f32⟩

abbrev bufTy : (tb : Table) → Fin (tcTables nBuf tb) → BufTy
  | .hbm, ⟨i, _⟩ => hbmTy i
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x1x16x144x512, .bf16⟩
  | .local _ .vmem, ⟨5, _⟩ => ⟨S1x1x16x144x512, .bf16⟩
  | .local _ .vmem, ⟨6, _⟩ => ⟨S512x128, .bf16⟩
  | .local _ .vmem, ⟨7, _⟩ => ⟨S512x1024, .i32⟩
  | .local _ .vmem, ⟨8, _⟩ => ⟨S1x16x128, .f32⟩
  | .local _ .vmem, ⟨9, _⟩ => ⟨S1x16x128, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S128x1, .f32⟩
  | .local _ .vmem, ⟨15, _⟩ => ⟨S1x512x128, .bf16⟩
  | .local _ .vmem, ⟨16, _⟩ => ⟨S1x512x128, .bf16⟩
  | .local _ .vmem, ⟨17, _⟩ => ⟨S144x1024, .f32⟩
  | .local _ .vmem, ⟨18, _⟩ => ⟨S256x1024, .bf16⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .smem, ⟨0, _⟩ => ⟨S512, .i32⟩
  | .local _ .smem, ⟨1, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_5 : Ref sig .tc := ⟨.hbm, 60, rfl⟩
abbrev main_call0_v0 : Ref sig .tc := ⟨.hbm, 61, rfl⟩
abbrev main_call0_c : Ref sig .tc := ⟨.hbm, 62, rfl⟩
abbrev main_call0_v1 : Ref sig .tc := ⟨.hbm, 63, rfl⟩
abbrev main_call0_c_0 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_c_1 : Ref sig .tc := ⟨.hbm, 68, rfl⟩
abbrev main_call0_v5 : Ref sig .tc := ⟨.hbm, 69, rfl⟩
abbrev main_call0_v6 : Ref sig .tc := ⟨.hbm, 70, rfl⟩
abbrev main_call0_c_2 : Ref sig .tc := ⟨.hbm, 71, rfl⟩
abbrev main_call0_v7 : Ref sig .tc := ⟨.hbm, 72, rfl⟩
abbrev main_call0_v8 : Ref sig .tc := ⟨.hbm, 73, rfl⟩
abbrev main_call0_c_3 : Ref sig .tc := ⟨.hbm, 74, rfl⟩
abbrev main_call0_v9 : Ref sig .tc := ⟨.hbm, 75, rfl⟩
abbrev main_call0_v10 : Ref sig .tc := ⟨.hbm, 76, rfl⟩
abbrev main_call0_v11 : Ref sig .tc := ⟨.hbm, 77, rfl⟩
abbrev main_call0_v12 : Ref sig .tc := ⟨.hbm, 78, rfl⟩
abbrev main_call0_v13 : Ref sig .tc := ⟨.hbm, 79, rfl⟩
abbrev main_call0_v14 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_c_6 : Ref sig .tc := ⟨.hbm, 85, rfl⟩
abbrev main_v50 : Ref sig .tc := ⟨.hbm, 86, rfl⟩
abbrev main_v51 : Ref sig .tc := ⟨.hbm, 87, rfl⟩
abbrev main_c_7 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_call1_v5 : Ref sig .tc := ⟨.hbm, 94, rfl⟩
abbrev main_call1_v6 : Ref sig .tc := ⟨.hbm, 95, rfl⟩
abbrev main_call1_v7 : Ref sig .tc := ⟨.hbm, 96, rfl⟩
abbrev main_call1_v8 : Ref sig .tc := ⟨.hbm, 97, rfl⟩
abbrev main_call1_c : Ref sig .tc := ⟨.hbm, 98, rfl⟩
abbrev main_call1_v9 : Ref sig .tc := ⟨.hbm, 99, rfl⟩
abbrev main_call1_v10 : Ref sig .tc := ⟨.hbm, 100, rfl⟩
abbrev main_call1_v11 : Ref sig .tc := ⟨.hbm, 101, rfl⟩
abbrev main_call1_c_0 : Ref sig .tc := ⟨.hbm, 102, rfl⟩
abbrev main_call1_v12 : Ref sig .tc := ⟨.hbm, 103, rfl⟩
abbrev main_call1_v13 : Ref sig .tc := ⟨.hbm, 104, rfl⟩
abbrev main_v52 : Ref sig .tc := ⟨.hbm, 105, rfl⟩
abbrev main_c_8 : Ref sig .tc := ⟨.hbm, 106, rfl⟩
abbrev main_v53 : Ref sig .tc := ⟨.hbm, 107, rfl⟩
abbrev main_v54 : Ref sig .tc := ⟨.hbm, 108, rfl⟩
abbrev main_c_9 : Ref sig .tc := ⟨.hbm, 109, rfl⟩
abbrev main_call2_v0 : Ref sig .tc := ⟨.hbm, 110, rfl⟩
abbrev main_call2_c : Ref sig .tc := ⟨.hbm, 111, rfl⟩
abbrev main_call2_v1 : Ref sig .tc := ⟨.hbm, 112, rfl⟩
abbrev main_call2_c_0 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_c_1 : Ref sig .tc := ⟨.hbm, 117, rfl⟩
abbrev main_call2_v5 : Ref sig .tc := ⟨.hbm, 118, rfl⟩
abbrev main_call2_v6 : Ref sig .tc := ⟨.hbm, 119, rfl⟩
abbrev main_call2_c_2 : Ref sig .tc := ⟨.hbm, 120, rfl⟩
abbrev main_call2_v7 : Ref sig .tc := ⟨.hbm, 121, rfl⟩
abbrev main_call2_v8 : Ref sig .tc := ⟨.hbm, 122, rfl⟩
abbrev main_call2_c_3 : Ref sig .tc := ⟨.hbm, 123, rfl⟩
abbrev main_call2_v9 : Ref sig .tc := ⟨.hbm, 124, rfl⟩
abbrev main_call2_v10 : Ref sig .tc := ⟨.hbm, 125, rfl⟩
abbrev main_call2_v11 : Ref sig .tc := ⟨.hbm, 126, rfl⟩
abbrev main_call2_v12 : Ref sig .tc := ⟨.hbm, 127, rfl⟩
abbrev main_call2_v13 : Ref sig .tc := ⟨.hbm, 128, rfl⟩
abbrev main_call2_v14 : Ref sig .tc := ⟨.hbm, 129, rfl⟩
abbrev main_v55 : Ref sig .tc := ⟨.hbm, 130, rfl⟩
abbrev main_c_10 : Ref sig .tc := ⟨.hbm, 131, rfl⟩
abbrev main_call3_v0 : Ref sig .tc := ⟨.hbm, 132, rfl⟩
abbrev main_call3_v1 : Ref sig .tc := ⟨.hbm, 133, rfl⟩
abbrev main_v56 : Ref sig .tc := ⟨.hbm, 134, rfl⟩
abbrev main_v57 : Ref sig .tc := ⟨.hbm, 135, rfl⟩
abbrev main_v58 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩
abbrev main_v3 : Ref sig .tc := ⟨.smem, 0, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨3, ![4, 8, 16], ![false, false, false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg0 : BitVec 32 := BitVec.ofNat 32 (i 0).val
  let c8_i32 : BitVec 32 := 8#32
  let v53 : BitVec 32 := Scalar.muli arg0 c8_i32
  let arg1 : BitVec 32 := BitVec.ofNat 32 (i 1).val
  let v54 : BitVec 32 := Scalar.addi v53 arg1
  let c16_i32 : BitVec 32 := 16#32
  let v55 : BitVec 32 := Scalar.muli v54 c16_i32
  let arg2 : BitVec 32 := BitVec.ofNat 32 (i 2).val
  let v56 : BitVec 32 := Scalar.addi v55 arg2
  let v57 : Index := Scalar.indexCast v56
  ![v57.toNat]
def k0_mult1 (v58 : BitVec 32) : BitVec 32 :=
  let c512_i32_32 : BitVec 32 := 512#32
  let v75 : BitVec 32 := Scalar.muli v58 c512_i32_32
  v75

def k0_off3 (v58 : BitVec 32) : Fin 3 → Nat :=
  let c0_33 : Index := 0#32
  let c512_i32_32 : BitVec 32 := 512#32
  let v75 : BitVec 32 := Scalar.muli v58 c512_i32_32
  let v76 : BitVec 32 := v75
  let v77 : Index := Scalar.indexCast v76
  let c0_34 : Index := 0#32
  ![0, v77.toNat, 0]
@[reducible] def k0_t1_loop (i : grid0.Coords) (v58 : BitVec 32) : Scf.Loop 32 :=
  let c0_i32_54 : BitVec 32 := 0#32
  let arg2 : BitVec 32 := BitVec.ofNat 32 (i 2).val
  let c512_i32 : BitVec 32 := 512#32
  let v2 : BitVec 32 := Scalar.muli arg2 c512_i32
  let c512_i32_12 : BitVec 32 := 512#32
  let v33 : BitVec 32 := Scalar.addi v2 c512_i32_12
  let c1_i32 : BitVec 32 := 1#32
  let v34 : BitVec 32 := Scalar.subi v33 c1_i32
  let c0_i32 : BitVec 32 := 0#32
  let v36 : BitVec 1 := Scalar.cmpi .sgt v34 c0_i32
  let v37 : BitVec 32 := Scalar.extui v36
  let c0_i32_14 : BitVec 32 := 0#32
  let v38 : BitVec 1 := Scalar.cmpi .slt v34 c0_i32_14
  let v39 : BitVec 32 := Scalar.extui v38
  let v40 : BitVec 32 := Scalar.subi v37 v39
  let c512_i32_13 : BitVec 32 := 512#32
  let c0_i32_15 : BitVec 32 := 0#32
  let v41 : BitVec 1 := Scalar.cmpi .sgt c512_i32_13 c0_i32_15
  let v42 : BitVec 32 := Scalar.extui v41
  let c0_i32_16 : BitVec 32 := 0#32
  let v43 : BitVec 1 := Scalar.cmpi .slt c512_i32_13 c0_i32_16
  let v44 : BitVec 32 := Scalar.extui v43
  let v45 : BitVec 32 := Scalar.subi v42 v44
  let v46 : BitVec 1 := Scalar.cmpi .ne v40 v45
  let v47 : BitVec 32 := Scalar.remsi v34 c512_i32_13
  let c0_i32_17 : BitVec 32 := 0#32
  let v48 : BitVec 1 := Scalar.cmpi .ne v47 c0_i32_17
  let v49 : BitVec 1 := Scalar.andi v46 v48
  let v35 : BitVec 32 := Scalar.divsi v34 c512_i32_13
  let c1_i32_18 : BitVec 32 := 1#32
  let v50 : BitVec 32 := Scalar.subi v35 c1_i32_18
  let v51 : BitVec 32 := Scalar.select v49 v50 v35
  let c1_i32_19 : BitVec 32 := 1#32
  let v52 : BitVec 32 := Scalar.addi v51 c1_i32_19
  let v97 : BitVec 32 := Scalar.subi v52 v58
  let c0_i32_46 : BitVec 32 := 0#32
  let v99 : BitVec 1 := Scalar.cmpi .sgt v97 c0_i32_46
  let v100 : BitVec 32 := Scalar.extui v99
  let c0_i32_47 : BitVec 32 := 0#32
  let v101 : BitVec 1 := Scalar.cmpi .slt v97 c0_i32_47
  let v102 : BitVec 32 := Scalar.extui v101
  let v103 : BitVec 32 := Scalar.subi v100 v102
  let c2_i32 : BitVec 32 := 2#32
  let c0_i32_48 : BitVec 32 := 0#32
  let v104 : BitVec 1 := Scalar.cmpi .sgt c2_i32 c0_i32_48
  let v105 : BitVec 32 := Scalar.extui v104
  let c0_i32_49 : BitVec 32 := 0#32
  let v106 : BitVec 1 := Scalar.cmpi .slt c2_i32 c0_i32_49
  let v107 : BitVec 32 := Scalar.extui v106
  let v108 : BitVec 32 := Scalar.subi v105 v107
  let v109 : BitVec 1 := Scalar.cmpi .ne v103 v108
  let v110 : BitVec 32 := Scalar.remsi v97 c2_i32
  let c0_i32_50 : BitVec 32 := 0#32
  let v111 : BitVec 1 := Scalar.cmpi .ne v110 c0_i32_50
  let v112 : BitVec 1 := Scalar.andi v109 v111
  let v98 : BitVec 32 := Scalar.divsi v97 c2_i32
  let c1_i32_51 : BitVec 32 := 1#32
  let v113 : BitVec 32 := Scalar.subi v98 c1_i32_51
  let v114 : BitVec 32 := Scalar.select v112 v113 v98
  let v117 : BitVec 32 := Scalar.subi v114 c0_i32_54
  let c1_i32_55 : BitVec 32 := 1#32
  let v119 : BitVec 32 := Scalar.divsi v117 c1_i32_55
  let v120 : BitVec 32 := Scalar.muli v119 c1_i32_55
  let v121 : BitVec 32 := Scalar.addi c0_i32_54 v120
  let c1_i32_56 : BitVec 32 := 1#32
  ⟨c0_i32_54, v121, c1_i32_56⟩
def k0_off4 (i : grid0.Coords) (v58 : BitVec 32) (k0_t1 : Fin (k0_t1_loop i v58).trips) : Fin 5 → Nat :=
  let c0_106 : Index := 0#32
  let c0_107 : Index := 0#32
  let c2_i32_100 : BitVec 32 := 2#32
  let c0_i32_54 : BitVec 32 := 0#32
  let c1_i32_56 : BitVec 32 := 1#32
  let arg23 : BitVec 32 := Scf.iv c0_i32_54 c1_i32_56 k0_t1
  let v202 : BitVec 32 := Scalar.muli c2_i32_100 arg23
  let v203 : BitVec 32 := Scalar.addi v58 v202
  let c1_i32_102 : BitVec 32 := 1#32
  let v205 : BitVec 32 := Scalar.subi v203 c1_i32_102
  let c0_i32_103 : BitVec 32 := 0#32
  let v206 : BitVec 32 := Scalar.maxsi v205 c0_i32_103
  let v210 : Index := Scalar.indexCast v206
  let c0_108 : Index := 0#32
  let c0_109 : Index := 0#32
  ![0, 0, v210.toNat, 0, 0]
def k0_mult2 (i : grid0.Coords) (v58 : BitVec 32) (k0_t1 : Fin (k0_t1_loop i v58).trips) : BitVec 32 :=
  let c2_i32_100 : BitVec 32 := 2#32
  let c0_i32_54 : BitVec 32 := 0#32
  let c1_i32_56 : BitVec 32 := 1#32
  let arg23 : BitVec 32 := Scf.iv c0_i32_54 c1_i32_56 k0_t1
  let v202 : BitVec 32 := Scalar.muli c2_i32_100 arg23
  let v203 : BitVec 32 := Scalar.addi v58 v202
  let c1_i32_101 : BitVec 32 := 1#32
  let v204 : BitVec 32 := Scalar.addi v203 c1_i32_101
  let c512_i32_120 : BitVec 32 := 512#32
  let v237 : BitVec 32 := Scalar.muli v204 c512_i32_120
  v237
def k0_off5 (i : grid0.Coords) (v58 : BitVec 32) (k0_t1 : Fin (k0_t1_loop i v58).trips) : Fin 3 → Nat :=
  let c0_121 : Index := 0#32
  let c2_i32_100 : BitVec 32 := 2#32
  let c0_i32_54 : BitVec 32 := 0#32
  let c1_i32_56 : BitVec 32 := 1#32
  let arg23 : BitVec 32 := Scf.iv c0_i32_54 c1_i32_56 k0_t1
  let v202 : BitVec 32 := Scalar.muli c2_i32_100 arg23
  let v203 : BitVec 32 := Scalar.addi v58 v202
  let c1_i32_101 : BitVec 32 := 1#32
  let v204 : BitVec 32 := Scalar.addi v203 c1_i32_101
  let c512_i32_120 : BitVec 32 := 512#32
  let v237 : BitVec 32 := Scalar.muli v204 c512_i32_120
  let v238 : BitVec 32 := v237
  let v239 : Index := Scalar.indexCast v238
  let c0_122 : Index := 0#32
  ![0, v239.toNat, 0]
def k0_off6 (i : grid0.Coords) (v58 : BitVec 32) (k0_t1 : Fin (k0_t1_loop i v58).trips) : Fin 5 → Nat :=
  let c0_136 : Index := 0#32
  let c0_137 : Index := 0#32
  let c2_i32_100 : BitVec 32 := 2#32
  let c0_i32_54 : BitVec 32 := 0#32
  let c1_i32_56 : BitVec 32 := 1#32
  let arg23 : BitVec 32 := Scf.iv c0_i32_54 c1_i32_56 k0_t1
  let v202 : BitVec 32 := Scalar.muli c2_i32_100 arg23
  let v203 : BitVec 32 := Scalar.addi v58 v202
  let v262 : Index := Scalar.indexCast v203
  let c0_138 : Index := 0#32
  let c0_139 : Index := 0#32
  ![0, 0, v262.toNat, 0, 0]
def k0_mult3 (i : grid0.Coords) (v58 : BitVec 32) (k0_t1 : Fin (k0_t1_loop i v58).trips) : BitVec 32 :=
  let c2_i32_100 : BitVec 32 := 2#32
  let c0_i32_54 : BitVec 32 := 0#32
  let c1_i32_56 : BitVec 32 := 1#32
  let arg23 : BitVec 32 := Scf.iv c0_i32_54 c1_i32_56 k0_t1
  let v202 : BitVec 32 := Scalar.muli c2_i32_100 arg23
  let v203 : BitVec 32 := Scalar.addi v58 v202
  let c2_i32_150 : BitVec 32 := 2#32
  let v289 : BitVec 32 := Scalar.addi v203 c2_i32_150
  let c15_i32 : BitVec 32 := 15#32
  let v290 : BitVec 32 := Scalar.minsi v289 c15_i32
  let c512_i32_151 : BitVec 32 := 512#32
  let v291 : BitVec 32 := Scalar.muli v290 c512_i32_151
  v291
def k0_off7 (i : grid0.Coords) (v58 : BitVec 32) (k0_t1 : Fin (k0_t1_loop i v58).trips) : Fin 3 → Nat :=
  let c0_152 : Index := 0#32
  let c2_i32_100 : BitVec 32 := 2#32
  let c0_i32_54 : BitVec 32 := 0#32
  let c1_i32_56 : BitVec 32 := 1#32
  let arg23 : BitVec 32 := Scf.iv c0_i32_54 c1_i32_56 k0_t1
  let v202 : BitVec 32 := Scalar.muli c2_i32_100 arg23
  let v203 : BitVec 32 := Scalar.addi v58 v202
  let c2_i32_150 : BitVec 32 := 2#32
  let v289 : BitVec 32 := Scalar.addi v203 c2_i32_150
  let c15_i32 : BitVec 32 := 15#32
  let v290 : BitVec 32 := Scalar.minsi v289 c15_i32
  let c512_i32_151 : BitVec 32 := 512#32
  let v291 : BitVec 32 := Scalar.muli v290 c512_i32_151
  let v292 : BitVec 32 := v291
  let v293 : Index := Scalar.indexCast v292
  let c0_153 : Index := 0#32
  ![0, v293.toNat, 0]
@[reducible] def k0_t2_loop (i : grid0.Coords) (v58 : BitVec 32) : Scf.Loop 32 :=
  let c0_i32_54 : BitVec 32 := 0#32
  let arg2 : BitVec 32 := BitVec.ofNat 32 (i 2).val
  let c512_i32 : BitVec 32 := 512#32
  let v2 : BitVec 32 := Scalar.muli arg2 c512_i32
  let c512_i32_12 : BitVec 32 := 512#32
  let v33 : BitVec 32 := Scalar.addi v2 c512_i32_12
  let c1_i32 : BitVec 32 := 1#32
  let v34 : BitVec 32 := Scalar.subi v33 c1_i32
  let c0_i32 : BitVec 32 := 0#32
  let v36 : BitVec 1 := Scalar.cmpi .sgt v34 c0_i32
  let v37 : BitVec 32 := Scalar.extui v36
  let c0_i32_14 : BitVec 32 := 0#32
  let v38 : BitVec 1 := Scalar.cmpi .slt v34 c0_i32_14
  let v39 : BitVec 32 := Scalar.extui v38
  let v40 : BitVec 32 := Scalar.subi v37 v39
  let c512_i32_13 : BitVec 32 := 512#32
  let c0_i32_15 : BitVec 32 := 0#32
  let v41 : BitVec 1 := Scalar.cmpi .sgt c512_i32_13 c0_i32_15
  let v42 : BitVec 32 := Scalar.extui v41
  let c0_i32_16 : BitVec 32 := 0#32
  let v43 : BitVec 1 := Scalar.cmpi .slt c512_i32_13 c0_i32_16
  let v44 : BitVec 32 := Scalar.extui v43
  let v45 : BitVec 32 := Scalar.subi v42 v44
  let v46 : BitVec 1 := Scalar.cmpi .ne v40 v45
  let v47 : BitVec 32 := Scalar.remsi v34 c512_i32_13
  let c0_i32_17 : BitVec 32 := 0#32
  let v48 : BitVec 1 := Scalar.cmpi .ne v47 c0_i32_17
  let v49 : BitVec 1 := Scalar.andi v46 v48
  let v35 : BitVec 32 := Scalar.divsi v34 c512_i32_13
  let c1_i32_18 : BitVec 32 := 1#32
  let v50 : BitVec 32 := Scalar.subi v35 c1_i32_18
  let v51 : BitVec 32 := Scalar.select v49 v50 v35
  let c1_i32_19 : BitVec 32 := 1#32
  let v52 : BitVec 32 := Scalar.addi v51 c1_i32_19
  let v97 : BitVec 32 := Scalar.subi v52 v58
  let c0_i32_46 : BitVec 32 := 0#32
  let v99 : BitVec 1 := Scalar.cmpi .sgt v97 c0_i32_46
  let v100 : BitVec 32 := Scalar.extui v99
  let c0_i32_47 : BitVec 32 := 0#32
  let v101 : BitVec 1 := Scalar.cmpi .slt v97 c0_i32_47
  let v102 : BitVec 32 := Scalar.extui v101
  let v103 : BitVec 32 := Scalar.subi v100 v102
  let c2_i32 : BitVec 32 := 2#32
  let c0_i32_48 : BitVec 32 := 0#32
  let v104 : BitVec 1 := Scalar.cmpi .sgt c2_i32 c0_i32_48
  let v105 : BitVec 32 := Scalar.extui v104
  let c0_i32_49 : BitVec 32 := 0#32
  let v106 : BitVec 1 := Scalar.cmpi .slt c2_i32 c0_i32_49
  let v107 : BitVec 32 := Scalar.extui v106
  let v108 : BitVec 32 := Scalar.subi v105 v107
  let v109 : BitVec 1 := Scalar.cmpi .ne v103 v108
  let v110 : BitVec 32 := Scalar.remsi v97 c2_i32
  let c0_i32_50 : BitVec 32 := 0#32
  let v111 : BitVec 1 := Scalar.cmpi .ne v110 c0_i32_50
  let v112 : BitVec 1 := Scalar.andi v109 v111
  let v98 : BitVec 32 := Scalar.divsi v97 c2_i32
  let c1_i32_51 : BitVec 32 := 1#32
  let v113 : BitVec 32 := Scalar.subi v98 c1_i32_51
  let v114 : BitVec 32 := Scalar.select v112 v113 v98
  let v117 : BitVec 32 := Scalar.subi v114 c0_i32_54
  let c1_i32_55 : BitVec 32 := 1#32
  let v119 : BitVec 32 := Scalar.divsi v117 c1_i32_55
  let v120 : BitVec 32 := Scalar.muli v119 c1_i32_55
  let v121 : BitVec 32 := Scalar.addi c0_i32_54 v120
  let v118 : BitVec 32 := Scalar.addi c0_i32_54 v117
  let c1_i32_57 : BitVec 32 := 1#32
  ⟨v121, v118, c1_i32_57⟩
def k0_off8 (i : grid0.Coords) (v58 : BitVec 32) (k0_t2 : Fin (k0_t2_loop i v58).trips) : Fin 5 → Nat :=
  let c0_106 : Index := 0#32
  let c0_107 : Index := 0#32
  let c2_i32_100 : BitVec 32 := 2#32
  let c0_i32_54 : BitVec 32 := 0#32
  let arg2 : BitVec 32 := BitVec.ofNat 32 (i 2).val
  let c512_i32 : BitVec 32 := 512#32
  let v2 : BitVec 32 := Scalar.muli arg2 c512_i32
  let c512_i32_12 : BitVec 32 := 512#32
  let v33 : BitVec 32 := Scalar.addi v2 c512_i32_12
  let c1_i32 : BitVec 32 := 1#32
  let v34 : BitVec 32 := Scalar.subi v33 c1_i32
  let c0_i32 : BitVec 32 := 0#32
  let v36 : BitVec 1 := Scalar.cmpi .sgt v34 c0_i32
  let v37 : BitVec 32 := Scalar.extui v36
  let c0_i32_14 : BitVec 32 := 0#32
  let v38 : BitVec 1 := Scalar.cmpi .slt v34 c0_i32_14
  let v39 : BitVec 32 := Scalar.extui v38
  let v40 : BitVec 32 := Scalar.subi v37 v39
  let c512_i32_13 : BitVec 32 := 512#32
  let c0_i32_15 : BitVec 32 := 0#32
  let v41 : BitVec 1 := Scalar.cmpi .sgt c512_i32_13 c0_i32_15
  let v42 : BitVec 32 := Scalar.extui v41
  let c0_i32_16 : BitVec 32 := 0#32
  let v43 : BitVec 1 := Scalar.cmpi .slt c512_i32_13 c0_i32_16
  let v44 : BitVec 32 := Scalar.extui v43
  let v45 : BitVec 32 := Scalar.subi v42 v44
  let v46 : BitVec 1 := Scalar.cmpi .ne v40 v45
  let v47 : BitVec 32 := Scalar.remsi v34 c512_i32_13
  let c0_i32_17 : BitVec 32 := 0#32
  let v48 : BitVec 1 := Scalar.cmpi .ne v47 c0_i32_17
  let v49 : BitVec 1 := Scalar.andi v46 v48
  let v35 : BitVec 32 := Scalar.divsi v34 c512_i32_13
  let c1_i32_18 : BitVec 32 := 1#32
  let v50 : BitVec 32 := Scalar.subi v35 c1_i32_18
  let v51 : BitVec 32 := Scalar.select v49 v50 v35
  let c1_i32_19 : BitVec 32 := 1#32
  let v52 : BitVec 32 := Scalar.addi v51 c1_i32_19
  let v97 : BitVec 32 := Scalar.subi v52 v58
  let c0_i32_46 : BitVec 32 := 0#32
  let v99 : BitVec 1 := Scalar.cmpi .sgt v97 c0_i32_46
  let v100 : BitVec 32 := Scalar.extui v99
  let c0_i32_47 : BitVec 32 := 0#32
  let v101 : BitVec 1 := Scalar.cmpi .slt v97 c0_i32_47
  let v102 : BitVec 32 := Scalar.extui v101
  let v103 : BitVec 32 := Scalar.subi v100 v102
  let c2_i32 : BitVec 32 := 2#32
  let c0_i32_48 : BitVec 32 := 0#32
  let v104 : BitVec 1 := Scalar.cmpi .sgt c2_i32 c0_i32_48
  let v105 : BitVec 32 := Scalar.extui v104
  let c0_i32_49 : BitVec 32 := 0#32
  let v106 : BitVec 1 := Scalar.cmpi .slt c2_i32 c0_i32_49
  let v107 : BitVec 32 := Scalar.extui v106
  let v108 : BitVec 32 := Scalar.subi v105 v107
  let v109 : BitVec 1 := Scalar.cmpi .ne v103 v108
  let v110 : BitVec 32 := Scalar.remsi v97 c2_i32
  let c0_i32_50 : BitVec 32 := 0#32
  let v111 : BitVec 1 := Scalar.cmpi .ne v110 c0_i32_50
  let v112 : BitVec 1 := Scalar.andi v109 v111
  let v98 : BitVec 32 := Scalar.divsi v97 c2_i32
  let c1_i32_51 : BitVec 32 := 1#32
  let v113 : BitVec 32 := Scalar.subi v98 c1_i32_51
  let v114 : BitVec 32 := Scalar.select v112 v113 v98
  let v117 : BitVec 32 := Scalar.subi v114 c0_i32_54
  let c1_i32_55 : BitVec 32 := 1#32
  let v119 : BitVec 32 := Scalar.divsi v117 c1_i32_55
  let v120 : BitVec 32 := Scalar.muli v119 c1_i32_55
  let v121 : BitVec 32 := Scalar.addi c0_i32_54 v120
  let c1_i32_57 : BitVec 32 := 1#32
  let arg23 : BitVec 32 := Scf.iv v121 c1_i32_57 k0_t2
  let v202 : BitVec 32 := Scalar.muli c2_i32_100 arg23
  let v203 : BitVec 32 := Scalar.addi v58 v202
  let c1_i32_102 : BitVec 32 := 1#32
  let v205 : BitVec 32 := Scalar.subi v203 c1_i32_102
  let c0_i32_103 : BitVec 32 := 0#32
  let v206 : BitVec 32 := Scalar.maxsi v205 c0_i32_103
  let v210 : Index := Scalar.indexCast v206
  let c0_108 : Index := 0#32
  let c0_109 : Index := 0#32
  ![0, 0, v210.toNat, 0, 0]
def k0_mult4 (i : grid0.Coords) (v58 : BitVec 32) (k0_t2 : Fin (k0_t2_loop i v58).trips) : BitVec 32 :=
  let c2_i32_100 : BitVec 32 := 2#32
  let c0_i32_54 : BitVec 32 := 0#32
  let arg2 : BitVec 32 := BitVec.ofNat 32 (i 2).val
  let c512_i32 : BitVec 32 := 512#32
  let v2 : BitVec 32 := Scalar.muli arg2 c512_i32
  let c512_i32_12 : BitVec 32 := 512#32
  let v33 : BitVec 32 := Scalar.addi v2 c512_i32_12
  let c1_i32 : BitVec 32 := 1#32
  let v34 : BitVec 32 := Scalar.subi v33 c1_i32
  let c0_i32 : BitVec 32 := 0#32
  let v36 : BitVec 1 := Scalar.cmpi .sgt v34 c0_i32
  let v37 : BitVec 32 := Scalar.extui v36
  let c0_i32_14 : BitVec 32 := 0#32
  let v38 : BitVec 1 := Scalar.cmpi .slt v34 c0_i32_14
  let v39 : BitVec 32 := Scalar.extui v38
  let v40 : BitVec 32 := Scalar.subi v37 v39
  let c512_i32_13 : BitVec 32 := 512#32
  let c0_i32_15 : BitVec 32 := 0#32
  let v41 : BitVec 1 := Scalar.cmpi .sgt c512_i32_13 c0_i32_15
  let v42 : BitVec 32 := Scalar.extui v41
  let c0_i32_16 : BitVec 32 := 0#32
  let v43 : BitVec 1 := Scalar.cmpi .slt c512_i32_13 c0_i32_16
  let v44 : BitVec 32 := Scalar.extui v43
  let v45 : BitVec 32 := Scalar.subi v42 v44
  let v46 : BitVec 1 := Scalar.cmpi .ne v40 v45
  let v47 : BitVec 32 := Scalar.remsi v34 c512_i32_13
  let c0_i32_17 : BitVec 32 := 0#32
  let v48 : BitVec 1 := Scalar.cmpi .ne v47 c0_i32_17
  let v49 : BitVec 1 := Scalar.andi v46 v48
  let v35 : BitVec 32 := Scalar.divsi v34 c512_i32_13
  let c1_i32_18 : BitVec 32 := 1#32
  let v50 : BitVec 32 := Scalar.subi v35 c1_i32_18
  let v51 : BitVec 32 := Scalar.select v49 v50 v35
  let c1_i32_19 : BitVec 32 := 1#32
  let v52 : BitVec 32 := Scalar.addi v51 c1_i32_19
  let v97 : BitVec 32 := Scalar.subi v52 v58
  let c0_i32_46 : BitVec 32 := 0#32
  let v99 : BitVec 1 := Scalar.cmpi .sgt v97 c0_i32_46
  let v100 : BitVec 32 := Scalar.extui v99
  let c0_i32_47 : BitVec 32 := 0#32
  let v101 : BitVec 1 := Scalar.cmpi .slt v97 c0_i32_47
  let v102 : BitVec 32 := Scalar.extui v101
  let v103 : BitVec 32 := Scalar.subi v100 v102
  let c2_i32 : BitVec 32 := 2#32
  let c0_i32_48 : BitVec 32 := 0#32
  let v104 : BitVec 1 := Scalar.cmpi .sgt c2_i32 c0_i32_48
  let v105 : BitVec 32 := Scalar.extui v104
  let c0_i32_49 : BitVec 32 := 0#32
  let v106 : BitVec 1 := Scalar.cmpi .slt c2_i32 c0_i32_49
  let v107 : BitVec 32 := Scalar.extui v106
  let v108 : BitVec 32 := Scalar.subi v105 v107
  let v109 : BitVec 1 := Scalar.cmpi .ne v103 v108
  let v110 : BitVec 32 := Scalar.remsi v97 c2_i32
  let c0_i32_50 : BitVec 32 := 0#32
  let v111 : BitVec 1 := Scalar.cmpi .ne v110 c0_i32_50
  let v112 : BitVec 1 := Scalar.andi v109 v111
  let v98 : BitVec 32 := Scalar.divsi v97 c2_i32
  let c1_i32_51 : BitVec 32 := 1#32
  let v113 : BitVec 32 := Scalar.subi v98 c1_i32_51
  let v114 : BitVec 32 := Scalar.select v112 v113 v98
  let v117 : BitVec 32 := Scalar.subi v114 c0_i32_54
  let c1_i32_55 : BitVec 32 := 1#32
  let v119 : BitVec 32 := Scalar.divsi v117 c1_i32_55
  let v120 : BitVec 32 := Scalar.muli v119 c1_i32_55
  let v121 : BitVec 32 := Scalar.addi c0_i32_54 v120
  let c1_i32_57 : BitVec 32 := 1#32
  let arg23 : BitVec 32 := Scf.iv v121 c1_i32_57 k0_t2
  let v202 : BitVec 32 := Scalar.muli c2_i32_100 arg23
  let v203 : BitVec 32 := Scalar.addi v58 v202
  let c1_i32_101 : BitVec 32 := 1#32
  let v204 : BitVec 32 := Scalar.addi v203 c1_i32_101
  let c512_i32_120 : BitVec 32 := 512#32
  let v237 : BitVec 32 := Scalar.muli v204 c512_i32_120
  v237
def k0_off9 (i : grid0.Coords) (v58 : BitVec 32) (k0_t2 : Fin (k0_t2_loop i v58).trips) : Fin 3 → Nat :=
  let c0_121 : Index := 0#32
  let c2_i32_100 : BitVec 32 := 2#32
  let c0_i32_54 : BitVec 32 := 0#32
  let arg2 : BitVec 32 := BitVec.ofNat 32 (i 2).val
  let c512_i32 : BitVec 32 := 512#32
  let v2 : BitVec 32 := Scalar.muli arg2 c512_i32
  let c512_i32_12 : BitVec 32 := 512#32
  let v33 : BitVec 32 := Scalar.addi v2 c512_i32_12
  let c1_i32 : BitVec 32 := 1#32
  let v34 : BitVec 32 := Scalar.subi v33 c1_i32
  let c0_i32 : BitVec 32 := 0#32
  let v36 : BitVec 1 := Scalar.cmpi .sgt v34 c0_i32
  let v37 : BitVec 32 := Scalar.extui v36
  let c0_i32_14 : BitVec 32 := 0#32
  let v38 : BitVec 1 := Scalar.cmpi .slt v34 c0_i32_14
  let v39 : BitVec 32 := Scalar.extui v38
  let v40 : BitVec 32 := Scalar.subi v37 v39
  let c512_i32_13 : BitVec 32 := 512#32
  let c0_i32_15 : BitVec 32 := 0#32
  let v41 : BitVec 1 := Scalar.cmpi .sgt c512_i32_13 c0_i32_15
  let v42 : BitVec 32 := Scalar.extui v41
  let c0_i32_16 : BitVec 32 := 0#32
  let v43 : BitVec 1 := Scalar.cmpi .slt c512_i32_13 c0_i32_16
  let v44 : BitVec 32 := Scalar.extui v43
  let v45 : BitVec 32 := Scalar.subi v42 v44
  let v46 : BitVec 1 := Scalar.cmpi .ne v40 v45
  let v47 : BitVec 32 := Scalar.remsi v34 c512_i32_13
  let c0_i32_17 : BitVec 32 := 0#32
  let v48 : BitVec 1 := Scalar.cmpi .ne v47 c0_i32_17
  let v49 : BitVec 1 := Scalar.andi v46 v48
  let v35 : BitVec 32 := Scalar.divsi v34 c512_i32_13
  let c1_i32_18 : BitVec 32 := 1#32
  let v50 : BitVec 32 := Scalar.subi v35 c1_i32_18
  let v51 : BitVec 32 := Scalar.select v49 v50 v35
  let c1_i32_19 : BitVec 32 := 1#32
  let v52 : BitVec 32 := Scalar.addi v51 c1_i32_19
  let v97 : BitVec 32 := Scalar.subi v52 v58
  let c0_i32_46 : BitVec 32 := 0#32
  let v99 : BitVec 1 := Scalar.cmpi .sgt v97 c0_i32_46
  let v100 : BitVec 32 := Scalar.extui v99
  let c0_i32_47 : BitVec 32 := 0#32
  let v101 : BitVec 1 := Scalar.cmpi .slt v97 c0_i32_47
  let v102 : BitVec 32 := Scalar.extui v101
  let v103 : BitVec 32 := Scalar.subi v100 v102
  let c2_i32 : BitVec 32 := 2#32
  let c0_i32_48 : BitVec 32 := 0#32
  let v104 : BitVec 1 := Scalar.cmpi .sgt c2_i32 c0_i32_48
  let v105 : BitVec 32 := Scalar.extui v104
  let c0_i32_49 : BitVec 32 := 0#32
  let v106 : BitVec 1 := Scalar.cmpi .slt c2_i32 c0_i32_49
  let v107 : BitVec 32 := Scalar.extui v106
  let v108 : BitVec 32 := Scalar.subi v105 v107
  let v109 : BitVec 1 := Scalar.cmpi .ne v103 v108
  let v110 : BitVec 32 := Scalar.remsi v97 c2_i32
  let c0_i32_50 : BitVec 32 := 0#32
  let v111 : BitVec 1 := Scalar.cmpi .ne v110 c0_i32_50
  let v112 : BitVec 1 := Scalar.andi v109 v111
  let v98 : BitVec 32 := Scalar.divsi v97 c2_i32
  let c1_i32_51 : BitVec 32 := 1#32
  let v113 : BitVec 32 := Scalar.subi v98 c1_i32_51
  let v114 : BitVec 32 := Scalar.select v112 v113 v98
  let v117 : BitVec 32 := Scalar.subi v114 c0_i32_54
  let c1_i32_55 : BitVec 32 := 1#32
  let v119 : BitVec 32 := Scalar.divsi v117 c1_i32_55
  let v120 : BitVec 32 := Scalar.muli v119 c1_i32_55
  let v121 : BitVec 32 := Scalar.addi c0_i32_54 v120
  let c1_i32_57 : BitVec 32 := 1#32
  let arg23 : BitVec 32 := Scf.iv v121 c1_i32_57 k0_t2
  let v202 : BitVec 32 := Scalar.muli c2_i32_100 arg23
  let v203 : BitVec 32 := Scalar.addi v58 v202
  let c1_i32_101 : BitVec 32 := 1#32
  let v204 : BitVec 32 := Scalar.addi v203 c1_i32_101
  let c512_i32_120 : BitVec 32 := 512#32
  let v237 : BitVec 32 := Scalar.muli v204 c512_i32_120
  let v238 : BitVec 32 := v237
  let v239 : Index := Scalar.indexCast v238
  let c0_122 : Index := 0#32
  ![0, v239.toNat, 0]
def k0_off10 (i : grid0.Coords) (v58 : BitVec 32) (k0_t2 : Fin (k0_t2_loop i v58).trips) : Fin 5 → Nat :=
  let c0_136 : Index := 0#32
  let c0_137 : Index := 0#32
  let c2_i32_100 : BitVec 32 := 2#32
  let c0_i32_54 : BitVec 32 := 0#32
  let arg2 : BitVec 32 := BitVec.ofNat 32 (i 2).val
  let c512_i32 : BitVec 32 := 512#32
  let v2 : BitVec 32 := Scalar.muli arg2 c512_i32
  let c512_i32_12 : BitVec 32 := 512#32
  let v33 : BitVec 32 := Scalar.addi v2 c512_i32_12
  let c1_i32 : BitVec 32 := 1#32
  let v34 : BitVec 32 := Scalar.subi v33 c1_i32
  let c0_i32 : BitVec 32 := 0#32
  let v36 : BitVec 1 := Scalar.cmpi .sgt v34 c0_i32
  let v37 : BitVec 32 := Scalar.extui v36
  let c0_i32_14 : BitVec 32 := 0#32
  let v38 : BitVec 1 := Scalar.cmpi .slt v34 c0_i32_14
  let v39 : BitVec 32 := Scalar.extui v38
  let v40 : BitVec 32 := Scalar.subi v37 v39
  let c512_i32_13 : BitVec 32 := 512#32
  let c0_i32_15 : BitVec 32 := 0#32
  let v41 : BitVec 1 := Scalar.cmpi .sgt c512_i32_13 c0_i32_15
  let v42 : BitVec 32 := Scalar.extui v41
  let c0_i32_16 : BitVec 32 := 0#32
  let v43 : BitVec 1 := Scalar.cmpi .slt c512_i32_13 c0_i32_16
  let v44 : BitVec 32 := Scalar.extui v43
  let v45 : BitVec 32 := Scalar.subi v42 v44
  let v46 : BitVec 1 := Scalar.cmpi .ne v40 v45
  let v47 : BitVec 32 := Scalar.remsi v34 c512_i32_13
  let c0_i32_17 : BitVec 32 := 0#32
  let v48 : BitVec 1 := Scalar.cmpi .ne v47 c0_i32_17
  let v49 : BitVec 1 := Scalar.andi v46 v48
  let v35 : BitVec 32 := Scalar.divsi v34 c512_i32_13
  let c1_i32_18 : BitVec 32 := 1#32
  let v50 : BitVec 32 := Scalar.subi v35 c1_i32_18
  let v51 : BitVec 32 := Scalar.select v49 v50 v35
  let c1_i32_19 : BitVec 32 := 1#32
  let v52 : BitVec 32 := Scalar.addi v51 c1_i32_19
  let v97 : BitVec 32 := Scalar.subi v52 v58
  let c0_i32_46 : BitVec 32 := 0#32
  let v99 : BitVec 1 := Scalar.cmpi .sgt v97 c0_i32_46
  let v100 : BitVec 32 := Scalar.extui v99
  let c0_i32_47 : BitVec 32 := 0#32
  let v101 : BitVec 1 := Scalar.cmpi .slt v97 c0_i32_47
  let v102 : BitVec 32 := Scalar.extui v101
  let v103 : BitVec 32 := Scalar.subi v100 v102
  let c2_i32 : BitVec 32 := 2#32
  let c0_i32_48 : BitVec 32 := 0#32
  let v104 : BitVec 1 := Scalar.cmpi .sgt c2_i32 c0_i32_48
  let v105 : BitVec 32 := Scalar.extui v104
  let c0_i32_49 : BitVec 32 := 0#32
  let v106 : BitVec 1 := Scalar.cmpi .slt c2_i32 c0_i32_49
  let v107 : BitVec 32 := Scalar.extui v106
  let v108 : BitVec 32 := Scalar.subi v105 v107
  let v109 : BitVec 1 := Scalar.cmpi .ne v103 v108
  let v110 : BitVec 32 := Scalar.remsi v97 c2_i32
  let c0_i32_50 : BitVec 32 := 0#32
  let v111 : BitVec 1 := Scalar.cmpi .ne v110 c0_i32_50
  let v112 : BitVec 1 := Scalar.andi v109 v111
  let v98 : BitVec 32 := Scalar.divsi v97 c2_i32
  let c1_i32_51 : BitVec 32 := 1#32
  let v113 : BitVec 32 := Scalar.subi v98 c1_i32_51
  let v114 : BitVec 32 := Scalar.select v112 v113 v98
  let v117 : BitVec 32 := Scalar.subi v114 c0_i32_54
  let c1_i32_55 : BitVec 32 := 1#32
  let v119 : BitVec 32 := Scalar.divsi v117 c1_i32_55
  let v120 : BitVec 32 := Scalar.muli v119 c1_i32_55
  let v121 : BitVec 32 := Scalar.addi c0_i32_54 v120
  let c1_i32_57 : BitVec 32 := 1#32
  let arg23 : BitVec 32 := Scf.iv v121 c1_i32_57 k0_t2
  let v202 : BitVec 32 := Scalar.muli c2_i32_100 arg23
  let v203 : BitVec 32 := Scalar.addi v58 v202
  let v262 : Index := Scalar.indexCast v203
  let c0_138 : Index := 0#32
  let c0_139 : Index := 0#32
  ![0, 0, v262.toNat, 0, 0]
def k0_mult5 (i : grid0.Coords) (v58 : BitVec 32) (k0_t2 : Fin (k0_t2_loop i v58).trips) : BitVec 32 :=
  let c2_i32_100 : BitVec 32 := 2#32
  let c0_i32_54 : BitVec 32 := 0#32
  let arg2 : BitVec 32 := BitVec.ofNat 32 (i 2).val
  let c512_i32 : BitVec 32 := 512#32
  let v2 : BitVec 32 := Scalar.muli arg2 c512_i32
  let c512_i32_12 : BitVec 32 := 512#32
  let v33 : BitVec 32 := Scalar.addi v2 c512_i32_12
  let c1_i32 : BitVec 32 := 1#32
  let v34 : BitVec 32 := Scalar.subi v33 c1_i32
  let c0_i32 : BitVec 32 := 0#32
  let v36 : BitVec 1 := Scalar.cmpi .sgt v34 c0_i32
  let v37 : BitVec 32 := Scalar.extui v36
  let c0_i32_14 : BitVec 32 := 0#32
  let v38 : BitVec 1 := Scalar.cmpi .slt v34 c0_i32_14
  let v39 : BitVec 32 := Scalar.extui v38
  let v40 : BitVec 32 := Scalar.subi v37 v39
  let c512_i32_13 : BitVec 32 := 512#32
  let c0_i32_15 : BitVec 32 := 0#32
  let v41 : BitVec 1 := Scalar.cmpi .sgt c512_i32_13 c0_i32_15
  let v42 : BitVec 32 := Scalar.extui v41
  let c0_i32_16 : BitVec 32 := 0#32
  let v43 : BitVec 1 := Scalar.cmpi .slt c512_i32_13 c0_i32_16
  let v44 : BitVec 32 := Scalar.extui v43
  let v45 : BitVec 32 := Scalar.subi v42 v44
  let v46 : BitVec 1 := Scalar.cmpi .ne v40 v45
  let v47 : BitVec 32 := Scalar.remsi v34 c512_i32_13
  let c0_i32_17 : BitVec 32 := 0#32
  let v48 : BitVec 1 := Scalar.cmpi .ne v47 c0_i32_17
  let v49 : BitVec 1 := Scalar.andi v46 v48
  let v35 : BitVec 32 := Scalar.divsi v34 c512_i32_13
  let c1_i32_18 : BitVec 32 := 1#32
  let v50 : BitVec 32 := Scalar.subi v35 c1_i32_18
  let v51 : BitVec 32 := Scalar.select v49 v50 v35
  let c1_i32_19 : BitVec 32 := 1#32
  let v52 : BitVec 32 := Scalar.addi v51 c1_i32_19
  let v97 : BitVec 32 := Scalar.subi v52 v58
  let c0_i32_46 : BitVec 32 := 0#32
  let v99 : BitVec 1 := Scalar.cmpi .sgt v97 c0_i32_46
  let v100 : BitVec 32 := Scalar.extui v99
  let c0_i32_47 : BitVec 32 := 0#32
  let v101 : BitVec 1 := Scalar.cmpi .slt v97 c0_i32_47
  let v102 : BitVec 32 := Scalar.extui v101
  let v103 : BitVec 32 := Scalar.subi v100 v102
  let c2_i32 : BitVec 32 := 2#32
  let c0_i32_48 : BitVec 32 := 0#32
  let v104 : BitVec 1 := Scalar.cmpi .sgt c2_i32 c0_i32_48
  let v105 : BitVec 32 := Scalar.extui v104
  let c0_i32_49 : BitVec 32 := 0#32
  let v106 : BitVec 1 := Scalar.cmpi .slt c2_i32 c0_i32_49
  let v107 : BitVec 32 := Scalar.extui v106
  let v108 : BitVec 32 := Scalar.subi v105 v107
  let v109 : BitVec 1 := Scalar.cmpi .ne v103 v108
  let v110 : BitVec 32 := Scalar.remsi v97 c2_i32
  let c0_i32_50 : BitVec 32 := 0#32
  let v111 : BitVec 1 := Scalar.cmpi .ne v110 c0_i32_50
  let v112 : BitVec 1 := Scalar.andi v109 v111
  let v98 : BitVec 32 := Scalar.divsi v97 c2_i32
  let c1_i32_51 : BitVec 32 := 1#32
  let v113 : BitVec 32 := Scalar.subi v98 c1_i32_51
  let v114 : BitVec 32 := Scalar.select v112 v113 v98
  let v117 : BitVec 32 := Scalar.subi v114 c0_i32_54
  let c1_i32_55 : BitVec 32 := 1#32
  let v119 : BitVec 32 := Scalar.divsi v117 c1_i32_55
  let v120 : BitVec 32 := Scalar.muli v119 c1_i32_55
  let v121 : BitVec 32 := Scalar.addi c0_i32_54 v120
  let c1_i32_57 : BitVec 32 := 1#32
  let arg23 : BitVec 32 := Scf.iv v121 c1_i32_57 k0_t2
  let v202 : BitVec 32 := Scalar.muli c2_i32_100 arg23
  let v203 : BitVec 32 := Scalar.addi v58 v202
  let c2_i32_150 : BitVec 32 := 2#32
  let v289 : BitVec 32 := Scalar.addi v203 c2_i32_150
  let c15_i32 : BitVec 32 := 15#32
  let v290 : BitVec 32 := Scalar.minsi v289 c15_i32
  let c512_i32_151 : BitVec 32 := 512#32
  let v291 : BitVec 32 := Scalar.muli v290 c512_i32_151
  v291
def k0_off11 (i : grid0.Coords) (v58 : BitVec 32) (k0_t2 : Fin (k0_t2_loop i v58).trips) : Fin 3 → Nat :=
  let c0_152 : Index := 0#32
  let c2_i32_100 : BitVec 32 := 2#32
  let c0_i32_54 : BitVec 32 := 0#32
  let arg2 : BitVec 32 := BitVec.ofNat 32 (i 2).val
  let c512_i32 : BitVec 32 := 512#32
  let v2 : BitVec 32 := Scalar.muli arg2 c512_i32
  let c512_i32_12 : BitVec 32 := 512#32
  let v33 : BitVec 32 := Scalar.addi v2 c512_i32_12
  let c1_i32 : BitVec 32 := 1#32
  let v34 : BitVec 32 := Scalar.subi v33 c1_i32
  let c0_i32 : BitVec 32 := 0#32
  let v36 : BitVec 1 := Scalar.cmpi .sgt v34 c0_i32
  let v37 : BitVec 32 := Scalar.extui v36
  let c0_i32_14 : BitVec 32 := 0#32
  let v38 : BitVec 1 := Scalar.cmpi .slt v34 c0_i32_14
  let v39 : BitVec 32 := Scalar.extui v38
  let v40 : BitVec 32 := Scalar.subi v37 v39
  let c512_i32_13 : BitVec 32 := 512#32
  let c0_i32_15 : BitVec 32 := 0#32
  let v41 : BitVec 1 := Scalar.cmpi .sgt c512_i32_13 c0_i32_15
  let v42 : BitVec 32 := Scalar.extui v41
  let c0_i32_16 : BitVec 32 := 0#32
  let v43 : BitVec 1 := Scalar.cmpi .slt c512_i32_13 c0_i32_16
  let v44 : BitVec 32 := Scalar.extui v43
  let v45 : BitVec 32 := Scalar.subi v42 v44
  let v46 : BitVec 1 := Scalar.cmpi .ne v40 v45
  let v47 : BitVec 32 := Scalar.remsi v34 c512_i32_13
  let c0_i32_17 : BitVec 32 := 0#32
  let v48 : BitVec 1 := Scalar.cmpi .ne v47 c0_i32_17
  let v49 : BitVec 1 := Scalar.andi v46 v48
  let v35 : BitVec 32 := Scalar.divsi v34 c512_i32_13
  let c1_i32_18 : BitVec 32 := 1#32
  let v50 : BitVec 32 := Scalar.subi v35 c1_i32_18
  let v51 : BitVec 32 := Scalar.select v49 v50 v35
  let c1_i32_19 : BitVec 32 := 1#32
  let v52 : BitVec 32 := Scalar.addi v51 c1_i32_19
  let v97 : BitVec 32 := Scalar.subi v52 v58
  let c0_i32_46 : BitVec 32 := 0#32
  let v99 : BitVec 1 := Scalar.cmpi .sgt v97 c0_i32_46
  let v100 : BitVec 32 := Scalar.extui v99
  let c0_i32_47 : BitVec 32 := 0#32
  let v101 : BitVec 1 := Scalar.cmpi .slt v97 c0_i32_47
  let v102 : BitVec 32 := Scalar.extui v101
  let v103 : BitVec 32 := Scalar.subi v100 v102
  let c2_i32 : BitVec 32 := 2#32
  let c0_i32_48 : BitVec 32 := 0#32
  let v104 : BitVec 1 := Scalar.cmpi .sgt c2_i32 c0_i32_48
  let v105 : BitVec 32 := Scalar.extui v104
  let c0_i32_49 : BitVec 32 := 0#32
  let v106 : BitVec 1 := Scalar.cmpi .slt c2_i32 c0_i32_49
  let v107 : BitVec 32 := Scalar.extui v106
  let v108 : BitVec 32 := Scalar.subi v105 v107
  let v109 : BitVec 1 := Scalar.cmpi .ne v103 v108
  let v110 : BitVec 32 := Scalar.remsi v97 c2_i32
  let c0_i32_50 : BitVec 32 := 0#32
  let v111 : BitVec 1 := Scalar.cmpi .ne v110 c0_i32_50
  let v112 : BitVec 1 := Scalar.andi v109 v111
  let v98 : BitVec 32 := Scalar.divsi v97 c2_i32
  let c1_i32_51 : BitVec 32 := 1#32
  let v113 : BitVec 32 := Scalar.subi v98 c1_i32_51
  let v114 : BitVec 32 := Scalar.select v112 v113 v98
  let v117 : BitVec 32 := Scalar.subi v114 c0_i32_54
  let c1_i32_55 : BitVec 32 := 1#32
  let v119 : BitVec 32 := Scalar.divsi v117 c1_i32_55
  let v120 : BitVec 32 := Scalar.muli v119 c1_i32_55
  let v121 : BitVec 32 := Scalar.addi c0_i32_54 v120
  let c1_i32_57 : BitVec 32 := 1#32
  let arg23 : BitVec 32 := Scf.iv v121 c1_i32_57 k0_t2
  let v202 : BitVec 32 := Scalar.muli c2_i32_100 arg23
  let v203 : BitVec 32 := Scalar.addi v58 v202
  let c2_i32_150 : BitVec 32 := 2#32
  let v289 : BitVec 32 := Scalar.addi v203 c2_i32_150
  let c15_i32 : BitVec 32 := 15#32
  let v290 : BitVec 32 := Scalar.minsi v289 c15_i32
  let c512_i32_151 : BitVec 32 := 512#32
  let v291 : BitVec 32 := Scalar.muli v290 c512_i32_151
  let v292 : BitVec 32 := v291
  let v293 : Index := Scalar.indexCast v292
  let c0_153 : Index := 0#32
  ![0, v293.toNat, 0]

def k0_chk1 (i : grid0.Coords) (v58 : BitVec 32) : Prop :=
  (512 ∣ (k0_mult1 v58).toNat) ∧
  (∀ a, (k0_off3 v58) a + S1x512x128.size a ≤ S1x8192x128.size a) ∧
  ((k0_t1_loop i v58).OK) ∧
  (∀ k0_t1 : Fin (k0_t1_loop i v58).trips, ∀ a, (k0_off4 i v58 k0_t1) a + S1x1x1x144x512.size a ≤ S1x1x16x144x512.size a) ∧
  (∀ k0_t1 : Fin (k0_t1_loop i v58).trips, 512 ∣ (k0_mult2 i v58 k0_t1).toNat) ∧
  (∀ k0_t1 : Fin (k0_t1_loop i v58).trips, ∀ a, (k0_off5 i v58 k0_t1) a + S1x512x128.size a ≤ S1x8192x128.size a) ∧
  (∀ k0_t1 : Fin (k0_t1_loop i v58).trips, ∀ a, (k0_off6 i v58 k0_t1) a + S1x1x1x144x512.size a ≤ S1x1x16x144x512.size a) ∧
  (∀ k0_t1 : Fin (k0_t1_loop i v58).trips, 512 ∣ (k0_mult3 i v58 k0_t1).toNat) ∧
  (∀ k0_t1 : Fin (k0_t1_loop i v58).trips, ∀ a, (k0_off7 i v58 k0_t1) a + S1x512x128.size a ≤ S1x8192x128.size a) ∧
  ((k0_t2_loop i v58).OK) ∧
  (∀ k0_t2 : Fin (k0_t2_loop i v58).trips, ∀ a, (k0_off8 i v58 k0_t2) a + S1x1x1x144x512.size a ≤ S1x1x16x144x512.size a) ∧
  (∀ k0_t2 : Fin (k0_t2_loop i v58).trips, 512 ∣ (k0_mult4 i v58 k0_t2).toNat) ∧
  (∀ k0_t2 : Fin (k0_t2_loop i v58).trips, ∀ a, (k0_off9 i v58 k0_t2) a + S1x512x128.size a ≤ S1x8192x128.size a) ∧
  (∀ k0_t2 : Fin (k0_t2_loop i v58).trips, ∀ a, (k0_off10 i v58 k0_t2) a + S1x1x1x144x512.size a ≤ S1x1x16x144x512.size a) ∧
  (∀ k0_t2 : Fin (k0_t2_loop i v58).trips, 512 ∣ (k0_mult5 i v58 k0_t2).toNat) ∧
  (∀ k0_t2 : Fin (k0_t2_loop i v58).trips, ∀ a, (k0_off11 i v58 k0_t2) a + S1x512x128.size a ≤ S1x8192x128.size a)
theorem k0_mult1_dvd : ∀ (i : grid0.Coords) (v58 : BitVec 32) (k0_hw1 : k0_chk1 i v58), 512 ∣ (k0_mult1 v58).toNat := fun i v58 k0_hw1 => k0_hw1.1
theorem k0_off3_inb : ∀ (i : grid0.Coords) (v58 : BitVec 32) (k0_hw1 : k0_chk1 i v58), ∀ a, (k0_off3 v58) a + S1x512x128.size a ≤ S1x8192x128.size a := fun i v58 k0_hw1 => k0_hw1.2.1
theorem k0_t1_ok : ∀ (i : grid0.Coords) (v58 : BitVec 32) (k0_hw1 : k0_chk1 i v58), (k0_t1_loop i v58).OK := fun i v58 k0_hw1 => k0_hw1.2.2.1
theorem k0_off4_inb : ∀ (i : grid0.Coords) (v58 : BitVec 32) (k0_hw1 : k0_chk1 i v58) (k0_t1 : Fin (k0_t1_loop i v58).trips), ∀ a, (k0_off4 i v58 k0_t1) a + S1x1x1x144x512.size a ≤ S1x1x16x144x512.size a := fun i v58 k0_hw1 k0_t1 => k0_hw1.2.2.2.1 k0_t1
theorem k0_mult2_dvd : ∀ (i : grid0.Coords) (v58 : BitVec 32) (k0_hw1 : k0_chk1 i v58) (k0_t1 : Fin (k0_t1_loop i v58).trips), 512 ∣ (k0_mult2 i v58 k0_t1).toNat := fun i v58 k0_hw1 k0_t1 => k0_hw1.2.2.2.2.1 k0_t1
theorem k0_off5_inb : ∀ (i : grid0.Coords) (v58 : BitVec 32) (k0_hw1 : k0_chk1 i v58) (k0_t1 : Fin (k0_t1_loop i v58).trips), ∀ a, (k0_off5 i v58 k0_t1) a + S1x512x128.size a ≤ S1x8192x128.size a := fun i v58 k0_hw1 k0_t1 => k0_hw1.2.2.2.2.2.1 k0_t1
theorem k0_off6_inb : ∀ (i : grid0.Coords) (v58 : BitVec 32) (k0_hw1 : k0_chk1 i v58) (k0_t1 : Fin (k0_t1_loop i v58).trips), ∀ a, (k0_off6 i v58 k0_t1) a + S1x1x1x144x512.size a ≤ S1x1x16x144x512.size a := fun i v58 k0_hw1 k0_t1 => k0_hw1.2.2.2.2.2.2.1 k0_t1
theorem k0_mult3_dvd : ∀ (i : grid0.Coords) (v58 : BitVec 32) (k0_hw1 : k0_chk1 i v58) (k0_t1 : Fin (k0_t1_loop i v58).trips), 512 ∣ (k0_mult3 i v58 k0_t1).toNat := fun i v58 k0_hw1 k0_t1 => k0_hw1.2.2.2.2.2.2.2.1 k0_t1
theorem k0_off7_inb : ∀ (i : grid0.Coords) (v58 : BitVec 32) (k0_hw1 : k0_chk1 i v58) (k0_t1 : Fin (k0_t1_loop i v58).trips), ∀ a, (k0_off7 i v58 k0_t1) a + S1x512x128.size a ≤ S1x8192x128.size a := fun i v58 k0_hw1 k0_t1 => k0_hw1.2.2.2.2.2.2.2.2.1 k0_t1
theorem k0_t2_ok : ∀ (i : grid0.Coords) (v58 : BitVec 32) (k0_hw1 : k0_chk1 i v58), (k0_t2_loop i v58).OK := fun i v58 k0_hw1 => k0_hw1.2.2.2.2.2.2.2.2.2.1
theorem k0_off8_inb : ∀ (i : grid0.Coords) (v58 : BitVec 32) (k0_hw1 : k0_chk1 i v58) (k0_t2 : Fin (k0_t2_loop i v58).trips), ∀ a, (k0_off8 i v58 k0_t2) a + S1x1x1x144x512.size a ≤ S1x1x16x144x512.size a := fun i v58 k0_hw1 k0_t2 => k0_hw1.2.2.2.2.2.2.2.2.2.2.1 k0_t2
theorem k0_mult4_dvd : ∀ (i : grid0.Coords) (v58 : BitVec 32) (k0_hw1 : k0_chk1 i v58) (k0_t2 : Fin (k0_t2_loop i v58).trips), 512 ∣ (k0_mult4 i v58 k0_t2).toNat := fun i v58 k0_hw1 k0_t2 => k0_hw1.2.2.2.2.2.2.2.2.2.2.2.1 k0_t2
theorem k0_off9_inb : ∀ (i : grid0.Coords) (v58 : BitVec 32) (k0_hw1 : k0_chk1 i v58) (k0_t2 : Fin (k0_t2_loop i v58).trips), ∀ a, (k0_off9 i v58 k0_t2) a + S1x512x128.size a ≤ S1x8192x128.size a := fun i v58 k0_hw1 k0_t2 => k0_hw1.2.2.2.2.2.2.2.2.2.2.2.2.1 k0_t2
theorem k0_off10_inb : ∀ (i : grid0.Coords) (v58 : BitVec 32) (k0_hw1 : k0_chk1 i v58) (k0_t2 : Fin (k0_t2_loop i v58).trips), ∀ a, (k0_off10 i v58 k0_t2) a + S1x1x1x144x512.size a ≤ S1x1x16x144x512.size a := fun i v58 k0_hw1 k0_t2 => k0_hw1.2.2.2.2.2.2.2.2.2.2.2.2.2.1 k0_t2
theorem k0_mult5_dvd : ∀ (i : grid0.Coords) (v58 : BitVec 32) (k0_hw1 : k0_chk1 i v58) (k0_t2 : Fin (k0_t2_loop i v58).trips), 512 ∣ (k0_mult5 i v58 k0_t2).toNat := fun i v58 k0_hw1 k0_t2 => k0_hw1.2.2.2.2.2.2.2.2.2.2.2.2.2.2.1 k0_t2
theorem k0_off11_inb : ∀ (i : grid0.Coords) (v58 : BitVec 32) (k0_hw1 : k0_chk1 i v58) (k0_t2 : Fin (k0_t2_loop i v58).trips), ∀ a, (k0_off11 i v58 k0_t2) a + S1x512x128.size a ≤ S1x8192x128.size a := fun i v58 k0_hw1 k0_t2 => k0_hw1.2.2.2.2.2.2.2.2.2.2.2.2.2.2.2 k0_t2

def k0_off12 (i : grid0.Coords) : Fin 5 → Nat :=
  let c0_102 : Index := 0#32
  let c0_103 : Index := 0#32
  let arg2 : BitVec 32 := BitVec.ofNat 32 (i 2).val
  let c512_i32 : BitVec 32 := 512#32
  let v2 : BitVec 32 := Scalar.muli arg2 c512_i32
  let c512_i32_12 : BitVec 32 := 512#32
  let v33 : BitVec 32 := Scalar.addi v2 c512_i32_12
  let c1_i32 : BitVec 32 := 1#32
  let v34 : BitVec 32 := Scalar.subi v33 c1_i32
  let c0_i32 : BitVec 32 := 0#32
  let v36 : BitVec 1 := Scalar.cmpi .sgt v34 c0_i32
  let v37 : BitVec 32 := Scalar.extui v36
  let c0_i32_14 : BitVec 32 := 0#32
  let v38 : BitVec 1 := Scalar.cmpi .slt v34 c0_i32_14
  let v39 : BitVec 32 := Scalar.extui v38
  let v40 : BitVec 32 := Scalar.subi v37 v39
  let c512_i32_13 : BitVec 32 := 512#32
  let c0_i32_15 : BitVec 32 := 0#32
  let v41 : BitVec 1 := Scalar.cmpi .sgt c512_i32_13 c0_i32_15
  let v42 : BitVec 32 := Scalar.extui v41
  let c0_i32_16 : BitVec 32 := 0#32
  let v43 : BitVec 1 := Scalar.cmpi .slt c512_i32_13 c0_i32_16
  let v44 : BitVec 32 := Scalar.extui v43
  let v45 : BitVec 32 := Scalar.subi v42 v44
  let v46 : BitVec 1 := Scalar.cmpi .ne v40 v45
  let v47 : BitVec 32 := Scalar.remsi v34 c512_i32_13
  let c0_i32_17 : BitVec 32 := 0#32
  let v48 : BitVec 1 := Scalar.cmpi .ne v47 c0_i32_17
  let v49 : BitVec 1 := Scalar.andi v46 v48
  let v35 : BitVec 32 := Scalar.divsi v34 c512_i32_13
  let c1_i32_18 : BitVec 32 := 1#32
  let v50 : BitVec 32 := Scalar.subi v35 c1_i32_18
  let v51 : BitVec 32 := Scalar.select v49 v50 v35
  let c1_i32_19 : BitVec 32 := 1#32
  let v52 : BitVec 32 := Scalar.addi v51 c1_i32_19
  let c1_i32_58 : BitVec 32 := 1#32
  let v124 : BitVec 32 := Scalar.subi v52 c1_i32_58
  let v205 : Index := Scalar.indexCast v124
  let c0_104 : Index := 0#32
  let c0_105 : Index := 0#32
  ![0, 0, v205.toNat, 0, 0]
def k0_off13 (i : grid0.Coords) : Fin 5 → Nat :=
  let c0_104 : Index := 0#32
  let c0_105 : Index := 0#32
  let arg2 : BitVec 32 := BitVec.ofNat 32 (i 2).val
  let c512_i32 : BitVec 32 := 512#32
  let v2 : BitVec 32 := Scalar.muli arg2 c512_i32
  let c512_i32_12 : BitVec 32 := 512#32
  let v33 : BitVec 32 := Scalar.addi v2 c512_i32_12
  let c1_i32 : BitVec 32 := 1#32
  let v34 : BitVec 32 := Scalar.subi v33 c1_i32
  let c0_i32 : BitVec 32 := 0#32
  let v36 : BitVec 1 := Scalar.cmpi .sgt v34 c0_i32
  let v37 : BitVec 32 := Scalar.extui v36
  let c0_i32_14 : BitVec 32 := 0#32
  let v38 : BitVec 1 := Scalar.cmpi .slt v34 c0_i32_14
  let v39 : BitVec 32 := Scalar.extui v38
  let v40 : BitVec 32 := Scalar.subi v37 v39
  let c512_i32_13 : BitVec 32 := 512#32
  let c0_i32_15 : BitVec 32 := 0#32
  let v41 : BitVec 1 := Scalar.cmpi .sgt c512_i32_13 c0_i32_15
  let v42 : BitVec 32 := Scalar.extui v41
  let c0_i32_16 : BitVec 32 := 0#32
  let v43 : BitVec 1 := Scalar.cmpi .slt c512_i32_13 c0_i32_16
  let v44 : BitVec 32 := Scalar.extui v43
  let v45 : BitVec 32 := Scalar.subi v42 v44
  let v46 : BitVec 1 := Scalar.cmpi .ne v40 v45
  let v47 : BitVec 32 := Scalar.remsi v34 c512_i32_13
  let c0_i32_17 : BitVec 32 := 0#32
  let v48 : BitVec 1 := Scalar.cmpi .ne v47 c0_i32_17
  let v49 : BitVec 1 := Scalar.andi v46 v48
  let v35 : BitVec 32 := Scalar.divsi v34 c512_i32_13
  let c1_i32_18 : BitVec 32 := 1#32
  let v50 : BitVec 32 := Scalar.subi v35 c1_i32_18
  let v51 : BitVec 32 := Scalar.select v49 v50 v35
  let c1_i32_19 : BitVec 32 := 1#32
  let v52 : BitVec 32 := Scalar.addi v51 c1_i32_19
  let c1_i32_58 : BitVec 32 := 1#32
  let v124 : BitVec 32 := Scalar.subi v52 c1_i32_58
  let c1_i32_100 : BitVec 32 := 1#32
  let v202 : BitVec 32 := Scalar.subi v124 c1_i32_100
  let c0_i32_101 : BitVec 32 := 0#32
  let v203 : BitVec 32 := Scalar.maxsi v202 c0_i32_101
  let v207 : Index := Scalar.indexCast v203
  let c0_106 : Index := 0#32
  let c0_107 : Index := 0#32
  ![0, 0, v207.toNat, 0, 0]
def k0_off14 (i : grid0.Coords) : Fin 5 → Nat :=
  let c0_120 : Index := 0#32
  let c0_121 : Index := 0#32
  let arg2 : BitVec 32 := BitVec.ofNat 32 (i 2).val
  let c512_i32 : BitVec 32 := 512#32
  let v2 : BitVec 32 := Scalar.muli arg2 c512_i32
  let c512_i32_12 : BitVec 32 := 512#32
  let v33 : BitVec 32 := Scalar.addi v2 c512_i32_12
  let c1_i32 : BitVec 32 := 1#32
  let v34 : BitVec 32 := Scalar.subi v33 c1_i32
  let c0_i32 : BitVec 32 := 0#32
  let v36 : BitVec 1 := Scalar.cmpi .sgt v34 c0_i32
  let v37 : BitVec 32 := Scalar.extui v36
  let c0_i32_14 : BitVec 32 := 0#32
  let v38 : BitVec 1 := Scalar.cmpi .slt v34 c0_i32_14
  let v39 : BitVec 32 := Scalar.extui v38
  let v40 : BitVec 32 := Scalar.subi v37 v39
  let c512_i32_13 : BitVec 32 := 512#32
  let c0_i32_15 : BitVec 32 := 0#32
  let v41 : BitVec 1 := Scalar.cmpi .sgt c512_i32_13 c0_i32_15
  let v42 : BitVec 32 := Scalar.extui v41
  let c0_i32_16 : BitVec 32 := 0#32
  let v43 : BitVec 1 := Scalar.cmpi .slt c512_i32_13 c0_i32_16
  let v44 : BitVec 32 := Scalar.extui v43
  let v45 : BitVec 32 := Scalar.subi v42 v44
  let v46 : BitVec 1 := Scalar.cmpi .ne v40 v45
  let v47 : BitVec 32 := Scalar.remsi v34 c512_i32_13
  let c0_i32_17 : BitVec 32 := 0#32
  let v48 : BitVec 1 := Scalar.cmpi .ne v47 c0_i32_17
  let v49 : BitVec 1 := Scalar.andi v46 v48
  let v35 : BitVec 32 := Scalar.divsi v34 c512_i32_13
  let c1_i32_18 : BitVec 32 := 1#32
  let v50 : BitVec 32 := Scalar.subi v35 c1_i32_18
  let v51 : BitVec 32 := Scalar.select v49 v50 v35
  let c1_i32_19 : BitVec 32 := 1#32
  let v52 : BitVec 32 := Scalar.addi v51 c1_i32_19
  let c1_i32_58 : BitVec 32 := 1#32
  let v124 : BitVec 32 := Scalar.subi v52 c1_i32_58
  let v237 : Index := Scalar.indexCast v124
  let c0_122 : Index := 0#32
  let c0_123 : Index := 0#32
  ![0, 0, v237.toNat, 0, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x16x144x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S512x1024 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 2 → Memref sig .tc .vmem S1x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== Kernel3Ideal.lean ====
variable {F : FTy → Type} [FloatOps F] [Named F]
def κ : String → Option EReal := fun
  | "mask" => some ⊥
  | _ => none
-- ==== Reference3Ideal.lean ====
abbrev S8 : Shape := ⟨1, ![8]⟩
abbrev S4x8x16 : Shape := ⟨3, ![4, 8, 16]⟩
abbrev S4x8192x6528 : Shape := ⟨3, ![4, 8192, 6528]⟩
abbrev S64 : Shape := ⟨1, ![64]⟩
abbrev S128 : Shape := ⟨1, ![128]⟩
abbrev S4x8192x1024 : Shape := ⟨3, ![4, 8192, 1024]⟩
abbrev S4x8192x8x2x64 : Shape := ⟨5, ![4, 8192, 8, 2, 64]⟩
abbrev S4x8x2x8192x64 : Shape := ⟨5, ![4, 8, 2, 8192, 64]⟩
abbrev S_ : Shape := ⟨0, ![]⟩
abbrev S4x8192x8x128 : Shape := ⟨4, ![4, 8192, 8, 128]⟩
abbrev S4x8x8192x128 : Shape := ⟨4, ![4, 8, 8192, 128]⟩
abbrev S1x8x1x1x1 : Shape := ⟨5, ![1, 8, 1, 1, 1]⟩
abbrev S4x8x16x512 : Shape := ⟨4, ![4, 8, 16, 512]⟩
abbrev S4x8x8192 : Shape := ⟨3, ![4, 8, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S4x8x2x8192x8192 : Shape := ⟨5, ![4, 8, 2, 8192, 8192]⟩
abbrev S1x1x1x8192x8192 : Shape := ⟨5, ![1, 1, 1, 8192, 8192]⟩
abbrev S1x8x1x8192x8192 : Shape := ⟨5, ![1, 8, 1, 8192, 8192]⟩
abbrev S4x8x1x8192x1 : Shape := ⟨5, ![4, 8, 1, 8192, 1]⟩
abbrev S1x1x1x1x8192 : Shape := ⟨5, ![1, 1, 1, 1, 8192]⟩
abbrev S4x8x1x8192x8192 : Shape := ⟨5, ![4, 8, 1, 8192, 8192]⟩
abbrev S4x8x2x8192 : Shape := ⟨4, ![4, 8, 2, 8192]⟩
abbrev S4x8x2x8192x1 : Shape := ⟨5, ![4, 8, 2, 8192, 1]⟩
abbrev S4x8x8192x8192 : Shape := ⟨4, ![4, 8, 8192, 8192]⟩
abbrev S4x8x8192x1 : Shape := ⟨4, ![4, 8, 8192, 1]⟩
abbrev S1x1x1x128 : Shape := ⟨4, ![1, 1, 1, 128]⟩

abbrev nBuf : Space → Nat
  | .hbm => 116
  | .vmem => 0
  | .smem => 0
  | _ => 0

abbrev bufTy : (tb : Table) → Fin (tcTables nBuf tb) → BufTy
  | .hbm, ⟨0, _⟩ => ⟨S8, .f32⟩
  | .hbm, ⟨1, _⟩ => ⟨S4x8x16, .i32⟩
  | .hbm, ⟨2, _⟩ => ⟨S4x8192x6528, .bf16⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S4x8192x1024, .bf16⟩
  | .hbm, ⟨9, _⟩ => ⟨S4x8192x1024, .f32⟩
  | .hbm, ⟨10, _⟩ => ⟨S4x8192x8x2x64, .f32⟩
  | .hbm, ⟨11, _⟩ => ⟨S4x8x2x8192x64, .f32⟩
  | .hbm, ⟨12, _⟩ => ⟨S_, .f32⟩
  | .hbm, ⟨13, _⟩ => ⟨S4x8x2x8192x64, .f32⟩
  | .hbm, ⟨14, _⟩ => ⟨S4x8x2x8192x64, .f32⟩
  | .hbm, ⟨15, _⟩ => ⟨S4x8192x1024, .bf16⟩
  | .hbm, ⟨16, _⟩ => ⟨S4x8192x1024, .f32⟩
  | .hbm, ⟨17, _⟩ => ⟨S4x8192x8x2x64, .f32⟩
  | .hbm, ⟨18, _⟩ => ⟨S4x8x2x8192x64, .f32⟩
  | .hbm, ⟨19, _⟩ => ⟨S4x8192x1024, .bf16⟩
  | .hbm, ⟨20, _⟩ => ⟨S4x8192x1024, .f32⟩
  | .hbm, ⟨21, _⟩ => ⟨S4x8192x8x128, .f32⟩
  | .hbm, ⟨22, _⟩ => ⟨S4x8x8192x128, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1x8x1x1x1, .f32⟩
  | .hbm, ⟨35, _⟩ => ⟨S_, .i32⟩
  | .hbm, ⟨36, _⟩ => ⟨S4x8x16, .i32⟩
  | .hbm, ⟨37, _⟩ => ⟨S4x8x16, .i32⟩
  | .hbm, ⟨38, _⟩ => ⟨S4x8x16x512, .i32⟩
  | .hbm, ⟨39, _⟩ => ⟨S4x8x8192, .i32⟩
  | .hbm, ⟨40, _⟩ => ⟨S8192, .i32⟩
  | .hbm, ⟨41, _⟩ => ⟨S8192x1, .i32⟩
  | .hbm, ⟨42, _⟩ => ⟨S8192, .i32⟩
  | .hbm, ⟨43, _⟩ => ⟨S1x8192, .i32⟩
  | .hbm, ⟨44, _⟩ => ⟨S8192x8192, .i32⟩
  | .hbm, ⟨45, _⟩ => ⟨S8192x8192, .i32⟩
  | .hbm, ⟨46, _⟩ => ⟨S8192x8192, .i32⟩
  | .hbm, ⟨47, _⟩ => ⟨S4x8x2x8192x8192, .f32⟩
  | .hbm, ⟨48, _⟩ => ⟨S8192x8192, .f32⟩
  | .hbm, ⟨49, _⟩ => ⟨S1x1x1x8192x8192, .f32⟩
  | .hbm, ⟨50, _⟩ => ⟨S1x8x1x8192x8192, .f32⟩
  | .hbm, ⟨51, _⟩ => ⟨S1x8x1x8192x8192, .f32⟩
  | .hbm, ⟨52, _⟩ => ⟨S1x8x1x8192x8192, .f32⟩
  | .hbm, ⟨53, _⟩ => ⟨S4x8x2x8192x8192, .f32⟩
  | .hbm, ⟨54, _⟩ => ⟨S4x8x2x8192x8192, .f32⟩
  | .hbm, ⟨55, _⟩ => ⟨S_, .i32⟩
  | .hbm, ⟨56, _⟩ => ⟨S8192x8192, .i32⟩
  | .hbm, ⟨57, _⟩ => ⟨S8192x8192, .i1⟩
  | .hbm, ⟨58, _⟩ => ⟨S8192, .i32⟩
  | .hbm, ⟨59, _⟩ => ⟨S4x8x1x8192x1, .i32⟩
  | .hbm, ⟨60, _⟩ => ⟨S1x1x1x1x8192, .i32⟩
  | .hbm, ⟨61, _⟩ => ⟨S4x8x1x8192x8192, .i32⟩
  | .hbm, ⟨62, _⟩ => ⟨S4x8x1x8192x8192, .i32⟩
  | .hbm, ⟨63, _⟩ => ⟨S4x8x1x8192x8192, .i1⟩
  | .hbm, ⟨64, _⟩ => ⟨S1x1x1x8192x8192, .i1⟩
  | .hbm, ⟨65, _⟩ => ⟨S4x8x1x8192x8192, .i1⟩
  | .hbm, ⟨66, _⟩ => ⟨S4x8x1x8192x8192, .i1⟩
  | .hbm, ⟨67, _⟩ => ⟨S_, .f32⟩
  | .hbm, ⟨68, _⟩ => ⟨S_, .f32⟩
  | .hbm, ⟨69, _⟩ => ⟨S4x8x2x8192x8192, .i1⟩
  | .hbm, ⟨70, _⟩ => ⟨S4x8x2x8192x8192, .f32⟩
  | .hbm, ⟨71, _⟩ => ⟨S4x8x2x8192x8192, .f32⟩
  | .hbm, ⟨72, _⟩ => ⟨S_, .f32⟩
  | .hbm, ⟨73, _⟩ => ⟨S4x8x2x8192, .f32⟩
  | .hbm, ⟨74, _⟩ => ⟨S_, .f32⟩
  | .hbm, ⟨75, _⟩ => ⟨S4x8x2x8192, .f32⟩
  | .hbm, ⟨76, _⟩ => ⟨S4x8x2x8192, .f32⟩
  | .hbm, ⟨77, _⟩ => ⟨S4x8x2x8192x1, .f32⟩
  | .hbm, ⟨78, _⟩ => ⟨S4x8x2x8192x8192, .f32⟩
  | .hbm, ⟨79, _⟩ => ⟨S4x8x2x8192x8192, .f32⟩
  | .hbm, ⟨80, _⟩ => ⟨S4x8x2x8192x8192, .f32⟩
  | .hbm, ⟨81, _⟩ => ⟨S_, .f32⟩
  | .hbm, ⟨82, _⟩ => ⟨S4x8x2x8192, .f32⟩
  | .hbm, ⟨83, _⟩ => ⟨S4x8x2x8192x1, .f32⟩
  | .hbm, ⟨84, _⟩ => ⟨S4x8x2x8192x8192, .f32⟩
  | .hbm, ⟨85, _⟩ => ⟨S4x8x2x8192x8192, .f32⟩
  | .hbm, ⟨86, _⟩ => ⟨S4x8x1x8192x8192, .f32⟩
  | .hbm, ⟨87, _⟩ => ⟨S4x8x8192x8192, .f32⟩
  | .hbm, ⟨88, _⟩ => ⟨S4x8x1x8192x8192, .f32⟩
  | .hbm, ⟨89, _⟩ => ⟨S4x8x8192x8192, .f32⟩
  | .hbm, ⟨90, _⟩ => ⟨S4x8x8192x8192, .f32⟩
  | .hbm, ⟨91, _⟩ => ⟨S4x8x8192x8192, .f32⟩
  | .hbm, ⟨92, _⟩ => ⟨S4x8x8192x8192, .f32⟩
  | .hbm, ⟨93, _⟩ => ⟨S4x8x8192x128, .f32⟩
  | .hbm, ⟨94, _⟩ => ⟨S4x8x8192x128, .f32⟩
  | .hbm, ⟨95, _⟩ => ⟨S_, .f32⟩
  | .hbm, ⟨96, _⟩ => ⟨S4x8x8192, .f32⟩
  | .hbm, ⟨97, _⟩ => ⟨S4x8x8192x1, .f32⟩
  | .hbm, ⟨98, _⟩ => ⟨S_, .f32⟩
  | .hbm, ⟨99, _⟩ => ⟨S4x8x8192x1, .f32⟩
  | .hbm, ⟨100, _⟩ => ⟨S4x8x8192x1, .f32⟩
  | .hbm, ⟨101, _⟩ => ⟨S_, .f32⟩
  | .hbm, ⟨102, _⟩ => ⟨S4x8x8192x1, .f32⟩
  | .hbm, ⟨103, _⟩ => ⟨S4x8x8192x1, .f32⟩
  | .hbm, ⟨104, _⟩ => ⟨S4x8x8192x1, .f32⟩
  | .hbm, ⟨105, _⟩ => ⟨S4x8x8192x128, .f32⟩
  | .hbm, ⟨106, _⟩ => ⟨S4x8x8192x128, .f32⟩
  | .hbm, ⟨107, _⟩ => ⟨S1x1x1x128, .f32⟩
  | .hbm, ⟨108, _⟩ => ⟨S4x8x8192x128, .f32⟩
  | .hbm, ⟨109, _⟩ => ⟨S4x8x8192x128, .f32⟩
  | .hbm, ⟨110, _⟩ => ⟨S_, .f32⟩
  | .hbm, ⟨111, _⟩ => ⟨S4x8x8192x128, .f32⟩
  | .hbm, ⟨112, _⟩ => ⟨S4x8x8192x128, .f32⟩
  | .hbm, ⟨113, _⟩ => ⟨S4x8192x8x128, .f32⟩
  | .hbm, ⟨114, _⟩ => ⟨S4x8192x1024, .f32⟩
  | .hbm, ⟨115, _⟩ => ⟨S4x8192x1024, .bf16⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_c : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_3 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_4 : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_v53 : Ref sig .tc := ⟨.hbm, 71, rfl⟩
abbrev main_cst_5 : Ref sig .tc := ⟨.hbm, 72, rfl⟩
abbrev main_v54 : Ref sig .tc := ⟨.hbm, 73, rfl⟩
abbrev main_cst_6 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_7 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_8 : Ref sig .tc := ⟨.hbm, 95, rfl⟩
abbrev main_v74 : Ref sig .tc := ⟨.hbm, 96, rfl⟩
abbrev main_v75 : Ref sig .tc := ⟨.hbm, 97, rfl⟩
abbrev main_cst_9 : Ref sig .tc := ⟨.hbm, 98, rfl⟩
abbrev main_v76 : Ref sig .tc := ⟨.hbm, 99, rfl⟩
abbrev main_v77 : Ref sig .tc := ⟨.hbm, 100, rfl⟩
abbrev main_cst_10 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_11 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩

abbrev nD : Nat := 1
abbrev τ : Topo := Topo.v7x

variable {F : FTy → Type} [FloatOps F]
-- ==== Proof.Words.lean ====
/-
  The words the gather kernel's pipeline computes, in closed form.

  The kernel keeps five 32-bit words across the trips of its loop: how many index blocks it has asked for, how many it has
  waited for, how many output blocks it has sent, how many of those it has waited for, and the block it is at. Before trip
  `t` they are `t + 1`, `t`, `t`, `t - 1` (zero before the first trip) and `t`. The offsets of every transfer, and the
  conditions under which the transfers are issued and waited for, are functions of those words and of the tile's coordinates.
  This module states each of them as plain arithmetic of `t` and of the tile's first block `blk0`.
-/
module

public import proofs.«01_k».proof.Proof.Gen.KernelIdeal.Skeleton

@[expose] public section

set_option Elab.async false

noncomputable section

namespace Cert.Proof.Gather

open Cert.KernelIdeal Cert.KernelIdeal.Gen
open Idealize.ShloMosaic

/-- The first of the 128 blocks of 128 rows that the tile at coordinates `i` moves. -/
def blk0 (i : grid0.Coords) : ℕ := 128 * ((i 1).val + 16 * (i 0).val)

theorem trips_eq : k0_t1_loop.trips = 128 := by decide +kernel

/-- The five words before trip `n`. -/
def words (n : ℕ) : BitVec 32 × BitVec 32 × BitVec 32 × BitVec 32 × BitVec 32 :=
  (BitVec.ofNat 32 (min (n + 1) 128), BitVec.ofNat 32 n, BitVec.ofNat 32 n, BitVec.ofNat 32 (n - 1), BitVec.ofNat 32 (n % 128))

/-- The index blocks asked for, before trip `t`. -/
abbrev w6 (t : Fin k0_t1_loop.trips) : BitVec 32 := (words t.val).1
/-- The index blocks waited for. -/
abbrev w7 (t : Fin k0_t1_loop.trips) : BitVec 32 := (words t.val).2.1
/-- The output blocks sent. -/
abbrev w8 (t : Fin k0_t1_loop.trips) : BitVec 32 := (words t.val).2.2.1
/-- The output blocks waited for. -/
abbrev w9 (t : Fin k0_t1_loop.trips) : BitVec 32 := (words t.val).2.2.2.1
/-- The block at hand. -/
abbrev w10 (t : Fin k0_t1_loop.trips) : BitVec 32 := (words t.val).2.2.2.2

/-! ## Conditions -/

theorem cond1_iff : ∀ (i : grid0.Coords) (t : Fin k0_t1_loop.trips), k0_cond1 i t (w10 t) = 1#1 ↔ t.val < 127 := by decide +kernel
theorem cond2_eq : ∀ (i : grid0.Coords) (t : Fin k0_t1_loop.trips), k0_cond2 i t (w10 t) = 1#1 := by decide +kernel
theorem cond5_eq : ∀ (i : grid0.Coords) (t : Fin k0_t1_loop.trips), k0_cond5 i t (w10 t) = 1#1 := by decide +kernel
theorem cond7_iff : ∀ (i : grid0.Coords) (t : Fin k0_t1_loop.trips), k0_cond7 i t (w10 t) = 1#1 ↔ t.val ≠ 0 := by decide +kernel

/-! ## Offsets -/

theorem off4_eq : ∀ t : Fin k0_t1_loop.trips, k0_off4 (w6 t) = ![(t.val + 1) % 2, 0, 0] := by decide +kernel
theorem off5_eq : ∀ (i : grid0.Coords) (t : Fin k0_t1_loop.trips), t.val < 127 → k0_off5 i (w10 t) = ![0, 128 * (blk0 i + (t.val + 1))] := by decide +kernel
theorem off6_eq : ∀ t : Fin k0_t1_loop.trips, k0_off6 (w6 t) = ![(t.val + 1) % 2] := by decide +kernel
theorem off7_eq : ∀ t : Fin k0_t1_loop.trips, k0_off7 (w7 t) = ![t.val % 2, 0, 0] := by decide +kernel
theorem off9_eq : ∀ t : Fin k0_t1_loop.trips, k0_off9 (w7 t) = ![t.val % 2] := by decide +kernel
theorem off10_eq : ∀ t : Fin k0_t1_loop.trips, k0_off10 (w8 t) = ![t.val % 2, 0, 0, 0] := by decide +kernel
theorem off11_eq : ∀ t : Fin k0_t1_loop.trips, k0_off11 (w7 t) = ![t.val % 2, 0, 0] := by decide +kernel
theorem off12_eq : ∀ t : Fin k0_t1_loop.trips, k0_off12 (w8 t) = ![t.val % 2, 0, 0, 0] := by decide +kernel
theorem off13_eq : ∀ (i : grid0.Coords) (t : Fin k0_t1_loop.trips), k0_off13 i (w10 t) = ![128 * (blk0 i + t.val), 0, 0] := by decide +kernel
theorem off14_eq : ∀ t : Fin k0_t1_loop.trips, k0_off14 (w8 t) = ![t.val % 2] := by decide +kernel
theorem off17_eq : ∀ t : Fin k0_t1_loop.trips, k0_off17 (w9 t) = ![(t.val - 1) % 2] := by decide +kernel

/-- The fetch before the loop is of the tile's first block. -/
theorem off2_eq : ∀ i : grid0.Coords, k0_off2 i = ![0, 128 * (blk0 i + 0)] := by decide +kernel
/-- The wait after the loop is on the second slot's semaphore. -/
theorem off20_eq : k0_off20 (words 128).2.2.2.1 = ![1] := by decide +kernel

/-! ## The checks the kernel assumes -/

theorem chk3 : ∀ t : Fin k0_t1_loop.trips, k0_chk3 (w7 t) := by decide +kernel
theorem chk2 : ∀ t : Fin k0_t1_loop.trips, k0_chk2 (w8 t) := by decide +kernel
theorem chk1 : ∀ (i : grid0.Coords) (t : Fin k0_t1_loop.trips), k0_chk1 i t (w6 t) (w7 t) (w8 t) (w9 t) (w10 t) := by decide +kernel
theorem chk4 : k0_chk4 (words 128).2.2.2.1 := by decide +kernel
theorem chk5 : ∀ i : grid0.Coords, k0_chk5 i (words 128).2.2.2.2 := by decide +kernel

/-! ## The words after a trip -/

/-- The first block of the tile, as the kernel computes it. -/
def v4w (i : grid0.Coords) : BitVec 32 :=
  Scalar.muli (Scalar.addi (Scalar.addi 0#32 (Scalar.muli (BitVec.ofNat 32 (i 1).val) 1#32)) (Scalar.muli (BitVec.ofNat 32 (i 0).val) 16#32)) 128#32

/-- The block before the one at hand, wrapping. -/
def prevw (i : grid0.Coords) (a10 : BitVec 32) : BitVec 32 :=
  Scalar.addi (Scalar.select (Scalar.cmpi .eq (Scalar.select 1#1 (Scalar.subi a10 1#32) a10) 4294967295#32) 127#32
    (Scalar.select 1#1 (Scalar.subi a10 1#32) a10)) (v4w i)
/-- The block after the one at hand, wrapping. -/
def nextw (i : grid0.Coords) (a10 : BitVec 32) : BitVec 32 :=
  Scalar.addi (Scalar.select (Scalar.cmpi .eq (Scalar.select 1#1 (Scalar.addi a10 1#32) a10) 128#32) 0#32
    (Scalar.select 1#1 (Scalar.addi a10 1#32) a10)) (v4w i)

/-- The index blocks asked for after a trip. -/
def n6 (i : grid0.Coords) (t : Fin k0_t1_loop.trips) (a6 a10 : BitVec 32) : BitVec 32 :=
  Scalar.select (Scalar.andi (Scalar.andi (Scalar.cmpi .ne (Scalar.addi a10 (v4w i)) (nextw i a10))
    (Scalar.xori (Scalar.cmpi .sge (Scf.iv 0#32 1#32 t) 127#32) 1#1)) 1#1) (Scalar.addi a6 1#32) a6
/-- The index blocks waited for after a trip. -/
def n7 (i : grid0.Coords) (t : Fin k0_t1_loop.trips) (a7 a10 : BitVec 32) : BitVec 32 :=
  Scalar.select (Scalar.ori (Scalar.cmpi .ne (Scalar.addi a10 (v4w i)) (nextw i a10)) (Scalar.cmpi .eq (Scf.iv 0#32 1#32 t) 127#32)) (Scalar.addi a7 1#32) a7
/-- The output blocks sent after a trip. -/
def n8 (i : grid0.Coords) (t : Fin k0_t1_loop.trips) (a8 a10 : BitVec 32) : BitVec 32 :=
  Scalar.select (Scalar.andi (Scalar.ori (Scalar.cmpi .ne (Scalar.addi a10 (v4w i)) (nextw i a10)) (Scalar.cmpi .eq (Scf.iv 0#32 1#32 t) 127#32)) 1#1)
    (Scalar.addi a8 1#32) a8
/-- The output blocks waited for after a trip. -/
def n9 (i : grid0.Coords) (t : Fin k0_t1_loop.trips) (a9 a10 : BitVec 32) : BitVec 32 :=
  Scalar.select (Scalar.andi (Scalar.andi (Scalar.cmpi .ne (Scalar.addi a10 (v4w i)) (prevw i a10))
    (Scalar.xori (Scalar.cmpi .eq (Scf.iv 0#32 1#32 t) 0#32) 1#1)) 1#1) (Scalar.addi a9 1#32) a9
/-- The block at hand after a trip. -/
def n10 (a10 : BitVec 32) : BitVec 32 :=
  Scalar.select (Scalar.cmpi .eq (Scalar.select 1#1 (Scalar.addi a10 1#32) a10) 128#32) 0#32 (Scalar.select 1#1 (Scalar.addi a10 1#32) a10)

theorem next_words : ∀ (i : grid0.Coords) (t : Fin k0_t1_loop.trips),
    (n6 i t (w6 t) (w10 t), n7 i t (w7 t) (w10 t), n8 i t (w8 t) (w10 t), n9 i t (w9 t) (w10 t), n10 (w10 t)) = words (t.val + 1) := by decide +kernel

end Cert.Proof.Gather

end
-- ==== Proof.Slots.lean ====
/-
  The buffers the gather kernel moves, slot by slot and block by block.

  The pipeline keeps two slots of 128 row numbers and two slots of 128 gathered rows on each tile. The row numbers arrive
  from, and the gathered rows leave for, blocks of 128 entries of two arrays in main memory. This module names each slot
  and each block as the kernel addresses it, says which elements it holds, and says what the words read through it are.
-/
module

public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCore

@[expose] public section

set_option Elab.async false

noncomputable section

namespace Cert.Proof.Gather

open Cert.KernelIdeal Cert.KernelIdeal.Gen
open Idealize.ShloMosaic
open Idealize.ShloMosaic.ValueIdx

variable {F : FTy → Type}

/-- The table of rows, the row numbers and the gathered rows, whole, as a tile names them; then its two pairs of slots. -/
abbrev tabV : Memref sig .scVector .hbm S589824x2x128 .i32 := Memref.whole main_v6_scv
abbrev idxV : Memref sig .scVector .hbm S1x524288 .i32 := Memref.whole main_v7_scv
abbrev outV : Memref sig .scVector .hbm S524288x2x128 .i32 := Memref.whole main_v8_scv
abbrev islV : Memref sig .scVector .vmem S2x1x128 .i32 := Memref.whole cc0_scoped0
abbrev oslV : Memref sig .scVector .vmem S2x128x2x128 .i32 := Memref.whole cc0_scoped2

/-! ## The semaphores -/

theorem semInb (p : Fin 2) : ∀ a, (![p.val] : Fin 1 → ℕ) a + S1.size a ≤ S2.size a := by
  intro a; fin_cases a; have := p.isLt; show p.val + 1 ≤ 2; omega

/-- The semaphore of row-number slot `p`. -/
def semI (p : Fin 2) : DmaSem sig := ((cc0_scoped1.slice (Rect.unit (s := S2) ![p.val] S1.size (semInb p))).squeeze S_ squeezes_S1_S_).sem
/-- The semaphore of gathered-row slot `p`. -/
def semO (p : Fin 2) : DmaSem sig := ((cc0_scoped3.slice (Rect.unit (s := S2) ![p.val] S1.size (semInb p))).squeeze S_ squeezes_S1_S_).sem
/-- The gather's own semaphore. -/
def semG : DmaSem sig := cc0_scoped4.sem

theorem semI_of (p : Fin 2) {off : Fin 1 → ℕ} (h : off = ![p.val]) (inb : ∀ a, off a + S1.size a ≤ S2.size a) :
    ((cc0_scoped1.slice (Rect.unit (s := S2) off S1.size inb)).squeeze S_ squeezes_S1_S_).sem = semI p := by subst h; rfl
theorem semO_of (p : Fin 2) {off : Fin 1 → ℕ} (h : off = ![p.val]) (inb : ∀ a, off a + S1.size a ≤ S2.size a) :
    ((cc0_scoped3.slice (Rect.unit (s := S2) off S1.size inb)).squeeze S_ squeezes_S1_S_).sem = semO p := by subst h; rfl

/-! ## The slots -/

theorem islInb (p : Fin 2) : ∀ a, (![p.val, 0, 0] : Fin 3 → ℕ) a + S1x1x128.size a ≤ S2x1x128.size a := by
  intro a; have := p.isLt; fin_cases a <;> simp <;> omega
theorem oslInb (p : Fin 2) : ∀ a, (![p.val, 0, 0, 0] : Fin 4 → ℕ) a + S1x128x2x128.size a ≤ S2x128x2x128.size a := by
  intro a; have := p.isLt; fin_cases a <;> simp <;> omega

/-- Row-number slot `p`. -/
def islot (p : Fin 2) : Memref sig .scVector .vmem S1x128 .i32 :=
  (islV.slice (Rect.unit (s := S2x1x128) ![p.val, 0, 0] S1x1x128.size (islInb p)) (fun _ => rfl)).squeeze S1x128 squeezes_S1x1x128_S1x128
/-- The same slot as the list of 128 row numbers the gather reads. -/
def ilist (p : Fin 2) : Memref sig .scVector .vmem S128 .i32 :=
  ((islot p).slice (Rect.unit (s := S1x128) ![0, 0] S1x128.size inb_S1x128_S1x128_0_0) (fun _ => rfl)).squeeze S128 squeezes_S1x128_S128
/-- Gathered-row slot `p`. -/
def oslot (p : Fin 2) : Memref sig .scVector .vmem S128x2x128 .i32 :=
  (oslV.slice (Rect.unit (s := S2x128x2x128) ![p.val, 0, 0, 0] S1x128x2x128.size (oslInb p)) (fun _ => rfl)).squeeze S128x2x128 squeezes_S1x128x2x128_S128x2x128
/-- All of the table. -/
def tabA : Memref sig .scVector .hbm S589824x2x128 .i32 :=
  tabV.slice (Rect.unit (s := S589824x2x128) ![0, 0, 0] S589824x2x128.size inb_S589824x2x128_S589824x2x128_0_0_0) (fun _ => rfl)

theorem islot_of (p : Fin 2) {off : Fin 3 → ℕ} (h : off = ![p.val, 0, 0]) (inb : ∀ a, off a + S1x1x128.size a ≤ S2x1x128.size a) :
    (islV.slice (Rect.unit (s := S2x1x128) off S1x1x128.size inb) (fun _ => rfl)).squeeze S1x128 squeezes_S1x1x128_S1x128 = islot p := by
  subst h; rfl
theorem ilist_of (p : Fin 2) {off : Fin 3 → ℕ} (h : off = ![p.val, 0, 0]) (inb : ∀ a, off a + S1x1x128.size a ≤ S2x1x128.size a) :
    (((islV.slice (Rect.unit (s := S2x1x128) off S1x1x128.size inb) (fun _ => rfl)).squeeze S1x128 squeezes_S1x1x128_S1x128).slice
      (Rect.unit (s := S1x128) ![0, 0] S1x128.size inb_S1x128_S1x128_0_0) (fun _ => rfl)).squeeze S128 squeezes_S1x128_S128 = ilist p := by
  subst h; rfl
theorem oslot_of (p : Fin 2) {off : Fin 4 → ℕ} (h : off = ![p.val, 0, 0, 0]) (inb : ∀ a, off a + S1x128x2x128.size a ≤ S2x128x2x128.size a) :
    (oslV.slice (Rect.unit (s := S2x128x2x128) off S1x128x2x128.size inb) (fun _ => rfl)).squeeze S128x2x128 squeezes_S1x128x2x128_S128x2x128 = oslot p := by
  subst h; rfl

/-! ## The blocks -/

theorem iblInb (b : Fin 4096) : ∀ a, (![0, 128 * b.val] : Fin 2 → ℕ) a + S1x128.size a ≤ S1x524288.size a := by
  intro a; have := b.isLt; fin_cases a <;> simp <;> omega
theorem oblInb (b : Fin 4096) : ∀ a, (![128 * b.val, 0, 0] : Fin 3 → ℕ) a + S128x2x128.size a ≤ S524288x2x128.size a := by
  intro a; have := b.isLt; fin_cases a <;> simp <;> omega

/-- Block `b` of the row numbers. -/
def iblock (b : Fin 4096) : Memref sig .scVector .hbm S1x128 .i32 :=
  idxV.slice (Rect.unit (s := S1x524288) ![0, 128 * b.val] S1x128.size (iblInb b)) (fun _ => rfl)
/-- Block `b` of the gathered rows. -/
def oblock (b : Fin 4096) : Memref sig .scVector .hbm S128x2x128 .i32 :=
  outV.slice (Rect.unit (s := S524288x2x128) ![128 * b.val, 0, 0] S128x2x128.size (oblInb b)) (fun _ => rfl)

theorem iblock_of (b : Fin 4096) {off : Fin 2 → ℕ} (h : off = ![0, 128 * b.val]) (inb : ∀ a, off a + S1x128.size a ≤ S1x524288.size a) :
    idxV.slice (Rect.unit (s := S1x524288) off S1x128.size inb) (fun _ => rfl) = iblock b := by subst h; rfl
theorem oblock_of (b : Fin 4096) {off : Fin 3 → ℕ} (h : off = ![128 * b.val, 0, 0]) (inb : ∀ a, off a + S128x2x128.size a ≤ S524288x2x128.size a) :
    outV.slice (Rect.unit (s := S524288x2x128) off S128x2x128.size inb) (fun _ => rfl) = oblock b := by subst h; rfl

/-! ## The elements each holds -/

/-- The elements of row-number slot `p`, … -/
def slotI (p : Fin 2) : Finset S2x1x128.Idx := (islot p).view.set
/-- … of gathered-row slot `p`, … -/
def slotO (p : Fin 2) : Finset S2x128x2x128.Idx := (oslot p).view.set
/-- … of block `b` of the row numbers, … -/
def blkI (b : Fin 4096) : Finset S1x524288.Idx := (iblock b).view.set
/-- … and of block `b` of the gathered rows. -/
def blkO (b : Fin 4096) : Finset S524288x2x128.Idx := (oblock b).view.set

theorem mem_slotI (p : Fin 2) (j : S2x1x128.Idx) : j ∈ slotI p ↔ (j 0).val = p.val := by
  have e : slotI p = (Rect.unit (s := S2x1x128) ![p.val, 0, 0] S1x1x128.size (islInb p)).set :=
    (View.set_reshape _ _).trans (View.set_slice_whole _ _)
  rw [e, Rect.mem_set_unit]
  have h1 : (j 1).val < 1 := (j 1).isLt
  have h2 : (j 2).val < 128 := (j 2).isLt
  constructor
  · intro h; have := h 0; simp at this; omega
  · intro h a; fin_cases a <;> simp <;> omega

theorem mem_slotO (p : Fin 2) (j : S2x128x2x128.Idx) : j ∈ slotO p ↔ (j 0).val = p.val := by
  have e : slotO p = (Rect.unit (s := S2x128x2x128) ![p.val, 0, 0, 0] S1x128x2x128.size (oslInb p)).set :=
    (View.set_reshape _ _).trans (View.set_slice_whole _ _)
  rw [e, Rect.mem_set_unit]
  have h1 : (j 1).val < 128 := (j 1).isLt
  have h2 : (j 2).val < 2 := (j 2).isLt
  have h3 : (j 3).val < 128 := (j 3).isLt
  constructor
  · intro h; have := h 0; simp at this; omega
  · intro h a; fin_cases a <;> simp <;> omega

theorem mem_blkO (b : Fin 4096) (j : S524288x2x128.Idx) : j ∈ blkO b ↔ (j 0).val / 128 = b.val := by
  have e : blkO b = (Rect.unit (s := S524288x2x128) ![128 * b.val, 0, 0] S128x2x128.size (oblInb b)).set := View.set_slice_whole _ _
  rw [e, Rect.mem_set_unit]
  have h1 : (j 1).val < 2 := (j 1).isLt
  have h2 : (j 2).val < 128 := (j 2).isLt
  constructor
  · intro h; have := h 0; simp at this; omega
  · intro h a; fin_cases a <;> simp <;> omega

theorem slotI_disjoint : Disjoint (slotI 0) (slotI 1) :=
  Finset.disjoint_left.mpr fun j h0 h1 => by rw [mem_slotI] at h0 h1; rw [h0] at h1; exact absurd h1 (by decide)
theorem slotI_union : slotI 0 ∪ slotI 1 = Finset.univ := by
  ext j; simp only [Finset.mem_union, mem_slotI, Finset.mem_univ, iff_true]
  have h : (j 0).val < 2 := (j 0).isLt
  show (j 0).val = 0 ∨ (j 0).val = 1
  omega
theorem slotO_disjoint : Disjoint (slotO 0) (slotO 1) :=
  Finset.disjoint_left.mpr fun j h0 h1 => by rw [mem_slotO] at h0 h1; rw [h0] at h1; exact absurd h1 (by decide)
theorem slotO_union : slotO 0 ∪ slotO 1 = Finset.univ := by
  ext j; simp only [Finset.mem_union, mem_slotO, Finset.mem_univ, iff_true]
  have h : (j 0).val < 2 := (j 0).isLt
  show (j 0).val = 0 ∨ (j 0).val = 1
  omega
theorem blkO_disjoint {b b' : Fin 4096} (h : b ≠ b') : Disjoint (blkO b) (blkO b') :=
  Finset.disjoint_left.mpr fun j h0 h1 => by rw [mem_blkO] at h0 h1; exact h (Fin.ext (h0.symm.trans h1))

/-- The list's elements are its slot's. -/
theorem ilist_set (p : Fin 2) : (ilist p).view.set = slotI p := by
  refine (View.set_reshape _ _).trans ((View.set_slice _ _).trans ?_)
  have e : (Rect.unit (s := S1x128) ![0, 0] S1x128.size inb_S1x128_S1x128_0_0).set = Finset.univ := by
    ext j; simp only [Rect.mem_set_unit, Finset.mem_univ, iff_true]
    intro a; have h0 : (j 0).val < 1 := (j 0).isLt; have h1 : (j 1).val < 128 := (j 1).isLt
    fin_cases a <;> simp <;> omega
  rw [e]; rfl
/-- The table's slice is all of it. -/
theorem tabA_set : tabA.view.set = Finset.univ := by
  refine (View.set_slice_whole _ _).trans ?_
  show (Rect.unit (s := S589824x2x128) ![0, 0, 0] S589824x2x128.size inb_S589824x2x128_S589824x2x128_0_0_0).set = (Finset.univ : Finset S589824x2x128.Idx)
  ext j; simp only [Rect.mem_set_unit, Finset.mem_univ, iff_true]
  intro a; have h0 : (j 0).val < 589824 := (j 0).isLt; have h1 : (j 1).val < 2 := (j 1).isLt; have h2 : (j 2).val < 128 := (j 2).isLt
  fin_cases a <;> simp <;> omega

/-! ## What is read through each -/

/-- The words of index block `b`. -/
theorem iblock_read (b : Fin 4096) (f : S1x524288.Idx → BitVec 32) (x : S1x128.Idx) :
    (iblock b).view.read (Elt F) f x = f (ix2 0 ⟨128 * b.val + (x 1).val, by have := b.isLt; have : (x 1).val < 128 := (x 1).isLt; omega⟩) := by
  refine (View.read_apply _ _).trans ((cast_eq _ _).trans (congrArg f ?_))
  funext a; apply Fin.ext
  have h0 : (x 0).val < 1 := (x 0).isLt
  fin_cases a
  · show 0 + 1 * (x 0).val = 0; omega
  · show 128 * b.val + 1 * (x 1).val = 128 * b.val + (x 1).val; omega
/-- The words of output block `b`. -/
theorem oblock_read (b : Fin 4096) (f : S524288x2x128.Idx → BitVec 32) (x : S128x2x128.Idx) :
    (oblock b).view.read (Elt F) f x = f (ix3 ⟨128 * b.val + (x 0).val, by have := b.isLt; have : (x 0).val < 128 := (x 0).isLt; omega⟩ (x 1) (x 2)) := by
  refine (View.read_apply _ _).trans ((cast_eq _ _).trans (congrArg f ?_))
  funext a; apply Fin.ext
  fin_cases a
  · show 128 * b.val + 1 * (x 0).val = 128 * b.val + (x 0).val; omega
  · show 0 + 1 * (x 1).val = (x 1).val; omega
  · show 0 + 1 * (x 2).val = (x 2).val; omega
/-- The table's words. -/
theorem tabA_read (f : S589824x2x128.Idx → BitVec 32) (x : S589824x2x128.Idx) : tabA.view.read (Elt F) f x = f x := by
  refine (View.read_apply _ _).trans ((cast_eq _ _).trans (congrArg f ?_))
  funext a; apply Fin.ext
  fin_cases a
  · show 0 + 1 * (x 0).val = (x 0).val; omega
  · show 0 + 1 * (x 1).val = (x 1).val; omega
  · show 0 + 1 * (x 2).val = (x 2).val; omega
/-- The list read at entry `x` is the slot read at column `x`. -/
theorem ilist_read (p : Fin 2) (f : S2x1x128.Idx → BitVec 32) (x : S128.Idx) :
    (ilist p).view.read (Elt F) f x = (islot p).view.read (Elt F) f (ix2 0 (x 0 : Fin 128)) := by
  refine (View.read_apply _ _).trans ((cast_eq _ _).trans ?_)
  refine Eq.trans ?_ ((View.read_apply _ _).trans (cast_eq _ _)).symm
  refine congrArg f (congrArg (islot p).view.emb ?_)
  have e : Shape.reshapeEquiv squeezes_S1x128_S128.numel_eq x = (ix2 0 (x 0 : Fin 128) : S1x128.Idx) := by
    apply Shape.reshapeEquiv_eq_of_rowMajor
    refine (Shape.rowMajor_val_two _).trans (Eq.trans ?_ (Shape.rowMajor_val_one _).symm)
    show 0 * 128 + (x 0).val = (x 0).val
    omega
  show (Rect.unit (s := S1x128) ![0, 0] S1x128.size inb_S1x128_S1x128_0_0).emb (Shape.reshapeEquiv squeezes_S1x128_S128.numel_eq x) = _
  rw [e]
  funext a; apply Fin.ext
  fin_cases a
  · show 0 + 1 * 0 = 0; rfl
  · show 0 + 1 * (x 0).val = (x 0).val; omega

/-- What is written through a view is, on its elements, any contents that read the same through it. -/
theorem write_read_eq {κ : Kind} {sp : Space} {s : Shape} {e : EltTy} (v : View sig κ sp s e) (f g : v.ty.Contents (Elt F))
    (w : s.Idx → Elt F e) (h : w = v.read (Elt F) g) : ∀ j ∈ v.set, v.write (Elt F) f w Finset.univ j = g j := by
  intro j hj
  obtain ⟨x, -, rfl⟩ := Finset.mem_map.mp hj
  rw [View.write_emb_of_mem f w (Finset.mem_univ x), h, View.read_apply]
  simp

/-! ## The value -/

/-- The rows gathered: row `j` is the table's row that word `j` of the row numbers names. -/
def gathered (tb : S589824x2x128.Idx → BitVec 32) (ix : S1x524288.Idx → BitVec 32) : S524288x2x128.Idx → BitVec 32 :=
  fun j => tb (ix3 ⟨(ix (ix2 0 (j 0))).toNat % 589824, Nat.mod_lt _ (by omega)⟩ (j 1) (j 2))

/-- A gather of the rows that block `b` of the row numbers names is block `b` of the rows gathered. -/
theorem payload_eq (p : Fin 2) (b : Fin 4096) (tb : S589824x2x128.Idx → BitVec 32) (ix : S1x524288.Idx → BitVec 32)
    (fi : S2x1x128.Idx → BitVec 32) (hfi : (islot p).view.read (Elt F) fi = (iblock b).view.read (Elt F) ix)
    (hn : S128.numel = S128x2x128.size gathers_S589824x2x128_S128x2x128.axis')
    (hin : ∀ x, ((ilist p).view.read (Elt F) fi x).toNat < S589824x2x128.size gathers_S589824x2x128_S128x2x128.axis) :
    SparseCore.gatherPayload (F := F) (e := .i32) gathers_S589824x2x128_S128x2x128 (tabA.view.read (Elt F) tb)
        (SparseCore.rows ((ilist p).view.read (Elt F) fi) hn hin)
      = (oblock b).view.read (Elt F) (gathered tb ix) := by
  funext x
  refine Eq.trans ?_ (oblock_read (F := F) b _ x).symm
  unfold SparseCore.gatherPayload gathered
  rw [tabA_read]
  refine congrArg tb ?_
  funext a; apply Fin.ext
  match a with
  | ⟨0, _⟩ =>
    have hx : (x 0).val < 128 := (x 0).isLt
    have hr : (S128.rowMajor.symm ((x gathers_S589824x2x128_S128x2x128.axis').cast hn.symm)) = ix1 ⟨(x 0).val, hx⟩ := by
      rw [Equiv.symm_apply_eq]; apply Fin.ext; rw [Shape.rowMajor_val_one]; rfl
    have hl := hin (ix1 ⟨(x 0).val, hx⟩)
    have e := (ilist_read (F := F) p fi (ix1 ⟨(x 0).val, hx⟩)).trans ((congrFun hfi _).trans (iblock_read (F := F) b ix _))
    have hax := congrArg Fin.val (Shape.Gathers.idx_axis gathers_S589824x2x128_S128x2x128
      (SparseCore.rows ((ilist p).view.read (Elt F) fi) hn hin) x)
    refine hax.trans ?_
    show BitVec.toNat ((ilist p).view.read (Elt F) fi _) = BitVec.toNat _ % 589824
    rw [hr]
    rw [e] at hl ⊢
    exact (Nat.mod_eq_of_lt hl).symm
  | ⟨1, _⟩ => exact Shape.Gathers.idx_of_ne gathers_S589824x2x128_S128x2x128 _ x ⟨1, by decide⟩ (by decide)
  | ⟨2, _⟩ => exact Shape.Gathers.idx_of_ne gathers_S589824x2x128_S128x2x128 _ x ⟨2, by decide⟩ (by decide)

/-- The words of an index slot that holds block `b` are row numbers of the table, if all of the row numbers are. -/
theorem list_inb (p : Fin 2) (b : Fin 4096) (ix : S1x524288.Idx → BitVec 32) (hI : ∀ j, (ix j).toNat < 589824)
    (fi : S2x1x128.Idx → BitVec 32) (hfi : (islot p).view.read (Elt F) fi = (iblock b).view.read (Elt F) ix) :
    ∀ x, ((ilist p).view.read (Elt F) fi x).toNat < S589824x2x128.size gathers_S589824x2x128_S128x2x128.axis := by
  intro x
  have e := (ilist_read (F := F) p fi x).trans ((congrFun hfi _).trans (iblock_read (F := F) b ix _))
  rw [e]
  exact hI _

end Cert.Proof.Gather

end
-- ==== Proof.Steps.lean ====
/-
  The five steps of the gather kernel's pipeline, each as one rule.

  A trip asks for a block of row numbers, waits for one, gathers the rows it names, sends the gathered rows off, and waits
  for an earlier block of them. Each rule says which slot the step takes and what it brings back. The row-number array is
  read by up to two transfers at once, so each slot carries its own half of the tile's share of that array.
-/
module

public import proofs.«01_k».proof.Proof.Slots

@[expose] public section

set_option Elab.async false

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The tile and its buffers -/

variable (d : Dev nD) (L : grid0.Coords)

abbrev cV (L : grid0.Coords) : Fin τ.nSC := (L 0).castLE hcore0
abbrev jV (L : grid0.Coords) : Fin τ.nSub := (L 1).castLE hsub0
/-- The tile at coordinates `L` of device `d`. -/
abbrev tile : Thread nD τ := V d (cV L) (jV L)

abbrev tLoc (d : Dev nD) : Loc nD τ sig := (SparseCore.T d).loc main_v6
abbrev xLoc (d : Dev nD) : Loc nD τ sig := (SparseCore.T d).loc main_v7
abbrev yLoc (d : Dev nD) : Loc nD τ sig := (SparseCore.T d).loc main_v8
abbrev isLoc : Loc nD τ sig := (tile d L).loc cc0_scoped0
abbrev osLoc : Loc nD τ sig := (tile d L).loc cc0_scoped2

/-- Slot `p`'s half of a share. -/
def half (q : PosShare TreeShare) (p : Fin 2) : PosShare TreeShare := if p = 0 then q.left else q.right

/-! ## What a slot holds at each point of its life -/

/-- Row-number slot `p` with nothing in it. -/
def iFree (q : PosShare TreeShare) (ix : Buf (Elt F) (xLoc d)) (p : Fin 2) : sProp 𝕄 :=
  iprop((∃ f, isLoc d L ↦[slotI p]{fullShare} f) ∗ semVal (tile d L, SemLoc.dma (semI p)) 0 ∗ (xLoc d ↦{half q p} ix))
/-- Block `b` of the row numbers on its way to slot `p`. -/
def iBusy (q : PosShare TreeShare) (ix : Buf (Elt F) (xLoc d)) (p : Fin 2) (b : Fin 4096) : sProp 𝕄 :=
  iprop(Transfers.Flight countersEmb (tile d L) (SemLoc.dma (semI p)) (default : HIx 1) (islot p).view.dmaCredit
      iprop((∃ f, ⌜(islot p).view.read (Elt F) f = (iblock b).view.read (Elt F) ix⌝ ∗ isLoc d L ↦[slotI p]{fullShare} f)
        ∗ (xLoc d ↦[blkI b]{half q p} ix))
    ∗ (xLoc d ↦[Finset.univ \ blkI b]{half q p} ix))
/-- Block `b` of the row numbers in slot `p`. -/
def iHas (q : PosShare TreeShare) (ix : Buf (Elt F) (xLoc d)) (p : Fin 2) (b : Fin 4096) : sProp 𝕄 :=
  iprop((∃ f, ⌜(islot p).view.read (Elt F) f = (iblock b).view.read (Elt F) ix⌝ ∗ isLoc d L ↦[slotI p]{fullShare} f)
    ∗ semVal (tile d L, SemLoc.dma (semI p)) 0 ∗ (xLoc d ↦{half q p} ix))
/-- Gathered-row slot `p` with nothing in it. -/
def oFree (p : Fin 2) : sProp 𝕄 :=
  iprop((∃ f, osLoc d L ↦[slotO p]{fullShare} f) ∗ semVal (tile d L, SemLoc.dma (semO p)) 0)
/-- Block `b` of the rows `g` in slot `p`. -/
def oHas (g : Buf (Elt F) (yLoc d)) (p : Fin 2) (b : Fin 4096) : sProp 𝕄 :=
  iprop((∃ f, ⌜(oslot p).view.read (Elt F) f = (oblock b).view.read (Elt F) g⌝ ∗ osLoc d L ↦[slotO p]{fullShare} f)
    ∗ semVal (tile d L, SemLoc.dma (semO p)) 0)
/-- Block `b` of the rows `g` on its way from slot `p` to the output. -/
def oBusy (g : Buf (Elt F) (yLoc d)) (p : Fin 2) (b : Fin 4096) : sProp 𝕄 :=
  Transfers.Flight countersEmb (tile d L) (SemLoc.dma (semO p)) (default : HIx 1) (oblock b).view.dmaCredit
      iprop((yLoc d ↦[blkO b]{fullShare} g) ∗ ∃ f, osLoc d L ↦[slotO p]{fullShare} f)

variable [FloatOps F]

/-! ## The steps -/

section Steps

variable {α : Type} {Φ : α → sProp (MT nD τ sig (HIx 1) (Elt F) ℕ UU ℕ)} {k : PUnit → Prog (TpuEff nD τ sig (Elt F) Λ₀ (tile d L).2) α}

/-- Asking for block `b` of the row numbers, into the free slot `p`. -/
theorem wp_fetch (q : PosShare TreeShare) (ix : Buf (Elt F) (xLoc d)) (p : Fin 2) (b : Fin 4096)
    {src : Memref sig .scVector .hbm S1x128 .i32} (hs : src = iblock b)
    {dst : Memref sig .scVector .vmem S1x128 .i32} (hd : dst = islot p)
    {sm : DmaSem sig} (hm : sm = semI p)
    {hsrc : src.view.WordExact} {hdst : (DmaTarget.here dst : DmaTarget nD τ sig (tile d L).2 .vmem S1x128 .i32).view.WordExact}
    {hsem : (DmaTarget.here dst : DmaTarget nD τ sig (tile d L).2 .vmem S1x128 .i32).Typed .hbm (SemLoc.dma sm)} :
    iFree d L q ix p ⊢ iprop((iBusy d L q ix p b -∗ wp frame (wpE (defs₀ (F := F)) 𝒱₀ (tile d L) none) Set.univ (k ⟨⟩) Φ)
      -∗ wp frame (wpE (defs₀ (F := F)) 𝒱₀ (tile d L) none) Set.univ (.op (.enqueueDma src (.here dst) (.dma sm) hsrc hdst hsem) k) Φ) := by
  subst hs hd hm
  unfold iFree
  iintro ⟨⟨%f, Hs⟩, Hz, Hx⟩
  ihave Hx' := (pointsTo_split_subset (q := half q p) (f := ix) (S := Finset.univ) (Finset.subset_univ (blkI b))).1 $$ Hx
  icases Hx' with ⟨Hxb, Hxr⟩
  iintro Hk
  iapply (Transfers.wp_dmaLocal countersEmb 𝒱₀ (tile d L) none (default : HIx 1) (islot p).view.dmaCredit rfl
    (View.dmaCredit_pos _ (by decide)) (Finset.Subset.refl _)) $$ [Hxb Hs Hz]
  · isplitl [Hxb]; · iexact Hxb
    isplitl [Hs]; · iexact Hs
    iexact Hz
  iintro Hf
  iapply Hk
  unfold iBusy
  isplitl [Hf]
  · iapply (Transfers.Flight_mono countersEmb (tile d L) (D := iprop(_ ∗ _)) ?_) $$ Hf
    iintro ⟨Hd, Hs⟩
    isplitl [Hd]
    · iexists _; isplitr
      swap; · iexact Hd
      ipureintro; exact View.read_write_univ _ _
    iexact Hs
  iexact Hxr

/-- Waiting for block `b` of the row numbers to be in slot `p`. -/
theorem wp_await (q : PosShare TreeShare) (ix : Buf (Elt F) (xLoc d)) (p : Fin 2) (b : Fin 4096)
    (O : CellTallies nD τ sig (HIx 1)) (W : Waits sig (HIx 1))
    {src : Memref sig .scVector .hbm S1x128 .i32}
    {dst : Memref sig .scVector .vmem S1x128 .i32} (hd : dst = islot p)
    {sm : DmaSem sig} (hm : sm = semI p) {hsrc : src.view.WordExact} {hdst : dst.view.WordExact} :
    iprop(iBusy d L q ix p b ∗ owes (tile d L) O W ∗ Transfers.MayWaits (tile d L) (default : HIx 1) O)
      ⊢ iprop((iHas d L q ix p b ∗ owes (tile d L) O (insert (SemLoc.dma (semI p), default) W) -∗ wp frame (wpE (defs₀ (F := F)) 𝒱₀ (tile d L) none) Set.univ (k ⟨⟩) Φ)
      -∗ wp frame (wpE (defs₀ (F := F)) 𝒱₀ (tile d L) none) Set.univ (.op (.waitDma2 sm src dst hsrc hdst) k) Φ) := by
  subst hd hm
  unfold iBusy
  iintro ⟨⟨Hf, Hxr⟩, HO, Hmw⟩ Hk
  iapply (Transfers.wp_waitLocalO countersEmb 𝒱₀ (tile d L) none (default : HIx 1) (rfl : (islot p).view.dmaCredit = _)) $$ [Hf HO Hmw]
  · isplitl [Hf]; · iexact Hf
    isplitl [HO]; · iexact HO
    iapply (Transfers.MayWaits.elim (SemLoc.dma (semI p))) $$ Hmw
  iintro ⟨⟨Hs, Hxb⟩, Hz, HO⟩
  iapply Hk
  isplitr [HO]
  · unfold iHas
    isplitl [Hs]; · iexact Hs
    isplitl [Hz]; · iexact Hz
    iapply (pointsTo_split_subset (q := half q p) (f := ix) (S := Finset.univ) (Finset.subset_univ (blkI b))).2
    isplitl [Hxb] <;> iassumption
  iexact HO

theorem rowCredits (p : Fin 2) : ∑ j, ((oslot p).slice (S128x2x128.rowRect gathers_S589824x2x128_S128x2x128.axis' j)
    (S128x2x128.stride_rowRect gathers_S589824x2x128_S128x2x128.axis' j)).view.dmaCredit = (oslot p).view.dmaCredit :=
  SparseCore.sum_rowCredit_eq_dmaCredit _ _ (fun _ => rfl)

/-- Gathering the rows that slot `pi` names into the free slot `po`, and waiting for them. -/
theorem wp_gather (q : PosShare TreeShare) (qt : PosShare TreeShare) (tb : Buf (Elt F) (tLoc d)) (ix : Buf (Elt F) (xLoc d))
    (hI : ∀ j : S1x524288.Idx, (ix j : BitVec 32).toNat < 589824) (pi po : Fin 2) (b : Fin 4096)
    (O : CellTallies nD τ sig (HIx 1)) (W : Waits sig (HIx 1))
    {src src' : Memref sig .scVector .hbm S589824x2x128 .i32} (hs : src = tabA)
    {dst dst' : Memref sig .scVector .vmem S128x2x128 .i32} (hd : dst = oslot po) (hd' : dst' = oslot po)
    {offs : Memref sig .scVector .vmem S128 .i32} (ho : offs = ilist pi)
    {sm : DmaSem sig} (hm : sm = semG)
    {hp : (tile d L).2.kind = .scVector} {hn : S128.numel = S128x2x128.size gathers_S589824x2x128_S128x2x128.axis'}
    {hsrc : src.view.WordExact} {he : (EltTy.i32).bits = 32} {hsp : Space.hbm = .hbm ∨ Space.hbm = .shared} {hr : S589824x2x128.StreamRows 0}
    {hsrc' : src'.view.WordExact} {hdst' : dst'.view.WordExact} :
    iprop(iHas d L q ix pi b ∗ oFree d L po ∗ (tLoc d ↦{qt} tb) ∗ semVal (tile d L, SemLoc.dma semG) 0
        ∗ owes (tile d L) O W ∗ Transfers.MayWaits (tile d L) (default : HIx 1) O)
      ⊢ iprop((iFree d L q ix pi ∗ oHas d L (gathered tb ix) po b ∗ (tLoc d ↦{qt} tb) ∗ semVal (tile d L, SemLoc.dma semG) 0
          ∗ owes (tile d L) O (insert (SemLoc.dma semG, default) W) -∗ wp frame (wpE (defs₀ (F := F)) 𝒱₀ (tile d L) none) Set.univ (k ⟨⟩) Φ)
      -∗ wp frame (wpE (defs₀ (F := F)) 𝒱₀ (tile d L) none) Set.univ (SparseCore.enqueueIndirectGather hp src dst gathers_S589824x2x128_S128x2x128 offs hn sm hsrc he hsp hr
          >>= fun _ => .op (.waitDma2 sm src' dst' hsrc' hdst') k) Φ) := by
  subst hs hd hd' ho hm
  unfold iHas oFree
  iintro ⟨⟨⟨%fi, %hfi, Hi⟩, Hzi, Hx⟩, ⟨⟨%fo, Ho⟩, Hzo⟩, Ht, Hz, HO, Hmw⟩ Hk
  have hin := list_inb (F := F) pi b ix hI fi hfi
  iapply (SparseCore.wp_indirectGatherLocal countersEmb 𝒱₀ (tile d L) none (hg := gathers_S589824x2x128_S128x2x128) (default : HIx 1)
      (oslot po).view.dmaCredit (rowCredits po) (by decide) hin) $$ [Hi Ho Ht Hz]
  · isplitl [Ht]
    · rw [tabA_set]; iexact Ht
    isplitl [Ho]; · iexact Ho
    isplitl [Hi]; · rw [ilist_set]; iexact Hi
    iexact Hz
  iintro Hfl
  iapply (Transfers.wp_waitLocalO countersEmb 𝒱₀ (tile d L) none (default : HIx 1) (rfl : (oslot po).view.dmaCredit = _)) $$ [Hfl HO Hmw]
  · isplitl [Hfl]; · iexact Hfl
    isplitl [HO]; · iexact HO
    iapply (Transfers.MayWaits.elim (SemLoc.dma semG)) $$ Hmw
  rw [tabA_set, ilist_set]
  iintro ⟨⟨Ho, Ht, Hi⟩, Hz, HO⟩
  iapply Hk
  isplitl [Hi Hzi Hx]
  · unfold iFree
    isplitl [Hi]; · iexists _; iexact Hi
    isplitl [Hzi] <;> iassumption
  isplitl [Ho Hzo]
  · unfold oHas
    isplitl [Ho]
    · iexists _; isplitr
      swap; · iexact Ho
      ipureintro; exact (View.read_write_univ _ _).trans (payload_eq (F := F) pi b tb ix fi hfi _ _)
    iexact Hzo
  isplitl [Ht]; · iexact Ht
  isplitl [Hz]; · iexact Hz
  iexact HO

/-- Sending block `b` of the gathered rows off from slot `p`. -/
theorem wp_send (g f₀ : Buf (Elt F) (yLoc d)) (p : Fin 2) (b : Fin 4096)
    {src : Memref sig .scVector .vmem S128x2x128 .i32} (hs : src = oslot p)
    {dst : Memref sig .scVector .hbm S128x2x128 .i32} (hd : dst = oblock b)
    {sm : DmaSem sig} (hm : sm = semO p)
    {hsrc : src.view.WordExact} {hdst : (DmaTarget.here dst : DmaTarget nD τ sig (tile d L).2 .hbm S128x2x128 .i32).view.WordExact}
    {hsem : (DmaTarget.here dst : DmaTarget nD τ sig (tile d L).2 .hbm S128x2x128 .i32).Typed .vmem (SemLoc.dma sm)} :
    iprop(oHas d L g p b ∗ (yLoc d ↦[blkO b]{fullShare} f₀)) ⊢ iprop((oBusy d L g p b -∗ wp frame (wpE (defs₀ (F := F)) 𝒱₀ (tile d L) none) Set.univ (k ⟨⟩) Φ)
      -∗ wp frame (wpE (defs₀ (F := F)) 𝒱₀ (tile d L) none) Set.univ (.op (.enqueueDma src (.here dst) (.dma sm) hsrc hdst hsem) k) Φ) := by
  subst hs hd hm
  unfold oHas
  iintro ⟨⟨⟨%f, %hf, Ho⟩, Hz⟩, Hy⟩ Hk
  iapply (Transfers.wp_dmaLocal countersEmb 𝒱₀ (tile d L) none (default : HIx 1) (oblock b).view.dmaCredit rfl
    (View.dmaCredit_pos _ (by decide)) (Finset.Subset.refl _)) $$ [Ho Hy Hz]
  · isplitl [Ho]; · iexact Ho
    isplitl [Hy]; · iexact Hy
    iexact Hz
  iintro Hf
  iapply Hk
  unfold oBusy
  iapply (Transfers.Flight_mono countersEmb (tile d L) (D := iprop(_ ∗ _)) ?_) $$ Hf
  iintro ⟨Hd, Hs⟩
  isplitl [Hd]
  · iapply (Entails.of_eq (pointsTo_congr (write_read_eq (F := F) (oblock b).view f₀ g _ hf)))
    iexact Hd
  iexists _; iexact Hs

/-- Waiting for block `b` of the gathered rows to have left slot `p`. -/
theorem wp_sent (g : Buf (Elt F) (yLoc d)) (p : Fin 2) (b : Fin 4096)
    (O : CellTallies nD τ sig (HIx 1)) (W : Waits sig (HIx 1))
    {src : Memref sig .scVector .vmem S128x2x128 .i32}
    {dst : Memref sig .scVector .hbm S128x2x128 .i32} (hd : dst.view.dmaCredit = (oblock b).view.dmaCredit)
    {sm : DmaSem sig} (hm : sm = semO p) {hsrc : src.view.WordExact} {hdst : dst.view.WordExact} :
    iprop(oBusy d L g p b ∗ owes (tile d L) O W ∗ Transfers.MayWaits (tile d L) (default : HIx 1) O)
      ⊢ iprop((oFree d L p ∗ (yLoc d ↦[blkO b]{fullShare} g) ∗ owes (tile d L) O (insert (SemLoc.dma (semO p), default) W) -∗ wp frame (wpE (defs₀ (F := F)) 𝒱₀ (tile d L) none) Set.univ (k ⟨⟩) Φ)
      -∗ wp frame (wpE (defs₀ (F := F)) 𝒱₀ (tile d L) none) Set.univ (.op (.waitDma2 sm src dst hsrc hdst) k) Φ) := by
  subst hm
  unfold oBusy
  iintro ⟨Hf, HO, Hmw⟩ Hk
  iapply (Transfers.wp_waitLocalO countersEmb 𝒱₀ (tile d L) none (default : HIx 1) hd) $$ [Hf HO Hmw]
  · isplitl [Hf]; · iexact Hf
    isplitl [HO]; · iexact HO
    iapply (Transfers.MayWaits.elim (SemLoc.dma (semO p))) $$ Hmw
  iintro ⟨⟨Hy, Ho⟩, Hz, HO⟩
  iapply Hk
  isplitl [Ho Hz]
  · unfold oFree
    isplitl [Ho] <;> iassumption
  isplitl [Hy]; · iexact Hy
  iexact HO

end Steps

end Cert.Proof.Gather

end
-- ==== Proof.Trip.lean ====
/-
  One trip of the gather kernel's loop, from what the tile holds before it to what it holds after.

  Before trip `n` one block of row numbers is on its way to, or in, the slot `n % 2`, and one block of gathered rows is on
  its way out of the other slot. Every block before those is in the output as gathered, and every block from `n` on is as it
  was.
-/
module

public import proofs.«01_k».proof.Proof.Steps

@[expose] public section

set_option Elab.async false

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

/-! ## Which block, which slot -/

/-- The tile's block number `n`. -/
def blk (L : grid0.Coords) (n : ℕ) : Fin 4096 := ⟨(blk0 L + n) % 4096, Nat.mod_lt _ (by omega)⟩
/-- The slot of block `n`. -/
def par (n : ℕ) : Fin 2 := ⟨n % 2, Nat.mod_lt _ (by omega)⟩

theorem blk0_le (L : grid0.Coords) : blk0 L + 128 ≤ 4096 := by
  have h0 : (L 0).val < 2 := (L 0).isLt
  have h1 : (L 1).val < 16 := (L 1).isLt
  unfold blk0; omega
theorem blk_val (L : grid0.Coords) {n : ℕ} (h : n < 128) : (blk L n).val = blk0 L + n := by
  have := blk0_le L
  exact Nat.mod_eq_of_lt (by omega)
theorem par_val (n : ℕ) : (par n).val = n % 2 := rfl
theorem par_two (n : ℕ) : par (n + 2) = par n := Fin.ext (by simp [par])

/-! ## What the tile holds before a trip -/

variable (q qt : PosShare TreeShare) (tb : Buf (Elt F) (tLoc d)) (ix : Buf (Elt F) (xLoc d)) (f₀ : Buf (Elt F) (yLoc d))
variable (O : CellTallies nD τ sig (HIx 1)) (W : Waits sig (HIx 1))

/-- The row-number slots before trip `n`. -/
def inAt (n : ℕ) : sProp 𝕄 :=
  if n < 128 then iprop(iBusy d L q ix (par n) (blk L n) ∗ iFree d L q ix (par (n + 1)))
  else iprop(iFree d L q ix (par n) ∗ iFree d L q ix (par (n + 1)))
/-- The other row-number slot once trip `n` has asked for the next block. -/
def nextAt (n : ℕ) : sProp 𝕄 :=
  if n + 1 < 128 then iBusy d L q ix (par (n + 1)) (blk L (n + 1)) else iFree d L q ix (par (n + 1))
/-- The gathered-row slots before trip `n`. -/
def outAt (n : ℕ) : sProp 𝕄 :=
  if n = 0 then iprop(oFree d L (par 0) ∗ oFree d L (par 1))
  else iprop(oBusy d L (gathered tb ix) (par (n + 1)) (blk L (n - 1)) ∗ oFree d L (par n))
/-- The output's blocks gathered. -/
def doneAt (n : ℕ) : sProp 𝕄 := bigSep (Finset.range (n - 1)) fun m => yLoc d ↦[blkO (blk L m)]{fullShare} gathered tb ix
/-- The output's blocks to come. -/
def todoAt (n : ℕ) : sProp 𝕄 := bigSep (Finset.Ico n 128) fun m => yLoc d ↦[blkO (blk L m)]{fullShare} f₀
/-- The waits so far are those at the start and the tile's own. -/
def owesAt : sProp 𝕄 := iprop(∃ W', ⌜∀ p ∈ W', p ∈ W ∨ p.2 = none⌝ ∗ owes (tile d L) O W')

theorem doneAt_succ {n : ℕ} (h : n ≠ 0) :
    doneAt d L tb ix (n + 1) = iprop((yLoc d ↦[blkO (blk L (n - 1))]{fullShare} gathered tb ix) ∗ doneAt (F := F) d L tb ix n) := by
  unfold doneAt
  obtain ⟨m, rfl⟩ := Nat.exists_eq_succ_of_ne_zero h
  show bigSep (Finset.range (m + 1)) _ = _
  rw [Finset.range_add_one, SparseCore.bigSep_insert' Finset.notMem_range_self]
  rfl
theorem todoAt_lt {n : ℕ} (h : n < 128) :
    todoAt d L f₀ n = iprop((yLoc d ↦[blkO (blk L n)]{fullShare} f₀) ∗ todoAt (F := F) d L f₀ (n + 1)) := by
  unfold todoAt
  rw [show Finset.Ico n 128 = insert n (Finset.Ico (n + 1) 128) by ext m; simp only [Finset.mem_Ico, Finset.mem_insert]; omega,
    SparseCore.bigSep_insert' (by simp)]

theorem owes_insert {W' : Waits sig (HIx 1)} (h : ∀ p ∈ W', p ∈ W ∨ p.2 = none) (sm : SemLoc sig) :
    ∀ p ∈ insert (sm, (default : HIx 1)) W', p ∈ W ∨ p.2 = none := by
  intro p hp
  rcases Finset.mem_insert.mp hp with hp | hp
  · exact .inr (hp ▸ rfl)
  · exact h p hp

variable [FloatOps F]

/-- What the tile holds before trip `n`, the carried words at `acc`. -/
def before (n : ℕ) (acc : BitVec 32 × BitVec 32 × BitVec 32 × BitVec 32 × BitVec 32) : sProp 𝕄 :=
  iprop(⌜acc = words n⌝ ∗ levAts (K (F := F)).L (K (F := F)).lev ∗ owesAt d L O W ∗ inAt d L q ix n ∗ outAt d L tb ix n
    ∗ (tLoc d ↦{qt} tb) ∗ semVal (tile d L, SemLoc.dma semG) 0 ∗ doneAt d L tb ix n ∗ todoAt d L f₀ n)

/-! ## The trip's parts -/

/-- The first part: the next block of row numbers asked for, if there is one. -/
theorem wp_part1 (t : Fin k0_t1_loop.trips)
    (Φ : (Σ' (k0_hw3 : k0_chk3 (w7 t)) (k0_hw2 : k0_chk2 (w8 t)) (k0_hw1 : k0_chk1 L t (w6 t) (w7 t) (w8 t) (w9 t) (w10 t)) (arg5_r0 : BitVec 32) (v64_r0 : BitVec 1) (v65_r0 : BitVec 1) (v66_r0 : BitVec 32) (v71_r0 : BitVec 32) (v76_r0 : BitVec 32) (v91_r0 : BitVec 32), BitVec 1)
      → sProp (MT nD τ sig (HIx 1) (Elt F) ℕ UU ℕ)) :
    iFree d L q ix (par (t.val + 1)) ⊢ iprop((nextAt d L q ix t.val -∗ Φ ⟨chk3 t, chk2 t, chk1 L t, Scf.iv 0#32 1#32 t, Scalar.cmpi .eq (Scf.iv 0#32 1#32 t) 0#32,
          Scalar.cmpi .eq (Scf.iv 0#32 1#32 t) 127#32, Scalar.addi (w10 t) (v4w L), prevw L (w10 t), nextw L (w10 t), n6 L t (w6 t) (w10 t),
          Scalar.cmpi .ne (Scalar.addi (w10 t) (v4w L)) (prevw L (w10 t))⟩)
      -∗ wp frame (wpE (defs₀ (F := F)) 𝒱₀ (tile d L) none) Set.univ
          (k0_part1 (F := F) L tabV (Memref.isWhole_whole _) idxV (Memref.isWhole_whole _) outV (Memref.isWhole_whole _) islV (Memref.isWhole_whole _)
            cc0_scoped1 oslV (Memref.isWhole_whole _) cc0_scoped3 cc0_scoped4 (v4w L) 0#32 1#32 t (w6 t) (w7 t) (w8 t) (w9 t) (w10 t)) Φ) := by
  simp only [k0_part1_eq_skeleton]; unfold k0_part1_skel n6 nextw prevw
  simp only [Prog.lift, Prog.bind_op, Prog.bind_ret, Prog.pure_eq_ret, Prog.bind_assoc]
  rw [wp_assume_of _ _ _ _ (chk3 t), wp_assume_of _ _ _ _ (chk2 t), wp_assume_of _ _ _ _ (chk1 L t)]
  have ht : t.val < 128 := trips_eq ▸ t.isLt
  iintro Hi Hk
  by_cases h1 : k0_cond1 L t (w10 t) = 1#1
  · have hlt := (cond1_iff L t).mp h1
    rw [dif_pos h1]
    simp only [Prog.bind_op, Prog.bind_ret, Prog.pure_eq_ret, Prog.bind_assoc]
    iapply (wp_fetch d L q ix (par (t.val + 1)) (blk L (t.val + 1))
      (iblock_of _ ((off5_eq L t hlt).trans (by rw [blk_val L (by omega)])) _) (islot_of _ (off4_eq t) _) (semI_of _ (off6_eq t) _)) $$ Hi
    iintro Hi
    rw [wp_ret]; imodintro
    iapply Hk
    unfold nextAt; rw [if_pos (by omega)]; iexact Hi
  · have hge : ¬ t.val + 1 < 128 := fun h => h1 ((cond1_iff L t).mpr (by omega))
    rw [dif_neg h1]
    simp only [Prog.bind_op, Prog.bind_ret, Prog.pure_eq_ret, Prog.bind_assoc]
    rw [wp_ret]; imodintro
    iapply Hk
    unfold nextAt; rw [if_neg hge]; iexact Hi

/-- The second part: this block of row numbers waited for, and the rows it names gathered. -/
theorem wp_part2 (hI : ∀ j : S1x524288.Idx, (ix j : BitVec 32).toNat < 589824) (hO : ∀ g, O g none = 0) (t : Fin k0_t1_loop.trips)
    (Φ : (Σ' (v111_r0 : BitVec 1) (v112_r0 : BitVec 32), BitVec 32) → sProp (MT nD τ sig (HIx 1) (Elt F) ℕ UU ℕ))
    (arg5 : BitVec 32) (v64 v65 : BitVec 1) (v66 v71 v76 : BitVec 32) (v96 : BitVec 1) :
    iprop(levAts (K (F := F)).L (K (F := F)).lev ∗ owesAt d L O W ∗ iBusy d L q ix (par t.val) (blk L t.val) ∗ oFree d L (par t.val)
        ∗ (tLoc d ↦{qt} tb) ∗ semVal (tile d L, SemLoc.dma semG) 0)
      ⊢ iprop((owesAt d L O W ∗ iFree d L q ix (par t.val) ∗ oHas d L (gathered tb ix) (par t.val) (blk L t.val)
          ∗ (tLoc d ↦{qt} tb) ∗ semVal (tile d L, SemLoc.dma semG) 0
          -∗ Φ ⟨Scalar.ori (Scalar.cmpi .ne v66 v76) v65, Scalar.extui (Scalar.ori (Scalar.cmpi .ne v66 v76) v65), 0#32⟩)
      -∗ wp frame (wpE (defs₀ (F := F)) 𝒱₀ (tile d L) none) Set.univ
          (k0_part2 (F := F) L tabV (Memref.isWhole_whole _) idxV (Memref.isWhole_whole _) outV (Memref.isWhole_whole _) islV (Memref.isWhole_whole _)
            cc0_scoped1 oslV (Memref.isWhole_whole _) cc0_scoped3 cc0_scoped4 t (w6 t) (w7 t) (w8 t) (w9 t) (w10 t)
            (chk3 t) (chk2 t) (chk1 L t) arg5 v64 v65 v66 v71 v76 v96) Φ) := by
  simp only [k0_part2_eq_skeleton]; unfold k0_part2_skel
  rw [dif_pos (cond2_eq L t)]
  unfold SparseCore.waitIndirectGather
  simp only [ite_self, Prog.lift, Prog.bind_op, Prog.bind_ret, Prog.pure_eq_ret, Prog.bind_assoc]
  iintro ⟨#Hlv, HO, Hi, Ho, Ht, Hz⟩ Hk
  ihave #Hmw := (show levAts (K (F := F)).L (K (F := F)).lev ⊢ Transfers.MayWaits (tile d L) (default : HIx 1) O from
    (K (F := F)).mayWaits_none (thr := tile d L) hO) $$ Hlv
  unfold owesAt
  icases HO with ⟨%W', %hW', HO⟩
  iapply (wp_await d L q ix (par t.val) (blk L t.val) O W' (islot_of _ (off7_eq t) _) (semI_of _ (off9_eq t) _)) $$ [Hi HO]
  · isplitl [Hi]; · iexact Hi
    isplitl [HO]; · iexact HO
    iexact Hmw
  iintro ⟨Hi, HO⟩
  have hW1 := owes_insert W hW' (SemLoc.dma (semI (par t.val)))
  iapply (wp_gather d L q qt tb ix hI (par t.val) (par t.val) (blk L t.val) O _ rfl (oslot_of _ (off10_eq t) _) (oslot_of _ (off10_eq t) _)
    (ilist_of _ (off11_eq t) _) rfl) $$ [Hi Ho Ht Hz HO]
  · isplitl [Hi]; · iexact Hi
    isplitl [Ho]; · iexact Ho
    isplitl [Ht]; · iexact Ht
    isplitl [Hz]; · iexact Hz
    isplitl [HO]; · iexact HO
    iexact Hmw
  iintro ⟨Hi, Ho, Ht, Hz, HO⟩
  have hW2 := owes_insert W hW1 (SemLoc.dma semG)
  rw [wp_ret]; imodintro
  iapply Hk
  isplitl [HO]
  · iexists _; isplitr
    swap; · iexact HO
    ipureintro; exact hW2
  isplitl [Hi]; · iexact Hi
  isplitl [Ho]; · iexact Ho
  isplitl [Ht]; · iexact Ht
  iexact Hz

omit [FloatOps F] in
/-- Every block of the output counts the same towards a semaphore. -/
theorem out_credit (b : Fin 4096) (off : Fin 3 → ℕ) (inb : ∀ a, off a + S128x2x128.size a ≤ S524288x2x128.size a) :
    (outV.slice (Rect.unit (s := S524288x2x128) off S128x2x128.size inb) (fun _ => rfl)).view.dmaCredit = (oblock b).view.dmaCredit := rfl

/-- The rest of the trip: the gathered rows sent off, and the block before them waited for, if there is one. -/
theorem wp_trip (hI : ∀ j : S1x524288.Idx, (ix j : BitVec 32).toNat < 589824) (hO : ∀ g, O g none = 0) (t : Fin k0_t1_loop.trips)
    (acc : BitVec 32 × BitVec 32 × BitVec 32 × BitVec 32 × BitVec 32) :
    before d L q qt tb ix f₀ O W t.val acc
      ⊢ wp frame (wpE (defs₀ (F := F)) 𝒱₀ (tile d L) none) Set.univ
          (k0_t1_body (F := F) L tabV (Memref.isWhole_whole _) idxV (Memref.isWhole_whole _) outV (Memref.isWhole_whole _) islV (Memref.isWhole_whole _)
            cc0_scoped1 oslV (Memref.isWhole_whole _) cc0_scoped3 cc0_scoped4 (v4w L) t acc)
          (before d L q qt tb ix f₀ O W (t.val + 1)) := by
  have ht : t.val < 128 := trips_eq ▸ t.isLt
  unfold before
  iintro ⟨%hacc, #Hlv, HO, Hin, Hout, Ht, Hz, Hdone, Htodo⟩
  obtain rfl : acc = (w6 t, w7 t, w8 t, w9 t, w10 t) := hacc
  unfold k0_t1_body
  dsimp only
  ihave Hin := (Entails.of_eq (show inAt d L q ix t.val = iprop(iBusy d L q ix (par t.val) (blk L t.val) ∗ iFree d L q ix (par (t.val + 1))) from if_pos ht)) $$ Hin
  icases Hin with ⟨Hib, Hif⟩
  rw [wp_bind]
  iapply (wp_part1 d L q ix t) $$ Hif
  iintro Hnext
  rw [wp_bind]
  -- the gathered-row slot of this trip is free, the other one free or on its way out
  ihave Hout := (show outAt d L tb ix t.val ⊢ iprop(oFree d L (par t.val) ∗ (if t.val = 0 then oFree d L (par (t.val + 1))
      else oBusy d L (gathered tb ix) (par (t.val + 1)) (blk L (t.val - 1)))) from by
    unfold outAt
    by_cases h : t.val = 0
    · rw [if_pos h, if_pos h, h]
    · rw [if_neg h, if_neg h]
      iintro ⟨H1, H2⟩
      isplitl [H2] <;> iassumption) $$ Hout
  icases Hout with ⟨Hof, Hother⟩
  iapply (wp_part2 d L q qt tb ix O W hI hO t) $$ [HO Hib Hof Ht Hz]
  · isplitr; · iexact Hlv
    isplitl [HO]; · iexact HO
    isplitl [Hib]; · iexact Hib
    isplitl [Hof]; · iexact Hof
    isplitl [Ht]; · iexact Ht
    iexact Hz
  iintro ⟨HO, Hif, Hoh, Ht, Hz⟩
  dsimp only
  rw [dif_pos (cond5_eq L t)]
  simp only [ite_self, Prog.lift, Prog.bind_op, Prog.bind_ret, Prog.pure_eq_ret, Prog.bind_assoc]
  ihave Htodo := (Entails.of_eq (todoAt_lt (F := F) d L f₀ ht)) $$ Htodo
  icases Htodo with ⟨Hy, Htodo⟩
  iapply (wp_send d L (gathered tb ix) f₀ (par t.val) (blk L t.val) (oslot_of _ (off12_eq t) _)
    (oblock_of _ ((off13_eq L t).trans (by rw [blk_val L ht])) _) (semO_of _ (off14_eq t) _)) $$ [Hoh Hy]
  · isplitl [Hoh] <;> iassumption
  iintro Hob
  have hin : ∀ H1 : sProp (MT nD τ sig (HIx 1) (Elt F) ℕ UU ℕ), H1 = nextAt d L q ix t.val →
      iprop(H1 ∗ iFree d L q ix (par t.val)) ⊢ inAt d L q ix (t.val + 1) := by
    rintro _ rfl
    unfold nextAt inAt
    rw [show t.val + 1 + 1 = t.val + 2 from rfl, par_two]
    by_cases h : t.val + 1 < 128
    · rw [if_pos h, if_pos h]
    · rw [if_neg h, if_neg h]
  by_cases h7 : k0_cond7 L t (w10 t) = 1#1
  · have hne := (cond7_iff L t).mp h7
    rw [dif_pos h7]
    simp only [Prog.bind_op, Prog.bind_ret, Prog.pure_eq_ret, Prog.bind_assoc]
    ihave Hother := (Entails.of_eq (if_neg hne)) $$ Hother
    ihave #Hmw := (show levAts (K (F := F)).L (K (F := F)).lev ⊢ Transfers.MayWaits (tile d L) (default : HIx 1) O from
      (K (F := F)).mayWaits_none (thr := tile d L) hO) $$ Hlv
    unfold owesAt
    icases HO with ⟨%W', %hW', HO⟩
    iapply (wp_sent d L (gathered tb ix) (par (t.val + 1)) (blk L (t.val - 1)) O W' (out_credit _ _ _)
      (semO_of _ ((off17_eq t).trans (by rw [par_val]; congr 1; omega)) _)) $$ [Hother HO]
    · isplitl [Hother]; · iexact Hother
      isplitl [HO]; · iexact HO
      iexact Hmw
    iintro ⟨Hof, Hy, HO⟩
    have hW1 := owes_insert W hW' (SemLoc.dma (semO (par (t.val + 1))))
    rw [wp_ret]; imodintro
    isplitr
    · ipureintro; exact next_words L t
    isplitr; · iexact Hlv
    isplitl [HO]
    · iexists _; isplitr
      swap; · iexact HO
      ipureintro; exact hW1
    isplitl [Hnext Hif]
    · iapply (hin _ rfl); isplitl [Hnext] <;> iassumption
    isplitl [Hob Hof]
    · unfold outAt
      rw [if_neg (Nat.succ_ne_zero _), show t.val + 1 + 1 = t.val + 2 from rfl, par_two, Nat.add_sub_cancel]
      isplitl [Hob] <;> iassumption
    isplitl [Ht]; · iexact Ht
    isplitl [Hz]; · iexact Hz
    isplitl [Hdone Hy]
    · rw [doneAt_succ (F := F) d L tb ix hne]
      isplitl [Hy] <;> iassumption
    iexact Htodo
  · have h0 : t.val = 0 := Decidable.not_not.mp fun h => h7 ((cond7_iff L t).mpr h)
    rw [dif_neg h7]
    simp only [Prog.bind_op, Prog.bind_ret, Prog.pure_eq_ret, Prog.bind_assoc]
    ihave Hother := (Entails.of_eq (if_pos h0)) $$ Hother
    rw [wp_ret]; imodintro
    isplitr
    · ipureintro; exact next_words L t
    isplitr; · iexact Hlv
    isplitl [HO]; · iexact HO
    isplitl [Hnext Hif]
    · iapply (hin _ rfl); isplitl [Hnext] <;> iassumption
    isplitl [Hob Hother]
    · unfold outAt
      rw [if_neg (Nat.succ_ne_zero _), show t.val + 1 + 1 = t.val + 2 from rfl, par_two, Nat.add_sub_cancel]
      isplitl [Hob] <;> iassumption
    isplitl [Ht]; · iexact Ht
    isplitl [Hz]; · iexact Hz
    isplitl [Hdone]
    · unfold doneAt; rw [h0]; iexact Hdone
    iexact Htodo

end Cert.Proof.Gather

end
-- ==== Proof.Tile.lean ====
/-
  The gather kernel on one tile.

  A tile starts with a share of the table, a share of the row numbers, its 128 blocks of the output and its own scratch, and
  ends with the same, the 128 blocks holding the rows gathered.
-/
module

public import proofs.«01_k».proof.Proof.Trip

@[expose] public section

set_option Elab.async false

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

/-! ## The tile's part of the output -/

/-- The output rows the tile at coordinates `L` fills. -/
def tileSet (L : grid0.Coords) : Finset S524288x2x128.Idx := (Finset.range 128).biUnion fun m => blkO (blk L m)

theorem mem_tileSet (j : S524288x2x128.Idx) : j ∈ tileSet L ↔ (j 0).val / 16384 = (L 1).val + 16 * (L 0).val := by
  have hj : (j 0).val < 524288 := (j 0).isLt
  unfold tileSet
  simp only [Finset.mem_biUnion, Finset.mem_range, mem_blkO]
  constructor
  · rintro ⟨m, hm, e⟩
    rw [blk_val L hm] at e; unfold blk0 at e; omega
  · intro e
    refine ⟨(j 0).val / 128 % 128, Nat.mod_lt _ (by omega), ?_⟩
    rw [blk_val L (Nat.mod_lt _ (by omega))]; unfold blk0; omega

theorem blk_disjoint : ∀ m ∈ Finset.range 128, ∀ m' ∈ Finset.range 128, m ≠ m' → Disjoint (blkO (blk L m)) (blkO (blk L m')) := by
  intro m hm m' hm' hne
  refine blkO_disjoint fun e => hne ?_
  have e := congrArg Fin.val e
  rw [blk_val L (Finset.mem_range.mp hm), blk_val L (Finset.mem_range.mp hm')] at e
  omega

variable (q qt : PosShare TreeShare) (tb : Buf (Elt F) (tLoc d)) (ix : Buf (Elt F) (xLoc d)) (f₀ : Buf (Elt F) (yLoc d))
variable (O : CellTallies nD τ sig (HIx 1)) (W : Waits sig (HIx 1))

/-- Before the first trip every block is still to come; -/
theorem todo_all : (yLoc d ↦[tileSet L]{fullShare} f₀ : sProp 𝕄) = todoAt d L f₀ 0 := by
  unfold tileSet todoAt
  rw [pointsTo_biUnion _ _ (blk_disjoint L), Finset.range_eq_Ico]
/-- once the last one has been waited for every block is done. -/
theorem done_all : doneAt d L tb ix 129 = (yLoc d ↦[tileSet L]{fullShare} gathered tb ix : sProp 𝕄) := by
  unfold tileSet doneAt
  rw [pointsTo_biUnion _ _ (blk_disjoint L)]

/-- The two halves of a share make it up. -/
theorem halves : (xLoc d ↦{q} ix : sProp 𝕄) ⊣⊢ iprop((xLoc d ↦{half q 0} ix) ∗ (xLoc d ↦{half q 1} ix)) :=
  pointsTo_share (PosShare.mem_left_op_right q)

/-! ## The tile's scratch -/

/-- The tile's five semaphores. -/
def cell (k : DmaSem sig) : GSem nD τ sig := (tile d L, SemLoc.dma k)

theorem cell_injective : Function.Injective (cell d L) := fun a b h => by
  have h := congrArg Prod.snd h
  exact SemLoc.dma.inj h

def ownRest : sProp 𝕄 := bigSep (ownCells (tile d L) \ Finset.univ.map ⟨cell d L, cell_injective d L⟩) fun g => semVal g 0

theorem cell_scoped : ∀ k : DmaSem sig, (SemLoc.dma k : SemLoc sig).isScoped .scVector = true := by decide

theorem sems_V :
    (ownSems0 (tile d L) : sProp 𝕄)
      = iprop((semVal (tile d L, SemLoc.dma (semI 0)) 0 ∗ semVal (tile d L, SemLoc.dma (semI 1)) 0 ∗ semVal (tile d L, SemLoc.dma (semO 0)) 0
          ∗ semVal (tile d L, SemLoc.dma (semO 1)) 0 ∗ semVal (tile d L, SemLoc.dma semG) 0) ∗ ownRest (F := F) d L) := by
  unfold SparseCore.Cfg.ownSems0 ownRest
  have hsub : Finset.univ.map ⟨cell d L, cell_injective d L⟩ ⊆ ownCells (tile d L) := by
    intro g hg
    obtain ⟨k, -, rfl⟩ := Finset.mem_map.mp hg
    exact mem_ownCells.mpr ⟨rfl, cell_scoped k⟩
  rw [SparseCore.bigSep_sdiff_split' hsub, bigSep_map]
  rw [bigSep_univ_eq_bigSepL (I := DmaSem sig) [semI 0, semI 1, semO 0, semO 1, semG] (by decide) (by decide)]
  rfl

def ownBufsRest : sProp 𝕄 :=
  bigSep (ownRefs (τ := τ) (sig := sig) (.scVector (cV L) (jV L))
      \ {(Proc.scVector (cV L) (jV L)).devRef cc0_scoped0, (Proc.scVector (cV L) (jV L)).devRef cc0_scoped2})
    fun b => iprop(∃ f, ((d, b) : Loc nD τ sig) ↦{fullShare} f)

theorem bufs_V :
    (ownBufs (tile d L) : sProp 𝕄)
      = iprop(((∃ f, isLoc d L ↦{fullShare} f) ∗ (∃ f, osLoc d L ↦{fullShare} f)) ∗ ownBufsRest (F := F) d L) := by
  unfold SparseCore.Cfg.ownBufs ownBufsRest
  rw [SparseCore.bigSep_sdiff_split' (t := {(Proc.scVector (cV L) (jV L)).devRef cc0_scoped0, (Proc.scVector (cV L) (jV L)).devRef cc0_scoped2}),
    SparseCore.bigSep_insert', bigSep_singleton]
  · exact fun e => absurd (Proc.devRef_injective _ (Finset.mem_singleton.mp e)) (show (cc0_scoped0 : Ref sig .scVector) ≠ cc0_scoped2 by decide)
  · intro b hb
    rcases Finset.mem_insert.mp hb with rfl | hb
    · exact SparseCore.Cfg.mem_ownRefs_of_owner rfl
    · obtain rfl := Finset.mem_singleton.mp hb
      exact SparseCore.Cfg.mem_ownRefs_of_owner rfl

/-- The row-number scratch is its two slots; -/
theorem isl_split (f : Buf (Elt F) (isLoc d L)) :
    (isLoc d L ↦{fullShare} f : sProp 𝕄) ⊢ iprop((∃ f, isLoc d L ↦[slotI 0]{fullShare} f) ∗ ∃ f, isLoc d L ↦[slotI 1]{fullShare} f) := by
  iintro H
  ihave H := (Entails.of_eq (show (isLoc d L ↦{fullShare} f : sProp 𝕄) = isLoc d L ↦[slotI 0 ∪ slotI 1]{fullShare} f by rw [slotI_union])) $$ H
  ihave H := (pointsTo_union slotI_disjoint).1 $$ H
  icases H with ⟨H0, H1⟩
  isplitl [H0]
  · iexists f; iexact H0
  · iexists f; iexact H1
theorem isl_join : iprop((∃ f, isLoc d L ↦[slotI 0]{fullShare} f) ∗ ∃ f, isLoc d L ↦[slotI 1]{fullShare} f)
    ⊢ (iprop(∃ f, isLoc d L ↦{fullShare} f) : sProp 𝕄) := by
  iintro ⟨⟨%f, H0⟩, ⟨%g, H1⟩⟩
  ihave H := (pointsTo_join (q := fullShare) (f := f) (g := g) slotI_disjoint) $$ [H0 H1]
  · isplitl [H0] <;> iassumption
  iexists _
  iapply (Entails.of_eq (show (isLoc d L ↦[slotI 0 ∪ slotI 1]{fullShare} _ : sProp 𝕄) = isLoc d L ↦{fullShare} _ by rw [slotI_union]))
  iexact H
/-- and so is the gathered-row scratch. -/
theorem osl_split (f : Buf (Elt F) (osLoc d L)) :
    (osLoc d L ↦{fullShare} f : sProp 𝕄) ⊢ iprop((∃ f, osLoc d L ↦[slotO 0]{fullShare} f) ∗ ∃ f, osLoc d L ↦[slotO 1]{fullShare} f) := by
  iintro H
  ihave H := (Entails.of_eq (show (osLoc d L ↦{fullShare} f : sProp 𝕄) = osLoc d L ↦[slotO 0 ∪ slotO 1]{fullShare} f by rw [slotO_union])) $$ H
  ihave H := (pointsTo_union slotO_disjoint).1 $$ H
  icases H with ⟨H0, H1⟩
  isplitl [H0]
  · iexists f; iexact H0
  · iexists f; iexact H1
theorem osl_join : iprop((∃ f, osLoc d L ↦[slotO 0]{fullShare} f) ∗ ∃ f, osLoc d L ↦[slotO 1]{fullShare} f)
    ⊢ (iprop(∃ f, osLoc d L ↦{fullShare} f) : sProp 𝕄) := by
  iintro ⟨⟨%f, H0⟩, ⟨%g, H1⟩⟩
  ihave H := (pointsTo_join (q := fullShare) (f := f) (g := g) slotO_disjoint) $$ [H0 H1]
  · isplitl [H0] <;> iassumption
  iexists _
  iapply (Entails.of_eq (show (osLoc d L ↦[slotO 0 ∪ slotO 1]{fullShare} _ : sProp 𝕄) = osLoc d L ↦{fullShare} _ by rw [slotO_union]))
  iexact H

variable [FloatOps F]

/-! ## The kernel -/

/-- The kernel on the tile at coordinates `L`. -/
theorem tile_body (hF : (K (F := F)).Facts) (hI : ∀ j : S1x524288.Idx, (ix j : BitVec 32).toNat < 589824) (hO : ∀ g, O g none = 0) :
    (iprop(levAts (K (F := F)).L (K (F := F)).lev ∗ emp
        ∗ ((tLoc d ↦{qt} tb) ∗ (xLoc d ↦{q} ix) ∗ (yLoc d ↦[tileSet L]{fullShare} f₀))
        ∗ scopedBufs (tile d L) ∗ scopedSems0 (tile d L) ∗ owes (tile d L) O W) : sProp 𝕄)
      ⊢ wp frame (wpE (defs₀ (F := F)) 𝒱₀ (tile d L) none) Set.univ
          (cc0_gather_kernel (F := F) L tabV (Memref.isWhole_whole _) idxV (Memref.isWhole_whole _) outV (Memref.isWhole_whole _)
            islV (Memref.isWhole_whole _) cc0_scoped1 oslV (Memref.isWhole_whole _) cc0_scoped3 cc0_scoped4)
          fun _ => iprop(((tLoc d ↦{qt} tb) ∗ (xLoc d ↦{q} ix) ∗ (yLoc d ↦[tileSet L]{fullShare} gathered tb ix))
            ∗ scopedBufs (tile d L) ∗ scopedSems0 (tile d L)
            ∗ ∃ W', ⌜∀ p ∈ W', p ∈ W ∨ p.2 = none⌝ ∗ owes (tile d L) O W') := by
  simp only [cc0_gather_kernel_eq_skeleton]; unfold cc0_gather_kernel_skel
  rw [(K (F := F)).scopedBufs_V hF d (cV L) (jV L), SparseCore.Cfg.scopedSems0_V (Val := Elt F) d (cV L) (jV L), sems_V, bufs_V, todo_all]
  iintro ⟨#Hlv, -, ⟨Ht, Hx, Htodo⟩, ⟨⟨⟨%fi, Hi⟩, ⟨%fo, Ho⟩⟩, Hbufs⟩, ⟨⟨HzI0, HzI1, HzO0, HzO1, HzG⟩, Hsems⟩, HO⟩
  ihave #Hmw := (show levAts (K (F := F)).L (K (F := F)).lev ⊢ Transfers.MayWaits (tile d L) (default : HIx 1) O from
    (K (F := F)).mayWaits_none (thr := tile d L) hO) $$ Hlv
  ihave Hi := (isl_split (F := F) d L fi) $$ Hi
  icases Hi with ⟨Hi0, Hi1⟩
  ihave Ho := (osl_split (F := F) d L fo) $$ Ho
  icases Ho with ⟨Ho0, Ho1⟩
  ihave Hx := (halves (F := F) d q ix).1 $$ Hx
  icases Hx with ⟨Hx0, Hx1⟩
  -- the first block of row numbers
  simp only [k0_part3_eq_skeleton]; unfold k0_part3_skel
  simp only [Prog.lift, Prog.bind_op, Prog.bind_ret, Prog.pure_eq_ret, Prog.bind_assoc]
  iapply (wp_fetch d L q ix 0 (blk L 0) (iblock_of _ ((off2_eq L).trans (by rw [blk_val L (by omega)])) _)
    (islot_of _ k0_off1_eq _) (semI_of _ k0_off3_eq _)) $$ [Hi0 HzI0 Hx0]
  · unfold iFree
    isplitl [Hi0]; · iexact Hi0
    isplitl [HzI0] <;> iassumption
  iintro Hib
  -- the loop
  simp only [k0_part4_eq_skeleton]; unfold k0_part4_skel
  simp only [Prog.lift, Prog.bind_op, Prog.bind_ret, Prog.pure_eq_ret, Prog.bind_assoc]
  iapply (Scf.wp_for_bind frame (wpE (defs₀ (F := F)) 𝒱₀ (tile d L) none) Set.univ _ _ _ _ _ _ (before d L q qt tb ix f₀ O W)
    (fun t acc => wp_trip d L q qt tb ix f₀ O W hI hO t acc)) $$ [Ht Htodo HzI1 HzO0 HzO1 HzG Hi1 Ho0 Ho1 Hx1 Hib HO]
  · unfold before
    isplitr
    · ipureintro; decide
    isplitr; · iexact Hlv
    isplitl [HO]
    · unfold owesAt; iexists W; isplitr
      swap; · iexact HO
      ipureintro; exact fun p hp => .inl hp
    isplitl [Hib Hi1 HzI1 Hx1]
    · unfold inAt; rw [if_pos (by omega)]
      isplitl [Hib]; · iexact Hib
      unfold iFree
      isplitl [Hi1]; · iexact Hi1
      isplitl [HzI1]; · iexact HzI1
      iexact Hx1
    isplitl [Ho0 HzO0 Ho1 HzO1]
    · unfold outAt; rw [if_pos rfl]; unfold oFree
      isplitl [Ho0 HzO0]
      · isplitl [Ho0]; · iexact Ho0
        iexact HzO0
      · isplitl [Ho1]; · iexact Ho1
        iexact HzO1
    isplitl [Ht]; · iexact Ht
    isplitl [HzG]; · iexact HzG
    isplitr
    · unfold doneAt; rw [show Finset.range (0 - 1) = ∅ from rfl, bigSep_empty]; iempintro
    iexact Htodo
  iintro %acc HI
  rw [show Scf.trips _ _ _ = 128 from trips_eq]
  unfold before
  icases HI with ⟨%hacc, -, HO, Hin, Hout, Ht, HzG, Hdone, -⟩
  subst hacc
  dsimp only
  rw [wp_assume_of _ _ _ _ (chk5 L), wp_assume_of _ _ _ _ chk4]
  -- the last block out
  unfold owesAt
  icases HO with ⟨%W', %hW', HO⟩
  ihave Hin := (Entails.of_eq (show inAt d L q ix 128 = iprop(iFree d L q ix 0 ∗ iFree d L q ix 1) from if_neg (by omega))) $$ Hin
  icases Hin with ⟨Hif0, Hif1⟩
  ihave Hout := (Entails.of_eq (show outAt d L tb ix 128 = iprop(oBusy d L (gathered tb ix) 1 (blk L 127) ∗ oFree d L 0) from if_neg (by omega))) $$ Hout
  icases Hout with ⟨Hob, Hof0⟩
  iapply (wp_sent d L (gathered tb ix) 1 (blk L 127) O W' (out_credit _ _ _) (semO_of _ off20_eq _)) $$ [Hob HO]
  · isplitl [Hob]; · iexact Hob
    isplitl [HO]; · iexact HO
    iexact Hmw
  iintro ⟨Hof1, Hy, HO⟩
  have hW1 := owes_insert W hW' (SemLoc.dma (semO 1))
  rw [wp_ret]; imodintro
  unfold iFree oFree
  icases Hif0 with ⟨Hi0, HzI0, Hx0⟩
  icases Hif1 with ⟨Hi1, HzI1, Hx1⟩
  icases Hof0 with ⟨Ho0, HzO0⟩
  icases Hof1 with ⟨Ho1, HzO1⟩
  isplitl [Ht Hx0 Hx1 Hy Hdone]
  · isplitl [Ht]; · iexact Ht
    isplitl [Hx0 Hx1]
    · iapply (halves (F := F) d q ix).2
      isplitl [Hx0] <;> iassumption
    rw [← done_all (F := F) d L tb ix, show (129 : ℕ) = 128 + 1 from rfl, doneAt_succ (F := F) d L tb ix (by omega : (128 : ℕ) ≠ 0)]
    isplitl [Hy] <;> iassumption
  isplitl [Hi0 Hi1 Ho0 Ho1 Hbufs]
  · isplitl [Hi0 Hi1 Ho0 Ho1]
    · isplitl [Hi0 Hi1]
      · iapply (isl_join (F := F) d L); isplitl [Hi0] <;> iassumption
      · iapply (osl_join (F := F) d L); isplitl [Ho0] <;> iassumption
    iexact Hbufs
  isplitl [HzI0 HzI1 HzO0 HzO1 HzG Hsems]
  · isplitl [HzI0 HzI1 HzO0 HzO1 HzG]
    · isplitl [HzI0]; · iexact HzI0
      isplitl [HzI1]; · iexact HzI1
      isplitl [HzO0]; · iexact HzO0
      isplitl [HzO1]; · iexact HzO1
      iexact HzG
    iexact Hsems
  iexists _; isplitr
  swap; · iexact HO
  ipureintro; exact hW1

end Cert.Proof.Gather

end
-- ==== Proof.Launch.lean ====
/-
  The whole program: the host operations that lay the table and the row numbers out, the gather on the 32 tiles, and the
  reshape of its output.

  The table and the row numbers go to the tiles in shares, one for each tile and one kept back; the output goes to them in
  parts, by rows.
-/
module

public import proofs.«01_k».proof.Proof.Tile
public import Idealize.ShloMosaic.Lib.Pipeline.Frame
public import Idealize.ShloMosaic.Lib.SparseCore.Launch

@[expose] public section

set_option Elab.async false

noncomputable section

namespace Cert.Proof.Gather

open Cert.KernelIdeal Cert.KernelIdeal.Gen
open Idealize.ShloMosaic
open Idealize.ShloMosaic.SparseCore (S V T)
open Idealize.ShloMosaic.SparseCore.Cfg (HIx Pay)
open Idealize.ShloMosaic.StableHlo (held seq after launchContents)
open Idealize.ShloMosaic.Pipeline (ucRefs unscopedBufs_held)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem eq_of {A B : sProp 𝕄} (h : A ⊢ B) (h' : B ⊢ A) : A = B := BI.equiv_iff.mp ⟨h, h'⟩

/-! ## Shares, one after another -/

/-- What is left of a share once `n` have been cut off it. -/
def rest (q : PosShare TreeShare) : ℕ → PosShare TreeShare
  | 0 => q
  | n + 1 => (rest q n).right
/-- The share cut off after `n` others. -/
def cut (q : PosShare TreeShare) (n : ℕ) : PosShare TreeShare := (rest q n).left

/-- A buffer at a share is the buffer at the first `n` shares cut off and at what is left. -/
theorem pointsTo_cuts {ℓ : Loc nD τ sig} (q : PosShare TreeShare) (f : Buf (Elt F) ℓ) (n : ℕ) :
    (ℓ ↦{q} f : sProp 𝕄) = iprop((bigSep (Finset.range n) fun w => ℓ ↦{cut q w} f) ∗ ℓ ↦{rest q n} f) := by
  induction n with
  | zero => rw [Finset.range_zero, bigSep_empty]; exact (eq_of BI.emp_sep.1 BI.emp_sep.2).symm
  | succ n ih =>
    rw [ih, Finset.range_add_one, SparseCore.bigSep_insert' Finset.notMem_range_self,
      show (ℓ ↦{rest q n} f : sProp 𝕄) = iprop((ℓ ↦{cut q n} f) ∗ ℓ ↦{rest q (n + 1)} f) from
        eq_of (pointsTo_share (PosShare.mem_left_op_right (rest q n))).1 (pointsTo_share (PosShare.mem_left_op_right (rest q n))).2]
    refine eq_of ?_ ?_
    · iintro ⟨Ha, Hb, Hc⟩
      isplitl [Ha Hb]
      · isplitl [Hb] <;> iassumption
      iexact Hc
    · iintro ⟨⟨Hb, Ha⟩, Hc⟩
      isplitl [Ha]; · iexact Ha
      isplitl [Hb] <;> iassumption

/-! ## The 32 tiles -/

/-- The number of the tile `s` of SparseCore `c`. -/
def wid : Fin 2 × Fin 16 ↪ ℕ := ⟨fun p => p.2.val + 16 * p.1.val, fun p p' h => by
  obtain ⟨c, s⟩ := p; obtain ⟨c', s'⟩ := p'
  have h : s.val + 16 * c.val = s'.val + 16 * c'.val := h
  refine Prod.ext (Fin.ext ?_) (Fin.ext ?_) <;> simp only <;> omega⟩

theorem range_wid : Finset.range 32 = Finset.univ.map wid := by
  ext w
  simp only [Finset.mem_range, Finset.mem_map, Finset.mem_univ, true_and]
  constructor
  · intro h
    exact ⟨(⟨w / 16, by omega⟩, ⟨w % 16, by omega⟩), by show w % 16 + 16 * (w / 16) = w; omega⟩
  · rintro ⟨⟨c, s⟩, rfl⟩
    show s.val + 16 * c.val < 32
    omega

theorem bigSep_tiles (Φ : ℕ → sProp 𝕄) :
    bigSep (Finset.range 32) Φ = bigSep Finset.univ fun c : Fin 2 => bigSep Finset.univ fun s : Fin 16 => Φ (s.val + 16 * c.val) := by
  rw [range_wid, bigSep_map, bigSep_univ_prod]; rfl

/-- The coordinates of tile `s` of SparseCore `c`. -/
def tileAt (c : Fin 2) (s : Fin 16) : grid0.Coords :=
  fun | 0 => c | 1 => s | ⟨_ + 2, h⟩ => absurd h (Nat.not_lt.2 (Nat.le_add_left _ _))

/-- The rows tile number `w` fills. -/
def rowsOf (w : ℕ) : Finset S524288x2x128.Idx := Finset.univ.filter fun j => (j 0).val / 16384 = w

theorem tileSet_at (c : Fin 2) (s : Fin 16) : tileSet (tileAt c s) = rowsOf (s.val + 16 * c.val) := by
  ext j; rw [mem_tileSet]; simp only [rowsOf, Finset.mem_filter, Finset.mem_univ, true_and]; rfl

theorem rows_cover : (Finset.range 32).biUnion rowsOf = Finset.univ := by
  ext j
  have hj : (j 0).val < 524288 := (j 0).isLt
  simp only [Finset.mem_biUnion, Finset.mem_range, rowsOf, Finset.mem_filter, Finset.mem_univ, true_and, iff_true]
  exact ⟨_, by omega, rfl⟩

theorem rows_disjoint : ∀ w ∈ Finset.range 32, ∀ w' ∈ Finset.range 32, w ≠ w' → Disjoint (rowsOf w) (rowsOf w') := by
  intro w _ w' _ hne
  refine Finset.disjoint_left.mpr fun j h h' => hne ?_
  simp only [rowsOf, Finset.mem_filter, Finset.mem_univ, true_and] at h h'
  exact h.symm.trans h'

/-! ## What passes between the TensorCore and the tiles -/

variable (tb : (d : Dev nD) → Buf (Elt F) (tLoc d)) (ix : (d : Dev nD) → Buf (Elt F) (xLoc d)) (f₀ : (d : Dev nD) → Buf (Elt F) (yLoc d))

/-- What tile number `w` is given of the table, the row numbers and an output holding `f`. -/
def given (f : (d : Dev nD) → Buf (Elt F) (yLoc d)) (d : Dev nD) (w : ℕ) : sProp 𝕄 :=
  iprop((tLoc d ↦{cut fullShare w} tb d) ∗ (xLoc d ↦{cut fullShare w} ix d) ∗ yLoc d ↦[rowsOf w]{fullShare} f d)
/-- What one SparseCore's sixteen tiles are given. -/
def given16 (f : (d : Dev nD) → Buf (Elt F) (yLoc d)) (d : Dev nD) (c : Fin 2) : sProp 𝕄 :=
  bigSep Finset.univ fun s : Fin 16 => given tb ix f d (s.val + 16 * c.val)

/-- The output once every tile is done. -/
def outs (d : Dev nD) : Buf (Elt F) (yLoc d) := gathered (tb d) (ix d)

/-- The tiles' parts and what is kept back are the three arrays. -/
theorem given_all (f : (d : Dev nD) → Buf (Elt F) (yLoc d)) (d : Dev nD) :
    iprop((bigSep Finset.univ fun c : Fin 2 => given16 tb ix f d c) ∗ (tLoc d ↦{rest fullShare 32} tb d) ∗ xLoc d ↦{rest fullShare 32} ix d)
      = (iprop((tLoc d ↦{fullShare} tb d) ∗ (xLoc d ↦{fullShare} ix d) ∗ yLoc d ↦{fullShare} f d) : sProp 𝕄) := by
  have hy : (yLoc d ↦{fullShare} f d : sProp 𝕄) = bigSep (Finset.range 32) fun w => yLoc d ↦[rowsOf w]{fullShare} f d := by
    rw [← pointsTo_biUnion _ _ rows_disjoint, rows_cover]
  rw [pointsTo_cuts (ℓ := tLoc d) fullShare (tb d) 32, pointsTo_cuts (ℓ := xLoc d) fullShare (ix d) 32, hy]
  unfold given16
  rw [← bigSep_tiles (fun w => given tb ix f d w)]
  unfold given
  rw [bigSep_sep', bigSep_sep']
  refine eq_of ?_ ?_
  · iintro ⟨⟨Ht, Hx, Hy⟩, Ht', Hx'⟩
    isplitl [Ht Ht']; · isplitl [Ht] <;> iassumption
    isplitl [Hx Hx']; · isplitl [Hx] <;> iassumption
    iexact Hy
  · iintro ⟨⟨Ht, Ht'⟩, ⟨Hx, Hx'⟩, Hy⟩
    isplitr [Ht' Hx']
    · isplitl [Ht]; · iexact Ht
      isplitl [Hx] <;> iassumption
    isplitl [Ht'] <;> iassumption

abbrev P : (K (F := F)).Pay (nD := nD) (Val := Elt F) (Name := ℕ) (U := UU) where
  st := fun q d c => match q with | 0 => given16 tb ix f₀ d c
  dn := fun q d c => match q with | 0 => given16 tb ix (outs tb ix) d c
  go := fun q d c s => match q with | 0 => given tb ix f₀ d ((show Fin 16 from s).val + 16 * (show Fin 2 from c).val)
  td := fun q d c s => match q with | 0 => given tb ix (outs tb ix) d ((show Fin 16 from s).val + 16 * (show Fin 2 from c).val)
  x := fun _ _ => iprop(emp)

instance given_storable (f : (d : Dev nD) → Buf (Elt F) (yLoc d)) (d : Dev nD) (w : ℕ) : BI.Storable (upEmb : UEmb _ 𝕄) (given tb ix f d w) := by
  unfold given; infer_instance
instance given16_storable (f : (d : Dev nD) → Buf (Elt F) (yLoc d)) (d : Dev nD) (c : Fin 2) : BI.Storable (upEmb : UEmb _ 𝕄) (given16 tb ix f d c) := by
  unfold given16; infer_instance

instance P_storable : (P (F := F) tb ix f₀).IsStorable where
  st q d c := match q with | 0 => given16_storable tb ix f₀ d c
  dn q d c := match q with | 0 => given16_storable tb ix (outs tb ix) d c
  go q d c s := match q with | 0 => given_storable tb ix f₀ d _
  td q d c s := match q with | 0 => given_storable tb ix (outs tb ix) d _

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem vecSplit : (K (F := F)).VecSplit' (P tb ix f₀) 0 := by
  intro d c
  show given16 tb ix f₀ d c ⊢ |={Set.univ}=> iprop(given16 tb ix f₀ d c ∗ (given16 tb ix (outs tb ix) d c -∗ given16 tb ix (outs tb ix) d c))
  iintro H; imodintro
  isplitl [H]; · iexact H
  iintro H; iexact H

variable [FloatOps F]

theorem vector_body (c : Fin τ.nSC) (s : Fin τ.nSub) :
    defs₀ (F := F) (.scVector c s) 0 ()
      = SparseCore.onTile hcore0 hsub0 (fun c s => cc0_gather_kernel (tileAt c s) tabV (Memref.isWhole_whole _) idxV (Memref.isWhole_whole _)
          outV (Memref.isWhole_whole _) islV (Memref.isWhole_whole _) cc0_scoped1 oslV (Memref.isWhole_whole _) cc0_scoped3 cc0_scoped4) ⟨⟩ c s := rfl

/-- Every tile does its part. -/
theorem tileObl (hI : ∀ d (j : S1x524288.Idx), (ix d j : BitVec 32).toNat < 589824) :
    (K (F := F)).TileObl (D (F := F)) 𝒱 (P tb ix f₀) v₀ 0 := by
  intro d c s O W hO _ _
  simp only [show (P tb ix f₀).ox = fun _ _ => 0 from rfl, add_zero]
  have hcs : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [vector_body]; simp only [SparseCore.onTile, hcs, and_self, ↓reduceDIte]
  have h := tile_body d (tileAt ⟨_, hcs.1⟩ ⟨_, hcs.2⟩) (cut fullShare (s.val + 16 * c.val)) (cut fullShare (s.val + 16 * c.val)) (tb d) (ix d) (f₀ d) O W
    (facts (F := F)) (hI d) hO
  have e : tileSet (tileAt ⟨_, hcs.1⟩ ⟨_, hcs.2⟩) = rowsOf (s.val + 16 * c.val) := tileSet_at _ _
  rw [e] at h
  refine h.trans (wp_mono frame _ _ fun _ => ?_)
  iintro ⟨HA, HB, HC, %W', %hW', HO⟩
  isplitl [HA]; · unfold given outs; iexact HA
  isplitl [HB]; · iexact HB
  isplitl [HC]; · iexact HC
  iexists W'; isplitr
  · ipureintro; exact fun p hp => (hW' p hp).imp_right Or.inl
  · iexact HO

end Cert.Proof.Gather

end
-- ==== Proof.Run.lean ====
/-
  The program's run: what every buffer of the TensorCore holds at the end.
-/
module

public import proofs.«01_k».proof.Proof.Launch

@[expose] public section

set_option Elab.async false

noncomputable section

namespace Cert.Proof.Gather

open Cert.KernelIdeal Cert.KernelIdeal.Gen
open Idealize.ShloMosaic
open Idealize.ShloMosaic.SparseCore (S V T)
open Idealize.ShloMosaic.SparseCore.Cfg (HIx Pay)
open Idealize.ShloMosaic.StableHlo (held seq after tcRefs)
open Idealize.ShloMosaic.Pipeline (ucRefs unscopedBufs_held sub_ucRefs)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The host operations -/

/-- What lays the table and the row numbers out. -/
def layout : List (HloOp τ sig (Elt F)) :=
  [ StableHlo.reshape main_arg1 main_v0 (rfl : (.i32 : EltTy) = .i32) shapeCasts_S8x32768_S262144,
    StableHlo.nullary main_c (constantI S_ 32 0#32),
    StableHlo.unary main_c main_v1 (broadcastInDim S262144 ![] bcast_S_S262144 : (⟨S_, .i32⟩ : BufTy).Contents (Elt F) → (⟨S262144, .i32⟩ : BufTy).Contents (Elt F)),
    StableHlo.binary main_v0 main_v1 main_v2 (addi : (⟨S262144, .i32⟩ : BufTy).Contents (Elt F) → (⟨S262144, .i32⟩ : BufTy).Contents (Elt F) → (⟨S262144, .i32⟩ : BufTy).Contents (Elt F)),
    StableHlo.nullary main_c_0 (constantI S_ 32 294912#32),
    StableHlo.unary main_c_0 main_v3 (broadcastInDim S262144 ![] bcast_S_S262144 : (⟨S_, .i32⟩ : BufTy).Contents (Elt F) → (⟨S262144, .i32⟩ : BufTy).Contents (Elt F)),
    StableHlo.binary main_v0 main_v3 main_v4 (addi : (⟨S262144, .i32⟩ : BufTy).Contents (Elt F) → (⟨S262144, .i32⟩ : BufTy).Contents (Elt F) → (⟨S262144, .i32⟩ : BufTy).Contents (Elt F)),
    StableHlo.binary main_v2 main_v4 main_v5 ((fun a b => concatenate S524288 0 [⟨S262144, a⟩, ⟨S262144, b⟩] concatenates_S262144_S262144_S524288_d0) : (⟨S262144, .i32⟩ : BufTy).Contents (Elt F) → (⟨S262144, .i32⟩ : BufTy).Contents (Elt F) → (⟨S524288, .i32⟩ : BufTy).Contents (Elt F)),
    StableHlo.reshape main_arg0 main_v6 (rfl : (.i32 : EltTy) = .i32) shapeCasts_S2x294912x256_S589824x2x128,
    StableHlo.reshape main_v5 main_v7 (rfl : (.i32 : EltTy) = .i32) shapeCasts_S524288_S1x524288 ]
/-- What gives the gathered rows the result's shape. -/
def finish : HloOp τ sig (Elt F) := StableHlo.reshape main_v8 main_v9 (rfl : (.i32 : EltTy) = .i32) shapeCasts_S524288x2x128_S2x8x32768x256

theorem main_eq (d : Dev nD) :
    main (F := F) d = seq layout >>= fun _ => ((sc (F := F)).run d 0 >>= fun _ => (hlo rfl finish fun _ => .ret (⟨⟩ : PUnit)) >>= fun _ => pure ⟨⟩) := by
  rw [StableHlo.seq_bind_seqK]; rfl

theorem layout_bufs : (layout (F := F)).Forall fun op => op.bufs ⊆ tcRefs τ sig := by
  unfold layout
  simp only [List.forall_cons, List.Forall, StableHlo.reshape_bufs_sub, StableHlo.nullary_bufs_sub, StableHlo.unary_bufs_sub, StableHlo.binary_bufs_sub, and_self]
theorem layout_fresh : (layout (F := F)).Forall fun op => op.fresh = ∅ := StableHlo.forall_fresh_of_map rfl
theorem finish_bufs : (finish (F := F)).bufs ⊆ tcRefs τ sig := StableHlo.reshape_bufs_sub ..

/-! ## What the buffers hold -/

variable (m : (ℓ : Loc nD τ sig) → Buf (Elt F) ℓ) (ρ : Dev nD → PrngReg)

abbrev tRef : DevRef τ sig := Proc.devRef .tc (main_v6 : Ref sig .tc)
abbrev xRef : DevRef τ sig := Proc.devRef .tc (main_v7 : Ref sig .tc)
abbrev yRef : DevRef τ sig := Proc.devRef .tc (main_v8 : Ref sig .tc)

/-- Once the table and the row numbers are laid out; -/
def laid (d : Dev nD) : Valuation τ sig (Elt F) := after layout fun b => m (d, b)
def table (d : Dev nD) : Buf (Elt F) (tLoc d) := laid m d tRef
def rowNos (d : Dev nD) : Buf (Elt F) (xLoc d) := laid m d xRef
def before8 (d : Dev nD) : Buf (Elt F) (yLoc d) := laid m d yRef
/-- once the tiles are done; -/
def filled (d : Dev nD) : Valuation τ sig (Elt F) := Function.update (laid m d) yRef (gathered (table m d) (rowNos m d))
/-- and at the end. -/
def final (d : Dev nD) : Valuation τ sig (Elt F) := finish.result (filled m d)

/-- The three arrays of the call. -/
abbrev three : Finset (DevRef τ sig) := {tRef, xRef, yRef}

theorem three_sub : three ⊆ ucRefs τ sig := by
  intro b hb
  simp only [three, Finset.mem_insert, Finset.mem_singleton] at hb
  rcases hb with rfl | rfl | rfl <;> exact Finset.mem_filter.mpr ⟨StableHlo.devRef_mem_tcRefs _, by decide⟩

theorem held_three (d : Dev nD) (W : Valuation τ sig (Elt F)) :
    (held (T d) three W : sProp 𝕄) = iprop((tLoc d ↦{fullShare} W tRef) ∗ (xLoc d ↦{fullShare} W xRef) ∗ yLoc d ↦{fullShare} W yRef) := by
  unfold held three
  rw [SparseCore.bigSep_insert' (by decide), SparseCore.bigSep_insert' (by decide), bigSep_singleton]

theorem filled_t (d : Dev nD) : filled m d tRef = table m d := Function.update_of_ne (show tRef ≠ yRef by decide) _ _
theorem filled_x (d : Dev nD) : filled m d xRef = rowNos m d := Function.update_of_ne (show xRef ≠ yRef by decide) _ _
theorem filled_y (d : Dev nD) : filled m d yRef = gathered (table m d) (rowNos m d) := Function.update_self _ _ _

theorem held_rest (d : Dev nD) : (held (T d) (ucRefs τ sig \ three) (filled m d) : sProp 𝕄) = held (T d) (ucRefs τ sig \ three) (laid m d) :=
  StableHlo.held_congr _ fun b hb => Function.update_of_ne (fun e => (Finset.mem_sdiff.mp hb).2 (by
    subst e; exact Finset.mem_insert_of_mem (Finset.mem_insert_of_mem (Finset.mem_singleton_self _)))) _ _

/-! ## The TensorCore -/

abbrev FIN (d : Dev nD) : sProp 𝕄 := held (T d) (ucRefs τ sig) (final m d)
abbrev Pm : (K (F := F)).Pay (nD := nD) (Val := Elt F) (Name := ℕ) (U := UU) := P (table m) (rowNos m) (before8 m)

theorem hmain (κ : GSem nD τ sig → ℕ) (d : Dev nD) :
    iprop((K (F := F)).ctx EH (Pm m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (T d) (ucRefs τ sig) (fun b => m (d, b)) from
    unscopedBufs_held d (fun b => m (d, b))]
  iintro ⟨#Hctx, Hst, ⟨Hb, Hheld, Hts, -⟩, -⟩
  -- the layout
  iapply (StableHlo.wp_seq 𝒱 none Set.univ d (ucRefs τ sig) _ layout
    (fun op h => sub_ucRefs op ((List.forall_iff_forall_mem.mp layout_bufs) op h)) (List.forall_iff_forall_mem.mp layout_fresh) (fun b => m (d, b))) $$ [Hb Hheld]
  · isplitl [Hb]; · iexact Hb
    iexact Hheld
  iintro ⟨Hb, Hheld⟩
  ihave Hheld := (Entails.of_eq (show (held (T d) (ucRefs τ sig) (after layout fun b => m (d, b)) : sProp 𝕄)
      = iprop(held (T d) three (laid m d) ∗ held (T d) (ucRefs τ sig \ three) (laid m d)) from StableHlo.held_sub_split _ three_sub _)) $$ Hheld
  icases Hheld with ⟨H3, Hrest⟩
  ihave H3 := (Entails.of_eq (held_three d (laid m d))) $$ H3
  ihave H3 := (show iprop((tLoc d ↦{fullShare} laid m d tRef) ∗ (xLoc d ↦{fullShare} laid m d xRef) ∗ yLoc d ↦{fullShare} laid m d yRef) ⊢ _ from
    Entails.of_eq (given_all (table m) (rowNos m) (before8 m) d).symm) $$ H3
  icases H3 with ⟨Hgo, Ht, Hx⟩
  -- the call
  rw [wp_bind]
  iapply ((K (F := F)).wp_run (D (F := F)) 𝒱 (EH := EH) (P := Pm m) κ d 0) $$ [Hst Hgo Ht Hx Hrest Hb Hts]
  isplitr; · iexact Hctx
  isplitl [Hst]; · iexact Hst
  isplitl [Hgo]; · iexact Hgo
  iintro ⟨Hst, Hdn⟩
  ihave H3 := (show iprop((bigSep Finset.univ fun c : Fin 2 => given16 (table m) (rowNos m) (outs (table m) (rowNos m)) d c)
      ∗ (tLoc d ↦{rest fullShare 32} table m d) ∗ xLoc d ↦{rest fullShare 32} rowNos m d) ⊢ held (T d) three (filled m d) from
    Entails.of_eq ((given_all (table m) (rowNos m) (outs (table m) (rowNos m)) d).trans (by
      rw [held_three, filled_t, filled_x, filled_y]; rfl))) $$ [Hdn Ht Hx]
  · isplitl [Hdn]; · iexact Hdn
    isplitl [Ht] <;> iassumption
  ihave Hheld := (show iprop(held (T d) three (filled m d) ∗ held (T d) (ucRefs τ sig \ three) (laid m d)) ⊢ held (T d) (ucRefs τ sig) (filled m d) from
    Entails.of_eq (by rw [← held_rest, ← StableHlo.held_sub_split _ three_sub])) $$ [H3 Hrest]
  · isplitl [H3] <;> iassumption
  -- the reshape
  rw [wp_bind]
  iapply (StableHlo.wp_hlo_within 𝒱 (SparseCore.T d) none Set.univ (op := finish) (S := ucRefs τ sig) (sub_ucRefs _ finish_bufs) (V := filled m d)) $$ [Hb Hheld]
  · isplitl [Hb] <;> iassumption
  iintro ⟨Hb, Hheld⟩
  rw [wp_ret]; imodintro
  rw [Prog.pure_eq_ret, wp_ret]; imodintro
  isplitl [Hst]; · iexact Hst
  isplitr [Hb Hts]
  · iexact Hheld
  isplitl [Hb] <;> iassumption

/-! ## The run -/

def fq (d : Dev nD) (s' : Phys nD τ sig (Elt F)) : Prop := ∀ b ∈ ucRefs τ sig, s'.mem.mem (d, b) = final m d b

theorem hfin (d : Dev nD) (s' : Phys nD τ sig (Elt F)) : iprop(FIN m d ∗ SI s') ⊢ (⌜fq m d s'⌝ : sProp 𝕄) := by
  have one : ∀ b ∈ ucRefs τ sig, iprop(FIN m d ∗ SI s') ⊢ (⌜s'.mem.mem (d, b) = final m d b⌝ : sProp 𝕄) := by
    intro b hb
    iintro ⟨H, HSI⟩
    ihave H := (show FIN m d ⊢ ((d, b) : Loc nD τ sig) ↦{fullShare} final m d b from bigSep_elim hb) $$ H
    ihave H := (SI_pointsTo_agree (st := s') (ℓ := ((d, b) : Loc nD τ sig)) (I := Finset.univ) (q := fullShare) (f := final m d b)) $$ [HSI H]
    · isplitl [HSI] <;> iassumption
    icases H with %h
    ipureintro; exact funext fun i => h i (Finset.mem_univ i)
  exact (forall_intro fun b => (forall_intro fun hb => one b hb).trans pure_forall.2).trans pure_forall.2

/-- What the program ends at: every unscoped buffer at its final contents, every counter zero. -/
def QC : PUnit × MemSt nD τ sig (Elt F) → Prop := fun r => (∀ c : Dev nD, ∀ b ∈ ucRefs τ sig, r.2.mem (c, b) = final m c b) ∧ r.2.sem = fun _ => 0

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (Pm m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  have e : ∀ {I : Type} (s : Finset I), (bigSep s fun _ => iprop(emp)) = (iprop(emp) : sProp 𝕄) := fun s => bigSep_emp_const s
  isplitr; · rw [e]; iempintro
  rw [show (bigSep Finset.univ fun thr : Thread nD τ => bigSep Finset.univ fun q : Fin 1 => (Pm m).x q thr) = bigSep Finset.univ fun _ => iprop(emp) from
    bigSep_congr fun _ _ => e _, e]
  iempintro

theorem run_main [∀ e, Nonempty (Elt F e)] (hI : ∀ d (j : S1x524288.Idx), (rowNos m d j : BitVec 32).toNat < 589824) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (table m) (rowNos m) (before8 m) hI)
    (fun q _ => match q with | 0 => SparseCore.Cfg.VecSplit.of_plain (vecSplit (table m) (rowNos m) (before8 m)))
    m ρ main (fun _ => iprop(emp)) (FIN m) (u₀ (F := F)) (sep_elim_left.trans (hu₀ m)) (hmain m ρ) (fq m) (hfin m) (QC m) (fun _ h hz => ⟨h, hz⟩)

end Cert.Proof.Gather

end
-- ==== Proof.Value.lean ====
/-
  What the program's result holds, element by element, and the bound on its row numbers.

  The row numbers are the slots twice over: as they are for the first table, and shifted by the number of a table's rows for
  the second. A slot below that number stays below the two tables' joint number of rows, and the row it names in the joint
  table is the slot's row of its own table.
-/
module

public import proofs.«01_k».proof.Proof.Run
public import Idealize.ShloMosaic.Lib.Pipeline.Value

@[expose] public section

set_option Elab.async false

noncomputable section

namespace Cert.Proof.Gather

open Cert.KernelIdeal Cert.KernelIdeal.Gen
open Idealize.ShloMosaic
open Idealize.ShloMosaic.StableHlo (after tcRefs after_nil after_cons)
open Idealize.ShloMosaic.ValueIdx

variable {F : FTy → Type} [FloatOps F]

/-- The row numbers laid out from the slots. -/
def rowsOfSlots (x : S8x32768.Idx → BitVec 32) : S524288.Idx → BitVec 32 :=
  concatenate S524288 0
    [⟨S262144, addi (shapeCast S262144 x shapeCasts_S8x32768_S262144) (broadcastInDim S262144 ![] bcast_S_S262144 (constantI S_ 32 0#32))⟩,
     ⟨S262144, addi (shapeCast S262144 x shapeCasts_S8x32768_S262144) (broadcastInDim S262144 ![] bcast_S_S262144 (constantI S_ 32 294912#32))⟩]
    concatenates_S262144_S262144_S524288_d0

variable (m : (ℓ : Loc nD τ sig) → Buf (Elt F) ℓ)

/-- The two arguments on device `d`. -/
def arg0 (d : Dev nD) : S2x294912x256.Idx → BitVec 32 := m ((d.tc : Thread nD τ).loc main_arg0)
def arg1 (d : Dev nD) : S8x32768.Idx → BitVec 32 := m ((d.tc : Thread nD τ).loc main_arg1)

theorem table_eq (d : Dev nD) : table m d = shapeCast S589824x2x128 (arg0 m d) shapeCasts_S2x294912x256_S589824x2x128 := by
  unfold table laid layout
  after_results
  rfl

theorem rowNos_eq (d : Dev nD) : rowNos m d = shapeCast S1x524288 (rowsOfSlots (arg1 m d)) shapeCasts_S524288_S1x524288 := by
  unfold rowNos laid layout
  after_results
  rfl

theorem laid_arg0 (d : Dev nD) : laid m d (Proc.devRef .tc main_arg0) = m ((d.tc : Thread nD τ).loc main_arg0) := by
  unfold laid layout
  after_results

theorem laid_arg1 (d : Dev nD) : laid m d (Proc.devRef .tc main_arg1) = m ((d.tc : Thread nD τ).loc main_arg1) := by
  unfold laid layout
  after_results

theorem final_arg0 (d : Dev nD) : final m d (Proc.devRef .tc main_arg0) = m ((d.tc : Thread nD τ).loc main_arg0) := by
  unfold final finish
  exact (StableHlo.reshape_result_ne _ _ _ _ _ _ _ (by decide)).trans ((Function.update_of_ne (show (Proc.devRef .tc main_arg0 : DevRef τ sig) ≠ yRef by decide) _ _).trans (laid_arg0 m d))

theorem final_arg1 (d : Dev nD) : final m d (Proc.devRef .tc main_arg1) = m ((d.tc : Thread nD τ).loc main_arg1) := by
  unfold final finish
  exact (StableHlo.reshape_result_ne _ _ _ _ _ _ _ (by decide)).trans ((Function.update_of_ne (show (Proc.devRef .tc main_arg1 : DevRef τ sig) ≠ yRef by decide) _ _).trans (laid_arg1 m d))

theorem final_v9 (d : Dev nD) : final m d (Proc.devRef .tc main_v9)
    = shapeCast S2x8x32768x256 (gathered (table m d) (rowNos m d)) shapeCasts_S524288x2x128_S2x8x32768x256 := by
  unfold final finish
  rw [StableHlo.reshape_result]
  exact congrArg (fun v => shapeCast S2x8x32768x256 v shapeCasts_S524288x2x128_S2x8x32768x256) (filled_y m d)

/-! ## The row numbers -/

/-- Row number `n` of the second half is slot `n` shifted; of the first half, slot `n` itself. -/
theorem rowsOfSlots_apply (x : S8x32768.Idx → BitVec 32) (g : Fin 2) (e : Fin 8) (p : Fin 32768) :
    rowsOfSlots x (ix1 ⟨(g.val * 8 + e.val) * 32768 + p.val, by omega⟩) = x (ix2 e p) + BitVec.ofNat 32 (294912 * g.val) := by
  have hx : shapeCast S262144 x shapeCasts_S8x32768_S262144 (ix1 ⟨e.val * 32768 + p.val, by omega⟩) = x (ix2 e p) :=
    shapeCast_apply x _ _ _ (by rw [Shape.rowMajor_val_two, Shape.rowMajor_val_one]; rfl)
  unfold rowsOfSlots
  match g with
  | 0 =>
    refine (concatenate_pair_apply_left (t := S524288) (s₁ := S262144) (s₂ := S262144) 0 _ _ _ _ rfl
      (ix1 ⟨e.val * 32768 + p.val, by omega⟩) (fun b => by
        obtain rfl : b = 0 := Subsingleton.elim _ _
        show e.val * 32768 + p.val = (0 * 8 + e.val) * 32768 + p.val
        omega)).trans ?_
    show shapeCast S262144 x shapeCasts_S8x32768_S262144 (ix1 ⟨e.val * 32768 + p.val, by omega⟩) + 0#32 = _
    rw [hx]; rfl
  | 1 =>
    refine (concatenate_pair_apply_right (t := S524288) (s₁ := S262144) (s₂ := S262144) 0 _ _ _ _ rfl rfl
      (ix1 ⟨e.val * 32768 + p.val, by omega⟩) (fun b hb => (hb (Subsingleton.elim _ _)).elim) (by
        show e.val * 32768 + p.val + 262144 = (1 * 8 + e.val) * 32768 + p.val
        omega)).trans ?_
    show shapeCast S262144 x shapeCasts_S8x32768_S262144 (ix1 ⟨e.val * 32768 + p.val, by omega⟩) + 294912#32 = _
    rw [hx]; rfl

theorem rowNos_apply (d : Dev nD) (g : Fin 2) (e : Fin 8) (p : Fin 32768) :
    (rowNos m d (ix2 0 ⟨(g.val * 8 + e.val) * 32768 + p.val, by omega⟩) : BitVec 32) = arg1 m d (ix2 e p) + BitVec.ofNat 32 (294912 * g.val) := by
  rw [rowNos_eq, ← rowsOfSlots_apply]
  exact shapeCast_apply _ _ _ _ (by rw [Shape.rowMajor_val_two, Shape.rowMajor_val_one]; show _ = 0 * 524288 + _; simp)

variable (hA : ∀ d (j : S8x32768.Idx), (arg1 m d j).toNat < 294912)
include hA

theorem rowNos_toNat (d : Dev nD) (g : Fin 2) (e : Fin 8) (p : Fin 32768) :
    (rowNos m d (ix2 0 ⟨(g.val * 8 + e.val) * 32768 + p.val, by omega⟩) : BitVec 32).toNat = (arg1 m d (ix2 e p)).toNat + 294912 * g.val := by
  have h := hA d (ix2 e p)
  rw [rowNos_apply, BitVec.toNat_add, BitVec.toNat_ofNat]
  omega

/-- Every row number names a row. -/
theorem rowNos_lt (d : Dev nD) (j : S1x524288.Idx) : (rowNos m d j : BitVec 32).toNat < 589824 := by
  have h1 : (j 1).val < 524288 := (j 1).isLt
  have h0 : (j 0).val < 1 := (j 0).isLt
  let g : Fin 2 := ⟨(j 1).val / 262144, by omega⟩
  let e : Fin 8 := ⟨(j 1).val / 32768 % 8, by omega⟩
  let p : Fin 32768 := ⟨(j 1).val % 32768, by omega⟩
  have hj : j = ix2 0 ⟨(g.val * 8 + e.val) * 32768 + p.val, by omega⟩ := by
    funext a
    match a with
    | ⟨0, _⟩ => exact Fin.ext (by show (j 0).val = 0; omega)
    | ⟨1, _⟩ => exact Fin.ext (by show (j 1).val = ((j 1).val / 262144 * 8 + (j 1).val / 32768 % 8) * 32768 + (j 1).val % 32768; omega)
  rw [hj, rowNos_toNat m hA]
  have h := hA d (ix2 e p)
  have := g.isLt
  omega

/-! ## The result -/

/-- The result at table `g`, expert `e`, place `p`, column `k`: that column of the row of table `g` that slot `(e, p)` names. -/
theorem result_apply (d : Dev nD) (g : Fin 2) (e : Fin 8) (p : Fin 32768) (k : Fin 256) :
    shapeCast S2x8x32768x256 (gathered (table m d) (rowNos m d)) shapeCasts_S524288x2x128_S2x8x32768x256 (ix4 g e p k)
      = arg0 m d (ix3 g ⟨(arg1 m d (ix2 e p)).toNat, hA d _⟩ k) := by
  rw [shapeCast_apply _ _ _ (ix3 ⟨(g.val * 8 + e.val) * 32768 + p.val, by omega⟩ ⟨k.val / 128, by omega⟩ ⟨k.val % 128, by omega⟩) (by
    rw [Shape.rowMajor_val_three, Shape.rowMajor_val_four]
    show (((g.val * 8 + e.val) * 32768 + p.val) * 2 + k.val / 128) * 128 + k.val % 128 = (((g.val * 8 + e.val) * 32768 + p.val) * 256 + k.val)
    omega)]
  have h := hA d (ix2 e p)
  have hr : (rowNos m d (ix2 0 ⟨(g.val * 8 + e.val) * 32768 + p.val, by omega⟩) : BitVec 32).toNat % 589824 = g.val * 294912 + (arg1 m d (ix2 e p)).toNat := by
    rw [rowNos_toNat m hA]; omega
  show table m d (ix3 ⟨(rowNos m d (ix2 0 ⟨(g.val * 8 + e.val) * 32768 + p.val, by omega⟩) : BitVec 32).toNat % 589824, _⟩
    ⟨k.val / 128, by omega⟩ ⟨k.val % 128, by omega⟩) = _
  rw [table_eq]
  refine shapeCast_apply _ _ _ _ ?_
  rw [Shape.rowMajor_val_three, Shape.rowMajor_val_three]
  show (g.val * 294912 + (arg1 m d (ix2 e p)).toNat) * 256 + k.val = ((_ % 589824) * 2 + k.val / 128) * 128 + k.val % 128
  rw [hr]
  omega

end Cert.Proof.Gather

end
-- ==== Proof.Ref.lean ====
/-
  The reference's run, and its result element by element.
-/
module

public import proofs.«01_k».proof.Defs
public import Idealize.ShloMosaic.Lib.StableHlo.Run
public import Idealize.ShloMosaic.Lib.Quiescent
public import Idealize.ShloMosaic.Lib.ValueIdx
public import proofs.«01_k».proof.Proof.Gen.ReferenceIdeal

@[expose] public section

set_option Elab.async false

noncomputable section

namespace Cert.Proof.Ref

open Cert.ReferenceIdeal Cert.ReferenceIdeal.Gen
open Idealize.ShloMosaic Idealize.ShloMosaic.StableHlo Idealize.SL.Sem
open Idealize.ShloMosaic.ValueIdx

variable {F : FTy → Type} [FloatOps F]

/-- The reference's two operations: the slots get a trailing axis, and the rows are taken. -/
abbrev steps : List (HloOp τ sig (Elt F)) :=
  [ TRef.unary (.of main_arg1 : TRef sig ⟨S8x32768, .i32⟩) main_call0.v0 (broadcastInDim S8x32768x1 ![0, 1] bcast_S8x32768_S8x32768x1_0_1),
    TRef.binary (.of main_arg0 : TRef sig ⟨S2x294912x256, .i32⟩) main_call0.v0 main_call0.v1
      (fun x i => Host.gather gather_S2x294912x256_S8x32768x1_S2x8x32768x256_03_1_n_n_1_2_21256 x i) ]

theorem main_eq (d : Dev nD) : main (F := F) d = seq steps := rfl

variable (m : (ℓ : Loc nD τ sig) → Buf (Elt F) ℓ) (ρ : Dev nD → PrngReg)

/-- The rows taken. -/
def taken (d : Dev nD) : S2x8x32768x256.Idx → BitVec 32 :=
  Host.gather gather_S2x294912x256_S8x32768x1_S2x8x32768x256_03_1_n_n_1_2_21256
    (m ((d.tc : Thread nD τ).loc main_arg0) : S2x294912x256.Idx → BitVec 32)
    (broadcastInDim S8x32768x1 ![0, 1] bcast_S8x32768_S8x32768x1_0_1 (m ((d.tc : Thread nD τ).loc main_arg1) : S8x32768.Idx → BitVec 32))

theorem after_v0 (d : Dev nD) : after steps (launchContents m d) (Proc.devRef .tc main_v0) = taken m d := by
  simp only [after_cons, after_nil]
  rfl
theorem after_arg0 (d : Dev nD) : after steps (launchContents m d) (Proc.devRef .tc main_arg0) = m ((d.tc : Thread nD τ).loc main_arg0) := by
  simp only [after_cons, after_nil]
  rfl
theorem after_arg1 (d : Dev nD) : after steps (launchContents m d) (Proc.devRef .tc main_arg1) = m ((d.tc : Thread nD τ).loc main_arg1) := by
  simp only [after_cons, after_nil]
  rfl

/-- What the reference ends at: the result is the rows taken, the arguments are as they were, every counter is zero. -/
theorem run_main : θ_run (defs (F := F)) (onTc (τ := τ) (main (F := F))) ⟨m, fun _ => 0, ρ⟩ fun r =>
    (∀ d : Dev nD, r.2.mem ((d.tc : Thread nD τ).loc main_v0) = taken m d
      ∧ r.2.mem ((d.tc : Thread nD τ).loc main_arg0) = m ((d.tc : Thread nD τ).loc main_arg0)
      ∧ r.2.mem ((d.tc : Thread nD τ).loc main_arg1) = m ((d.tc : Thread nD τ).loc main_arg1)) ∧ r.2.sem = fun _ => 0 :=
  (θ_run defs _ _).mono (fun r h => ⟨fun d => ⟨(h d main_v0).trans (after_v0 m d), (h d main_arg0).trans (after_arg0 m d),
      (h d main_arg1).trans (after_arg1 m d)⟩, sem_eq_zero_of_no_sems (by decide) r.2⟩)
    (run_seq (by decide) (by decide) defs main (fun _ => steps) main_eq (fun _ => ⟨unary_bufs_sub .., binary_bufs_sub ..⟩) m ρ)

/-! ## The rows taken, element by element -/

/-- A slot below the number of rows is read as it is: the clamp does nothing. -/
theorem clamp_eq (w : BitVec 32) (h : w.toNat < 294912) : min w.toInt.toNat (294912 - 1) = w.toNat := by
  rw [BitVec.toInt_eq_toNat_cond]
  split <;> omega

theorem taken_apply (d : Dev nD) (g : Fin 2) (e : Fin 8) (p : Fin 32768) (k : Fin 256)
    (h : (m ((d.tc : Thread nD τ).loc main_arg1) (ix2 e p) : BitVec 32).toNat < 294912) :
    taken m d (ix4 g e p k) = m ((d.tc : Thread nD τ).loc main_arg0) (ix3 g ⟨_, h⟩ k) := by
  unfold taken Host.gather
  refine congrArg (m ((d.tc : Thread nD τ).loc main_arg0) : S2x294912x256.Idx → BitVec 32) ?_
  funext a
  refine Fin.ext ?_
  show GatherDims.start _ _ _ a + GatherDims.batchCoord _ _ a + GatherDims.offCoord _ _ a = _
  rw [GatherDims.batchCoord_eq_zero _ _ _ List.not_mem_nil, Nat.add_zero]
  match a with
  | ⟨0, _⟩ =>
    rw [GatherDims.start, dif_neg (by decide +revert), Nat.zero_add, GatherDims.offCoord, dif_pos (by decide +revert)]
    rfl
  | ⟨1, _⟩ =>
    rw [GatherDims.offCoord_eq_zero _ _ _ (fun h => ((GatherDims.mem_sKept _ _).mp h).1 (List.mem_singleton.mpr rfl)), Nat.add_zero,
      GatherDims.start, dif_pos (by decide +revert)]
    refine Eq.trans ?_ (clamp_eq _ h)
    refine congrArg (fun v : BitVec 32 => min v.toInt.toNat (294912 - 1)) ?_
    refine congrArg (m ((d.tc : Thread nD τ).loc main_arg1) : S8x32768.Idx → BitVec 32) ?_
    funext b
    match b with
    | ⟨0, _⟩ => rfl
    | ⟨1, _⟩ => rfl
  | ⟨2, _⟩ =>
    rw [GatherDims.start, dif_neg (by decide +revert), Nat.zero_add, GatherDims.offCoord, dif_pos (by decide +revert)]
    rfl

end Cert.Proof.Ref

end
-- ==== Proof.Claims.lean ====
/-
  The claims, from the two programs' runs.

  Each is stated once over any float values: the program moves 32-bit words and computes with integers only, so nothing in
  its run or in its result depends on what a float is.
-/
module

public import proofs.«01_k».proof.Proof.Value
public import proofs.«01_k».proof.Proof.Ref
public import proofs.«01_k».proof.Proof.Gen.Pre_dest_in_rows
public import proofs.«01_k».proof.Proof.Gen.Kernel
public import proofs.«01_k».proof.Proof.Gen.Reference

@[expose] public section

set_option Elab.async false

noncomputable section

namespace Cert.Proof.Gather

open Idealize.ShloMosaic Idealize.SL.Sem
open Idealize.ShloMosaic.Pipeline (ucRefs)
open Idealize.ShloMosaic.ValueIdx

variable {F : FTy → Type} [FloatOps F]

/-! ## The precondition -/

theorem bit_and (a b : Bool) : IntOp.andi (BitVec.ofBool a) (BitVec.ofBool b) = BitVec.ofBool (a && b) := by
  cases a <;> cases b <;> rfl

theorem bit_one (a : Bool) : BitVec.ofBool a = 1#1 ↔ a = true := by cases a <;> decide

/-- A word between 0 and 294912 as a signed number is below 294912 as an unsigned one. -/
theorem below_of_between (w : BitVec 32) (h : IntOp.andi (IntOp.cmpi .sge w 0#32) (IntOp.cmpi .slt w 294912#32) = 1#1) : w.toNat < 294912 := by
  simp only [IntOp.cmpi, bit_and, bit_one, Bool.and_eq_true, BitVec.sle_eq_decide, BitVec.slt_eq_decide, decide_eq_true_eq,
    BitVec.toInt_eq_toNat_cond, BitVec.toNat_ofNat, Nat.reducePow, Nat.reduceMod] at h
  omega

/-- Under the precondition every slot names a row. -/
theorem slots_lt (t : Cert.Pre_dest_in_rows.S2x294912x256.Idx → BitVec 32) (s : Cert.Pre_dest_in_rows.S8x32768.Idx → BitVec 32)
    (h : Cert.Pre_dest_in_rows.fn (F := F) t s = fun _ => 1#1) (j : Cert.Pre_dest_in_rows.S8x32768.Idx) : (s j).toNat < 294912 :=
  below_of_between (s j) (congrFun h j)

/-! ## The program's run -/

section Kernel

open Cert.KernelIdeal Cert.KernelIdeal.Gen

variable (m : (ℓ : Loc nD τ sig) → Buf (Elt F) ℓ) (ρ : Dev nD → PrngReg)

/-- What the program ends at: the result is the rows gathered, the arguments are as they were, every counter is zero. -/
theorem run_args [∀ e, Nonempty (Elt F e)] (hA : ∀ d (j : S8x32768.Idx), (arg1 m d j).toNat < 294912) :
    θ_run (Cert.KernelIdeal.defs (F := F)) (Cert.KernelIdeal.threads (F := F)) ⟨m, fun _ => 0, ρ⟩ fun r =>
      (∀ d : Dev nD, r.2.mem ((d.tc : Thread nD τ).loc main_v9)
          = shapeCast S2x8x32768x256 (gathered (table m d) (rowNos m d)) shapeCasts_S524288x2x128_S2x8x32768x256
        ∧ r.2.mem ((d.tc : Thread nD τ).loc main_arg0) = m ((d.tc : Thread nD τ).loc main_arg0)
        ∧ r.2.mem ((d.tc : Thread nD τ).loc main_arg1) = m ((d.tc : Thread nD τ).loc main_arg1)) ∧ r.2.sem = fun _ => 0 :=
  (θ_run Cert.KernelIdeal.defs _ _).mono (fun r h => ⟨fun d =>
      ⟨(h.1 d _ (Finset.mem_filter.mpr ⟨StableHlo.devRef_mem_tcRefs main_v9, by decide⟩)).trans (final_v9 m d),
       (h.1 d _ (Finset.mem_filter.mpr ⟨StableHlo.devRef_mem_tcRefs main_arg0, by decide⟩)).trans (final_arg0 m d),
       (h.1 d _ (Finset.mem_filter.mpr ⟨StableHlo.devRef_mem_tcRefs main_arg1, by decide⟩)).trans (final_arg1 m d)⟩, h.2⟩)
    (run_main m ρ (rowNos_lt m hA))

/-- The rows the program gathers are the rows the reference takes, from equal arguments. -/
theorem result_eq (m' : (ℓ : Loc Cert.ReferenceIdeal.nD Cert.ReferenceIdeal.τ Cert.ReferenceIdeal.sig) → Buf (Elt F) ℓ)
    (hA : ∀ d (j : S8x32768.Idx), (arg1 m d j).toNat < 294912) (d : Dev nD)
    (h0 : m' ((d.tc : Thread Cert.ReferenceIdeal.nD Cert.ReferenceIdeal.τ).loc Cert.ReferenceIdeal.main_arg0) = m ((d.tc : Thread nD τ).loc main_arg0))
    (h1 : m' ((d.tc : Thread Cert.ReferenceIdeal.nD Cert.ReferenceIdeal.τ).loc Cert.ReferenceIdeal.main_arg1) = m ((d.tc : Thread nD τ).loc main_arg1)) :
    Cert.Proof.Ref.taken m' d
      = shapeCast S2x8x32768x256 (gathered (table m d) (rowNos m d)) shapeCasts_S524288x2x128_S2x8x32768x256 := by
  funext y
  rw [eq_ix4 y]
  refine Eq.trans ?_ (result_apply m hA d _ _ _ _).symm
  have hw : (m' ((d.tc : Thread Cert.ReferenceIdeal.nD Cert.ReferenceIdeal.τ).loc Cert.ReferenceIdeal.main_arg1) (ix2 (y 1) (y 2)) : BitVec 32)
      = arg1 m d (ix2 (y 1) (y 2)) := congrFun h1 _
  refine (Cert.Proof.Ref.taken_apply m' d _ _ _ _ (hw ▸ hA d _)).trans ((congrFun h0 _).trans ?_)
  refine congrArg (arg0 m d) ?_
  exact congrArg (fun r => ix3 (y 0) r (y 3)) (Fin.ext (congrArg BitVec.toNat hw))

end Kernel

/-! ## The frames -/

theorem frame_kernelIdeal : Cert.quiescent_KernelIdeal := fun m ρ hp =>
  (θ_run Cert.KernelIdeal.defs _ _).mono (fun _ h => ⟨fun c => (h.1 c).2, h.2⟩)
    (run_args (F := Ideal) m ρ fun d => slots_lt _ _ (hp d))

theorem frame_kernel : Cert.quiescent_Kernel := fun m ρ hp =>
  (θ_run Cert.KernelIdeal.defs _ _).mono (fun _ h => ⟨fun c => (h.1 c).2, h.2⟩)
    (run_args (F := Bits) m ρ fun d => slots_lt _ _ (hp d))

theorem frame_referenceIdeal : Cert.quiescent_ReferenceIdeal := fun m ρ _ =>
  (θ_run Cert.ReferenceIdeal.defs _ _).mono (fun _ h => ⟨fun c => (h.1 c).2, h.2⟩) (Ref.run_main (F := Ideal) m ρ)

theorem frame_reference : Cert.quiescent_Reference := fun m ρ _ =>
  (θ_run Cert.ReferenceIdeal.defs _ _).mono (fun _ h => ⟨fun c => (h.1 c).2, h.2⟩) (Ref.run_main (F := Bits) m ρ)

/-! ## The values -/

theorem value_ideal : Cert.algebraic_KernelIdeal_ReferenceIdeal := fun m ρ m' ρ' hp hm =>
  have hA : ∀ d j, (arg1 m d j).toNat < 294912 := fun d => slots_lt _ _ (hp d)
  ⟨fun d => Ref.taken m' d,
    (θ_run Cert.KernelIdeal.defs _ _).mono (fun _ h c => ⟨(h.1 c).1.trans (result_eq m m' hA c (hm c).1 (hm c).2).symm, (h.1 c).2⟩)
      (run_args (F := Ideal) m ρ hA),
    (θ_run Cert.ReferenceIdeal.defs _ _).mono (fun _ h c => h.1 c) (Ref.run_main (F := Ideal) m' ρ')⟩

theorem value_bits : Cert.bitexact_Kernel_Reference := fun m ρ m' ρ' hp hm =>
  have hA : ∀ d j, (arg1 (F := Bits) m d j).toNat < 294912 := fun d => slots_lt _ _ (hp d)
  ⟨fun d => Ref.taken (F := Bits) m' d,
    (θ_run Cert.KernelIdeal.defs _ _).mono (fun _ h c => ⟨(h.1 c).1.trans (result_eq (F := Bits) m m' hA c (hm c).1 (hm c).2).symm, (h.1 c).2⟩)
      (run_args (F := Bits) m ρ hA),
    (θ_run Cert.ReferenceIdeal.defs _ _).mono (fun _ h c => h.1 c) (Ref.run_main (F := Bits) m' ρ')⟩

end Cert.Proof.Gather

end
-- ==== Proof.InProj.Body.lean ====
/-
  What one grid point of the input projection computes, and what its blocks are.

  The points of a row block come three in a row, one for each third of the columns. The first of them normalizes and modulates
  the row block and keeps it; all three multiply what is kept by their columns of the weights.
-/
module

public import proofs.«01_k».proof.Proof.Gen.Kernel2Ideal.Value
public import Idealize.ShloMosaic.Lib.Pointwise
public import Idealize.ShloMosaic.Lib.StableHlo.ReadAt

@[expose] public section

set_option Elab.async false

noncomputable section

namespace Cert.Proof.InProj

open Cert.Kernel2Ideal Cert.Kernel2Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- The first point of a row block leaves the modulated block in the kept buffer. -/
theorem kept_first (c : Dev nD) (i : grid0.Coords) (a2 : Memref sig .tc .vmem S1024x1024 .f32) (h2 : a2.IsWhole)
    (a3 : Memref sig .tc .vmem S1x1024 .f32) (h3 : a3.IsWhole) (a4 : Memref sig .tc .vmem S1x1x1024 .f32) (h4 : a4.IsWhole)
    (a5 : Memref sig .tc .vmem S1x1x1024 .f32) (h5 : a5.IsWhole) (a6 : Memref sig .tc .vmem S1024x2176 .bf16) (h6 : a6.IsWhole)
    (a7 : Memref sig .tc .vmem S1024x2176 .bf16) (h7 : a7.IsWhole) (a8 : Memref sig .tc .vmem S1024x1024 .bf16) (h8 : a8.IsWhole)
    (hc : cond0_0 i) (x0 : Vec F S1024x1024 .f32) (x1 : Vec F S1x1024 .f32) (x2 x3 : Vec F S1x1x1024 .f32) (x4 : Vec F S1024x2176 .bf16) :
    sout0_A_0 c i a2 h2 a3 h3 a4 h4 a5 h5 a6 h6 a7 h7 a8 h8 hc x0 x1 x2 x3 x4 = k0_pay1 x0 x1 x2 x3 := by
  unfold sout0_A_0
  rw [View.read_writes_eq_canon _ _ _ (scover0_A_0 c i a2 h2 a3 h3 a4 h4 a5 h5 a6 h6 a7 h7 a8 h8 hc x0 x1 x2 x3 x4)]
  unfold kernelRun0_A
  dsimp only
  sl_unfold_words
  rw [View.canon_unit_zero zero2]
  simp only [View.readAt_eq_ld, h2.read_unread, h3.read_unread, h4.read_unread, h5.read_unread,
    View.ld_unit_zero (S := S1024x1024) zero2, View.ld_unit_zero (S := S1x1024) zero2, View.ld_unit_zero (S := S1x1x1024) zero3]

/-- It leaves in the result's block the product of the modulated block and the weights' columns. -/
theorem out_first (c : Dev nD) (i : grid0.Coords) (a2 : Memref sig .tc .vmem S1024x1024 .f32) (h2 : a2.IsWhole)
    (a3 : Memref sig .tc .vmem S1x1024 .f32) (h3 : a3.IsWhole) (a4 : Memref sig .tc .vmem S1x1x1024 .f32) (h4 : a4.IsWhole)
    (a5 : Memref sig .tc .vmem S1x1x1024 .f32) (h5 : a5.IsWhole) (a6 : Memref sig .tc .vmem S1024x2176 .bf16) (h6 : a6.IsWhole)
    (a7 : Memref sig .tc .vmem S1024x2176 .bf16) (h7 : a7.IsWhole) (a8 : Memref sig .tc .vmem S1024x1024 .bf16) (h8 : a8.IsWhole)
    (hc : cond0_0 i) (x0 : Vec F S1024x1024 .f32) (x1 : Vec F S1x1024 .f32) (x2 x3 : Vec F S1x1x1024 .f32) (x4 : Vec F S1024x2176 .bf16) :
    out0_A_5 c i a2 h2 a3 h3 a4 h4 a5 h5 a6 h6 a7 h7 a8 h8 hc x0 x1 x2 x3 x4 = k0_pay2 (k0_pay1 x0 x1 x2 x3) x4 := by
  unfold out0_A_5
  rw [View.read_writes_eq_canon _ _ _ (cover0_A_5 c i a2 h2 a3 h3 a4 h4 a5 h5 a6 h6 a7 h7 a8 h8 hc x0 x1 x2 x3 x4)]
  unfold kernelRun0_A
  dsimp only
  sl_unfold_words
  rw [View.canon_unit_zero zero2, View.readCov_unit_zero (S := S1024x1024) _ zero2]
  simp only [View.readAt_eq_ld, h2.read_unread, h3.read_unread, h4.read_unread, h5.read_unread, h6.read_unread,
    View.ld_unit_zero (S := S1024x1024) zero2, View.ld_unit_zero (S := S1x1024) zero2, View.ld_unit_zero (S := S1x1x1024) zero3,
    View.ld_unit_zero (S := S1024x2176) zero2]

/-- A later point of the row block multiplies what is kept. -/
theorem out_later (c : Dev nD) (i : grid0.Coords) (a2 : Memref sig .tc .vmem S1024x1024 .f32) (h2 : a2.IsWhole)
    (a3 : Memref sig .tc .vmem S1x1024 .f32) (h3 : a3.IsWhole) (a4 : Memref sig .tc .vmem S1x1x1024 .f32) (h4 : a4.IsWhole)
    (a5 : Memref sig .tc .vmem S1x1x1024 .f32) (h5 : a5.IsWhole) (a6 : Memref sig .tc .vmem S1024x2176 .bf16) (h6 : a6.IsWhole)
    (a7 : Memref sig .tc .vmem S1024x2176 .bf16) (h7 : a7.IsWhole) (a8 : Memref sig .tc .vmem S1024x1024 .bf16) (h8 : a8.IsWhole)
    (hc : ¬cond0_0 i) (x0 : Vec F S1024x1024 .f32) (x1 : Vec F S1x1024 .f32) (x2 x3 : Vec F S1x1x1024 .f32) (x4 : Vec F S1024x2176 .bf16)
    (xs : Vec F S1024x1024 .bf16) :
    out0_B_5 c i a2 h2 a3 h3 a4 h4 a5 h5 a6 h6 a7 h7 a8 h8 hc x0 x1 x2 x3 x4 xs = k0_pay2 xs x4 := by
  unfold out0_B_5
  rw [View.read_writes_eq_canon _ _ _ (cover0_B_5 c i a2 h2 a3 h3 a4 h4 a5 h5 a6 h6 a7 h7 a8 h8 hc x0 x1 x2 x3 x4 xs)]
  unfold kernelRun0_B
  dsimp only
  rw [View.canon_unit_zero zero2]
  simp only [View.readAt_eq_ld, h6.read_unread, h8.read_unread, View.ld_unit_zero (S := S1024x1024) zero2, View.ld_unit_zero (S := S1024x2176) zero2]

end Cert.Proof.InProj

end
-- ==== Proof.InProj.Blocks.lean ====
/-
  The input projection's blocks, read off the program's arguments.
-/
module

public import proofs.«01_k».proof.Proof.Gen.Kernel2Ideal.Value
public import Idealize.ShloMosaic.Lib.Pointwise
public import Idealize.ShloMosaic.Lib.StableHlo.ReadAt
public import Idealize.ShloMosaic.Lib.KernelVsHost

@[expose] public section

set_option Elab.async false
set_option maxRecDepth 16384

noncomputable section

namespace Cert.Proof.InProj

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The program's arguments: the activations, the norm's weights, the shift, the scale, the projection's weights. -/
abbrev actX (c : Dev nD) : Vec Ideal S4x8192x1024 .f32 := m ((c : Thread nD τ).loc main_arg0)
abbrev normW (c : Dev nD) : Vec Ideal S1024 .f32 := m ((c : Thread nD τ).loc main_arg1)
abbrev shiftV (c : Dev nD) : Vec Ideal S4x1024 .f32 := m ((c : Thread nD τ).loc main_arg2)
abbrev scaleV (c : Dev nD) : Vec Ideal S4x1024 .f32 := m ((c : Thread nD τ).loc main_arg3)
abbrev projW (c : Dev nD) : Vec Ideal S1024x6424 .f32 := m ((c : Thread nD τ).loc main_arg4)

/-- The weights' columns in the order in which the result holds them: the first three quarters of the heads' columns, the merge
    gates' columns, the columns in between, and zeros. -/
def column (w : Vec Ideal S1024x6424 .f32) (k : Fin 1024) (n : Nat) : EReal :=
  if n < 3072 then w (ix2 k ⟨n % 6424, Nat.mod_lt _ (by decide)⟩)
  else if n < 5120 then w (ix2 k ⟨(n + 1304) % 6424, Nat.mod_lt _ (by decide)⟩)
  else if n < 6424 then w (ix2 k ⟨(n - 2048) % 6424, Nat.mod_lt _ (by decide)⟩)
  else 0

/-- The slab of weights of its twelve pieces. -/
def slabOf (p0 : Vec Ideal S1024x1024 .f32) (p1 : Vec Ideal S1024x1024 .f32) (p2 : Vec Ideal S1024x1024 .f32) (p3 : Vec Ideal S1024x2048 .f32) (p4 : Vec Ideal S1024x512 .f32) (p5 : Vec Ideal S1024x128 .f32) (p6 : Vec Ideal S1024x128 .f32) (p7 : Vec Ideal S1024x128 .f32) (p8 : Vec Ideal S1024x128 .f32) (p9 : Vec Ideal S1024x128 .f32) (p10 : Vec Ideal S1024x128 .f32) (p11 : Vec Ideal S1024x24 .f32) : Vec Ideal S1024x6528 .bf16 :=
  truncf .bf16
    (pad S1024x6528 ![0, 0] ![0, 104] ![0, 0]
      (concatenate S1024x6424 1
        [⟨S1024x1024, p0⟩, ⟨S1024x1024, p1⟩, ⟨S1024x1024, p2⟩, ⟨S1024x2048, p3⟩, ⟨S1024x512, p4⟩, ⟨S1024x128, p5⟩, ⟨S1024x128, p6⟩, ⟨S1024x128, p7⟩, ⟨S1024x128, p8⟩, ⟨S1024x128, p9⟩, ⟨S1024x128, p10⟩, ⟨S1024x24, p11⟩]
        concatenates_S1024x1024_S1024x1024_S1024x1024_S1024x2048_S1024x512_S1024x128_S1024x128_S1024x128_S1024x128_S1024x128_S1024x128_S1024x24_S1024x6424_d1)
      (sitofp (F := Ideal) FTy.f32 (constantI S_ 32 0#32)) pads_S1024x6424_S1024x6528_000_01040 h_S_)
    bitsLt_bf16_f32

theorem slabOf_0 (p0 : Vec Ideal S1024x1024 .f32) (p1 : Vec Ideal S1024x1024 .f32) (p2 : Vec Ideal S1024x1024 .f32) (p3 : Vec Ideal S1024x2048 .f32) (p4 : Vec Ideal S1024x512 .f32) (p5 : Vec Ideal S1024x128 .f32) (p6 : Vec Ideal S1024x128 .f32) (p7 : Vec Ideal S1024x128 .f32) (p8 : Vec Ideal S1024x128 .f32) (p9 : Vec Ideal S1024x128 .f32) (p10 : Vec Ideal S1024x128 .f32) (p11 : Vec Ideal S1024x24 .f32) (k : Fin 1024) (n : Fin 1024) :
    slabOf p0 p1 p2 p3 p4 p5 p6 p7 p8 p9 p10 p11 (ix2 k ⟨0 + n.val, by omega⟩) = p0 (ix2 k n) := by
  unfold slabOf
  refine (pad_apply_of_inside (t := S1024x6528) ![0, 0] ![0, 104] ![0, 0] _ _ pads_S1024x6424_S1024x6528_000_01040 h_S_ (ix2 k ⟨0 + n.val, by omega⟩) (ix2 k ⟨0 + n.val, by omega⟩) ?_).trans ?_
  · intro a; match a with
    | ⟨0, _⟩ => simp
    | ⟨1, _⟩ => simp
  · refine concatenate_apply_piece (t := S1024x6424) (1 : Fin 2) _ _ _ 0 ?_ S1024x1024 p0 ?_ rfl 0 ?_ (ix2 k n) ?_ rfl
    · show 0 < 12; omega
    · rfl
    · rfl
    · intro b hb
      match b with
      | ⟨0, _⟩ => rfl
      | ⟨1, _⟩ => exact absurd rfl hb

theorem slabOf_1 (p0 : Vec Ideal S1024x1024 .f32) (p1 : Vec Ideal S1024x1024 .f32) (p2 : Vec Ideal S1024x1024 .f32) (p3 : Vec Ideal S1024x2048 .f32) (p4 : Vec Ideal S1024x512 .f32) (p5 : Vec Ideal S1024x128 .f32) (p6 : Vec Ideal S1024x128 .f32) (p7 : Vec Ideal S1024x128 .f32) (p8 : Vec Ideal S1024x128 .f32) (p9 : Vec Ideal S1024x128 .f32) (p10 : Vec Ideal S1024x128 .f32) (p11 : Vec Ideal S1024x24 .f32) (k : Fin 1024) (n : Fin 1024) :
    slabOf p0 p1 p2 p3 p4 p5 p6 p7 p8 p9 p10 p11 (ix2 k ⟨1024 + n.val, by omega⟩) = p1 (ix2 k n) := by
  unfold slabOf
  refine (pad_apply_of_inside (t := S1024x6528) ![0, 0] ![0, 104] ![0, 0] _ _ pads_S1024x6424_S1024x6528_000_01040 h_S_ (ix2 k ⟨1024 + n.val, by omega⟩) (ix2 k ⟨1024 + n.val, by omega⟩) ?_).trans ?_
  · intro a; match a with
    | ⟨0, _⟩ => simp
    | ⟨1, _⟩ => simp
  · refine concatenate_apply_piece (t := S1024x6424) (1 : Fin 2) _ _ _ 1 ?_ S1024x1024 p1 ?_ rfl 1024 ?_ (ix2 k n) ?_ rfl
    · show 1 < 12; omega
    · rfl
    · rfl
    · intro b hb
      match b with
      | ⟨0, _⟩ => rfl
      | ⟨1, _⟩ => exact absurd rfl hb

theorem slabOf_2 (p0 : Vec Ideal S1024x1024 .f32) (p1 : Vec Ideal S1024x1024 .f32) (p2 : Vec Ideal S1024x1024 .f32) (p3 : Vec Ideal S1024x2048 .f32) (p4 : Vec Ideal S1024x512 .f32) (p5 : Vec Ideal S1024x128 .f32) (p6 : Vec Ideal S1024x128 .f32) (p7 : Vec Ideal S1024x128 .f32) (p8 : Vec Ideal S1024x128 .f32) (p9 : Vec Ideal S1024x128 .f32) (p10 : Vec Ideal S1024x128 .f32) (p11 : Vec Ideal S1024x24 .f32) (k : Fin 1024) (n : Fin 1024) :
    slabOf p0 p1 p2 p3 p4 p5 p6 p7 p8 p9 p10 p11 (ix2 k ⟨2048 + n.val, by omega⟩) = p2 (ix2 k n) := by
  unfold slabOf
  refine (pad_apply_of_inside (t := S1024x6528) ![0, 0] ![0, 104] ![0, 0] _ _ pads_S1024x6424_S1024x6528_000_01040 h_S_ (ix2 k ⟨2048 + n.val, by omega⟩) (ix2 k ⟨2048 + n.val, by omega⟩) ?_).trans ?_
  · intro a; match a with
    | ⟨0, _⟩ => simp
    | ⟨1, _⟩ => simp
  · refine concatenate_apply_piece (t := S1024x6424) (1 : Fin 2) _ _ _ 2 ?_ S1024x1024 p2 ?_ rfl 2048 ?_ (ix2 k n) ?_ rfl
    · show 2 < 12; omega
    · rfl
    · rfl
    · intro b hb
      match b with
      | ⟨0, _⟩ => rfl
      | ⟨1, _⟩ => exact absurd rfl hb

theorem slabOf_3 (p0 : Vec Ideal S1024x1024 .f32) (p1 : Vec Ideal S1024x1024 .f32) (p2 : Vec Ideal S1024x1024 .f32) (p3 : Vec Ideal S1024x2048 .f32) (p4 : Vec Ideal S1024x512 .f32) (p5 : Vec Ideal S1024x128 .f32) (p6 : Vec Ideal S1024x128 .f32) (p7 : Vec Ideal S1024x128 .f32) (p8 : Vec Ideal S1024x128 .f32) (p9 : Vec Ideal S1024x128 .f32) (p10 : Vec Ideal S1024x128 .f32) (p11 : Vec Ideal S1024x24 .f32) (k : Fin 1024) (n : Fin 2048) :
    slabOf p0 p1 p2 p3 p4 p5 p6 p7 p8 p9 p10 p11 (ix2 k ⟨3072 + n.val, by omega⟩) = p3 (ix2 k n) := by
  unfold slabOf
  refine (pad_apply_of_inside (t := S1024x6528) ![0, 0] ![0, 104] ![0, 0] _ _ pads_S1024x6424_S1024x6528_000_01040 h_S_ (ix2 k ⟨3072 + n.val, by omega⟩) (ix2 k ⟨3072 + n.val, by omega⟩) ?_).trans ?_
  · intro a; match a with
    | ⟨0, _⟩ => simp
    | ⟨1, _⟩ => simp
  · refine concatenate_apply_piece (t := S1024x6424) (1 : Fin 2) _ _ _ 3 ?_ S1024x2048 p3 ?_ rfl 3072 ?_ (ix2 k n) ?_ rfl
    · show 3 < 12; omega
    · rfl
    · rfl
    · intro b hb
      match b with
      | ⟨0, _⟩ => rfl
      | ⟨1, _⟩ => exact absurd rfl hb

theorem slabOf_4 (p0 : Vec Ideal S1024x1024 .f32) (p1 : Vec Ideal S1024x1024 .f32) (p2 : Vec Ideal S1024x1024 .f32) (p3 : Vec Ideal S1024x2048 .f32) (p4 : Vec Ideal S1024x512 .f32) (p5 : Vec Ideal S1024x128 .f32) (p6 : Vec Ideal S1024x128 .f32) (p7 : Vec Ideal S1024x128 .f32) (p8 : Vec Ideal S1024x128 .f32) (p9 : Vec Ideal S1024x128 .f32) (p10 : Vec Ideal S1024x128 .f32) (p11 : Vec Ideal S1024x24 .f32) (k : Fin 1024) (n : Fin 512) :
    slabOf p0 p1 p2 p3 p4 p5 p6 p7 p8 p9 p10 p11 (ix2 k ⟨5120 + n.val, by omega⟩) = p4 (ix2 k n) := by
  unfold slabOf
  refine (pad_apply_of_inside (t := S1024x6528) ![0, 0] ![0, 104] ![0, 0] _ _ pads_S1024x6424_S1024x6528_000_01040 h_S_ (ix2 k ⟨5120 + n.val, by omega⟩) (ix2 k ⟨5120 + n.val, by omega⟩) ?_).trans ?_
  · intro a; match a with
    | ⟨0, _⟩ => simp
    | ⟨1, _⟩ => simp
  · refine concatenate_apply_piece (t := S1024x6424) (1 : Fin 2) _ _ _ 4 ?_ S1024x512 p4 ?_ rfl 5120 ?_ (ix2 k n) ?_ rfl
    · show 4 < 12; omega
    · rfl
    · rfl
    · intro b hb
      match b with
      | ⟨0, _⟩ => rfl
      | ⟨1, _⟩ => exact absurd rfl hb

theorem slabOf_5 (p0 : Vec Ideal S1024x1024 .f32) (p1 : Vec Ideal S1024x1024 .f32) (p2 : Vec Ideal S1024x1024 .f32) (p3 : Vec Ideal S1024x2048 .f32) (p4 : Vec Ideal S1024x512 .f32) (p5 : Vec Ideal S1024x128 .f32) (p6 : Vec Ideal S1024x128 .f32) (p7 : Vec Ideal S1024x128 .f32) (p8 : Vec Ideal S1024x128 .f32) (p9 : Vec Ideal S1024x128 .f32) (p10 : Vec Ideal S1024x128 .f32) (p11 : Vec Ideal S1024x24 .f32) (k : Fin 1024) (n : Fin 128) :
    slabOf p0 p1 p2 p3 p4 p5 p6 p7 p8 p9 p10 p11 (ix2 k ⟨5632 + n.val, by omega⟩) = p5 (ix2 k n) := by
  unfold slabOf
  refine (pad_apply_of_inside (t := S1024x6528) ![0, 0] ![0, 104] ![0, 0] _ _ pads_S1024x6424_S1024x6528_000_01040 h_S_ (ix2 k ⟨5632 + n.val, by omega⟩) (ix2 k ⟨5632 + n.val, by omega⟩) ?_).trans ?_
  · intro a; match a with
    | ⟨0, _⟩ => simp
    | ⟨1, _⟩ => simp
  · refine concatenate_apply_piece (t := S1024x6424) (1 : Fin 2) _ _ _ 5 ?_ S1024x128 p5 ?_ rfl 5632 ?_ (ix2 k n) ?_ rfl
    · show 5 < 12; omega
    · rfl
    · rfl
    · intro b hb
      match b with
      | ⟨0, _⟩ => rfl
      | ⟨1, _⟩ => exact absurd rfl hb

theorem slabOf_6 (p0 : Vec Ideal S1024x1024 .f32) (p1 : Vec Ideal S1024x1024 .f32) (p2 : Vec Ideal S1024x1024 .f32) (p3 : Vec Ideal S1024x2048 .f32) (p4 : Vec Ideal S1024x512 .f32) (p5 : Vec Ideal S1024x128 .f32) (p6 : Vec Ideal S1024x128 .f32) (p7 : Vec Ideal S1024x128 .f32) (p8 : Vec Ideal S1024x128 .f32) (p9 : Vec Ideal S1024x128 .f32) (p10 : Vec Ideal S1024x128 .f32) (p11 : Vec Ideal S1024x24 .f32) (k : Fin 1024) (n : Fin 128) :
    slabOf p0 p1 p2 p3 p4 p5 p6 p7 p8 p9 p10 p11 (ix2 k ⟨5760 + n.val, by omega⟩) = p6 (ix2 k n) := by
  unfold slabOf
  refine (pad_apply_of_inside (t := S1024x6528) ![0, 0] ![0, 104] ![0, 0] _ _ pads_S1024x6424_S1024x6528_000_01040 h_S_ (ix2 k ⟨5760 + n.val, by omega⟩) (ix2 k ⟨5760 + n.val, by omega⟩) ?_).trans ?_
  · intro a; match a with
    | ⟨0, _⟩ => simp
    | ⟨1, _⟩ => simp
  · refine concatenate_apply_piece (t := S1024x6424) (1 : Fin 2) _ _ _ 6 ?_ S1024x128 p6 ?_ rfl 5760 ?_ (ix2 k n) ?_ rfl
    · show 6 < 12; omega
    · rfl
    · rfl
    · intro b hb
      match b with
      | ⟨0, _⟩ => rfl
      | ⟨1, _⟩ => exact absurd rfl hb

theorem slabOf_7 (p0 : Vec Ideal S1024x1024 .f32) (p1 : Vec Ideal S1024x1024 .f32) (p2 : Vec Ideal S1024x1024 .f32) (p3 : Vec Ideal S1024x2048 .f32) (p4 : Vec Ideal S1024x512 .f32) (p5 : Vec Ideal S1024x128 .f32) (p6 : Vec Ideal S1024x128 .f32) (p7 : Vec Ideal S1024x128 .f32) (p8 : Vec Ideal S1024x128 .f32) (p9 : Vec Ideal S1024x128 .f32) (p10 : Vec Ideal S1024x128 .f32) (p11 : Vec Ideal S1024x24 .f32) (k : Fin 1024) (n : Fin 128) :
    slabOf p0 p1 p2 p3 p4 p5 p6 p7 p8 p9 p10 p11 (ix2 k ⟨5888 + n.val, by omega⟩) = p7 (ix2 k n) := by
  unfold slabOf
  refine (pad_apply_of_inside (t := S1024x6528) ![0, 0] ![0, 104] ![0, 0] _ _ pads_S1024x6424_S1024x6528_000_01040 h_S_ (ix2 k ⟨5888 + n.val, by omega⟩) (ix2 k ⟨5888 + n.val, by omega⟩) ?_).trans ?_
  · intro a; match a with
    | ⟨0, _⟩ => simp
    | ⟨1, _⟩ => simp
  · refine concatenate_apply_piece (t := S1024x6424) (1 : Fin 2) _ _ _ 7 ?_ S1024x128 p7 ?_ rfl 5888 ?_ (ix2 k n) ?_ rfl
    · show 7 < 12; omega
    · rfl
    · rfl
    · intro b hb
      match b with
      | ⟨0, _⟩ => rfl
      | ⟨1, _⟩ => exact absurd rfl hb

theorem slabOf_8 (p0 : Vec Ideal S1024x1024 .f32) (p1 : Vec Ideal S1024x1024 .f32) (p2 : Vec Ideal S1024x1024 .f32) (p3 : Vec Ideal S1024x2048 .f32) (p4 : Vec Ideal S1024x512 .f32) (p5 : Vec Ideal S1024x128 .f32) (p6 : Vec Ideal S1024x128 .f32) (p7 : Vec Ideal S1024x128 .f32) (p8 : Vec Ideal S1024x128 .f32) (p9 : Vec Ideal S1024x128 .f32) (p10 : Vec Ideal S1024x128 .f32) (p11 : Vec Ideal S1024x24 .f32) (k : Fin 1024) (n : Fin 128) :
    slabOf p0 p1 p2 p3 p4 p5 p6 p7 p8 p9 p10 p11 (ix2 k ⟨6016 + n.val, by omega⟩) = p8 (ix2 k n) := by
  unfold slabOf
  refine (pad_apply_of_inside (t := S1024x6528) ![0, 0] ![0, 104] ![0, 0] _ _ pads_S1024x6424_S1024x6528_000_01040 h_S_ (ix2 k ⟨6016 + n.val, by omega⟩) (ix2 k ⟨6016 + n.val, by omega⟩) ?_).trans ?_
  · intro a; match a with
    | ⟨0, _⟩ => simp
    | ⟨1, _⟩ => simp
  · refine concatenate_apply_piece (t := S1024x6424) (1 : Fin 2) _ _ _ 8 ?_ S1024x128 p8 ?_ rfl 6016 ?_ (ix2 k n) ?_ rfl
    · show 8 < 12; omega
    · rfl
    · rfl
    · intro b hb
      match b with
      | ⟨0, _⟩ => rfl
      | ⟨1, _⟩ => exact absurd rfl hb

theorem slabOf_9 (p0 : Vec Ideal S1024x1024 .f32) (p1 : Vec Ideal S1024x1024 .f32) (p2 : Vec Ideal S1024x1024 .f32) (p3 : Vec Ideal S1024x2048 .f32) (p4 : Vec Ideal S1024x512 .f32) (p5 : Vec Ideal S1024x128 .f32) (p6 : Vec Ideal S1024x128 .f32) (p7 : Vec Ideal S1024x128 .f32) (p8 : Vec Ideal S1024x128 .f32) (p9 : Vec Ideal S1024x128 .f32) (p10 : Vec Ideal S1024x128 .f32) (p11 : Vec Ideal S1024x24 .f32) (k : Fin 1024) (n : Fin 128) :
    slabOf p0 p1 p2 p3 p4 p5 p6 p7 p8 p9 p10 p11 (ix2 k ⟨6144 + n.val, by omega⟩) = p9 (ix2 k n) := by
  unfold slabOf
  refine (pad_apply_of_inside (t := S1024x6528) ![0, 0] ![0, 104] ![0, 0] _ _ pads_S1024x6424_S1024x6528_000_01040 h_S_ (ix2 k ⟨6144 + n.val, by omega⟩) (ix2 k ⟨6144 + n.val, by omega⟩) ?_).trans ?_
  · intro a; match a with
    | ⟨0, _⟩ => simp
    | ⟨1, _⟩ => simp
  · refine concatenate_apply_piece (t := S1024x6424) (1 : Fin 2) _ _ _ 9 ?_ S1024x128 p9 ?_ rfl 6144 ?_ (ix2 k n) ?_ rfl
    · show 9 < 12; omega
    · rfl
    · rfl
    · intro b hb
      match b with
      | ⟨0, _⟩ => rfl
      | ⟨1, _⟩ => exact absurd rfl hb

theorem slabOf_10 (p0 : Vec Ideal S1024x1024 .f32) (p1 : Vec Ideal S1024x1024 .f32) (p2 : Vec Ideal S1024x1024 .f32) (p3 : Vec Ideal S1024x2048 .f32) (p4 : Vec Ideal S1024x512 .f32) (p5 : Vec Ideal S1024x128 .f32) (p6 : Vec Ideal S1024x128 .f32) (p7 : Vec Ideal S1024x128 .f32) (p8 : Vec Ideal S1024x128 .f32) (p9 : Vec Ideal S1024x128 .f32) (p10 : Vec Ideal S1024x128 .f32) (p11 : Vec Ideal S1024x24 .f32) (k : Fin 1024) (n : Fin 128) :
    slabOf p0 p1 p2 p3 p4 p5 p6 p7 p8 p9 p10 p11 (ix2 k ⟨6272 + n.val, by omega⟩) = p10 (ix2 k n) := by
  unfold slabOf
  refine (pad_apply_of_inside (t := S1024x6528) ![0, 0] ![0, 104] ![0, 0] _ _ pads_S1024x6424_S1024x6528_000_01040 h_S_ (ix2 k ⟨6272 + n.val, by omega⟩) (ix2 k ⟨6272 + n.val, by omega⟩) ?_).trans ?_
  · intro a; match a with
    | ⟨0, _⟩ => simp
    | ⟨1, _⟩ => simp
  · refine concatenate_apply_piece (t := S1024x6424) (1 : Fin 2) _ _ _ 10 ?_ S1024x128 p10 ?_ rfl 6272 ?_ (ix2 k n) ?_ rfl
    · show 10 < 12; omega
    · rfl
    · rfl
    · intro b hb
      match b with
      | ⟨0, _⟩ => rfl
      | ⟨1, _⟩ => exact absurd rfl hb

theorem slabOf_11 (p0 : Vec Ideal S1024x1024 .f32) (p1 : Vec Ideal S1024x1024 .f32) (p2 : Vec Ideal S1024x1024 .f32) (p3 : Vec Ideal S1024x2048 .f32) (p4 : Vec Ideal S1024x512 .f32) (p5 : Vec Ideal S1024x128 .f32) (p6 : Vec Ideal S1024x128 .f32) (p7 : Vec Ideal S1024x128 .f32) (p8 : Vec Ideal S1024x128 .f32) (p9 : Vec Ideal S1024x128 .f32) (p10 : Vec Ideal S1024x128 .f32) (p11 : Vec Ideal S1024x24 .f32) (k : Fin 1024) (n : Fin 24) :
    slabOf p0 p1 p2 p3 p4 p5 p6 p7 p8 p9 p10 p11 (ix2 k ⟨6400 + n.val, by omega⟩) = p11 (ix2 k n) := by
  unfold slabOf
  refine (pad_apply_of_inside (t := S1024x6528) ![0, 0] ![0, 104] ![0, 0] _ _ pads_S1024x6424_S1024x6528_000_01040 h_S_ (ix2 k ⟨6400 + n.val, by omega⟩) (ix2 k ⟨6400 + n.val, by omega⟩) ?_).trans ?_
  · intro a; match a with
    | ⟨0, _⟩ => simp
    | ⟨1, _⟩ => simp
  · refine concatenate_apply_piece (t := S1024x6424) (1 : Fin 2) _ _ _ 11 ?_ S1024x24 p11 ?_ rfl 6400 ?_ (ix2 k n) ?_ rfl
    · show 11 < 12; omega
    · rfl
    · rfl
    · intro b hb
      match b with
      | ⟨0, _⟩ => rfl
      | ⟨1, _⟩ => exact absurd rfl hb

theorem slabOf_pad (p0 : Vec Ideal S1024x1024 .f32) (p1 : Vec Ideal S1024x1024 .f32) (p2 : Vec Ideal S1024x1024 .f32) (p3 : Vec Ideal S1024x2048 .f32) (p4 : Vec Ideal S1024x512 .f32) (p5 : Vec Ideal S1024x128 .f32) (p6 : Vec Ideal S1024x128 .f32) (p7 : Vec Ideal S1024x128 .f32) (p8 : Vec Ideal S1024x128 .f32) (p9 : Vec Ideal S1024x128 .f32) (p10 : Vec Ideal S1024x128 .f32) (p11 : Vec Ideal S1024x24 .f32) (k : Fin 1024) (n : Fin 6528) (hn : 6424 ≤ n.val) :
    slabOf p0 p1 p2 p3 p4 p5 p6 p7 p8 p9 p10 p11 (ix2 k n) = 0 := by
  unfold slabOf
  refine (pad_apply_of_not_inside (s := S1024x6424) (t := S1024x6528) ![0, 0] ![0, 104] ![0, 0] _ _ pads_S1024x6424_S1024x6528_000_01040 h_S_ (ix2 k n) (1 : Fin 2) ?_).trans ?_
  · intro h
    have : (n.val - 0) / (0 + 1) < 6424 := h.2.2
    omega
  · pointwise
    show (((0#32 : BitVec 32).toInt : ℝ) : EReal) = 0
    simp

theorem piece_0 (c : Dev nD) :
    StableHlo.upto [hostOps0, hostOps0_1, hostOps0_2].flatten (fun b => m (c, b)) 13 (Proc.tc.devRef main_v1)
      = extractStridedSlice S1024x1024 ![0, 0] (projW m c) slices_S1024x6424_S1024x1024_0_0 := by
  after_reads_simp

theorem piece_1 (c : Dev nD) :
    StableHlo.upto [hostOps0, hostOps0_1, hostOps0_2].flatten (fun b => m (c, b)) 13 (Proc.tc.devRef main_v2)
      = extractStridedSlice S1024x1024 ![0, 1024] (projW m c) slices_S1024x6424_S1024x1024_0_1024 := by
  after_reads_simp

theorem piece_2 (c : Dev nD) :
    StableHlo.upto [hostOps0, hostOps0_1, hostOps0_2].flatten (fun b => m (c, b)) 13 (Proc.tc.devRef main_v3)
      = extractStridedSlice S1024x1024 ![0, 2048] (projW m c) slices_S1024x6424_S1024x1024_0_2048 := by
  after_reads_simp

theorem piece_3 (c : Dev nD) :
    StableHlo.upto [hostOps0, hostOps0_1, hostOps0_2].flatten (fun b => m (c, b)) 13 (Proc.tc.devRef main_v4)
      = extractStridedSlice S1024x2048 ![0, 4376] (projW m c) slices_S1024x6424_S1024x2048_0_4376 := by
  after_reads_simp

theorem piece_4 (c : Dev nD) :
    StableHlo.upto [hostOps0, hostOps0_1, hostOps0_2].flatten (fun b => m (c, b)) 13 (Proc.tc.devRef main_v5)
      = extractStridedSlice S1024x512 ![0, 3072] (projW m c) slices_S1024x6424_S1024x512_0_3072 := by
  after_reads_simp

theorem piece_5 (c : Dev nD) :
    StableHlo.upto [hostOps0, hostOps0_1, hostOps0_2].flatten (fun b => m (c, b)) 13 (Proc.tc.devRef main_v6)
      = extractStridedSlice S1024x128 ![0, 3584] (projW m c) slices_S1024x6424_S1024x128_0_3584 := by
  after_reads_simp

theorem piece_6 (c : Dev nD) :
    StableHlo.upto [hostOps0, hostOps0_1, hostOps0_2].flatten (fun b => m (c, b)) 13 (Proc.tc.devRef main_v7)
      = extractStridedSlice S1024x128 ![0, 3712] (projW m c) slices_S1024x6424_S1024x128_0_3712 := by
  after_reads_simp

theorem piece_7 (c : Dev nD) :
    StableHlo.upto [hostOps0, hostOps0_1, hostOps0_2].flatten (fun b => m (c, b)) 13 (Proc.tc.devRef main_v8)
      = extractStridedSlice S1024x128 ![0, 3840] (projW m c) slices_S1024x6424_S1024x128_0_3840 := by
  after_reads_simp

theorem piece_8 (c : Dev nD) :
    StableHlo.upto [hostOps0, hostOps0_1, hostOps0_2].flatten (fun b => m (c, b)) 13 (Proc.tc.devRef main_v9)
      = extractStridedSlice S1024x128 ![0, 3968] (projW m c) slices_S1024x6424_S1024x128_0_3968 := by
  after_reads_simp

theorem piece_9 (c : Dev nD) :
    StableHlo.upto [hostOps0, hostOps0_1, hostOps0_2].flatten (fun b => m (c, b)) 13 (Proc.tc.devRef main_v10)
      = extractStridedSlice S1024x128 ![0, 4096] (projW m c) slices_S1024x6424_S1024x128_0_4096 := by
  after_reads_simp

theorem piece_10 (c : Dev nD) :
    StableHlo.upto [hostOps0, hostOps0_1, hostOps0_2].flatten (fun b => m (c, b)) 13 (Proc.tc.devRef main_v11)
      = extractStridedSlice S1024x128 ![0, 4224] (projW m c) slices_S1024x6424_S1024x128_0_4224 := by
  after_reads_simp

theorem piece_11 (c : Dev nD) :
    StableHlo.upto [hostOps0, hostOps0_1, hostOps0_2].flatten (fun b => m (c, b)) 13 (Proc.tc.devRef main_v12)
      = extractStridedSlice S1024x24 ![0, 4352] (projW m c) slices_S1024x6424_S1024x24_0_4352 := by
  after_reads_simp

/-- The slab is its twelve pieces of the weights. -/
theorem slab_eq (c : Dev nD) : V m c main_v15 = slabOf
    (extractStridedSlice S1024x1024 ![0, 0] (projW m c) slices_S1024x6424_S1024x1024_0_0)
    (extractStridedSlice S1024x1024 ![0, 1024] (projW m c) slices_S1024x6424_S1024x1024_0_1024)
    (extractStridedSlice S1024x1024 ![0, 2048] (projW m c) slices_S1024x6424_S1024x1024_0_2048)
    (extractStridedSlice S1024x2048 ![0, 4376] (projW m c) slices_S1024x6424_S1024x2048_0_4376)
    (extractStridedSlice S1024x512 ![0, 3072] (projW m c) slices_S1024x6424_S1024x512_0_3072)
    (extractStridedSlice S1024x128 ![0, 3584] (projW m c) slices_S1024x6424_S1024x128_0_3584)
    (extractStridedSlice S1024x128 ![0, 3712] (projW m c) slices_S1024x6424_S1024x128_0_3712)
    (extractStridedSlice S1024x128 ![0, 3840] (projW m c) slices_S1024x6424_S1024x128_0_3840)
    (extractStridedSlice S1024x128 ![0, 3968] (projW m c) slices_S1024x6424_S1024x128_0_3968)
    (extractStridedSlice S1024x128 ![0, 4096] (projW m c) slices_S1024x6424_S1024x128_0_4096)
    (extractStridedSlice S1024x128 ![0, 4224] (projW m c) slices_S1024x6424_S1024x128_0_4224)
    (extractStridedSlice S1024x24 ![0, 4352] (projW m c) slices_S1024x6424_S1024x24_0_4352) := by
  refine Eq.trans (by unfold V; after_reads_simp; rfl) ?_
  show slabOf
    (StableHlo.upto [hostOps0, hostOps0_1, hostOps0_2].flatten (fun b => m (c, b)) 13 (Proc.tc.devRef main_v1))
    (StableHlo.upto [hostOps0, hostOps0_1, hostOps0_2].flatten (fun b => m (c, b)) 13 (Proc.tc.devRef main_v2))
    (StableHlo.upto [hostOps0, hostOps0_1, hostOps0_2].flatten (fun b => m (c, b)) 13 (Proc.tc.devRef main_v3))
    (StableHlo.upto [hostOps0, hostOps0_1, hostOps0_2].flatten (fun b => m (c, b)) 13 (Proc.tc.devRef main_v4))
    (StableHlo.upto [hostOps0, hostOps0_1, hostOps0_2].flatten (fun b => m (c, b)) 13 (Proc.tc.devRef main_v5))
    (StableHlo.upto [hostOps0, hostOps0_1, hostOps0_2].flatten (fun b => m (c, b)) 13 (Proc.tc.devRef main_v6))
    (StableHlo.upto [hostOps0, hostOps0_1, hostOps0_2].flatten (fun b => m (c, b)) 13 (Proc.tc.devRef main_v7))
    (StableHlo.upto [hostOps0, hostOps0_1, hostOps0_2].flatten (fun b => m (c, b)) 13 (Proc.tc.devRef main_v8))
    (StableHlo.upto [hostOps0, hostOps0_1, hostOps0_2].flatten (fun b => m (c, b)) 13 (Proc.tc.devRef main_v9))
    (StableHlo.upto [hostOps0, hostOps0_1, hostOps0_2].flatten (fun b => m (c, b)) 13 (Proc.tc.devRef main_v10))
    (StableHlo.upto [hostOps0, hostOps0_1, hostOps0_2].flatten (fun b => m (c, b)) 13 (Proc.tc.devRef main_v11))
    (StableHlo.upto [hostOps0, hostOps0_1, hostOps0_2].flatten (fun b => m (c, b)) 13 (Proc.tc.devRef main_v12)) = _
  rw [piece_0, piece_1, piece_2, piece_3, piece_4, piece_5, piece_6, piece_7, piece_8, piece_9, piece_10, piece_11]

theorem slab_weights (c : Dev nD) (k : Fin 1024) (n : Fin 6528) :
    (V m c main_v15 : Vec Ideal S1024x6528 .bf16) (ix2 k n) = column (projW m c) k n.val := by
  rw [slab_eq]
  unfold column
  obtain ⟨n, hn⟩ := n
  dsimp only
  by_cases h0 : n < 1024
  · rw [if_pos (by omega)]
    obtain ⟨q, rfl⟩ : ∃ q, n = 0 + q := ⟨n - 0, by omega⟩
    refine (slabOf_0 _ _ _ _ _ _ _ _ _ _ _ _ k ⟨q, by omega⟩).trans ?_
    refine congrArg (projW m c) (funext fun a => Fin.ext ?_)
    match a with
    | ⟨0, _⟩ => show 0 + k.val = k.val; omega
    | ⟨1, _⟩ => show 0 + q = (0 + q) % 6424; omega
  by_cases h1 : n < 2048
  · rw [if_pos (by omega)]
    obtain ⟨q, rfl⟩ : ∃ q, n = 1024 + q := ⟨n - 1024, by omega⟩
    refine (slabOf_1 _ _ _ _ _ _ _ _ _ _ _ _ k ⟨q, by omega⟩).trans ?_
    refine congrArg (projW m c) (funext fun a => Fin.ext ?_)
    match a with
    | ⟨0, _⟩ => show 0 + k.val = k.val; omega
    | ⟨1, _⟩ => show 1024 + q = (1024 + q) % 6424; omega
  by_cases h2 : n < 3072
  · rw [if_pos (by omega)]
    obtain ⟨q, rfl⟩ : ∃ q, n = 2048 + q := ⟨n - 2048, by omega⟩
    refine (slabOf_2 _ _ _ _ _ _ _ _ _ _ _ _ k ⟨q, by omega⟩).trans ?_
    refine congrArg (projW m c) (funext fun a => Fin.ext ?_)
    match a with
    | ⟨0, _⟩ => show 0 + k.val = k.val; omega
    | ⟨1, _⟩ => show 2048 + q = (2048 + q) % 6424; omega
  by_cases h3 : n < 5120
  · rw [if_neg (by omega), if_pos (by omega)]
    obtain ⟨q, rfl⟩ : ∃ q, n = 3072 + q := ⟨n - 3072, by omega⟩
    refine (slabOf_3 _ _ _ _ _ _ _ _ _ _ _ _ k ⟨q, by omega⟩).trans ?_
    refine congrArg (projW m c) (funext fun a => Fin.ext ?_)
    match a with
    | ⟨0, _⟩ => show 0 + k.val = k.val; omega
    | ⟨1, _⟩ => show 4376 + q = (3072 + q + 1304) % 6424; omega
  by_cases h4 : n < 5632
  · rw [if_neg (by omega), if_neg (by omega), if_pos (by omega)]
    obtain ⟨q, rfl⟩ : ∃ q, n = 5120 + q := ⟨n - 5120, by omega⟩
    refine (slabOf_4 _ _ _ _ _ _ _ _ _ _ _ _ k ⟨q, by omega⟩).trans ?_
    refine congrArg (projW m c) (funext fun a => Fin.ext ?_)
    match a with
    | ⟨0, _⟩ => show 0 + k.val = k.val; omega
    | ⟨1, _⟩ => show 3072 + q = (5120 + q - 2048) % 6424; omega
  by_cases h5 : n < 5760
  · rw [if_neg (by omega), if_neg (by omega), if_pos (by omega)]
    obtain ⟨q, rfl⟩ : ∃ q, n = 5632 + q := ⟨n - 5632, by omega⟩
    refine (slabOf_5 _ _ _ _ _ _ _ _ _ _ _ _ k ⟨q, by omega⟩).trans ?_
    refine congrArg (projW m c) (funext fun a => Fin.ext ?_)
    match a with
    | ⟨0, _⟩ => show 0 + k.val = k.val; omega
    | ⟨1, _⟩ => show 3584 + q = (5632 + q - 2048) % 6424; omega
  by_cases h6 : n < 5888
  · rw [if_neg (by omega), if_neg (by omega), if_pos (by omega)]
    obtain ⟨q, rfl⟩ : ∃ q, n = 5760 + q := ⟨n - 5760, by omega⟩
    refine (slabOf_6 _ _ _ _ _ _ _ _ _ _ _ _ k ⟨q, by omega⟩).trans ?_
    refine congrArg (projW m c) (funext fun a => Fin.ext ?_)
    match a with
    | ⟨0, _⟩ => show 0 + k.val = k.val; omega
    | ⟨1, _⟩ => show 3712 + q = (5760 + q - 2048) % 6424; omega
  by_cases h7 : n < 6016
  · rw [if_neg (by omega), if_neg (by omega), if_pos (by omega)]
    obtain ⟨q, rfl⟩ : ∃ q, n = 5888 + q := ⟨n - 5888, by omega⟩
    refine (slabOf_7 _ _ _ _ _ _ _ _ _ _ _ _ k ⟨q, by omega⟩).trans ?_
    refine congrArg (projW m c) (funext fun a => Fin.ext ?_)
    match a with
    | ⟨0, _⟩ => show 0 + k.val = k.val; omega
    | ⟨1, _⟩ => show 3840 + q = (5888 + q - 2048) % 6424; omega
  by_cases h8 : n < 6144
  · rw [if_neg (by omega), if_neg (by omega), if_pos (by omega)]
    obtain ⟨q, rfl⟩ : ∃ q, n = 6016 + q := ⟨n - 6016, by omega⟩
    refine (slabOf_8 _ _ _ _ _ _ _ _ _ _ _ _ k ⟨q, by omega⟩).trans ?_
    refine congrArg (projW m c) (funext fun a => Fin.ext ?_)
    match a with
    | ⟨0, _⟩ => show 0 + k.val = k.val; omega
    | ⟨1, _⟩ => show 3968 + q = (6016 + q - 2048) % 6424; omega
  by_cases h9 : n < 6272
  · rw [if_neg (by omega), if_neg (by omega), if_pos (by omega)]
    obtain ⟨q, rfl⟩ : ∃ q, n = 6144 + q := ⟨n - 6144, by omega⟩
    refine (slabOf_9 _ _ _ _ _ _ _ _ _ _ _ _ k ⟨q, by omega⟩).trans ?_
    refine congrArg (projW m c) (funext fun a => Fin.ext ?_)
    match a with
    | ⟨0, _⟩ => show 0 + k.val = k.val; omega
    | ⟨1, _⟩ => show 4096 + q = (6144 + q - 2048) % 6424; omega
  by_cases h10 : n < 6400
  · rw [if_neg (by omega), if_neg (by omega), if_pos (by omega)]
    obtain ⟨q, rfl⟩ : ∃ q, n = 6272 + q := ⟨n - 6272, by omega⟩
    refine (slabOf_10 _ _ _ _ _ _ _ _ _ _ _ _ k ⟨q, by omega⟩).trans ?_
    refine congrArg (projW m c) (funext fun a => Fin.ext ?_)
    match a with
    | ⟨0, _⟩ => show 0 + k.val = k.val; omega
    | ⟨1, _⟩ => show 4224 + q = (6272 + q - 2048) % 6424; omega
  by_cases h11 : n < 6424
  · rw [if_neg (by omega), if_neg (by omega), if_pos (by omega)]
    obtain ⟨q, rfl⟩ : ∃ q, n = 6400 + q := ⟨n - 6400, by omega⟩
    refine (slabOf_11 _ _ _ _ _ _ _ _ _ _ _ _ k ⟨q, by omega⟩).trans ?_
    refine congrArg (projW m c) (funext fun a => Fin.ext ?_)
    match a with
    | ⟨0, _⟩ => show 0 + k.val = k.val; omega
    | ⟨1, _⟩ => show 4352 + q = (6400 + q - 2048) % 6424; omega
  · rw [if_neg (by omega), if_neg (by omega), if_neg (by omega)]
    exact slabOf_pad _ _ _ _ _ _ _ _ _ _ _ _ k ⟨n, hn⟩ (by show 6424 ≤ n; omega)

theorem rows_x (c : Dev nD) (r : Fin 32768) (k : Fin 1024) :
    (V m c main_v0 : Vec Ideal S32768x1024 .f32) (ix2 r k) = actX m c (ix3 ⟨r.val / 8192, by omega⟩ ⟨r.val % 8192, by omega⟩ k) := by
  unfold V
  after_reads_at

theorem row_norm (c : Dev nD) (k : Fin 1024) : (V m c main_v16 : Vec Ideal S1x1024 .f32) (ix2 0 k) = normW m c (ix1 k) := by
  unfold V
  after_reads_at

theorem row_shift (c : Dev nD) (b : Fin 4) (k : Fin 1024) : (V m c main_v17 : Vec Ideal S4x1x1024 .f32) (ix3 b 0 k) = shiftV m c (ix2 b k) := by
  unfold V
  after_reads_at

theorem row_scale (c : Dev nD) (b : Fin 4) (k : Fin 1024) : (V m c main_v18 : Vec Ideal S4x1x1024 .f32) (ix3 b 0 k) = scaleV m c (ix2 b k) := by
  unfold V
  after_reads_at

theorem at0 : ∀ t : Fin cfg0.N, win0_0.index t (0 : Fin 2) = t.val / 3 ∧ win0_0.index t (1 : Fin 2) = 0 :=
  (by decide +kernel : ∀ t : Fin grid0.N, win0_0.index t (0 : Fin 2) = t.val / 3 ∧ win0_0.index t (1 : Fin 2) = 0)
theorem at1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem at2 : ∀ t : Fin cfg0.N, win0_2.index t (0 : Fin 3) = t.val / 24 ∧ win0_2.index t (1 : Fin 3) = 0 ∧ win0_2.index t (2 : Fin 3) = 0 :=
  (by decide +kernel : ∀ t : Fin grid0.N, win0_2.index t (0 : Fin 3) = t.val / 24 ∧ win0_2.index t (1 : Fin 3) = 0 ∧ win0_2.index t (2 : Fin 3) = 0)
theorem at3 : ∀ t : Fin cfg0.N, win0_3.index t (0 : Fin 3) = t.val / 24 ∧ win0_3.index t (1 : Fin 3) = 0 ∧ win0_3.index t (2 : Fin 3) = 0 :=
  (by decide +kernel : ∀ t : Fin grid0.N, win0_3.index t (0 : Fin 3) = t.val / 24 ∧ win0_3.index t (1 : Fin 3) = 0 ∧ win0_3.index t (2 : Fin 3) = 0)
theorem at4 : ∀ t : Fin cfg0.N, win0_4.index t (0 : Fin 2) = 0 ∧ win0_4.index t (1 : Fin 2) = t.val % 3 :=
  (by decide +kernel : ∀ t : Fin grid0.N, win0_4.index t (0 : Fin 2) = 0 ∧ win0_4.index t (1 : Fin 2) = t.val % 3)

theorem lt96 (t : Fin cfg0.N) : t.val < 96 := lt_of_lt_of_eq t.isLt N_0

/-- Point `t`'s block of the activations. -/
theorem block_x (c : Dev nD) (t : Fin cfg0.N) (r k : Fin 1024) :
    (iblk m c 0 t : Vec Ideal S1024x1024 .f32) (ix2 r k)
      = actX m c (ix3 ⟨t.val / 24, by have := lt96 t; omega⟩ ⟨t.val / 3 % 8 * 1024 + r.val, by omega⟩ k) := by
  have ht := lt96 t
  obtain ⟨e0, e1⟩ := at0 t
  refine Eq.trans ?_ ((rows_x m c ⟨t.val / 3 * 1024 + r.val, by omega⟩ k).trans ?_)
  · unfold iblk
    rw [View.read_apply]
    show V m c main_v0 _ = V m c main_v0 _
    congr 1
    funext a
    apply Fin.ext
    match a with
    | ⟨0, _⟩ => show win0_0.index t 0 * 1024 + 1 * r.val = _; rw [e0]; show _ = t.val / 3 * 1024 + r.val; omega
    | ⟨1, _⟩ => show win0_0.index t 1 * 1024 + 1 * k.val = k.val; rw [e1]; omega
  · congr 1
    funext a
    apply Fin.ext
    match a with
    | ⟨0, _⟩ => show (t.val / 3 * 1024 + r.val) / 8192 = t.val / 24; omega
    | ⟨1, _⟩ => show (t.val / 3 * 1024 + r.val) % 8192 = t.val / 3 % 8 * 1024 + r.val; omega
    | ⟨2, _⟩ => rfl

/-- Every point's block of the norm's weights is the whole row. -/
theorem block_norm (c : Dev nD) (t : Fin cfg0.N) (k : Fin 1024) :
    (iblk m c 1 t : Vec Ideal S1x1024 .f32) (ix2 0 k) = normW m c (ix1 k) := by
  obtain ⟨e0, e1⟩ := at1 t
  refine Eq.trans ?_ (row_norm m c k)
  unfold iblk
  rw [View.read_apply]
  show V m c main_v16 _ = V m c main_v16 _
  congr 1
  funext a
  apply Fin.ext
  match a with
  | ⟨0, _⟩ => show win0_1.index t 0 * 1 + 1 * 0 = 0; rw [e0]
  | ⟨1, _⟩ => show win0_1.index t 1 * 1024 + 1 * k.val = k.val; rw [e1]; omega

/-- Point `t`'s block of the shift is its sequence's row. -/
theorem block_shift (c : Dev nD) (t : Fin cfg0.N) (k : Fin 1024) :
    (iblk m c 2 t : Vec Ideal S1x1x1024 .f32) (ix3 0 0 k) = shiftV m c (ix2 ⟨t.val / 24, by have := lt96 t; omega⟩ k) := by
  obtain ⟨e0, e1, e2⟩ := at2 t
  refine Eq.trans ?_ (row_shift m c _ k)
  unfold iblk
  rw [View.read_apply]
  show V m c main_v17 _ = V m c main_v17 _
  congr 1
  funext a
  apply Fin.ext
  match a with
  | ⟨0, _⟩ => show win0_2.index t 0 * 1 + 1 * 0 = t.val / 24; rw [e0]; omega
  | ⟨1, _⟩ => show win0_2.index t 1 * 1 + 1 * 0 = 0; rw [e1]
  | ⟨2, _⟩ => show win0_2.index t 2 * 1024 + 1 * k.val = k.val; rw [e2]; omega

/-- Point `t`'s block of the scale is its sequence's row. -/
theorem block_scale (c : Dev nD) (t : Fin cfg0.N) (k : Fin 1024) :
    (iblk m c 3 t : Vec Ideal S1x1x1024 .f32) (ix3 0 0 k) = scaleV m c (ix2 ⟨t.val / 24, by have := lt96 t; omega⟩ k) := by
  obtain ⟨e0, e1, e2⟩ := at3 t
  refine Eq.trans ?_ (row_scale m c _ k)
  unfold iblk
  rw [View.read_apply]
  show V m c main_v18 _ = V m c main_v18 _
  congr 1
  funext a
  apply Fin.ext
  match a with
  | ⟨0, _⟩ => show win0_3.index t 0 * 1 + 1 * 0 = t.val / 24; rw [e0]; omega
  | ⟨1, _⟩ => show win0_3.index t 1 * 1 + 1 * 0 = 0; rw [e1]
  | ⟨2, _⟩ => show win0_3.index t 2 * 1024 + 1 * k.val = k.val; rw [e2]; omega

/-- Point `t`'s block of the weights is its third of the columns. -/
theorem block_weights (c : Dev nD) (t : Fin cfg0.N) (k : Fin 1024) (n : Fin 2176) :
    (iblk m c 4 t : Vec Ideal S1024x2176 .bf16) (ix2 k n) = column (projW m c) k (t.val % 3 * 2176 + n.val) := by
  obtain ⟨e0, e1⟩ := at4 t
  refine Eq.trans ?_ (slab_weights m c k ⟨t.val % 3 * 2176 + n.val, by omega⟩)
  unfold iblk
  rw [View.read_apply]
  show V m c main_v15 _ = V m c main_v15 _
  congr 1
  funext a
  apply Fin.ext
  match a with
  | ⟨0, _⟩ => show win0_4.index t 0 * 1024 + 1 * k.val = k.val; rw [e0]; omega
  | ⟨1, _⟩ => show win0_4.index t 1 * 2176 + 1 * n.val = t.val % 3 * 2176 + n.val; rw [e1]; omega

end Cert.Proof.InProj

end
-- ==== Proof.InProj.Value.lean ====
/-
  What the input projection's kernel leaves in its result, index by index, at exact reals.
-/
module

public import proofs.«01_k».proof.Proof.InProj.Body
public import proofs.«01_k».proof.Proof.InProj.Blocks

@[expose] public section

set_option Elab.async false
set_option maxRecDepth 16384

noncomputable section

namespace Cert.Proof.InProj

open Cert.Kernel2Ideal Cert.Kernel2Ideal.Gen Cert.Kernel2Ideal.Value Idealize.ShloMosaic Idealize.ShloMosaic.TcCoe Idealize.SL.Sem
open Idealize.ShloMosaic.Pipeline (Dat)

/-- The modulated activations: the row over the root of its mean square, weighted, scaled and shifted. -/
def modAt (x : Vec Ideal S4x8192x1024 .f32) (nw : Vec Ideal S1024 .f32) (sh sc : Vec Ideal S4x1024 .f32)
    (b : Fin 4) (s : Fin 8192) (k : Fin 1024) : EReal :=
  x (ix3 b s k)
      * Ideal.rsqrt (Ideal.div (∑ e, x (ix3 b s e) * x (ix3 b s e)) (Ideal.ofBits FTy.f32 1149239296#32) + Ideal.ofBits FTy.f32 897988541#32)
      * nw (ix1 k) * (1 + sc (ix2 b k)) + sh (ix2 b k)

/-- The result: the modulated row times the column. -/
def resAt (x : Vec Ideal S4x8192x1024 .f32) (nw : Vec Ideal S1024 .f32) (sh sc : Vec Ideal S4x1024 .f32) (w : Vec Ideal S1024x6424 .f32)
    (r : Fin 32768) (n : Fin 6528) : EReal :=
  ∑ k : Fin 1024, modAt x nw sh sc ⟨r.val / 8192, by omega⟩ ⟨r.val % 8192, by omega⟩ k * column w k n.val

theorem kept_at (x0 : Vec Ideal S1024x1024 .f32) (x1 : Vec Ideal S1x1024 .f32) (x2 x3 : Vec Ideal S1x1x1024 .f32) (r k : Fin 1024) :
    k0_pay1 x0 x1 x2 x3 (ix2 r k)
      = x0 (ix2 r k)
          * Ideal.rsqrt (Ideal.div (∑ e, x0 (ix2 r e) * x0 (ix2 r e)) (Ideal.ofBits FTy.f32 1149239296#32) + Ideal.ofBits FTy.f32 897988541#32)
          * x1 (ix2 0 k) * (1 + x3 (ix3 0 0 k)) + x2 (ix3 0 0 k) := by
  pointwise [k0_pay1]

theorem prod_at (h : Vec Ideal S1024x1024 .bf16) (w : Vec Ideal S1024x2176 .bf16) (r : Fin 1024) (n : Fin 2176) :
    k0_pay2 h w (ix2 r n) = ∑ k : Fin 1024, h (ix2 r k) * w (ix2 k n) := by
  pointwise [k0_pay2]

variable (m : (ℓ : Loc nD τ sig) → Buf (Elt Ideal) ℓ)

/-- The modulated block of point `t`'s row block. -/
theorem modulated_at (c : Dev nD) (t : Fin cfg0.N) (r k : Fin 1024) :
    k0_pay1 (iblk m c 0 t) (iblk m c 1 t) (iblk m c 2 t) (iblk m c 3 t) (ix2 r k)
      = modAt (actX m c) (normW m c) (shiftV m c) (scaleV m c) ⟨t.val / 24, by have := lt96 t; omega⟩
          ⟨t.val / 3 % 8 * 1024 + r.val, by omega⟩ k := by
  rw [kept_at, block_x, block_norm, block_shift, block_scale]
  unfold modAt
  simp only [block_x]

/-- After each point the kept buffer holds its row block's modulated block. -/
theorem kept_eq (c : Dev nD) : ∀ (n : Nat) (h : n < cfg0.N) (r k : Fin 1024),
    (outsAt0 m c n h).2 (ix2 r k)
      = modAt (actX m c) (normW m c) (shiftV m c) (scaleV m c) ⟨n / 24, by have := lt96 ⟨n, h⟩; simp only at this; omega⟩
          ⟨n / 3 % 8 * 1024 + r.val, by omega⟩ k := by
  intro n
  induction n using Nat.strong_induction_on with
  | _ n ih =>
    intro h r k
    by_cases h0 : n % 3 = 0
    · rw [outsAt0_A m c ⟨n, h⟩ h0]
      dsimp only
      rw [kept_first]
      exact modulated_at m c ⟨n, h⟩ r k
    · rw [outsAt0_B m c ⟨n, h⟩ h0]
      dsimp only
      unfold sout0_B_0
      rw [ih (n - 1) (by omega) _ r k]
      have e1 : (n - 1) / 24 = n / 24 := by omega
      have e2 : (n - 1) / 3 % 8 * 1024 = n / 3 % 8 * 1024 := by omega
      simp only [e1, e2]

/-- Each point leaves in the result's block the row block's modulated block times its third of the columns. -/
theorem out_eq (c : Dev nD) (n : Nat) (h : n < cfg0.N) (r : Fin 1024) (q : Fin 2176) :
    (outsAt0 m c n h).1 (ix2 r q)
      = ∑ k : Fin 1024, modAt (actX m c) (normW m c) (shiftV m c) (scaleV m c) ⟨n / 24, by have := lt96 ⟨n, h⟩; simp only at this; omega⟩
          ⟨n / 3 % 8 * 1024 + r.val, by omega⟩ k * column (projW m c) k (n % 3 * 2176 + q.val) := by
  by_cases h0 : n % 3 = 0
  · rw [outsAt0_A m c ⟨n, h⟩ h0]
    dsimp only
    rw [out_first, prod_at]
    refine Finset.sum_congr rfl fun k _ => ?_
    rw [modulated_at m c ⟨n, h⟩ r k, block_weights m c ⟨n, h⟩ k q]
  · rw [outsAt0_B m c ⟨n, h⟩ h0]
    dsimp only
    rw [out_later, prod_at]
    refine Finset.sum_congr rfl fun k _ => ?_
    rw [kept_eq m c (n - 1) _ r k, block_weights m c ⟨n, h⟩ k q]
    have e1 : (n - 1) / 24 = n / 24 := by omega
    have e2 : (n - 1) / 3 % 8 * 1024 = n / 3 % 8 * 1024 := by omega
    simp only [e1, e2]

/-- The kernel's result at an index. -/
theorem kernel_at (c : Dev nD) (r : Fin 32768) (n : Fin 6528) :
    G5 m c (ix2 r n) = resAt (actX m c) (normW m c) (shiftV m c) (scaleV m c) (projW m c) r n := by
  have hp : pt5Of (ix2 r n) = 3 * (r.val / 1024) + n.val / 2176 := by
    show 3 * (r.val / 1024 - 0) + 1 * (n.val / 2176 - 0) = _
    omega
  have hlt : pt5Of (ix2 r n) < cfg0.N := by
    rw [hp]; exact lt_of_lt_of_eq (by omega) N_0.symm
  unfold G5
  rw [dif_pos hlt, ← outsAt0_sweep m c (pt5Of (ix2 r n)) hlt]
  have hl : loc5Of (ix2 r n) = ix2 (⟨r.val % 1024, by omega⟩ : Fin 1024) (⟨n.val % 2176, by omega⟩ : Fin 2176) := by
    funext a
    match a with
    | ⟨0, _⟩ => rfl
    | ⟨1, _⟩ => rfl
  rw [hl]
  refine (out_eq m c _ hlt _ _).trans ?_
  unfold resAt
  refine Finset.sum_congr rfl fun k _ => ?_
  have e1 : pt5Of (ix2 r n) / 24 = r.val / 8192 := by rw [hp]; omega
  have e2 : pt5Of (ix2 r n) / 3 % 8 * 1024 + r.val % 1024 = r.val % 8192 := by rw [hp]; omega
  have e3 : pt5Of (ix2 r n) % 3 * 2176 + n.val % 2176 = n.val := by rw [hp]; omega
  simp only [e1, e2, e3]

end Cert.Proof.InProj

end
-- ==== Proof.InProj.Ref.lean ====
/-
  What the input projection's reference computes, index by index, at exact reals.
-/
module

public import proofs.«01_k».proof.Proof.InProj.Value
public import proofs.«01_k».proof.Proof.Gen.Reference2Ideal.Run
public import Idealize.ShloMosaic.Lib.Pointwise
public import Idealize.ShloMosaic.Lib.KernelVsHost

@[expose] public section

set_option Elab.async false
set_option maxRecDepth 16384

noncomputable section

namespace Cert.Proof.InProj

open Cert.Reference2Ideal Cert.Reference2Ideal.Gen Cert.Reference2Ideal.Value Idealize.ShloMosaic Idealize.ShloMosaic.TcCoe Idealize.SL.Sem

variable (m : (ℓ : Loc nD τ sig) → Buf (Elt Ideal) ℓ)

abbrev refX (c : Dev nD) : Vec Ideal S4x8192x1024 .f32 := m ((c : Thread nD τ).loc main_arg0)
abbrev refNorm (c : Dev nD) : Vec Ideal S1024 .f32 := m ((c : Thread nD τ).loc main_arg1)
abbrev refShift (c : Dev nD) : Vec Ideal S4x1024 .f32 := m ((c : Thread nD τ).loc main_arg2)
abbrev refScale (c : Dev nD) : Vec Ideal S4x1024 .f32 := m ((c : Thread nD τ).loc main_arg3)
abbrev refW (c : Dev nD) : FVec Ideal S1024x6424 .f32 := m ((c : Thread nD τ).loc main_arg4)

/-- The reference's modulated activations. -/
def refMod (x : Vec Ideal S4x8192x1024 .f32) (nw : Vec Ideal S1024 .f32) (sh sc : Vec Ideal S4x1024 .f32) : FVec Ideal S32768x1024 .f32 :=
  shapeCast _ (addf (mulf (mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 nw))) (broadcastInDim S4x8192x1024 ![0, 1, 2] bcast_S4x1x1024_S4x8192x1024_0_1_2 (addf (broadcastInDim S4x1x1024 ![] bcast_S_S4x1x1024 (constant S_ .f32 0x3F800000#32)) (broadcastInDim S4x1x1024 ![0, 2] bcast_S4x1024_S4x1x1024_0_2 sc)))) (broadcastInDim S4x8192x1024 ![0, 1, 2] bcast_S4x1x1024_S4x8192x1024_0_1_2 (broadcastInDim S4x1x1024 ![0, 2] bcast_S4x1024_S4x1x1024_0_2 sh))) shapeCasts_S4x8192x1024_S32768x1024

theorem refMod_at (x : Vec Ideal S4x8192x1024 .f32) (nw : Vec Ideal S1024 .f32) (sh sc : Vec Ideal S4x1024 .f32) (r : Fin 32768) (k : Fin 1024) :
    refMod x nw sh sc (ix2 r k) = modAt x nw sh sc ⟨r.val / 8192, by omega⟩ ⟨r.val % 8192, by omega⟩ k := by
  pointwise [refMod, modAt]

/-- The reference's product. -/
def refProd (h : FVec Ideal S32768x1024 .f32) (w : FVec Ideal S1024x6424 .f32) : FVec Ideal S32768x6424 .f32 :=
  Host.dotGeneral dot_S32768x1024_S1024x6424_S32768x6424_1_0_0_1_n_n none h w

theorem refProd_at (h : FVec Ideal S32768x1024 .f32) (w : FVec Ideal S1024x6424 .f32) (r : Fin 32768) (n : Fin 6424) :
    refProd h w (ix2 r n) = ∑ k : Fin 1024, h (ix2 r k) * w (ix2 k n) := by
  pointwise [refProd]

/-- The reference's result of its product: the columns rearranged, and zeros. -/
def refCols (p : FVec Ideal S32768x6424 .f32) : FVec Ideal S32768x6528 .bf16 :=
  truncf .bf16 (concatenate S32768x6528 1 [⟨S32768x3072, extractStridedSlice S32768x3072 ![0, 0] p slices_S32768x6424_S32768x3072_0_0⟩, ⟨S32768x2048, extractStridedSlice S32768x2048 ![0, 4376] p slices_S32768x6424_S32768x2048_0_4376⟩, ⟨S32768x1304, extractStridedSlice S32768x1304 ![0, 3072] p slices_S32768x6424_S32768x1304_0_3072⟩, ⟨S32768x104, broadcastInDim S32768x104 ![] bcast_S_S32768x104 (constant S_ .f32 0x00000000#32)⟩] concatenates_S32768x3072_S32768x2048_S32768x1304_S32768x104_S32768x6528_d1) bitsLt_bf16_f32

theorem ref_eq (c : Dev nD) : res_out0 m c = refCols (refProd (refMod (refX m c) (refNorm m c) (refShift m c) (refScale m c)) (refW m c)) := by
  unfold res_out0 res_main_v28
  rfl

theorem refCols_at (h : FVec Ideal S32768x1024 .f32) (w : FVec Ideal S1024x6424 .f32) (r : Fin 32768) (n : Fin 6528) :
    refCols (refProd h w) (ix2 r n) = ∑ k : Fin 1024, h (ix2 r k) * column w k n.val := by
  generalize hp : refProd h w = p
  obtain ⟨n, hn⟩ := n
  unfold refCols column
  by_cases h0 : n < 3072
  · simp only [if_pos h0]
    refine Eq.trans (b := extractStridedSlice S32768x3072 ![0, 0] p slices_S32768x6424_S32768x3072_0_0 (ix2 r ⟨n, by omega⟩)) ?_ ?_
    · refine concatenate_apply_piece (t := S32768x6528) (1 : Fin 2) _ (by exact concatenates_S32768x3072_S32768x2048_S32768x1304_S32768x104_S32768x6528_d1) _ 0 ?_ S32768x3072 _ ?_ rfl 0 ?_ (ix2 r ⟨n, by omega⟩) ?_ ?_
      · show 0 < 4; omega
      · rfl
      · rfl
      · intro b hb
        match b with
        | ⟨0, _⟩ => show r.val = r.val; rfl
        | ⟨1, _⟩ => exact absurd rfl hb
      · show 0 + (n) = n; omega
    · subst hp
      have e : n % 6424 = n := by omega
      simp only [e]
      exact (congrArg (refProd h w) (funext fun a => Fin.ext (by
        match a with
        | ⟨0, _⟩ => show 0 + r.val = r.val; omega
        | ⟨1, _⟩ => show 0 + (n) = n; omega))).trans (refProd_at h w r ⟨n, by omega⟩)
  by_cases h1 : n < 5120
  · simp only [if_neg h0, if_pos h1]
    refine Eq.trans (b := extractStridedSlice S32768x2048 ![0, 4376] p slices_S32768x6424_S32768x2048_0_4376 (ix2 r ⟨n - 3072, by omega⟩)) ?_ ?_
    · refine concatenate_apply_piece (t := S32768x6528) (1 : Fin 2) _ (by exact concatenates_S32768x3072_S32768x2048_S32768x1304_S32768x104_S32768x6528_d1) _ 1 ?_ S32768x2048 _ ?_ rfl 3072 ?_ (ix2 r ⟨n - 3072, by omega⟩) ?_ ?_
      · show 1 < 4; omega
      · rfl
      · rfl
      · intro b hb
        match b with
        | ⟨0, _⟩ => show r.val = r.val; rfl
        | ⟨1, _⟩ => exact absurd rfl hb
      · show 3072 + (n - 3072) = n; omega
    · subst hp
      have e : (n + 1304) % 6424 = n + 1304 := by omega
      simp only [e]
      exact (congrArg (refProd h w) (funext fun a => Fin.ext (by
        match a with
        | ⟨0, _⟩ => show 0 + r.val = r.val; omega
        | ⟨1, _⟩ => show 4376 + (n - 3072) = n + 1304; omega))).trans (refProd_at h w r ⟨n + 1304, by omega⟩)
  by_cases h2 : n < 6424
  · simp only [if_neg h0, if_neg h1, if_pos h2]
    refine Eq.trans (b := extractStridedSlice S32768x1304 ![0, 3072] p slices_S32768x6424_S32768x1304_0_3072 (ix2 r ⟨n - 5120, by omega⟩)) ?_ ?_
    · refine concatenate_apply_piece (t := S32768x6528) (1 : Fin 2) _ (by exact concatenates_S32768x3072_S32768x2048_S32768x1304_S32768x104_S32768x6528_d1) _ 2 ?_ S32768x1304 _ ?_ rfl 5120 ?_ (ix2 r ⟨n - 5120, by omega⟩) ?_ ?_
      · show 2 < 4; omega
      · rfl
      · rfl
      · intro b hb
        match b with
        | ⟨0, _⟩ => show r.val = r.val; rfl
        | ⟨1, _⟩ => exact absurd rfl hb
      · show 5120 + (n - 5120) = n; omega
    · subst hp
      have e : (n - 2048) % 6424 = n - 2048 := by omega
      simp only [e]
      exact (congrArg (refProd h w) (funext fun a => Fin.ext (by
        match a with
        | ⟨0, _⟩ => show 0 + r.val = r.val; omega
        | ⟨1, _⟩ => show 3072 + (n - 5120) = n - 2048; omega))).trans (refProd_at h w r ⟨n - 2048, by omega⟩)
  · simp only [if_neg h0, if_neg h1, if_neg h2, mul_zero, Finset.sum_const_zero]
    refine Eq.trans (b := broadcastInDim S32768x104 ![] bcast_S_S32768x104 (constant (F := Ideal) S_ .f32 0x00000000#32) (ix2 r ⟨n - 6424, by omega⟩)) ?_ ?_
    · refine concatenate_apply_piece (t := S32768x6528) (1 : Fin 2) _ (by exact concatenates_S32768x3072_S32768x2048_S32768x1304_S32768x104_S32768x6528_d1) _ 3 ?_ S32768x104 _ ?_ rfl 6424 ?_ (ix2 r ⟨n - 6424, by omega⟩) ?_ ?_
      · show 3 < 4; omega
      · rfl
      · rfl
      · intro b hb
        match b with
        | ⟨0, _⟩ => show r.val = r.val; rfl
        | ⟨1, _⟩ => exact absurd rfl hb
      · show 6424 + (n - 6424) = n; omega
    · pointwise

/-- The reference's result at an index. -/
theorem reference_at (c : Dev nD) (r : Fin 32768) (n : Fin 6528) :
    res_out0 m c (ix2 r n) = resAt (refX m c) (refNorm m c) (refShift m c) (refScale m c) (refW m c) r n := by
  rw [ref_eq]
  refine (refCols_at _ _ r n).trans ?_
  unfold resAt
  refine Finset.sum_congr rfl fun k _ => ?_
  rw [refMod_at]

end Cert.Proof.InProj

end
-- ==== Proof.InProj.Claims.lean ====
/-
  The input projection's claims, from the two programs' runs.
-/
module

public import proofs.«01_k».proof.Defs
public import proofs.«01_k».proof.Proof.InProj.Value
public import proofs.«01_k».proof.Proof.InProj.Ref
public import proofs.«01_k».proof.Proof.Gen.Kernel2.Frame

@[expose] public section

set_option Elab.async false
set_option maxRecDepth 16384

noncomputable section

namespace Cert.Proof.InProj

open Idealize.ShloMosaic Idealize.SL.Sem

/-- The kernel's frame. -/
theorem frame_kernel : Cert.quiescent_Kernel2 := fun m ρ _ =>
  Cert.Kernel2.Gen.frame (F := Bits) m ρ

theorem frame_kernelIdeal : Cert.quiescent_Kernel2Ideal := fun m ρ _ => Cert.Kernel2Ideal.Gen.frame (F := Ideal) m ρ

theorem frame_referenceIdeal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- At exact reals the kernel leaves what the reference computes. -/
theorem value_ideal : Cert.algebraic_Kernel2Ideal_Reference2Ideal := fun m ρ m' ρ' _ hm =>
  ⟨fun c => Cert.Kernel2Ideal.Value.G5 m c,
    (θ_run Cert.Kernel2Ideal.defs _ _).mono (fun _ h c => h c) (Cert.Kernel2Ideal.Value.run (F := Ideal) m ρ),
    (θ_run Cert.Reference2Ideal.defs _ _).mono (fun _ h c => ⟨(h c).1.trans (by
      obtain ⟨e0, e1, e2, e3, e4⟩ := hm c
      funext j
      rw [eq_ix2 j]
      refine (reference_at m' c (j 0) (j 1)).trans (Eq.trans ?_ (kernel_at m c (j 0) (j 1)).symm)
      unfold refX refNorm refShift refScale refW
      rw [e0, e1, e2, e3, e4]), (h c).2⟩)
      (Cert.Reference2Ideal.Value.run (F := Ideal) m' ρ')⟩

end Cert.Proof.InProj

end
-- ==== Proof.Attn.Payloads.lean ====
/-
  The differential attention's payloads at an index, at exact reals.
-/
module

public import proofs.«01_k».proof.Proof.Gen.Kernel3Ideal.Skeleton
public import Idealize.ShloMosaic.Lib.Pointwise

@[expose] public section

set_option Elab.async false
set_option maxRecDepth 16384

noncomputable section

namespace Cert.Proof.Attn

open Cert.Kernel3Ideal Cert.Kernel3Ideal.Gen Idealize.ShloMosaic Idealize.ShloMosaic.TcCoe

theorem mask_bot : (Named.named κ "mask" 0xF149F2CA#32 : Ideal .f32) = (⊥ : EReal) := by
  simp [Named.named, show κ "mask" = some ⊥ from rfl]

theorem ninf_bot : Ideal.ofBits .f32 0xFF800000#32 = ⊥ := by
  simp [Ideal.ofBits, Ideal.ieee]

theorem eighth : Ideal.ofBits .f32 0x3E000000#32 = ((1 / 8 : ℝ) : EReal) := by
  simp [Ideal.ofBits, Ideal.ieee, -EReal.coe_mul]; norm_num

theorem acc_at (al : FVec Ideal S1x1024 .f32) (acc : Vec Ideal S144x1024 .f32) (V : Vec Ideal S1x1x1x144x512 .bf16)
    (p : Vec Ideal S512x1024 .bf16) (r : Fin 144) (c : Fin 1024) :
    k0_pay2 al acc V p (ix2 r c) = al (ix2 0 c) * acc (ix2 r c) + ∑ k : Fin 512, V (ix5 0 0 0 r k) * p (ix2 k c) := by
  pointwise [k0_pay2]

theorem last_at (acc : FVec Ideal S144x1024 .f32) (V : Vec Ideal S1x1x1x144x512 .bf16)
    (p : Vec Ideal S512x1024 .bf16) (r : Fin 144) (c : Fin 1024) :
    k0_pay52 acc V p (ix2 r c) = acc (ix2 r c) + ∑ k : Fin 512, V (ix5 0 0 0 r k) * p (ix2 k c) := by
  pointwise [k0_pay52]

theorem m4_at (i : grid0.Coords) (v1 : Elt Ideal .f32) (v58 : Elt Ideal .i32) (a b : BitVec 32) (k : Fin (k0_t1_loop i v58).trips)
    (m mx : FVec Ideal S1x1024 .f32) (c : Fin 1024) :
    k0_pay4 i v1 v58 a b k m mx (ix2 0 c) = max (m (ix2 0 c)) (mx (ix2 0 c) + k0_pay3 i v1 v58 a b k) := by
  pointwise [k0_pay4]

theorem p5_at (i : grid0.Coords) (v1 : Elt Ideal .f32) (v58 : Elt Ideal .i32) (a b : BitVec 32) (k : Fin (k0_t1_loop i v58).trips)
    (m mx : FVec Ideal S1x1024 .f32) (s : Vec Ideal S512x1024 .f32) (r : Fin 512) (c : Fin 1024) :
    k0_pay5 i v1 v58 a b k m mx s (ix2 r c)
      = Ideal.exp (s (ix2 r c) - (k0_pay4 i v1 v58 a b k m mx (ix2 0 c) - k0_pay3 i v1 v58 a b k)) := by
  pointwise [k0_pay5]

theorem al6_at (i : grid0.Coords) (v1 : Elt Ideal .f32) (v58 : Elt Ideal .i32) (a b : BitVec 32) (k : Fin (k0_t1_loop i v58).trips)
    (m mx : FVec Ideal S1x1024 .f32) (c : Fin 1024) :
    k0_pay6 i v1 v58 a b k m mx (ix2 0 c) = Ideal.exp (m (ix2 0 c) - k0_pay4 i v1 v58 a b k m mx (ix2 0 c)) := by
  pointwise [k0_pay6]

theorem m12_at (v1 : Elt Ideal .f32) (w w' : BitVec 32) (m mx : FVec Ideal S1x1024 .f32) (c : Fin 1024) :
    k0_pay12 v1 w m mx w' (ix2 0 c) = max (m (ix2 0 c)) (mx (ix2 0 c) + k0_pay11 v1 w w') := by
  pointwise [k0_pay12]

theorem p13_at (v1 : Elt Ideal .f32) (w w' : BitVec 32) (m mx : FVec Ideal S1x1024 .f32) (s : Vec Ideal S512x1024 .f32) (r : Fin 512) (c : Fin 1024) :
    k0_pay13 v1 w m mx w' s (ix2 r c) = Ideal.exp (s (ix2 r c) - (k0_pay12 v1 w m mx w' (ix2 0 c) - k0_pay11 v1 w w')) := by
  pointwise [k0_pay13]

theorem al14_at (v1 : Elt Ideal .f32) (w w' : BitVec 32) (m mx : FVec Ideal S1x1024 .f32) (c : Fin 1024) :
    k0_pay14 v1 w m mx w' (ix2 0 c) = Ideal.exp (m (ix2 0 c) - k0_pay12 v1 w m mx w' (ix2 0 c)) := by
  pointwise [k0_pay14]

theorem p35_at (v1 : Elt Ideal .f32) (w : BitVec 32) (m mx : FVec Ideal S1x1024 .f32) (s : Vec Ideal S512x1024 .f32) (r : Fin 512) (c : Fin 1024) :
    k0_pay35 v1 m mx w s (ix2 r c)
      = Ideal.exp (s (ix2 r c) - (max (m (ix2 0 c)) (mx (ix2 0 c) + k0_pay33 v1 w) - k0_pay33 v1 w)) := by
  pointwise [k0_pay35, k0_pay34]

theorem acc36_at (v1 : Elt Ideal .f32) (w : BitVec 32) (m mx : FVec Ideal S1x1024 .f32) (acc : Vec Ideal S144x1024 .f32) (r : Fin 144) (c : Fin 1024) :
    k0_pay36 v1 m mx w acc (ix2 r c)
      = Ideal.exp (m (ix2 0 c) - max (m (ix2 0 c)) (mx (ix2 0 c) + k0_pay33 v1 w)) * acc (ix2 r c) := by
  pointwise [k0_pay36, k0_pay34]

/-- The scores of a tile under the bound `w` on how far a key lies past its query, before the mask. -/
theorem scores_at (v2 w : BitVec 32) (K : Vec Ideal S1x512x128 .bf16) (x4 : Vec Ideal S512x128 .bf16) (q : Vec Ideal S256x1024 .bf16)
    (x5 : Vec Ideal S512x1024 .i32) (k : Fin 512) (c : Fin 1024) :
    k0_pay7 v2 w K x4 q x5 (ix2 k c)
      = if (x5 (ix2 k c)).sle (v2 - w) then
          ∑ j : Fin 128, K (ix3 0 k j) * q (ix2 ⟨j.val, by omega⟩ c) + ∑ j : Fin 128, x4 (ix2 k j) * q (ix2 ⟨128 + j.val, by omega⟩ c)
        else (⊥ : EReal) := by
  pointwise [k0_pay7]
  rw [mask_bot]
  unfold Scalar.select IntOp.cmpi Scalar.subi
  by_cases h : (x5 (ix2 k c)).sle (v2 - w) <;> simp [h, IntOp.subi]

theorem max9_at (v2 w : BitVec 32) (K : Vec Ideal S1x512x128 .bf16) (x4 : Vec Ideal S512x128 .bf16) (q : Vec Ideal S256x1024 .bf16)
    (x5 : Vec Ideal S512x1024 .i32) (c : Fin 1024) :
    k0_pay9 v2 w K x4 q x5 (ix2 0 c) = Finset.univ.sup fun k : Fin 512 => k0_pay7 v2 w K x4 q x5 (ix2 k c) := by
  pointwise [k0_pay9]
  rw [ninf_bot]
  rfl

theorem q37_at (x1 : Vec Ideal S1x512x128 .bf16) (j : Fin 128) (c : Fin 1024) :
    k0_pay37 x1 (ix2 j c)
      = if j.val / 64 = c.val / 512 then x1 (ix3 0 ⟨c.val % 512, by omega⟩ j) * Ideal.ofBits .f32 0x3E000000#32 else 0 := by
  pointwise [k0_pay37]
  have lt : IntOp.cmpi CmpIPredicate.slt (BitVec.ofNat 32 j.val) 64#32 = BitVec.ofBool (decide (j.val < 64)) := by
    revert j; decide +kernel
  have ge : IntOp.cmpi CmpIPredicate.sge (BitVec.ofNat 32 j.val) 64#32 = BitVec.ofBool (decide (64 ≤ j.val)) := by
    revert j; decide +kernel
  rw [lt, ge]
  unfold Scalar.select
  by_cases h : c.val < 512
  · rw [dif_pos h]
    have hc : (⟨c.val % 512, by omega⟩ : Fin 512) = ⟨c.val, h⟩ := Fin.ext (by show c.val % 512 = c.val; omega)
    rw [hc]
    by_cases hj : j.val < 64
    · rw [if_pos (by simp [hj])]; exact (if_pos (by omega)).symm
    · rw [if_neg (by simp [hj])]; exact (if_neg (by omega)).symm
  · rw [dif_neg h]
    have hc : (⟨c.val % 512, by omega⟩ : Fin 512) = ⟨c.val - 512, by omega⟩ := Fin.ext (by show c.val % 512 = c.val - 512; omega)
    rw [hc]
    by_cases hj : 64 ≤ j.val
    · rw [if_pos (by simp [hj])]; exact (if_pos (by omega)).symm
    · rw [if_neg (by simp [hj])]; exact (if_neg (by omega)).symm

theorem q38_at (x6 : Vec Ideal S1x16x128 .f32) (j : Fin 16) (c : Fin 1024) :
    k0_pay38 x6 (ix2 j c) = x6 (ix3 0 j ⟨c.val % 128, by omega⟩) := by
  pointwise [k0_pay38]
  have e : ∀ n (h : n < 128), n = c.val % 128 → x6 (ix3 0 j ⟨n, h⟩) = x6 (ix3 0 j ⟨c.val % 128, by omega⟩) := by
    intro n h hn; subst hn; rfl
  split_ifs <;> exact e _ _ (by omega)

theorem q39_at (j : Fin 112) (c : Fin 1024) : k0_pay39 (F := Ideal) (ix2 j c) = 0 := by
  pointwise [k0_pay39]

theorem acc0_at (r : Fin 144) (c : Fin 1024) : k0_pay40 (F := Ideal) (ix2 r c) = 0 := by
  pointwise [k0_pay40]

theorem pb0_at (r : Fin 512) (c : Fin 1024) : k0_pay41 (F := Ideal) (ix2 r c) = 0 := by
  pointwise [k0_pay41]

theorem m0_at (c : Fin 1024) : k0_pay47 (F := Ideal) (ix2 0 c) = ⊥ := by
  pointwise [k0_pay47]
  exact mask_bot

theorem al0_at (c : Fin 1024) : k0_pay48 (F := Ideal) (ix2 0 c) = 1 := by
  pointwise [k0_pay48]

def lamAt (a b c d : Vec Ideal S1x64 .f32) : EReal :=
  Ideal.exp (∑ j : Fin 64, a (ix2 0 j) * b (ix2 0 j)) - Ideal.exp (∑ j : Fin 64, c (ix2 0 j) * d (ix2 0 j)) + Ideal.ofBits .f32 0x3E4CCCCD#32

theorem o_at (a b c d : Vec Ideal S1x64 .f32) (A : Vec Ideal S128x1024 .f32) (L : Vec Ideal S1x1024 .f32) (r : Fin 128) (n : Fin 512) :
    k0_pay53 a b c d A L (ix2 r n)
      = A (ix2 r ⟨n.val, by omega⟩) * Ideal.div 1 (L (ix2 0 ⟨n.val, by omega⟩))
        - lamAt a b c d * (A (ix2 r ⟨512 + n.val, by omega⟩) * Ideal.div 1 (L (ix2 0 ⟨512 + n.val, by omega⟩))) := by
  pointwise [k0_pay53, lamAt]

theorem ss_at (a b c d : Vec Ideal S1x64 .f32) (A : Vec Ideal S128x1024 .f32) (L : Vec Ideal S1x1024 .f32) (n : Fin 512) :
    k0_pay54 a b c d A L (ix1 n) = ∑ r : Fin 128, k0_pay53 a b c d A L (ix2 r n) * k0_pay53 a b c d A L (ix2 r n) := by
  pointwise [k0_pay54]

theorem out_at (o : FVec Ideal S128x512 .f32) (ss : FVec Ideal S512 .f32) (w : Vec Ideal S128x1 .f32) (n : Fin 512) (r : Fin 128) :
    k0_pay1 o ss w (ix3 0 n r)
      = o (ix2 r n) * Ideal.rsqrt (Ideal.div (ss (ix1 n)) (Ideal.ofBits .f32 0x43000000#32) + Ideal.ofBits .f32 0x3727C5AC#32)
        * w (ix2 r 0) * Ideal.ofBits .f32 0x3F4CCCCD#32 := by
  pointwise [k0_pay1]

end Cert.Proof.Attn

end
-- ==== Proof.Attn.Softmax.lean ====
/-
  A softmax taken tile by tile, over the extended reals.

  A column of scores comes in tiles. What is kept of the tiles seen so far is the largest score `m` and, for each row of the values,
  the sum of the values weighted by the exponentials of the scores less `m`. A tile raises `m`, scales what is kept and adds its own.
-/
module

public import Idealize.ShloMosaic.PureOps.Ideal

@[expose] public section

noncomputable section

namespace Cert.Proof.Attn

open Idealize.ShloMosaic

/-- What is kept (`m`, `A`) stands for the weighted sums `N`, whose weights are the exponentials of the scores themselves. -/
def Stands {R : Type} (m : EReal) (A : R → EReal) (N : R → ℝ) : Prop :=
  (m = ⊥ ∧ ∀ r, A r = 0 ∧ N r = 0) ∨ ∃ M : ℝ, m = (M : EReal) ∧ ∀ r, A r = ((Real.exp (-M) * N r : ℝ) : EReal)

/-- The sum of a tile's weights, each times a value. -/
def tileSum {K : Type} [Fintype K] (live : K → Prop) [DecidablePred live] (σ : K → ℝ) (off : ℝ) (v : K → ℝ) : ℝ :=
  ∑ k, v k * (if live k then Real.exp (σ k + off) else 0)

theorem coe_sum {K : Type} (s : Finset K) (f : K → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The largest score of a tile with a live key is a real number. -/
theorem max_real {K : Type} [Fintype K] (live : K → Prop) [DecidablePred live] (σ : K → ℝ) (s : K → EReal)
    (hs : ∀ k, s k = if live k then ((σ k : ℝ) : EReal) else ⊥) (k0 : K) (h0 : live k0) :
    ∃ x : ℝ, Finset.univ.sup s = (x : EReal) := by
  have hb : Finset.univ.sup s ≠ ⊥ := by
    intro h
    have h1 : s k0 ≤ ⊥ := h ▸ Finset.le_sup (Finset.mem_univ k0)
    rw [hs, if_pos h0] at h1
    exact EReal.coe_ne_bot _ (le_bot_iff.mp h1)
  have ht : Finset.univ.sup s ≠ ⊤ := by
    refine ne_of_lt ((Finset.sup_lt_iff bot_lt_top).mpr fun k _ => ?_)
    rw [hs]; split
    · exact EReal.coe_lt_top _
    · exact bot_lt_top
  exact ⟨_, (EReal.coe_toReal ht hb).symm⟩

/-- One tile's step keeps the standing, and leaves a real maximum. -/
theorem stands_step {K R : Type} [Fintype K] (live : K → Prop) [DecidablePred live] (σ : K → ℝ) (s : K → EReal)
    (hs : ∀ k, s k = if live k then ((σ k : ℝ) : EReal) else ⊥) (k0 : K) (h0 : live k0) (off : ℝ)
    (m : EReal) (A : R → EReal) (N : R → ℝ) (hg : Stands m A N) (v : R → K → ℝ) (m' : EReal)
    (hm' : m' = max m (Finset.univ.sup s + (off : EReal))) :
    Stands m' (fun r => Ideal.exp (m - m') * A r + ∑ k, ((v r k : ℝ) : EReal) * Ideal.exp (s k - (m' - (off : EReal))))
      (fun r => N r + tileSum live σ off (v r)) := by
  obtain ⟨x, hx⟩ := max_real live σ s hs k0 h0
  rw [hx, ← EReal.coe_add] at hm'
  have key : ∀ M' : ℝ, m' = (M' : EReal) → ∀ r,
      ∑ k, ((v r k : ℝ) : EReal) * Ideal.exp (s k - (m' - (off : EReal))) = ((Real.exp (-M') * tileSum live σ off (v r) : ℝ) : EReal) := by
    intro M' hM r
    unfold tileSum
    rw [Finset.mul_sum, ← coe_sum]
    refine Finset.sum_congr rfl fun k _ => ?_
    rw [hs, hM, ← EReal.coe_sub]
    split
    · rw [← EReal.coe_sub, Ideal.exp_coe, ← EReal.coe_mul]
      congr 1
      rw [mul_left_comm, ← Real.exp_add]; congr 2; ring
    · rw [EReal.bot_sub, Ideal.exp_bot, mul_zero]; simp
  rcases hg with ⟨hm, hA⟩ | ⟨M, hm, hA⟩
  · have hM : m' = ((x + off : ℝ) : EReal) := by rw [hm', hm]; simp
    refine Or.inr ⟨x + off, hM, fun r => ?_⟩
    show Ideal.exp (m - m') * A r + _ = ((_ * (N r + _) : ℝ) : EReal)
    rw [key _ hM r, (hA r).1, (hA r).2, mul_zero, zero_add, zero_add]
  · have hM : m' = ((max M (x + off) : ℝ) : EReal) := by rw [hm', hm]; exact (EReal.coe_strictMono.monotone.map_max).symm
    refine Or.inr ⟨_, hM, fun r => ?_⟩
    show Ideal.exp (m - m') * A r + _ = ((_ * (N r + _) : ℝ) : EReal)
    rw [key _ hM r, hA r, hm, hM, ← EReal.coe_sub, Ideal.exp_coe, ← EReal.coe_mul, ← EReal.coe_add]
    congr 1
    rw [← mul_assoc, ← Real.exp_add, mul_add]; congr 3; ring

/-- At the end the quotient by the sum of the weights no longer depends on the maximum. -/
theorem stands_quot {R : Type} (m : EReal) (A : R → EReal) (N : R → ℝ) (h : Stands m A N) (r1 : R) (hpos : 0 < N r1) (r : R) :
    A r * Ideal.div 1 (A r1) = ((N r / N r1 : ℝ) : EReal) := by
  rcases h with ⟨_, h⟩ | ⟨M, _, h⟩
  · exact absurd (h r1).2 hpos.ne'
  · have h1 : A r1 ≠ 0 := by
      rw [h r1]; exact_mod_cast (mul_pos (Real.exp_pos _) hpos).ne'
    rw [Ideal.div, if_neg h1, one_mul, h r, h r1, ← EReal.coe_inv, ← EReal.coe_mul]
    congr 1
    have := (Real.exp_pos (-M)).ne'
    field_simp

end Cert.Proof.Attn

end
-- ==== Proof.Attn.Step.lean ====
/-
  A trip of the differential attention's loop over pairs of key tiles, as a function of the kernel's payloads.
-/
module

public import proofs.«01_k».proof.Proof.Gen.Kernel3Ideal.Skeleton
public import Idealize.ShloMosaic.Lib.Pipeline.ValueKit

@[expose] public section

set_option Elab.async false
set_option maxRecDepth 16384

noncomputable section

namespace Cert.Proof.Attn

open Cert.Kernel3Ideal Cert.Kernel3Ideal.Gen Idealize.ShloMosaic Idealize.ShloMosaic.TcCoe

variable {F : FTy → Type} [FloatOps F] [Named F]

/-- What the loop carries: the running maximum, the next tile's largest score, the last tile's factor; what is kept; the next tile's
    scores; the last tile's weights. -/
structure St (F : FTy → Type) where
  m : FVec F S1x1024 .f32
  mx : FVec F S1x1024 .f32
  al : FVec F S1x1024 .f32
  acc : FVec F S144x1024 .f32
  sa : FVec F S512x1024 .f32
  pb : FVec F S512x1024 .bf16

variable (i : grid0.Coords) (v1 : Elt F .f32) (v2 : BitVec 32) (v58 : Elt F .i32) (hw : k0_chk1 i v58)
  (x2 : Vec F S1x8192x128 .bf16) (x3 : Vec F S1x1x16x144x512 .bf16) (x4 : Vec F S512x128 .bf16) (x5 : Vec F S512x1024 .i32)
  (q : Vec F S256x1024 .bf16)

/-- The trip's first tile, as a word. -/
abbrev tileA {i : grid0.Coords} {v58 : BitVec 32} (k : Fin (k0_t1_loop i v58).trips) : BitVec 32 :=
  Scalar.addi v58 (Scalar.muli 2#32 (Scf.iv 0#32 1#32 k))

abbrev keys5 (k : Fin (k0_t1_loop i v58).trips) : Vec F S1x512x128 .bf16 :=
  View.ld x2 (Rect.unit (s := S1x8192x128) (k0_off5 i v58 k) S1x512x128.size (k0_off5_inb i v58 hw k))
abbrev keys7 (k : Fin (k0_t1_loop i v58).trips) : Vec F S1x512x128 .bf16 :=
  View.ld x2 (Rect.unit (s := S1x8192x128) (k0_off7 i v58 k) S1x512x128.size (k0_off7_inb i v58 hw k))
abbrev vals4 (k : Fin (k0_t1_loop i v58).trips) : Vec F S1x1x1x144x512 .bf16 :=
  View.ld x3 (Rect.unit (s := S1x1x16x144x512) (k0_off4 i v58 k) S1x1x1x144x512.size (k0_off4_inb i v58 hw k))
abbrev vals6 (k : Fin (k0_t1_loop i v58).trips) : Vec F S1x1x1x144x512 .bf16 :=
  View.ld x3 (Rect.unit (s := S1x1x16x144x512) (k0_off6 i v58 k) S1x1x1x144x512.size (k0_off6_inb i v58 hw k))

def m1 (k : Fin (k0_t1_loop i v58).trips) (s : St F) : FVec F S1x1024 .f32 := k0_pay4 i v1 v58 0#32 1#32 k s.m s.mx
def mxb (k : Fin (k0_t1_loop i v58).trips) : FVec F S1x1024 .f32 :=
  k0_pay9 v2 (Scalar.muli (Scalar.addi (tileA k) 1#32) 512#32) (keys5 i v58 hw x2 k) x4 q x5
def sb (k : Fin (k0_t1_loop i v58).trips) : FVec F S512x1024 .f32 :=
  k0_pay8 v2 (Scalar.muli (Scalar.addi (tileA k) 1#32) 512#32) (keys5 i v58 hw x2 k) x4 q x5

/-- What a trip leaves of what it finds. -/
def step (k : Fin (k0_t1_loop i v58).trips) (s : St F) : St F where
  m := k0_pay12 v1 (Scalar.addi (tileA k) 1#32) (m1 i v1 v58 k s) (mxb i v2 v58 hw x2 x4 x5 q k) 512#32
  mx := k0_pay49 (k0_pay15 v2 (tileA k) (keys7 i v58 hw x2 k) x4 q x5)
  al := k0_pay14 v1 (Scalar.addi (tileA k) 1#32) (m1 i v1 v58 k s) (mxb i v2 v58 hw x2 x4 x5 q k) 512#32
  acc := k0_pay10 (k0_pay6 i v1 v58 0#32 1#32 k s.m s.mx) (k0_pay2 s.al s.acc (vals4 i v58 hw x3 k) s.pb) (vals6 i v58 hw x3 k)
    (k0_pay5 i v1 v58 0#32 1#32 k s.m s.mx s.sa)
  sa := k0_pay16 v2 (tileA k) (keys7 i v58 hw x2 k) x4 q x5
  pb := k0_pay13 v1 (Scalar.addi (tileA k) 1#32) (m1 i v1 v58 k s) (mxb i v2 v58 hw x2 x4 x5 q k) 512#32 (sb i v2 v58 hw x2 x4 x5 q k)

/-- What the loop has before trip `n`. -/
def sts (s0 : St F) : Nat → St F
  | 0 => s0
  | n + 1 => if h : n < (k0_t1_loop i v58).trips then step i v1 v2 v58 hw x2 x3 x4 x5 q ⟨n, h⟩ (sts s0 n) else sts s0 n

end Cert.Proof.Attn

end
-- ==== Proof.Attn.Words.lean ====
/-
  The words of the differential attention's kernel at the query tile `a` whose first live key tile is `κ`.
-/
module

public import proofs.«01_k».proof.Proof.Attn.Step

@[expose] public section

set_option Elab.async false
set_option maxRecDepth 16384

noncomputable section

namespace Cert.Proof.Attn

open Cert.Kernel3Ideal Cert.Kernel3Ideal.Gen Idealize.ShloMosaic

/-- The grid's point of query tile `a`. -/
abbrev at2 (a : Fin 16) : grid0.Coords := fun | ⟨0, _⟩ => (0 : Fin 4) | ⟨1, _⟩ => (0 : Fin 8) | ⟨2, _⟩ => a

abbrev wd (κ : Fin 16) : BitVec 32 := BitVec.ofNat 32 κ.val

theorem chk_at : ∀ a κ : Fin 16, κ ≤ a → k0_chk1 (at2 a) (wd κ) := by decide +kernel

theorem trips1_at : ∀ a κ : Fin 16, κ ≤ a → (k0_t1_loop (at2 a) (wd κ)).trips = (a.val + 1 - κ.val) / 2 := by decide +kernel

theorem trips2_at : ∀ a κ : Fin 16, κ ≤ a → (k0_t2_loop (at2 a) (wd κ)).trips = 0 := by decide +kernel

theorem off3_at : ∀ κ : Fin 16, k0_off3 (wd κ) = ![0, κ.val * 512, 0] := by decide +kernel

theorem off4_at : ∀ a κ : Fin 16, κ ≤ a → ∀ k : Fin (k0_t1_loop (at2 a) (wd κ)).trips,
    k0_off4 (at2 a) (wd κ) k = ![0, 0, κ.val + 2 * k.val - 1, 0, 0] := by decide +kernel

theorem off5_at : ∀ a κ : Fin 16, κ ≤ a → ∀ k : Fin (k0_t1_loop (at2 a) (wd κ)).trips,
    k0_off5 (at2 a) (wd κ) k = ![0, (κ.val + 2 * k.val + 1) * 512, 0] := by decide +kernel

theorem off6_at : ∀ a κ : Fin 16, κ ≤ a → ∀ k : Fin (k0_t1_loop (at2 a) (wd κ)).trips,
    k0_off6 (at2 a) (wd κ) k = ![0, 0, κ.val + 2 * k.val, 0, 0] := by decide +kernel

theorem off7_at : ∀ a κ : Fin 16, κ ≤ a → ∀ k : Fin (k0_t1_loop (at2 a) (wd κ)).trips,
    k0_off7 (at2 a) (wd κ) k = ![0, min (κ.val + 2 * k.val + 2) 15 * 512, 0] := by decide +kernel

theorem off12_at : ∀ a : Fin 16, k0_off12 (at2 a) = ![0, 0, a.val, 0, 0] := by decide +kernel
theorem off13_at : ∀ a : Fin 16, k0_off13 (at2 a) = ![0, 0, a.val - 1, 0, 0] := by decide +kernel
theorem off14_at : ∀ a : Fin 16, k0_off14 (at2 a) = ![0, 0, a.val, 0, 0] := by decide +kernel

theorem tileA_at : ∀ a κ : Fin 16, κ ≤ a → ∀ k : Fin (k0_t1_loop (at2 a) (wd κ)).trips,
    tileA (i := at2 a) (v58 := wd κ) k = BitVec.ofNat 32 (κ.val + 2 * k.val) := by decide +kernel

theorem tileA_of (i : grid0.Coords) (κ : Fin 16) (h : κ.val ≤ (i 2).val) (k : Fin (k0_t1_loop i (wd κ)).trips) :
    tileA (i := i) (v58 := wd κ) k = BitVec.ofNat 32 (κ.val + 2 * k.val) := tileA_at (i 2) κ h k

theorem succ_word : ∀ t : Fin 16, Scalar.addi (BitVec.ofNat 32 t.val) 1#32 = BitVec.ofNat 32 (t.val + 1) := by decide +kernel
theorem next_word : ∀ t : Fin 16, Scalar.minsi (Scalar.addi (BitVec.ofNat 32 t.val) 2#32) 15#32 = BitVec.ofNat 32 (min (t.val + 2) 15) := by
  decide +kernel
theorem start_int : ∀ t : Fin 17, (Scalar.muli (BitVec.ofNat 32 t.val) 512#32).toInt = 512 * (t.val : Int) := by decide +kernel
theorem bound_int : ∀ a t : Fin 16, (Scalar.muli (BitVec.ofNat 32 a.val) 512#32 - Scalar.muli (BitVec.ofNat 32 t.val) 512#32).toInt
    = 512 * (a.val : Int) - 512 * (t.val : Int) := by decide +kernel

theorem chk_of (i : grid0.Coords) (κ : Fin 16) (h : κ.val ≤ (i 2).val) : k0_chk1 i (wd κ) :=
  chk_at (i 2) κ h

theorem trips1 (i : grid0.Coords) (κ : Fin 16) (h : κ.val ≤ (i 2).val) :
    (k0_t1_loop i (wd κ)).trips = ((i 2).val + 1 - κ.val) / 2 := trips1_at (i 2) κ h

theorem trips2 (i : grid0.Coords) (κ : Fin 16) (h : κ.val ≤ (i 2).val) : (k0_t2_loop i (wd κ)).trips = 0 := trips2_at (i 2) κ h

theorem off4_of (i : grid0.Coords) (κ : Fin 16) (h : κ.val ≤ (i 2).val) (k : Fin (k0_t1_loop i (wd κ)).trips) :
    k0_off4 i (wd κ) k = ![0, 0, κ.val + 2 * k.val - 1, 0, 0] := off4_at (i 2) κ h k

theorem off5_of (i : grid0.Coords) (κ : Fin 16) (h : κ.val ≤ (i 2).val) (k : Fin (k0_t1_loop i (wd κ)).trips) :
    k0_off5 i (wd κ) k = ![0, (κ.val + 2 * k.val + 1) * 512, 0] := off5_at (i 2) κ h k

theorem off6_of (i : grid0.Coords) (κ : Fin 16) (h : κ.val ≤ (i 2).val) (k : Fin (k0_t1_loop i (wd κ)).trips) :
    k0_off6 i (wd κ) k = ![0, 0, κ.val + 2 * k.val, 0, 0] := off6_at (i 2) κ h k

theorem off7_of (i : grid0.Coords) (κ : Fin 16) (h : κ.val ≤ (i 2).val) (k : Fin (k0_t1_loop i (wd κ)).trips) :
    k0_off7 i (wd κ) k = ![0, min (κ.val + 2 * k.val + 2) 15 * 512, 0] := off7_at (i 2) κ h k

theorem off12_of (i : grid0.Coords) : k0_off12 i = ![0, 0, (i 2).val, 0, 0] := off12_at (i 2)
theorem off13_of (i : grid0.Coords) : k0_off13 i = ![0, 0, (i 2).val - 1, 0, 0] := off13_at (i 2)
theorem off14_of (i : grid0.Coords) : k0_off14 i = ![0, 0, (i 2).val, 0, 0] := off14_at (i 2)

end Cert.Proof.Attn

end
-- ==== Proof.Attn.Cols.lean ====
/-
  A column of the differential attention's scores, tile by tile: what the kernel keeps after each pair of key tiles stands for the sums
  over the tiles seen.
-/
module

public import proofs.«01_k».proof.Proof.Attn.Payloads
public import proofs.«01_k».proof.Proof.Attn.Softmax
public import proofs.«01_k».proof.Proof.Attn.Words

@[expose] public section

set_option Elab.async false
set_option maxRecDepth 16384

noncomputable section

namespace Cert.Proof.Attn

open Cert.Kernel3Ideal Cert.Kernel3Ideal.Gen Idealize.ShloMosaic Idealize.ShloMosaic.TcCoe

/-- The real numbers that a grid point's blocks hold. -/
structure Holds (x2 : Vec Ideal S1x8192x128 .bf16) (x3 : Vec Ideal S1x1x16x144x512 .bf16) (x4 : Vec Ideal S512x128 .bf16)
    (x5 : Vec Ideal S512x1024 .i32) (q : Vec Ideal S256x1024 .bf16) (sl : ℝ) (kr : Fin 8192 → Fin 128 → ℝ) (qr : Fin 128 → Fin 1024 → ℝ)
    (vr : Fin 16 → Fin 144 → Fin 512 → ℝ) : Prop where
  keys : ∀ s j, x2 (ix3 0 s j) = ((kr s j : ℝ) : EReal)
  vals : ∀ t r k, x3 (ix5 0 0 t r k) = ((vr t r k : ℝ) : EReal)
  pos : ∀ (k : Fin 512) (j : Fin 128), x4 (ix2 k j)
    = ((if j.val < 3 then ((k.val / 16 : ℕ) : ℝ) else if j.val < 6 then ((k.val % 16 : ℕ) : ℝ) else 0 : ℝ) : EReal)
  q0 : ∀ (j : Fin 128) c, q (ix2 ⟨j.val, by omega⟩ c) = ((qr j c : ℝ) : EReal)
  q1 : ∀ (j : Fin 128) c, q (ix2 ⟨128 + j.val, by omega⟩ c) = (((if j = 0 then 16 * sl else 0) + (if j = 3 then sl else 0) : ℝ) : EReal)
  rel : ∀ (k : Fin 512) (c : Fin 1024), (x5 (ix2 k c)).toInt = (k.val : Int) - ((c.val % 512 : ℕ) : Int)

section
variable (a κ : Fin 16) (sl : ℝ) (kr : Fin 8192 → Fin 128 → ℝ) (qr : Fin 128 → Fin 1024 → ℝ) (vr : Fin 16 → Fin 144 → Fin 512 → ℝ)

/-- A key's score within its tile. -/
def sig (c : Fin 1024) (t : Fin 16) (k : Fin 512) : ℝ := ∑ j : Fin 128, kr ⟨512 * t.val + k.val, by omega⟩ j * qr j c + sl * (k.val : ℝ)

/-- The key is not past its query. -/
abbrev live (c : Fin 1024) (t : Fin 16) (k : Fin 512) : Prop := k.val + 512 * t.val ≤ c.val % 512 + 512 * a.val

/-- A tile's part of the sums. -/
def part (c : Fin 1024) (t : Fin 16) (r : Fin 144) : ℝ := tileSum (live a c t) (sig sl kr qr c t) (sl * (512 * (t.val : ℝ))) (vr t r)

/-- The sums over the tiles from `κ` on that lie before tile `T`. -/
def upTo (c : Fin 1024) (T : ℕ) (r : Fin 144) : ℝ := ∑ t : Fin 16, if κ.val ≤ t.val ∧ t.val < T then part a sl kr qr vr c t r else 0

theorem upTo_start (c : Fin 1024) (r : Fin 144) : upTo a κ sl kr qr vr c κ.val r = 0 :=
  Finset.sum_eq_zero fun t _ => if_neg (by omega)

theorem upTo_succ (c : Fin 1024) (T : Fin 16) (h : κ.val ≤ T.val) (r : Fin 144) :
    upTo a κ sl kr qr vr c (T.val + 1) r = upTo a κ sl kr qr vr c T.val r + part a sl kr qr vr c T r := by
  unfold upTo
  have e : ∀ t : Fin 16, (if κ.val ≤ t.val ∧ t.val < T.val + 1 then part a sl kr qr vr c t r else 0)
      = (if κ.val ≤ t.val ∧ t.val < T.val then part a sl kr qr vr c t r else 0) + (if t = T then part a sl kr qr vr c t r else 0) := by
    intro t
    by_cases ht : t = T
    · subst ht; rw [if_pos ⟨h, by omega⟩, if_neg (by omega), if_pos rfl, zero_add]
    · have hne : t.val ≠ T.val := fun hh => ht (Fin.ext hh)
      rw [if_neg ht, add_zero]
      by_cases h2 : κ.val ≤ t.val ∧ t.val < T.val
      · rw [if_pos h2, if_pos ⟨h2.1, by omega⟩]
      · rw [if_neg h2, if_neg (by omega)]
  rw [Finset.sum_congr rfl fun t _ => e t, Finset.sum_add_distrib, Finset.sum_ite_eq' Finset.univ T]
  simp

end

variable {a κ : Fin 16} {sl : ℝ} {kr : Fin 8192 → Fin 128 → ℝ} {qr : Fin 128 → Fin 1024 → ℝ} {vr : Fin 16 → Fin 144 → Fin 512 → ℝ}
  {x2 : Vec Ideal S1x8192x128 .bf16} {x3 : Vec Ideal S1x1x16x144x512 .bf16} {x4 : Vec Ideal S512x128 .bf16}
  {x5 : Vec Ideal S512x1024 .i32} {q : Vec Ideal S256x1024 .bf16}

theorem pos_sum (H : Holds x2 x3 x4 x5 q sl kr qr vr) (k : Fin 512) (c : Fin 1024) :
    ∑ j : Fin 128, x4 (ix2 k j) * q (ix2 ⟨128 + j.val, by omega⟩ c) = ((sl * (k.val : ℝ) : ℝ) : EReal) := by
  have e : ∀ j : Fin 128, x4 (ix2 k j) * q (ix2 ⟨128 + j.val, by omega⟩ c)
      = (((if j = 0 then ((k.val / 16 : ℕ) : ℝ) * (16 * sl) else 0) + (if j = 3 then ((k.val % 16 : ℕ) : ℝ) * sl else 0) : ℝ) : EReal) := by
    intro j
    rw [H.pos, H.q1, ← EReal.coe_mul]
    congr 1
    by_cases h0 : j = 0
    · subst h0; simp
    · by_cases h3 : j = 3
      · subst h3; simp
      · simp [h0, h3]
  rw [Finset.sum_congr rfl fun j _ => e j, coe_sum]
  congr 1
  rw [Finset.sum_add_distrib, Finset.sum_ite_eq' Finset.univ (0 : Fin 128), Finset.sum_ite_eq' Finset.univ (3 : Fin 128)]
  simp only [Finset.mem_univ, if_true]
  have h := Nat.div_add_mod k.val 16
  have h' : (k.val : ℝ) = 16 * ((k.val / 16 : ℕ) : ℝ) + ((k.val % 16 : ℕ) : ℝ) := by exact_mod_cast h.symm
  rw [h']; ring

theorem key_sum (H : Holds x2 x3 x4 x5 q sl kr qr vr) (t : Fin 16) (off : Fin 3 → ℕ) (hoff : off = ![0, t.val * 512, 0])
    (inb : ∀ d, off d + S1x512x128.size d ≤ S1x8192x128.size d) (k : Fin 512) (c : Fin 1024) :
    ∑ j : Fin 128, View.ld x2 (Rect.unit (s := S1x8192x128) off S1x512x128.size inb) (ix3 0 k j) * q (ix2 ⟨j.val, by omega⟩ c)
      = ((∑ j : Fin 128, kr ⟨512 * t.val + k.val, by omega⟩ j * qr j c : ℝ) : EReal) := by
  subst hoff
  rw [← coe_sum]
  refine Finset.sum_congr rfl fun j _ => ?_
  rw [H.q0, EReal.coe_mul, ← H.keys]
  congr 1
  refine congrArg x2 (funext fun d => Fin.ext ?_)
  match d with
  | ⟨0, _⟩ => rfl
  | ⟨1, _⟩ => show t.val * 512 + 1 * k.val = 512 * t.val + k.val; omega
  | ⟨2, _⟩ => show 0 + 1 * j.val = j.val; omega

theorem score (H : Holds x2 x3 x4 x5 q sl kr qr vr) (t : Fin 16) (off : Fin 3 → ℕ) (hoff : off = ![0, t.val * 512, 0])
    (inb : ∀ d, off d + S1x512x128.size d ≤ S1x8192x128.size d) (k : Fin 512) (c : Fin 1024) :
    k0_pay7 (Scalar.muli (BitVec.ofNat 32 a.val) 512#32) (Scalar.muli (BitVec.ofNat 32 t.val) 512#32)
        (View.ld x2 (Rect.unit (s := S1x8192x128) off S1x512x128.size inb)) x4 q x5 (ix2 k c)
      = if live a c t k then ((sig sl kr qr c t k : ℝ) : EReal) else ⊥ := by
  rw [scores_at, key_sum H t off hoff inb, pos_sum H, ← EReal.coe_add]
  have hb : ((x5 (ix2 k c)).sle (Scalar.muli (BitVec.ofNat 32 a.val) 512#32 - Scalar.muli (BitVec.ofNat 32 t.val) 512#32) = true)
      ↔ live a c t k := by
    rw [BitVec.sle_iff_toInt_le, H.rel, bound_int]
    unfold live; omega
  by_cases h : live a c t k
  · rw [if_pos (hb.mpr h), if_pos h]; rfl
  · rw [if_neg (fun hh => h (hb.mp hh)), if_neg h]

theorem val_load (H : Holds x2 x3 x4 x5 q sl kr qr vr) (t : Fin 16) (off : Fin 5 → ℕ) (hoff : off = ![0, 0, t.val, 0, 0])
    (inb : ∀ d, off d + S1x1x1x144x512.size d ≤ S1x1x16x144x512.size d) (r : Fin 144) (k : Fin 512) :
    View.ld x3 (Rect.unit (s := S1x1x16x144x512) off S1x1x1x144x512.size inb) (ix5 0 0 0 r k) = ((vr t r k : ℝ) : EReal) := by
  subst hoff
  rw [← H.vals]
  refine congrArg x3 (funext fun d => Fin.ext ?_)
  match d with
  | ⟨0, _⟩ => rfl
  | ⟨1, _⟩ => rfl
  | ⟨2, _⟩ => show t.val + 1 * 0 = t.val; omega
  | ⟨3, _⟩ => show 0 + 1 * r.val = r.val; omega
  | ⟨4, _⟩ => show 0 + 1 * k.val = k.val; omega

theorem off_word (t : Fin 17) (v1 : Elt Ideal .f32) (h : v1 = ((sl : ℝ) : EReal)) :
    Scalar.mulf (F := Ideal) (φ := .f32) v1 (Scalar.sitofp .f32 (Scalar.muli (BitVec.ofNat 32 t.val) 512#32)) = ((sl * (512 * (t.val : ℝ)) : ℝ) : EReal) := by
  show v1 * (((Scalar.muli (BitVec.ofNat 32 t.val) 512#32).toInt : ℝ) : EReal) = _
  rw [h, start_int, EReal.coe_mul]
  congr 2
  push_cast; rfl

end Cert.Proof.Attn

end
-- ==== Proof.Attn.Inv.lean ====
/-
  What the differential attention's loop keeps: before each pair of key tiles what is kept stands for the sums over the tiles before it.
-/
module

public import proofs.«01_k».proof.Proof.Attn.Cols

@[expose] public section

set_option Elab.async false
set_option maxRecDepth 16384

noncomputable section

namespace Cert.Proof.Attn

open Cert.Kernel3Ideal Cert.Kernel3Ideal.Gen Idealize.ShloMosaic Idealize.ShloMosaic.TcCoe

variable {κ : Fin 16} {sl : ℝ} {kr : Fin 8192 → Fin 128 → ℝ} {qr : Fin 128 → Fin 1024 → ℝ} {vr : Fin 16 → Fin 144 → Fin 512 → ℝ}
  {x2 : Vec Ideal S1x8192x128 .bf16} {x3 : Vec Ideal S1x1x16x144x512 .bf16} {x4 : Vec Ideal S512x128 .bf16}
  {x5 : Vec Ideal S512x1024 .i32} {q : Vec Ideal S256x1024 .bf16}

theorem pay8_at (v2 w : BitVec 32) (K : Vec Ideal S1x512x128 .bf16) (k : Fin 512) (c : Fin 1024) :
    k0_pay8 v2 w K x4 q x5 (ix2 k c) = k0_pay7 v2 w K x4 q x5 (ix2 k c) := by pointwise [k0_pay8]

theorem pay16_at (v2 w : BitVec 32) (K : Vec Ideal S1x512x128 .bf16) (k : Fin 512) (c : Fin 1024) :
    k0_pay16 v2 w K x4 q x5 (ix2 k c) = k0_pay7 v2 (Scalar.muli (Scalar.minsi (Scalar.addi w 2#32) 15#32) 512#32) K x4 q x5 (ix2 k c) := by
  have e : k0_pay15 v2 w K x4 q x5 = k0_pay7 v2 (Scalar.muli (Scalar.minsi (Scalar.addi w 2#32) 15#32) 512#32) K x4 q x5 := rfl
  rw [← e]; pointwise [k0_pay16]

theorem max49_at (v2 w : BitVec 32) (K : Vec Ideal S1x512x128 .bf16) (c : Fin 1024) :
    k0_pay49 (k0_pay15 v2 w K x4 q x5) (ix2 0 c)
      = Finset.univ.sup fun k : Fin 512 => k0_pay7 v2 (Scalar.muli (Scalar.minsi (Scalar.addi w 2#32) 15#32) 512#32) K x4 q x5 (ix2 k c) :=
  max9_at v2 (Scalar.muli (Scalar.minsi (Scalar.addi w 2#32) 15#32) 512#32) K x4 q x5 c

/-- The least tile that the loop reads values of before tile `T`. -/
abbrev back (T : ℕ) : Fin 16 := ⟨min (T - 1) 15, by omega⟩

/-- What is kept before tile `T`: in a column, the running maximum, the factor times what is kept plus the last tile's part, the next
    tile's scores and the largest of them. -/
structure Keeps (a κ : Fin 16) (sl : ℝ) (kr : Fin 8192 → Fin 128 → ℝ) (qr : Fin 128 → Fin 1024 → ℝ) (vr : Fin 16 → Fin 144 → Fin 512 → ℝ)
    (T : ℕ) (s : St Ideal) : Prop where
  stands : ∀ c, Stands (s.m (ix2 0 c)) (fun r : Fin 144 => s.al (ix2 0 c) * s.acc (ix2 r c)
    + ∑ k : Fin 512, ((vr (back T) r k : ℝ) : EReal) * s.pb (ix2 k c)) (upTo a κ sl kr qr vr c T)
  scores : ∀ (t : Fin 16), t.val = min T 15 → ∀ k c, s.sa (ix2 k c) = if live a c t k then ((sig sl kr qr c t k : ℝ) : EReal) else ⊥
  most : ∀ c, s.mx (ix2 0 c) = Finset.univ.sup fun k : Fin 512 => s.sa (ix2 k c)

/-- One tile's step in a column. -/
theorem tile_step (a : Fin 16) (t : Fin 16) (h : κ.val ≤ t.val) (ha : t.val ≤ a.val) (c : Fin 1024) (m : EReal) (A : Fin 144 → EReal)
    (s : Fin 512 → EReal) (hs : ∀ k, s k = if live a c t k then ((sig sl kr qr c t k : ℝ) : EReal) else ⊥)
    (hg : Stands m A (upTo a κ sl kr qr vr c t.val)) (mx : EReal) (hmx : mx = Finset.univ.sup s) (m' : EReal)
    (hm' : m' = max m (mx + ((sl * (512 * (t.val : ℝ)) : ℝ) : EReal))) :
    Stands m' (fun r => Ideal.exp (m - m') * A r
        + ∑ k : Fin 512, ((vr t r k : ℝ) : EReal) * Ideal.exp (s k - (m' - ((sl * (512 * (t.val : ℝ)) : ℝ) : EReal))))
      (upTo a κ sl kr qr vr c (t.val + 1)) := by
  have h1 := stands_step (live a c t) (sig sl kr qr c t) s hs ⟨0, by omega⟩ (by show 0 + _ ≤ _; omega) _ m A _ hg (fun r k => vr t r k) m'
    (by rw [hm', hmx])
  have e : upTo a κ sl kr qr vr c (t.val + 1) = fun r => upTo a κ sl kr qr vr c t.val r + tileSum (live a c t) (sig sl kr qr c t) (sl * (512 * (t.val : ℝ))) (vr t r) :=
    funext fun r => upTo_succ a κ sl kr qr vr c t h r
  rw [e]; exact h1

theorem off3_word (i : grid0.Coords) (hκ : κ.val ≤ (i 2).val) (v1 : Elt Ideal .f32) (hv1 : v1 = ((sl : ℝ) : EReal))
    (k : Fin (k0_t1_loop i (wd κ)).trips) (t : Fin 16) (ht : t.val = κ.val + 2 * k.val) :
    k0_pay3 i v1 (wd κ) 0#32 1#32 k = ((sl * (512 * (t.val : ℝ)) : ℝ) : EReal) := by
  have e : k0_pay3 i v1 (wd κ) 0#32 1#32 k
      = Scalar.mulf (F := Ideal) (φ := .f32) v1 (Scalar.sitofp .f32 (Scalar.muli (tileA (i := i) (v58 := wd κ) k) 512#32)) := rfl
  rw [e, tileA_of i κ hκ k, ← ht]
  exact off_word ⟨t.val, by omega⟩ v1 hv1

theorem off11_word (t : Fin 16) (v1 : Elt Ideal .f32) (hv1 : v1 = ((sl : ℝ) : EReal)) :
    k0_pay11 v1 (BitVec.ofNat 32 t.val) 512#32 = ((sl * (512 * (t.val : ℝ)) : ℝ) : EReal) :=
  off_word ⟨t.val, by omega⟩ v1 hv1

section
variable (i : grid0.Coords) (v1 : Elt Ideal .f32) (v2 : BitVec 32) (v58 : Elt Ideal .i32) (hw : k0_chk1 i v58)
  (k : Fin (k0_t1_loop i v58).trips) (s : St Ideal)
theorem step_m : (step i v1 v2 v58 hw x2 x3 x4 x5 q k s).m
    = k0_pay12 v1 (Scalar.addi (tileA k) 1#32) (k0_pay4 i v1 v58 0#32 1#32 k s.m s.mx) (mxb i v2 v58 hw x2 x4 x5 q k) 512#32 := rfl
theorem step_mx : (step i v1 v2 v58 hw x2 x3 x4 x5 q k s).mx = k0_pay49 (k0_pay15 v2 (tileA k) (keys7 i v58 hw x2 k) x4 q x5) := by
  rw [step]
theorem step_al : (step i v1 v2 v58 hw x2 x3 x4 x5 q k s).al
    = k0_pay14 v1 (Scalar.addi (tileA k) 1#32) (k0_pay4 i v1 v58 0#32 1#32 k s.m s.mx) (mxb i v2 v58 hw x2 x4 x5 q k) 512#32 := rfl
theorem step_acc : (step i v1 v2 v58 hw x2 x3 x4 x5 q k s).acc
    = k0_pay2 (k0_pay6 i v1 v58 0#32 1#32 k s.m s.mx) (k0_pay2 s.al s.acc (vals4 i v58 hw x3 k) s.pb) (vals6 i v58 hw x3 k)
        (k0_pay5 i v1 v58 0#32 1#32 k s.m s.mx s.sa) := rfl
theorem step_sa : (step i v1 v2 v58 hw x2 x3 x4 x5 q k s).sa = k0_pay16 v2 (tileA k) (keys7 i v58 hw x2 k) x4 q x5 := rfl
theorem step_pb : (step i v1 v2 v58 hw x2 x3 x4 x5 q k s).pb
    = k0_pay13 v1 (Scalar.addi (tileA k) 1#32) (k0_pay4 i v1 v58 0#32 1#32 k s.m s.mx) (mxb i v2 v58 hw x2 x4 x5 q k) 512#32
        (sb i v2 v58 hw x2 x4 x5 q k) := rfl
end

/-- A trip of the loop takes what is kept two tiles on. -/
theorem keeps_step (i : grid0.Coords) (hκ : κ.val ≤ (i 2).val) (hw : k0_chk1 i (wd κ)) (v1 : Elt Ideal .f32) (hv1 : v1 = ((sl : ℝ) : EReal))
    (H : Holds x2 x3 x4 x5 q sl kr qr vr) (k : Fin (k0_t1_loop i (wd κ)).trips) (s : St Ideal)
    (hs : Keeps (i 2) κ sl kr qr vr (κ.val + 2 * k.val) s) :
    Keeps (i 2) κ sl kr qr vr (κ.val + 2 * (k.val + 1))
      (step i v1 (Scalar.muli (BitVec.ofNat 32 (i 2).val) 512#32) (wd κ) hw x2 x3 x4 x5 q k s) := by
  have hk : k.val < ((i 2).val + 1 - κ.val) / 2 := trips1 i κ hκ ▸ k.isLt
  have hi : (i 2).val < 16 := (i 2).isLt
  obtain ⟨T, hT⟩ : ∃ T : Fin 16, T.val = κ.val + 2 * k.val := ⟨⟨κ.val + 2 * k.val, by omega⟩, rfl⟩
  obtain ⟨U, hU⟩ : ∃ U : Fin 16, U.val = κ.val + 2 * k.val + 1 := ⟨⟨κ.val + 2 * k.val + 1, by omega⟩, rfl⟩
  have hU1 : U.val = T.val + 1 := by omega
  have wU : Scalar.addi (tileA (i := i) (v58 := wd κ) k) 1#32 = BitVec.ofNat 32 U.val := by
    rw [tileA_of i κ hκ k, ← hT, succ_word, hU1]
  have oT := off3_word i hκ v1 hv1 k T hT
  have oU := off11_word (sl := sl) U v1 hv1
  have sU : ∀ k' c, k0_pay7 (Scalar.muli (BitVec.ofNat 32 (i 2).val) 512#32) (Scalar.muli (BitVec.ofNat 32 U.val) 512#32)
      (keys5 i (wd κ) hw x2 k) x4 q x5 (ix2 k' c) = if live (i 2) c U k' then ((sig sl kr qr c U k' : ℝ) : EReal) else ⊥ := fun k' c =>
    score (a := i 2) H U _ (by rw [off5_of i κ hκ k, hU]) _ k' c
  have hA : ∀ c, Stands (s.m (ix2 0 c)) (fun r : Fin 144 => k0_pay2 s.al s.acc (vals4 i (wd κ) hw x3 k) s.pb (ix2 r c))
      (upTo (i 2) κ sl kr qr vr c T.val) := by
    intro c
    have h0 := hs.stands c
    rw [← hT] at h0
    convert h0 using 2 with r
    rw [acc_at]
    congr 1
    refine Finset.sum_congr rfl fun k' _ => ?_
    rw [show vals4 i (wd κ) hw x3 k (ix5 0 0 0 r k') = ((vr (back T.val) r k' : ℝ) : EReal) from
      val_load H (back T.val) _ (by rw [off4_of i κ hκ k, show (back T.val).val = κ.val + 2 * k.val - 1 by show min (T.val - 1) 15 = _; omega]) _ r k']
  have h1 : ∀ c, Stands (k0_pay4 i v1 (wd κ) 0#32 1#32 k s.m s.mx (ix2 0 c))
      (fun r : Fin 144 => (step i v1 (Scalar.muli (BitVec.ofNat 32 (i 2).val) 512#32) (wd κ) hw x2 x3 x4 x5 q k s).acc (ix2 r c))
      (upTo (i 2) κ sl kr qr vr c (T.val + 1)) := by
    intro c
    have h0 := tile_step (i 2) T (by omega) (by omega) c (s.m (ix2 0 c)) _ (fun k' => s.sa (ix2 k' c))
      (fun k' => hs.scores T (by omega) k' c) (hA c) (s.mx (ix2 0 c)) (hs.most c) (k0_pay4 i v1 (wd κ) 0#32 1#32 k s.m s.mx (ix2 0 c))
      (by rw [m4_at, oT])
    convert h0 using 2 with r
    rw [step_acc, acc_at, al6_at]
    congr 1
    refine Finset.sum_congr rfl fun k' _ => ?_
    rw [show vals6 i (wd κ) hw x3 k (ix5 0 0 0 r k') = ((vr T r k' : ℝ) : EReal) from
      val_load H T _ (by rw [off6_of i κ hκ k, hT]) _ r k', p5_at, oT]
  have e8 : ∀ k' c, sb i (Scalar.muli (BitVec.ofNat 32 (i 2).val) 512#32) (wd κ) hw x2 x4 x5 q k (ix2 k' c)
      = k0_pay7 (Scalar.muli (BitVec.ofNat 32 (i 2).val) 512#32) (Scalar.muli (BitVec.ofNat 32 U.val) 512#32)
          (keys5 i (wd κ) hw x2 k) x4 q x5 (ix2 k' c) := by
    intro k' c; unfold sb; rw [wU, pay8_at]
  have e9 : ∀ c, mxb i (Scalar.muli (BitVec.ofNat 32 (i 2).val) 512#32) (wd κ) hw x2 x4 x5 q k (ix2 0 c)
      = Finset.univ.sup fun k' : Fin 512 => k0_pay7 (Scalar.muli (BitVec.ofNat 32 (i 2).val) 512#32) (Scalar.muli (BitVec.ofNat 32 U.val) 512#32)
          (keys5 i (wd κ) hw x2 k) x4 q x5 (ix2 k' c) := by
    intro c; unfold mxb; rw [wU, max9_at]
  refine ⟨fun c => ?_, fun t ht k' c => ?_, fun c => ?_⟩
  · have h0 := tile_step (i 2) U (by omega) (by omega) c _ _ _ (fun k' => sU k' c) (hU1 ▸ h1 c) _ (e9 c)
      ((step i v1 (Scalar.muli (BitVec.ofNat 32 (i 2).val) 512#32) (wd κ) hw x2 x3 x4 x5 q k s).m (ix2 0 c))
      (by rw [step_m, m12_at, wU, oU])
    rw [show κ.val + 2 * (k.val + 1) = U.val + 1 by omega]
    refine cast (congrArg₂ (Stands _) (funext fun r => ?_) rfl) h0
    refine congrArg₂ (· + ·) (congrArg (· * _) ?_) (Finset.sum_congr rfl fun k' _ => ?_)
    · rw [step_al, al14_at, step_m]
    · rw [show back (U.val + 1) = U from Fin.ext (by show min (U.val + 1 - 1) 15 = U.val; omega), step_pb, p13_at, e8, step_m, wU, oU]
  · rw [step_sa, pay16_at, tileA_of i κ hκ k, ← hT, next_word T]
    have ht' : t.val = min (T.val + 2) 15 := by omega
    rw [← ht']
    exact score (a := i 2) H t _ (by rw [off7_of i κ hκ k, ht', hT]) _ k' c
  · rw [step_mx, max49_at]
    refine Finset.sup_congr rfl fun k' _ => ?_
    rw [step_sa, pay16_at]

/-- Before trip `n` what is kept stands for the tiles before it. -/
theorem keeps_sts (i : grid0.Coords) (hκ : κ.val ≤ (i 2).val) (hw : k0_chk1 i (wd κ)) (v1 : Elt Ideal .f32) (hv1 : v1 = ((sl : ℝ) : EReal))
    (H : Holds x2 x3 x4 x5 q sl kr qr vr) (s : St Ideal) (hs : Keeps (i 2) κ sl kr qr vr κ.val s) (n : ℕ)
    (hn : n ≤ (k0_t1_loop i (wd κ)).trips) :
    Keeps (i 2) κ sl kr qr vr (κ.val + 2 * n) (sts i v1 (Scalar.muli (BitVec.ofNat 32 (i 2).val) 512#32) (wd κ) hw x2 x3 x4 x5 q s n) := by
  induction n with
  | zero => exact hs
  | succ n ih =>
    rw [sts, dif_pos (by omega : n < (k0_t1_loop i (wd κ)).trips)]
    exact keeps_step i hκ hw v1 hv1 H ⟨n, by omega⟩ _ (ih (by omega))

end Cert.Proof.Attn

end
-- ==== Proof.Attn.Loop.lean ====
/-
  What one trip of the differential attention's loop over pairs of key tiles leaves, and the loop's state before each trip, as functions
  of the kernel's payloads.
-/
module

public import proofs.«01_k».proof.Proof.Gen.Kernel3Ideal.Loops
public import proofs.«01_k».proof.Proof.Attn.Step
public import Idealize.ShloMosaic.Lib.Pipeline.ValueKit

@[expose] public section

set_option Elab.async false
set_option maxRecDepth 16384
set_option maxHeartbeats 4000000

noncomputable section

namespace Cert.Proof.Attn

open Cert.Kernel3Ideal Cert.Kernel3Ideal.Gen Idealize.ShloMosaic Idealize.ShloMosaic.TcCoe Idealize.ShloMosaic.Tactic
open Idealize.SL.Sem

variable {F : FTy → Type} [FloatOps F] [Named F]

theorem zero2 : (![0, 0] : Fin 2 → Nat) = fun _ => 0 := by decide
theorem zero3 : (![0, 0, 0] : Fin 3 → Nat) = fun _ => 0 := by decide

/-- A buffer whose last store covers it reads as what that store wrote. -/
theorem read_writes_whole {Val : EltTy → Type} [∀ e, Nonempty (Val e)] {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f (⟨Rect.unit off S.size inb, w⟩ :: L)) = w := by
  subst h
  rw [View.read_writes_eq_canon v f _ (fun y => ⟨_, List.mem_cons_self .., by
    show y ∈ (Rect.whole S).set; rw [Rect.set_whole]; exact Finset.mem_univ y⟩)]
  exact View.canon_cons_unit_zero rfl _ _ _

end Cert.Proof.Attn

namespace Cert.Proof.Attn

open Cert.Kernel3Ideal Cert.Kernel3Ideal.Gen Idealize.ShloMosaic Idealize.ShloMosaic.TcCoe Idealize.ShloMosaic.Tactic
open Idealize.SL.Sem

section
variable {F : FTy → Type} [FloatOps F] [Named F]

section
variable (i : grid0.Coords) (v1 : Elt F .f32) (v2 : BitVec 32) (v58 : Elt F .i32) (hw : k0_chk1 i v58)
  (x2 : Vec F S1x8192x128 .bf16) (x3 : Vec F S1x1x16x144x512 .bf16) (x4 : Vec F S512x128 .bf16) (x5 : Vec F S512x1024 .i32)
  (q : Vec F S256x1024 .bf16) (k : Fin (k0_t1_loop i v58).trips) (s : St F)
theorem step_m' : (step i v1 v2 v58 hw x2 x3 x4 x5 q k s).m
    = k0_pay12 v1 (Scalar.addi (tileA k) 1#32) (k0_pay4 i v1 v58 0#32 1#32 k s.m s.mx) (mxb i v2 v58 hw x2 x4 x5 q k) 512#32 := by
  rw [step, m1]
theorem step_mx' : (step i v1 v2 v58 hw x2 x3 x4 x5 q k s).mx = k0_pay49 (k0_pay15 v2 (tileA k) (keys7 i v58 hw x2 k) x4 q x5) := by
  rw [step]
theorem step_al' : (step i v1 v2 v58 hw x2 x3 x4 x5 q k s).al
    = k0_pay14 v1 (Scalar.addi (tileA k) 1#32) (k0_pay4 i v1 v58 0#32 1#32 k s.m s.mx) (mxb i v2 v58 hw x2 x4 x5 q k) 512#32 := by
  rw [step, m1]
end

/-- A trip of the printed loop leaves what `step` says. -/
theorem trip_leaves (𝒱 : Variants) (c : Dev nD) (bd : Option 𝒱.V) (i : grid0.Coords) (arg3 : Memref sig .tc .smem S512 .i32) (harg3 : arg3.IsWhole) (arg4 : Memref sig .tc .smem S8 .f32) (harg4 : arg4.IsWhole) (arg5 : Memref sig .tc .vmem S1x512x128 .bf16) (harg5 : arg5.IsWhole) (arg6 : Memref sig .tc .vmem S1x8192x128 .bf16) (harg6 : arg6.IsWhole) (arg7 : Memref sig .tc .vmem S1x1x16x144x512 .bf16) (harg7 : arg7.IsWhole) (arg8 : Memref sig .tc .vmem S512x128 .bf16) (harg8 : arg8.IsWhole) (arg9 : Memref sig .tc .vmem S512x1024 .i32) (harg9 : arg9.IsWhole) (arg10 : Memref sig .tc .vmem S1x16x128 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S128x1 .f32) (harg15 : arg15.IsWhole) (arg16 : Memref sig .tc .vmem S1x512x128 .bf16) (harg16 : arg16.IsWhole) (arg17 : Memref sig .tc .vmem S144x1024 .f32) (harg17 : arg17.IsWhole) (arg18 : Memref sig .tc .vmem S256x1024 .bf16) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .bf16) (harg21 : arg21.IsWhole) (arg22 : Memref sig .tc .vmem S512x1024 .bf16) (harg22 : arg22.IsWhole) (v1 : Elt F .f32) (v2 : BitVec 32) (v52 : BitVec 32) (v58 : Elt F .i32) (k0_hw1 : k0_chk1 i v58) (v96 : FVec F S1x1024 .f32) (v97 : BitVec 32) (c2_i32 : BitVec 32) (v98 : BitVec 32) (v103 : BitVec 32) (v105 : BitVec 32) (v106 : BitVec 1) (X6 : BufTy.Contents (Elt F) arg6.view.ty) (X7 : BufTy.Contents (Elt F) arg7.view.ty) (X8 : BufTy.Contents (Elt F) arg8.view.ty) (X9 : BufTy.Contents (Elt F) arg9.view.ty) (X18 : BufTy.Contents (Elt F) arg18.view.ty) (k : Fin (k0_t1_loop i v58).trips) (acc : FVec F S1x1024 .f32 × FVec F S1x1024 .f32 × FVec F S1x1024 .f32) (f17 : BufTy.Contents (Elt F) arg17.view.ty) (f19 : BufTy.Contents (Elt F) arg19.view.ty) (f20 : BufTy.Contents (Elt F) arg20.view.ty) (f21 : BufTy.Contents (Elt F) arg21.view.ty) (f22 : BufTy.Contents (Elt F) arg22.view.ty) (s : St F)
    (h0 : acc = (s.m, s.mx, s.al)) (h17 : arg17.view.read (Elt F) f17 = s.acc) (h19 : arg19.view.read (Elt F) f19 = s.sa) (h22 : arg22.view.read (Elt F) f22 = s.pb) :
    tripR_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 v2 v52 v58 k0_hw1 v96 v97 c2_i32 v98 v103 v105 v106 X6 X7 X8 X9 X18 k acc f17 f19 f20 f21 f22 = ((step i v1 v2 v58 k0_hw1 (arg6.view.read (Elt F) X6) (arg7.view.read (Elt F) X7) (arg8.view.read (Elt F) X8) (arg9.view.read (Elt F) X9) (arg18.view.read (Elt F) X18) k s).m, (step i v1 v2 v58 k0_hw1 (arg6.view.read (Elt F) X6) (arg7.view.read (Elt F) X7) (arg8.view.read (Elt F) X8) (arg9.view.read (Elt F) X9) (arg18.view.read (Elt F) X18) k s).mx, (step i v1 v2 v58 k0_hw1 (arg6.view.read (Elt F) X6) (arg7.view.read (Elt F) X7) (arg8.view.read (Elt F) X8) (arg9.view.read (Elt F) X9) (arg18.view.read (Elt F) X18) k s).al)
    ∧ (∀ G L, arg17.view.read (Elt F) (arg17.view.writes (Elt F) G ((tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 v2 v52 v58 k0_hw1 v96 v97 c2_i32 v98 v103 v105 v106 X6 X7 X8 X9 X18 k acc f17 f19 f20 f21 f22).1 ++ L)) = (step i v1 v2 v58 k0_hw1 (arg6.view.read (Elt F) X6) (arg7.view.read (Elt F) X7) (arg8.view.read (Elt F) X8) (arg9.view.read (Elt F) X9) (arg18.view.read (Elt F) X18) k s).acc)
    ∧ (∀ G L, arg19.view.read (Elt F) (arg19.view.writes (Elt F) G ((tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 v2 v52 v58 k0_hw1 v96 v97 c2_i32 v98 v103 v105 v106 X6 X7 X8 X9 X18 k acc f17 f19 f20 f21 f22).2.1 ++ L)) = (step i v1 v2 v58 k0_hw1 (arg6.view.read (Elt F) X6) (arg7.view.read (Elt F) X7) (arg8.view.read (Elt F) X8) (arg9.view.read (Elt F) X9) (arg18.view.read (Elt F) X18) k s).sa)
    ∧ (∀ G L, arg22.view.read (Elt F) (arg22.view.writes (Elt F) G ((tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 v2 v52 v58 k0_hw1 v96 v97 c2_i32 v98 v103 v105 v106 X6 X7 X8 X9 X18 k acc f17 f19 f20 f21 f22).2.2.2.2 ++ L)) = (step i v1 v2 v58 k0_hw1 (arg6.view.read (Elt F) X6) (arg7.view.read (Elt F) X7) (arg8.view.read (Elt F) X8) (arg9.view.read (Elt F) X9) (arg18.view.read (Elt F) X18) k s).pb) := by
  subst h0
  unfold tripR_k0_t1 tripL_k0_t1 trip_k0_t1
  dsimp only
  sl_unfold_words
  simp (disch := decide) only [View.ld_unit_lit', View.readCov_unit_lit', View.readCov_cons_unit_lit', View.readAt_eq_ld, h17, h19, h22]
  refine ⟨Prod.ext ?_ (Prod.ext ?_ ?_), fun G L => ?_, fun G L => ?_, fun G L => ?_⟩
  · rw [step_m']; rfl
  · rw [step_mx']; rfl
  · rw [step_al']; rfl
  · exact (read_writes_whole arg17.view G zero2 _ _ _).trans rfl
  · exact (read_writes_whole arg19.view G zero2 _ _ _).trans rfl
  · exact (read_writes_whole arg22.view G zero2 _ _ _).trans rfl

/-- The printed loop's state before trip `n` is what `sts` says. -/
theorem state_eq (𝒱 : Variants) (c : Dev nD) (bd : Option 𝒱.V) (i : grid0.Coords) (arg3 : Memref sig .tc .smem S512 .i32) (harg3 : arg3.IsWhole) (arg4 : Memref sig .tc .smem S8 .f32) (harg4 : arg4.IsWhole) (arg5 : Memref sig .tc .vmem S1x512x128 .bf16) (harg5 : arg5.IsWhole) (arg6 : Memref sig .tc .vmem S1x8192x128 .bf16) (harg6 : arg6.IsWhole) (arg7 : Memref sig .tc .vmem S1x1x16x144x512 .bf16) (harg7 : arg7.IsWhole) (arg8 : Memref sig .tc .vmem S512x128 .bf16) (harg8 : arg8.IsWhole) (arg9 : Memref sig .tc .vmem S512x1024 .i32) (harg9 : arg9.IsWhole) (arg10 : Memref sig .tc .vmem S1x16x128 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S128x1 .f32) (harg15 : arg15.IsWhole) (arg16 : Memref sig .tc .vmem S1x512x128 .bf16) (harg16 : arg16.IsWhole) (arg17 : Memref sig .tc .vmem S144x1024 .f32) (harg17 : arg17.IsWhole) (arg18 : Memref sig .tc .vmem S256x1024 .bf16) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .bf16) (harg21 : arg21.IsWhole) (arg22 : Memref sig .tc .vmem S512x1024 .bf16) (harg22 : arg22.IsWhole) (v1 : Elt F .f32) (v2 : BitVec 32) (v52 : BitVec 32) (v58 : Elt F .i32) (k0_hw1 : k0_chk1 i v58) (v96 : FVec F S1x1024 .f32) (v97 : BitVec 32) (c2_i32 : BitVec 32) (v98 : BitVec 32) (v103 : BitVec 32) (v105 : BitVec 32) (v106 : BitVec 1) (X6 : BufTy.Contents (Elt F) arg6.view.ty) (X7 : BufTy.Contents (Elt F) arg7.view.ty) (X8 : BufTy.Contents (Elt F) arg8.view.ty) (X9 : BufTy.Contents (Elt F) arg9.view.ty) (X18 : BufTy.Contents (Elt F) arg18.view.ty) (G17 : BufTy.Contents (Elt F) arg17.view.ty) (G19 : BufTy.Contents (Elt F) arg19.view.ty) (G20 : BufTy.Contents (Elt F) arg20.view.ty) (G21 : BufTy.Contents (Elt F) arg21.view.ty) (G22 : BufTy.Contents (Elt F) arg22.view.ty) (init : FVec F S1x1024 .f32 × FVec F S1x1024 .f32 × FVec F S1x1024 .f32) (s : St F)
    (h0 : init = (s.m, s.mx, s.al)) (h17 : arg17.view.read (Elt F) G17 = s.acc) (h19 : arg19.view.read (Elt F) G19 = s.sa) (h22 : arg22.view.read (Elt F) G22 = s.pb) (n : Nat) (hn : n ≤ (k0_t1_loop i v58).trips) :
    (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 v2 v52 v58 k0_hw1 v96 v97 c2_i32 v98 v103 v105 v106 X6 X7 X8 X9 X18 G17 G19 G20 G21 G22 init n).1 = ((sts i v1 v2 v58 k0_hw1 (arg6.view.read (Elt F) X6) (arg7.view.read (Elt F) X7) (arg8.view.read (Elt F) X8) (arg9.view.read (Elt F) X9) (arg18.view.read (Elt F) X18) s n).m, (sts i v1 v2 v58 k0_hw1 (arg6.view.read (Elt F) X6) (arg7.view.read (Elt F) X7) (arg8.view.read (Elt F) X8) (arg9.view.read (Elt F) X9) (arg18.view.read (Elt F) X18) s n).mx, (sts i v1 v2 v58 k0_hw1 (arg6.view.read (Elt F) X6) (arg7.view.read (Elt F) X7) (arg8.view.read (Elt F) X8) (arg9.view.read (Elt F) X9) (arg18.view.read (Elt F) X18) s n).al)
    ∧ arg17.view.read (Elt F) (arg17.view.writes (Elt F) G17 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 v2 v52 v58 k0_hw1 v96 v97 c2_i32 v98 v103 v105 v106 X6 X7 X8 X9 X18 G17 G19 G20 G21 G22 init n).2.1) = (sts i v1 v2 v58 k0_hw1 (arg6.view.read (Elt F) X6) (arg7.view.read (Elt F) X7) (arg8.view.read (Elt F) X8) (arg9.view.read (Elt F) X9) (arg18.view.read (Elt F) X18) s n).acc
    ∧ arg19.view.read (Elt F) (arg19.view.writes (Elt F) G19 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 v2 v52 v58 k0_hw1 v96 v97 c2_i32 v98 v103 v105 v106 X6 X7 X8 X9 X18 G17 G19 G20 G21 G22 init n).2.2.1) = (sts i v1 v2 v58 k0_hw1 (arg6.view.read (Elt F) X6) (arg7.view.read (Elt F) X7) (arg8.view.read (Elt F) X8) (arg9.view.read (Elt F) X9) (arg18.view.read (Elt F) X18) s n).sa
    ∧ arg22.view.read (Elt F) (arg22.view.writes (Elt F) G22 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 v2 v52 v58 k0_hw1 v96 v97 c2_i32 v98 v103 v105 v106 X6 X7 X8 X9 X18 G17 G19 G20 G21 G22 init n).2.2.2.2.2) = (sts i v1 v2 v58 k0_hw1 (arg6.view.read (Elt F) X6) (arg7.view.read (Elt F) X7) (arg8.view.read (Elt F) X8) (arg9.view.read (Elt F) X9) (arg18.view.read (Elt F) X18) s n).pb := by
  induction n with
  | zero => exact ⟨h0, h17, h19, h22⟩
  | succ n ih =>
    obtain ⟨e0, e17, e19, e22⟩ := ih (by omega)
    have hst := st_k0_t1_succ (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 v2 v52 v58 k0_hw1 v96 v97 c2_i32 v98 v103 v105 v106 X6 X7 X8 X9 X18 G17 G19 G20 G21 G22 init ⟨n, hn⟩
    have t := trip_leaves (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 v2 v52 v58 k0_hw1 v96 v97 c2_i32 v98 v103 v105 v106 X6 X7 X8 X9 X18 ⟨n, hn⟩ _ _ _ (arg20.view.writes (Elt F) G20 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 v2 v52 v58 k0_hw1 v96 v97 c2_i32 v98 v103 v105 v106 X6 X7 X8 X9 X18 G17 G19 G20 G21 G22 init n).2.2.2.1) (arg21.view.writes (Elt F) G21 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 v2 v52 v58 k0_hw1 v96 v97 c2_i32 v98 v103 v105 v106 X6 X7 X8 X9 X18 G17 G19 G20 G21 G22 init n).2.2.2.2.1) _ (sts i v1 v2 v58 k0_hw1 (arg6.view.read (Elt F) X6) (arg7.view.read (Elt F) X7) (arg8.view.read (Elt F) X8) (arg9.view.read (Elt F) X9) (arg18.view.read (Elt F) X18) s n) e0 e17 e19 e22
    have hs : sts i v1 v2 v58 k0_hw1 (arg6.view.read (Elt F) X6) (arg7.view.read (Elt F) X7) (arg8.view.read (Elt F) X8) (arg9.view.read (Elt F) X9) (arg18.view.read (Elt F) X18) s (n + 1) = step i v1 v2 v58 k0_hw1 (arg6.view.read (Elt F) X6) (arg7.view.read (Elt F) X7) (arg8.view.read (Elt F) X8) (arg9.view.read (Elt F) X9) (arg18.view.read (Elt F) X18) ⟨n, hn⟩ (sts i v1 v2 v58 k0_hw1 (arg6.view.read (Elt F) X6) (arg7.view.read (Elt F) X7) (arg8.view.read (Elt F) X8) (arg9.view.read (Elt F) X9) (arg18.view.read (Elt F) X18) s n) := by
      rw [sts]; exact dif_pos hn
    dsimp only at hst
    rw [hst, hs]
    exact ⟨t.1, t.2.1 _ _, t.2.2.1 _ _, t.2.2.2 _ _⟩

end

end Cert.Proof.Attn

end
-- ==== Proof.Attn.Body.lean ====
/-
  What one point of the differential attention's grid leaves in its block of the result, as the payloads of the loop's last state.
-/
module

public import proofs.«01_k».proof.Proof.Gen.Kernel3Ideal.Frame
public import proofs.«01_k».proof.Proof.Attn.Loop
public import Idealize.ShloMosaic.Lib.Pipeline.ValueKit
public import Idealize.ShloMosaic.Lib.Pointwise
public import Idealize.ShloMosaic.Lib.WritesUnit

@[expose] public section

set_option Elab.async false
set_option maxRecDepth 16384
set_option maxHeartbeats 1000000

noncomputable section

namespace Cert.Proof.Attn

open Cert.Kernel3Ideal Cert.Kernel3Ideal.Gen Idealize.ShloMosaic Idealize.ShloMosaic.TcCoe Idealize.ShloMosaic.Tactic
open Idealize.SL.Sem

variable {F : FTy → Type} [FloatOps F] [Named F]

/-- The queries of the two halves, the slope's row and the rows of zeros below them. -/
def qv (x1 : Vec F S1x512x128 .bf16) (x6 : Vec F S1x16x128 .f32) : Vec F S256x1024 .bf16 := fun y =>
  if h : (y 0).val < 128 then k0_pay37 x1 (ix2 ⟨(y 0).val, h⟩ (y 1) : S128x1024.Idx)
  else if h' : (y 0).val < 144 then k0_pay38 x6 (ix2 ⟨(y 0).val - 128, by omega⟩ (y 1) : S16x1024.Idx)
  else k0_pay39 (ix2 ⟨(y 0).val - 144, by have : (y 0).val < 256 := (y 0).isLt; omega⟩ (y 1) : S112x1024.Idx)

theorem read_queries {sig : RefSig} {κ : Kind} {sp : Space} (v : View sig κ sp S256x1024 .bf16) (f : v.ty.Contents (Elt F))
    (x1 : Vec F S1x512x128 .bf16) (x6 : Vec F S1x16x128 .f32) (a b d) :
    v.read (Elt F) (v.writes (Elt F) f [⟨Rect.unit (s := S256x1024) ![144, 0] S112x1024.size a, k0_pay39⟩,
      ⟨Rect.unit (s := S256x1024) ![128, 0] S16x1024.size b, k0_pay38 x6⟩,
      ⟨Rect.unit (s := S256x1024) ![0, 0] S128x1024.size d, k0_pay37 x1⟩]) = qv x1 x6 := by
  funext y
  have h256 : (y 0).val < 256 := (y 0).isLt
  unfold qv
  by_cases h : (y 0).val < 128
  · rw [dif_pos h, View.read_writes_cons_unit_of_not_mem v f a _ _ y rfl 0 (Or.inl (by show (y 0).val < 144; omega)),
      View.read_writes_cons_unit_of_not_mem v f b _ _ y rfl 0 (Or.inl (by show (y 0).val < 128; omega)),
      View.read_writes_cons_unit_of_mem v f d _ _ y (ix2 ⟨(y 0).val, h⟩ (y 1) : S128x1024.Idx) rfl
        (fun j => by match j with
          | ⟨0, _⟩ => exact (Nat.zero_add _).symm
          | ⟨1, _⟩ => exact (Nat.zero_add _).symm)]
  · rw [dif_neg h]
    by_cases h' : (y 0).val < 144
    · rw [dif_pos h', View.read_writes_cons_unit_of_not_mem v f a _ _ y rfl 0 (Or.inl (by show (y 0).val < 144; omega)),
        View.read_writes_cons_unit_of_mem v f b _ _ y (ix2 ⟨(y 0).val - 128, by omega⟩ (y 1) : S16x1024.Idx) rfl
        (fun j => by match j with
          | ⟨0, _⟩ => show (y 0).val = 128 + ((y 0).val - 128); omega
          | ⟨1, _⟩ => exact (Nat.zero_add _).symm)]
    · rw [dif_neg h', View.read_writes_cons_unit_of_mem v f a _ _ y (ix2 ⟨(y 0).val - 144, by omega⟩ (y 1) : S112x1024.Idx) rfl
        (fun j => by match j with
          | ⟨0, _⟩ => show (y 0).val = 144 + ((y 0).val - 144); omega
          | ⟨1, _⟩ => exact (Nat.zero_add _).symm)]

/-- A whole read after two runs of stores. -/
theorem readCov_cat {Val : EltTy → Type} [∀ e, Nonempty (Val e)] {sig : RefSig} {κ : Kind} {sp : Space} {S : Shape} {e : EltTy}
    (v : View sig κ sp S e) {off : Fin S.rank → Nat} (h : off = fun _ => 0) (inb : ∀ a, off a + S.size a ≤ S.size a)
    (L L' : List (View.Piece Val S e)) :
    v.readCov ([] ++ (L ++ L')) (Rect.unit off S.size inb).toLoadRect = v.read Val (v.writes Val (v.writes Val v.junk L') L) := by
  show View.ld (v.read Val (v.writes Val v.junk (L ++ L'))) (Rect.unit off S.size inb) = _
  rw [View.ld_unit_zero h, View.writes_append]

/-- A read of a part after a store of the whole. -/
theorem readCov_part {Val : EltTy → Type} [∀ e, Nonempty (Val e)] {sig : RefSig} {κ : Kind} {sp : Space} {S : Shape} {e : EltTy}
    (v : View sig κ sp S e) {off : Fin S.rank → Nat} (h : off = fun _ => 0) (inb : ∀ a, off a + S.size a ≤ S.size a)
    (w : S.Idx → Val e) (L : List (View.Piece Val S e)) (r : Rect S) :
    v.readCov (⟨Rect.unit off S.size inb, w⟩ :: L) r.toLoadRect = View.ld w r := by
  show View.ld (v.read Val (v.writes Val v.junk (⟨Rect.unit off S.size inb, w⟩ :: L))) r = _
  rw [read_writes_whole v _ h inb w L]

section
variable (i : grid0.Coords) (v58 : Elt F .i32) (hw : k0_chk1 i v58)
  (x1 : Vec F S1x512x128 .bf16) (x2 : Vec F S1x8192x128 .bf16) (x3 : Vec F S1x1x16x144x512 .bf16) (x4 : Vec F S512x128 .bf16)
  (x5 : Vec F S512x1024 .i32) (x6 : Vec F S1x16x128 .f32)

abbrev v2of : BitVec 32 := Scalar.muli (BitVec.ofNat 32 (i 2).val) 512#32
abbrev v34of : BitVec 32 := Scalar.subi (Scalar.addi (v2of i) 512#32) 1#32
/-- The query tile's last key tile, as the kernel computes it. -/
def lastWord : BitVec 32 := Scalar.subi (Scalar.addi (Scalar.select
  (Scalar.andi (Scalar.cmpi .ne (Scalar.subi (Scalar.extui (Scalar.cmpi .sgt (v34of i) 0#32)) (Scalar.extui (Scalar.cmpi .slt (v34of i) 0#32))) 1#32)
    (Scalar.cmpi .ne (Scalar.remsi (v34of i) 512#32) 0#32))
  (Scalar.subi (Scalar.divsi (v34of i) 512#32) 1#32) (Scalar.divsi (v34of i) 512#32)) 1#32) 1#32

abbrev keys3 : Vec F S1x512x128 .bf16 :=
  View.ld x2 (Rect.unit (s := S1x8192x128) (k0_off3 v58) S1x512x128.size (k0_off3_inb i v58 hw))

/-- The state the loop starts from. -/
def s0 : St F where
  m := k0_pay47
  mx := k0_pay46 (v2of i) v58 (keys3 i v58 hw x2) x4 (qv x1 x6) x5
  al := k0_pay48
  acc := k0_pay40
  sa := k0_pay45 (v2of i) v58 (keys3 i v58 hw x2) x4 (qv x1 x6) x5
  pb := k0_pay41

theorem s0_m : (s0 i v58 hw x1 x2 x4 x5 x6).m = k0_pay47 := by rw [s0]
theorem s0_mx : (s0 i v58 hw x1 x2 x4 x5 x6).mx = k0_pay46 (v2of i) v58 (keys3 i v58 hw x2) x4 (qv x1 x6) x5 := by rw [s0]
theorem s0_al : (s0 i v58 hw x1 x2 x4 x5 x6).al = k0_pay48 := by rw [s0]
theorem s0_acc : (s0 i v58 hw x1 x2 x4 x5 x6).acc = k0_pay40 := by rw [s0]
theorem s0_sa : (s0 i v58 hw x1 x2 x4 x5 x6).sa = k0_pay45 (v2of i) v58 (keys3 i v58 hw x2) x4 (qv x1 x6) x5 := by rw [s0]
theorem s0_pb : (s0 i v58 hw x1 x2 x4 x5 x6).pb = k0_pay41 := by rw [s0]

/-- The state the loop ends with. -/
def sN (v1 : Elt F .f32) : St F :=
  sts i v1 (v2of i) v58 hw x2 x3 x4 x5 (qv x1 x6) (s0 i v58 hw x1 x2 x4 x5 x6) (k0_t1_loop i v58).trips

/-- What is kept after an even number of tiles: the last tile's product is still to be added. -/
def accB (s : St F) : FVec F S144x1024 .f32 := k0_pay51 s.al s.acc
  (View.ld x3 (Rect.unit (s := S1x1x16x144x512) (k0_off12 i) S1x1x1x144x512.size (k0_off12_inb i)) : Vec F S1x1x1x144x512 .bf16) s.pb

/-- After an odd number: the last two. -/
def accC (v1 : Elt F .f32) (s : St F) : FVec F S144x1024 .f32 := k0_pay52
  (k0_pay36 v1 s.m s.mx (lastWord i) (k0_pay32 s.al s.acc
    (View.ld x3 (Rect.unit (s := S1x1x16x144x512) (k0_off13 i) S1x1x1x144x512.size (k0_off13_inb i)) : Vec F S1x1x1x144x512 .bf16) s.pb))
  (View.ld x3 (Rect.unit (s := S1x1x16x144x512) (k0_off14 i) S1x1x1x144x512.size (k0_off14_inb i)) : Vec F S1x1x1x144x512 .bf16)
  (k0_pay35 v1 s.m s.mx (lastWord i) s.sa)

abbrev rows (A : FVec F S144x1024 .f32) : Vec F S128x1024 .f32 :=
  View.ld (Val := Elt F) (e' := .f32) A (Rect.unit (s := S144x1024) ![0, 0] S128x1024.size inb_S144x1024_S128x1024_0_0)
abbrev sumRow (A : FVec F S144x1024 .f32) : Vec F S1x1024 .f32 :=
  View.ld (Val := Elt F) (e' := .f32) A (Rect.unit (s := S144x1024) ![128, 0] S1x1024.size inb_S144x1024_S1x1024_128_0)

/-- The two halves' quotients put together, and normalized. -/
def fin (x7 x8 x9 x10 : Vec F S1x64 .f32) (x11 : Vec F S128x1 .f32) (A : FVec F S144x1024 .f32) : Vec F S1x512x128 .bf16 :=
  k0_pay1 (k0_pay53 x7 x8 x9 x10 (rows A) (sumRow A)) (k0_pay54 x7 x8 x9 x10 (rows A) (sumRow A)) x11
end

abbrev slopeOf (i : grid0.Coords) (x0 : Vec F S8 .f32) : Elt F .f32 :=
  View.ld x0 (Rect.unit (s := S8) (k0_off1 i) S1.size (k0_off1_inb i)) (Shape.Idx.first (numel1_S1.symm ▸ Nat.one_pos))
/-- A loop of no trips leaves what it starts from. -/
theorem none2 (𝒱 : Variants) (c : Dev nD) (bd : Option 𝒱.V) (i : grid0.Coords) (arg3 : Memref sig .tc .smem S512 .i32) (harg3 : arg3.IsWhole) (arg4 : Memref sig .tc .smem S8 .f32) (harg4 : arg4.IsWhole) (arg5 : Memref sig .tc .vmem S1x512x128 .bf16) (harg5 : arg5.IsWhole) (arg6 : Memref sig .tc .vmem S1x8192x128 .bf16) (harg6 : arg6.IsWhole) (arg7 : Memref sig .tc .vmem S1x1x16x144x512 .bf16) (harg7 : arg7.IsWhole) (arg8 : Memref sig .tc .vmem S512x128 .bf16) (harg8 : arg8.IsWhole) (arg9 : Memref sig .tc .vmem S512x1024 .i32) (harg9 : arg9.IsWhole) (arg10 : Memref sig .tc .vmem S1x16x128 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S128x1 .f32) (harg15 : arg15.IsWhole) (arg16 : Memref sig .tc .vmem S1x512x128 .bf16) (harg16 : arg16.IsWhole) (arg17 : Memref sig .tc .vmem S144x1024 .f32) (harg17 : arg17.IsWhole) (arg18 : Memref sig .tc .vmem S256x1024 .bf16) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .bf16) (harg21 : arg21.IsWhole) (arg22 : Memref sig .tc .vmem S512x1024 .bf16) (harg22 : arg22.IsWhole) (v1 : Elt F .f32) (v2 : BitVec 32) (v52 : BitVec 32) (v58 : Elt F .i32) (k0_hw1 : k0_chk1 i v58) (v96 : FVec F S1x1024 .f32) (v97 : BitVec 32) (c2_i32 : BitVec 32) (v98 : BitVec 32) (v103 : BitVec 32) (v105 : BitVec 32) (v106 : BitVec 1) (v121 : BitVec 32) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg18 : BufTy.Contents (Elt F) arg18.view.ty) (G_arg17 : BufTy.Contents (Elt F) arg17.view.ty) (G_arg19 : BufTy.Contents (Elt F) arg19.view.ty) (G_arg20 : BufTy.Contents (Elt F) arg20.view.ty) (G_arg21 : BufTy.Contents (Elt F) arg21.view.ty) (G_arg22 : BufTy.Contents (Elt F) arg22.view.ty) (init : FVec F S1x1024 .f32 × FVec F S1x1024 .f32 × FVec F S1x1024 .f32) (h : (k0_t2_loop i v58).trips = 0) :
    st_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 v2 v52 v58 k0_hw1 v96 v97 c2_i32 v98 v103 v105 v106 v121 X_arg6 X_arg7 X_arg8 X_arg9 X_arg18 G_arg17 G_arg19 G_arg20 G_arg21 G_arg22 init (Scf.trips (k0_t2_loop i v58).lb (k0_t2_loop i v58).ub (k0_t2_loop i v58).st) = (init, [], [], [], [], []) := by
  have e : Scf.trips (k0_t2_loop i v58).lb (k0_t2_loop i v58).ub (k0_t2_loop i v58).st = 0 := h
  rw [e]; rfl

/-- Case B. -/
theorem out_B (c : Dev nD) (i : grid0.Coords) (arg4 : Memref sig .tc .smem S8 .f32) (harg4 : arg4.IsWhole) (arg5 : Memref sig .tc .vmem S1x512x128 .bf16) (harg5 : arg5.IsWhole) (arg6 : Memref sig .tc .vmem S1x8192x128 .bf16) (harg6 : arg6.IsWhole) (arg7 : Memref sig .tc .vmem S1x1x16x144x512 .bf16) (harg7 : arg7.IsWhole) (arg8 : Memref sig .tc .vmem S512x128 .bf16) (harg8 : arg8.IsWhole) (arg9 : Memref sig .tc .vmem S512x1024 .i32) (harg9 : arg9.IsWhole) (arg10 : Memref sig .tc .vmem S1x16x128 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S128x1 .f32) (harg15 : arg15.IsWhole) (arg16 : Memref sig .tc .vmem S1x512x128 .bf16) (harg16 : arg16.IsWhole) (arg17 : Memref sig .tc .vmem S144x1024 .f32) (harg17 : arg17.IsWhole) (arg18 : Memref sig .tc .vmem S256x1024 .bf16) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .bf16) (harg21 : arg21.IsWhole) (arg22 : Memref sig .tc .vmem S512x1024 .bf16) (harg22 : arg22.IsWhole)
    (x0 : Vec F S8 .f32) (x1 : Vec F S1x512x128 .bf16) (x2 : Vec F S1x8192x128 .bf16) (x3 : Vec F S1x1x16x144x512 .bf16) (x4 : Vec F S512x128 .bf16) (x5 : Vec F S512x1024 .i32) (x6 : Vec F S1x16x128 .f32) (x7 : Vec F S1x64 .f32) (x8 : Vec F S1x64 .f32) (x9 : Vec F S1x64 .f32) (x10 : Vec F S1x64 .f32) (x11 : Vec F S128x1 .f32) (xt0 : TbBuf0 (F := F) c tbM0_0) (hc0 : cond0_0 i (tbM0_0.view.readAt (Elt F) (Rect.unit (s := S512) (k0_off2 i) S1.size (k0_off2_inb i)).toLoadRect xt0 (Shape.Idx.first (numel1_S1.symm ▸ Nat.one_pos)))) (hc1 : ¬cond0_1 i (tbM0_0.view.readAt (Elt F) (Rect.unit (s := S512) (k0_off2 i) S1.size (k0_off2_inb i)).toLoadRect xt0 (Shape.Idx.first (numel1_S1.symm ▸ Nat.one_pos)))) (k0_hw1 : k0_chk1 i (tbM0_0.view.readAt (Elt F) (Rect.unit (s := S512) (k0_off2 i) S1.size (k0_off2_inb i)).toLoadRect xt0 (Shape.Idx.first (numel1_S1.symm ▸ Nat.one_pos)))) (h2 : (k0_t2_loop i (tbM0_0.view.readAt (Elt F) (Rect.unit (s := S512) (k0_off2 i) S1.size (k0_off2_inb i)).toLoadRect xt0 (Shape.Idx.first (numel1_S1.symm ▸ Nat.one_pos)))).trips = 0) :
    out0_B_12 c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 xt0 hc0 hc1 k0_hw1 = fin x7 x8 x9 x10 x11 (accB i x3 (sN i (tbM0_0.view.readAt (Elt F) (Rect.unit (s := S512) (k0_off2 i) S1.size (k0_off2_inb i)).toLoadRect xt0 (Shape.Idx.first (numel1_S1.symm ▸ Nat.one_pos))) k0_hw1 x1 x2 x3 x4 x5 x6 (slopeOf i x0))) := by
  have er : kernelRun0_B.sl.r c i arg4 harg4 x0 = slopeOf i x0 := by
    unfold kernelRun0_B.sl.r; simp only [View.readAt_eq_ld, harg4.read_unread]
  have e83 : kernelRun0_B.sl.v83 c arg5 harg5 arg10 harg10 arg18 x1 x6 = qv x1 x6 := by
    unfold kernelRun0_B.sl.v83 kernelRun0_B.sl.HS1_3
    simp (disch := decide) only [View.ld_unit_lit', View.readAt_eq_ld, harg5.read_unread, harg10.read_unread]
    refine (View.ld_unit_zero zero2 _ _).trans ?_
    exact read_queries arg18.view _ x1 x6 _ _ _
  have eq : arg18.view.read (Elt F) (arg18.view.writes (Elt F) arg18.view.junk (kernelRun0_B.sl.HS1_3 c arg5 harg5 arg10 harg10 x1 x6)) = qv x1 x6 := by
    unfold kernelRun0_B.sl.HS1_3
    simp (disch := decide) only [View.ld_unit_lit', View.readAt_eq_ld, harg5.read_unread, harg10.read_unread]
    exact read_queries arg18.view _ x1 x6 _ _ _
  have e2 : kernelRun0_B.sl.r_2 c i arg5 harg5 arg6 harg6 arg8 harg8 arg9 harg9 arg10 harg10 arg18 x1 x2 x4 x5 x6 xt0 k0_hw1
      = k0_pay46 (v2of i) (tbM0_0.view.readAt (Elt F) (Rect.unit (s := S512) (k0_off2 i) S1.size (k0_off2_inb i)).toLoadRect xt0 (Shape.Idx.first (numel1_S1.symm ▸ Nat.one_pos))) (keys3 i (tbM0_0.view.readAt (Elt F) (Rect.unit (s := S512) (k0_off2 i) S1.size (k0_off2_inb i)).toLoadRect xt0 (Shape.Idx.first (numel1_S1.symm ▸ Nat.one_pos))) k0_hw1 x2) x4 (qv x1 x6) x5 := by
    unfold kernelRun0_B.sl.r_2
    rw [e83]
    simp (disch := decide) only [View.ld_unit_lit', View.readAt_eq_ld, harg6.read_unread, harg8.read_unread, harg9.read_unread]
    rfl
  have e19 : arg19.view.read (Elt F) (arg19.view.writes (Elt F) arg19.view.junk (kernelRun0_B.sl.HS2_1 c i arg5 harg5 arg6 harg6 arg8 harg8 arg9 harg9 arg10 harg10 arg18 x1 x2 x4 x5 x6 xt0 k0_hw1))
      = k0_pay45 (v2of i) (tbM0_0.view.readAt (Elt F) (Rect.unit (s := S512) (k0_off2 i) S1.size (k0_off2_inb i)).toLoadRect xt0 (Shape.Idx.first (numel1_S1.symm ▸ Nat.one_pos))) (keys3 i (tbM0_0.view.readAt (Elt F) (Rect.unit (s := S512) (k0_off2 i) S1.size (k0_off2_inb i)).toLoadRect xt0 (Shape.Idx.first (numel1_S1.symm ▸ Nat.one_pos))) k0_hw1 x2) x4 (qv x1 x6) x5 := by
    unfold kernelRun0_B.sl.HS2_1
    rw [e83]
    simp (disch := decide) only [View.ld_unit_lit', View.readAt_eq_ld, harg6.read_unread, harg8.read_unread, harg9.read_unread]
    exact read_writes_whole arg19.view _ zero2 _ _ _
  have E := state_eq (F := F) Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (kernelRun0_B.sl.r c i arg4 harg4 x0) (kernelRun0_B.sl.v2 i) (kernelRun0_B.sl.v52 i) (kernelRun0_B.sl.r_1 c i xt0) k0_hw1 (kernelRun0_B.sl.r_2 c i arg5 harg5 arg6 harg6 arg8 harg8 arg9 harg9 arg10 harg10 arg18 x1 x2 x4 x5 x6 xt0 k0_hw1) (kernelRun0_B.sl.v97 c i xt0) (2#32) (kernelRun0_B.sl.v98 c i xt0) (kernelRun0_B.sl.v103 c i xt0) (1#32) (0#1) (harg6.unread x2) (harg7.unread x3) (harg8.unread x4) (harg9.unread x5) (arg18.view.writes (Elt F) arg18.view.junk (kernelRun0_B.sl.HS1_3 c arg5 harg5 arg10 harg10 x1 x6)) (arg17.view.writes (Elt F) arg17.view.junk kernelRun0_B.sl.HS0_1) (arg19.view.writes (Elt F) arg19.view.junk (kernelRun0_B.sl.HS2_1 c i arg5 harg5 arg6 harg6 arg8 harg8 arg9 harg9 arg10 harg10 arg18 x1 x2 x4 x5 x6 xt0 k0_hw1)) (arg20.view.writes (Elt F) arg20.view.junk kernelRun0_B.sl.HS3_1) (arg21.view.writes (Elt F) arg21.view.junk kernelRun0_B.sl.HS4_1) (arg22.view.writes (Elt F) arg22.view.junk kernelRun0_B.sl.HS5_1) (k0_pay47, kernelRun0_B.sl.r_2 c i arg5 harg5 arg6 harg6 arg8 harg8 arg9 harg9 arg10 harg10 arg18 x1 x2 x4 x5 x6 xt0 k0_hw1, k0_pay48) (s0 i (tbM0_0.view.readAt (Elt F) (Rect.unit (s := S512) (k0_off2 i) S1.size (k0_off2_inb i)).toLoadRect xt0 (Shape.Idx.first (numel1_S1.symm ▸ Nat.one_pos))) k0_hw1 x1 x2 x4 x5 x6) (by rw [e2, s0_m, s0_mx, s0_al])
    ((read_writes_whole arg17.view _ zero2 _ _ _).trans (s0_acc ..).symm) (e19.trans (s0_sa ..).symm) ((read_writes_whole arg22.view _ zero2 _ _ _).trans (s0_pb ..).symm) (k0_t1_loop i (tbM0_0.view.readAt (Elt F) (Rect.unit (s := S512) (k0_off2 i) S1.size (k0_off2_inb i)).toLoadRect xt0 (Shape.Idx.first (numel1_S1.symm ▸ Nat.one_pos)))).trips le_rfl
  rw [harg6.read_unread, harg7.read_unread, harg8.read_unread, harg9.read_unread, eq] at E
  obtain ⟨E0, E17, E19, E22⟩ := E
  have h2' : (k0_t2_loop i (kernelRun0_B.sl.r_1 c i xt0)).trips = 0 := h2
  have S : sts i (kernelRun0_B.sl.r c i arg4 harg4 x0) (kernelRun0_B.sl.v2 i) (kernelRun0_B.sl.r_1 c i xt0) k0_hw1 x2 x3 x4 x5 (qv x1 x6) (s0 i (tbM0_0.view.readAt (Elt F) (Rect.unit (s := S512) (k0_off2 i) S1.size (k0_off2_inb i)).toLoadRect xt0 (Shape.Idx.first (numel1_S1.symm ▸ Nat.one_pos))) k0_hw1 x1 x2 x4 x5 x6) (k0_t1_loop i (tbM0_0.view.readAt (Elt F) (Rect.unit (s := S512) (k0_off2 i) S1.size (k0_off2_inb i)).toLoadRect xt0 (Shape.Idx.first (numel1_S1.symm ▸ Nat.one_pos)))).trips = (sN i (tbM0_0.view.readAt (Elt F) (Rect.unit (s := S512) (k0_off2 i) S1.size (k0_off2_inb i)).toLoadRect xt0 (Shape.Idx.first (numel1_S1.symm ▸ Nat.one_pos))) k0_hw1 x1 x2 x3 x4 x5 x6 (slopeOf i x0)) := by
    rw [er]; rfl
  rw [S] at E0 E17 E19 E22
  have eL11 : View.readAt (Elt F) arg11.view (Rect.unit (s := S1x64) ![0, 0] S1x64.size inb_S1x64_S1x64_0_0).toLoadRect (harg11.unread x7) = x7 := by
    rw [View.readAt_eq_ld, harg11.read_unread]; exact View.ld_unit_zero zero2 _ _
  have eL12 : View.readAt (Elt F) arg12.view (Rect.unit (s := S1x64) ![0, 0] S1x64.size inb_S1x64_S1x64_0_0).toLoadRect (harg12.unread x8) = x8 := by
    rw [View.readAt_eq_ld, harg12.read_unread]; exact View.ld_unit_zero zero2 _ _
  have eL13 : View.readAt (Elt F) arg13.view (Rect.unit (s := S1x64) ![0, 0] S1x64.size inb_S1x64_S1x64_0_0).toLoadRect (harg13.unread x9) = x9 := by
    rw [View.readAt_eq_ld, harg13.read_unread]; exact View.ld_unit_zero zero2 _ _
  have eL14 : View.readAt (Elt F) arg14.view (Rect.unit (s := S1x64) ![0, 0] S1x64.size inb_S1x64_S1x64_0_0).toLoadRect (harg14.unread x10) = x10 := by
    rw [View.readAt_eq_ld, harg14.read_unread]; exact View.ld_unit_zero zero2 _ _
  have eL15 : View.readAt (Elt F) arg15.view (Rect.unit (s := S128x1) ![0, 0] S128x1.size inb_S128x1_S128x1_0_0).toLoadRect (harg15.unread x11) = x11 := by
    rw [View.readAt_eq_ld, harg15.read_unread]; exact View.ld_unit_zero zero2 _ _
  have eV12 : View.readAt (Elt F) arg7.view (Rect.unit (s := S1x1x16x144x512) (k0_off12 i) S1x1x1x144x512.size (k0_off12_inb i)).toLoadRect (harg7.unread x3)
      = (View.ld x3 (Rect.unit (s := S1x1x16x144x512) (k0_off12 i) S1x1x1x144x512.size (k0_off12_inb i)) : Vec F S1x1x1x144x512 .bf16) := by
    rw [View.readAt_eq_ld, harg7.read_unread]
  have e202 : kernelRun0_B.sl.v202 c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 xt0 k0_hw1 = ((sN i (tbM0_0.view.readAt (Elt F) (Rect.unit (s := S512) (k0_off2 i) S1.size (k0_off2_inb i)).toLoadRect xt0 (Shape.Idx.first (numel1_S1.symm ▸ Nat.one_pos))) k0_hw1 x1 x2 x3 x4 x5 x6 (slopeOf i x0))).acc := by
    unfold kernelRun0_B.sl.v202
    rw [none2 (h := h2')]
    exact (readCov_cat arg17.view zero2 _ _ _).trans E17
  have e208 : kernelRun0_B.sl.v208 c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 xt0 k0_hw1 = ((sN i (tbM0_0.view.readAt (Elt F) (Rect.unit (s := S512) (k0_off2 i) S1.size (k0_off2_inb i)).toLoadRect xt0 (Shape.Idx.first (numel1_S1.symm ▸ Nat.one_pos))) k0_hw1 x1 x2 x3 x4 x5 x6 (slopeOf i x0))).pb := by
    unfold kernelRun0_B.sl.v208
    rw [none2 (h := h2')]
    exact (readCov_cat arg22.view zero2 _ _ _).trans E22
  have e170 : kernelRun0_B.sl.v170 c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 xt0 k0_hw1 = rows (accB i x3 (sN i (tbM0_0.view.readAt (Elt F) (Rect.unit (s := S512) (k0_off2 i) S1.size (k0_off2_inb i)).toLoadRect xt0 (Shape.Idx.first (numel1_S1.symm ▸ Nat.one_pos))) k0_hw1 x1 x2 x3 x4 x5 x6 (slopeOf i x0))) := by
    unfold kernelRun0_B.sl.v170 kernelRun0_B.sl.HS0_1_1
    rw [none2 (h := h2'), e202, e208]
    refine (readCov_part arg17.view zero2 _ _ _ _).trans (congrArg rows ?_)
    unfold accB
    rw [eV12]
    exact congrArg (fun a => k0_pay51 a _ _ _) (congrArg (fun p => p.2.2) E0)
  have e171 : kernelRun0_B.sl.v171 c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 xt0 k0_hw1 = sumRow (accB i x3 (sN i (tbM0_0.view.readAt (Elt F) (Rect.unit (s := S512) (k0_off2 i) S1.size (k0_off2_inb i)).toLoadRect xt0 (Shape.Idx.first (numel1_S1.symm ▸ Nat.one_pos))) k0_hw1 x1 x2 x3 x4 x5 x6 (slopeOf i x0))) := by
    unfold kernelRun0_B.sl.v171 kernelRun0_B.sl.HS0_1_1
    rw [none2 (h := h2'), e202, e208]
    refine (readCov_part arg17.view zero2 _ _ _ _).trans (congrArg sumRow ?_)
    unfold accB
    rw [eV12]
    exact congrArg (fun a => k0_pay51 a _ _ _) (congrArg (fun p => p.2.2) E0)
  unfold out0_B_12
  rw [View.read_writes_eq_canon _ _ _ (cover0_B_12 c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 xt0 hc0 hc1 k0_hw1)]
  unfold kernelRun0_B
  dsimp only
  rw [View.canon_unit_zero zero3]
  unfold kernelRun0_B.sl.r_6 kernelRun0_B.sl.r_7
  rw [e170, e171, eL11, eL12, eL13, eL14, eL15]
  rfl

/-- Case C. -/
theorem out_C (c : Dev nD) (i : grid0.Coords) (arg4 : Memref sig .tc .smem S8 .f32) (harg4 : arg4.IsWhole) (arg5 : Memref sig .tc .vmem S1x512x128 .bf16) (harg5 : arg5.IsWhole) (arg6 : Memref sig .tc .vmem S1x8192x128 .bf16) (harg6 : arg6.IsWhole) (arg7 : Memref sig .tc .vmem S1x1x16x144x512 .bf16) (harg7 : arg7.IsWhole) (arg8 : Memref sig .tc .vmem S512x128 .bf16) (harg8 : arg8.IsWhole) (arg9 : Memref sig .tc .vmem S512x1024 .i32) (harg9 : arg9.IsWhole) (arg10 : Memref sig .tc .vmem S1x16x128 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S128x1 .f32) (harg15 : arg15.IsWhole) (arg16 : Memref sig .tc .vmem S1x512x128 .bf16) (harg16 : arg16.IsWhole) (arg17 : Memref sig .tc .vmem S144x1024 .f32) (harg17 : arg17.IsWhole) (arg18 : Memref sig .tc .vmem S256x1024 .bf16) (harg18 : arg18.IsWhole) (arg19 : Memref sig .tc .vmem S512x1024 .f32) (harg19 : arg19.IsWhole) (arg20 : Memref sig .tc .vmem S512x1024 .f32) (harg20 : arg20.IsWhole) (arg21 : Memref sig .tc .vmem S512x1024 .bf16) (harg21 : arg21.IsWhole) (arg22 : Memref sig .tc .vmem S512x1024 .bf16) (harg22 : arg22.IsWhole)
    (x0 : Vec F S8 .f32) (x1 : Vec F S1x512x128 .bf16) (x2 : Vec F S1x8192x128 .bf16) (x3 : Vec F S1x1x16x144x512 .bf16) (x4 : Vec F S512x128 .bf16) (x5 : Vec F S512x1024 .i32) (x6 : Vec F S1x16x128 .f32) (x7 : Vec F S1x64 .f32) (x8 : Vec F S1x64 .f32) (x9 : Vec F S1x64 .f32) (x10 : Vec F S1x64 .f32) (x11 : Vec F S128x1 .f32) (xt0 : TbBuf0 (F := F) c tbM0_0) (hc0 : ¬cond0_0 i (tbM0_0.view.readAt (Elt F) (Rect.unit (s := S512) (k0_off2 i) S1.size (k0_off2_inb i)).toLoadRect xt0 (Shape.Idx.first (numel1_S1.symm ▸ Nat.one_pos)))) (hc1 : cond0_1 i (tbM0_0.view.readAt (Elt F) (Rect.unit (s := S512) (k0_off2 i) S1.size (k0_off2_inb i)).toLoadRect xt0 (Shape.Idx.first (numel1_S1.symm ▸ Nat.one_pos)))) (k0_hw1 : k0_chk1 i (tbM0_0.view.readAt (Elt F) (Rect.unit (s := S512) (k0_off2 i) S1.size (k0_off2_inb i)).toLoadRect xt0 (Shape.Idx.first (numel1_S1.symm ▸ Nat.one_pos)))) (h2 : (k0_t2_loop i (tbM0_0.view.readAt (Elt F) (Rect.unit (s := S512) (k0_off2 i) S1.size (k0_off2_inb i)).toLoadRect xt0 (Shape.Idx.first (numel1_S1.symm ▸ Nat.one_pos)))).trips = 0) :
    out0_C_12 c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 xt0 hc0 hc1 k0_hw1 = fin x7 x8 x9 x10 x11 (accC i x3 (slopeOf i x0) (sN i (tbM0_0.view.readAt (Elt F) (Rect.unit (s := S512) (k0_off2 i) S1.size (k0_off2_inb i)).toLoadRect xt0 (Shape.Idx.first (numel1_S1.symm ▸ Nat.one_pos))) k0_hw1 x1 x2 x3 x4 x5 x6 (slopeOf i x0))) := by
  have er : kernelRun0_C.sl.r c i arg4 harg4 x0 = slopeOf i x0 := by
    unfold kernelRun0_C.sl.r; simp only [View.readAt_eq_ld, harg4.read_unread]
  have e83 : kernelRun0_C.sl.v83 c arg5 harg5 arg10 harg10 arg18 x1 x6 = qv x1 x6 := by
    unfold kernelRun0_C.sl.v83 kernelRun0_C.sl.HS1_3
    simp (disch := decide) only [View.ld_unit_lit', View.readAt_eq_ld, harg5.read_unread, harg10.read_unread]
    refine (View.ld_unit_zero zero2 _ _).trans ?_
    exact read_queries arg18.view _ x1 x6 _ _ _
  have eq : arg18.view.read (Elt F) (arg18.view.writes (Elt F) arg18.view.junk (kernelRun0_C.sl.HS1_3 c arg5 harg5 arg10 harg10 x1 x6)) = qv x1 x6 := by
    unfold kernelRun0_C.sl.HS1_3
    simp (disch := decide) only [View.ld_unit_lit', View.readAt_eq_ld, harg5.read_unread, harg10.read_unread]
    exact read_queries arg18.view _ x1 x6 _ _ _
  have e2 : kernelRun0_C.sl.r_2 c i arg5 harg5 arg6 harg6 arg8 harg8 arg9 harg9 arg10 harg10 arg18 x1 x2 x4 x5 x6 xt0 k0_hw1
      = k0_pay46 (v2of i) (tbM0_0.view.readAt (Elt F) (Rect.unit (s := S512) (k0_off2 i) S1.size (k0_off2_inb i)).toLoadRect xt0 (Shape.Idx.first (numel1_S1.symm ▸ Nat.one_pos))) (keys3 i (tbM0_0.view.readAt (Elt F) (Rect.unit (s := S512) (k0_off2 i) S1.size (k0_off2_inb i)).toLoadRect xt0 (Shape.Idx.first (numel1_S1.symm ▸ Nat.one_pos))) k0_hw1 x2) x4 (qv x1 x6) x5 := by
    unfold kernelRun0_C.sl.r_2
    rw [e83]
    simp (disch := decide) only [View.ld_unit_lit', View.readAt_eq_ld, harg6.read_unread, harg8.read_unread, harg9.read_unread]
    rfl
  have e19 : arg19.view.read (Elt F) (arg19.view.writes (Elt F) arg19.view.junk (kernelRun0_C.sl.HS2_1 c i arg5 harg5 arg6 harg6 arg8 harg8 arg9 harg9 arg10 harg10 arg18 x1 x2 x4 x5 x6 xt0 k0_hw1))
      = k0_pay45 (v2of i) (tbM0_0.view.readAt (Elt F) (Rect.unit (s := S512) (k0_off2 i) S1.size (k0_off2_inb i)).toLoadRect xt0 (Shape.Idx.first (numel1_S1.symm ▸ Nat.one_pos))) (keys3 i (tbM0_0.view.readAt (Elt F) (Rect.unit (s := S512) (k0_off2 i) S1.size (k0_off2_inb i)).toLoadRect xt0 (Shape.Idx.first (numel1_S1.symm ▸ Nat.one_pos))) k0_hw1 x2) x4 (qv x1 x6) x5 := by
    unfold kernelRun0_C.sl.HS2_1
    rw [e83]
    simp (disch := decide) only [View.ld_unit_lit', View.readAt_eq_ld, harg6.read_unread, harg8.read_unread, harg9.read_unread]
    exact read_writes_whole arg19.view _ zero2 _ _ _
  have E := state_eq (F := F) Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (kernelRun0_C.sl.r c i arg4 harg4 x0) (kernelRun0_C.sl.v2 i) (kernelRun0_C.sl.v52 i) (kernelRun0_C.sl.r_1 c i xt0) k0_hw1 (kernelRun0_C.sl.r_2 c i arg5 harg5 arg6 harg6 arg8 harg8 arg9 harg9 arg10 harg10 arg18 x1 x2 x4 x5 x6 xt0 k0_hw1) (kernelRun0_C.sl.v97 c i xt0) (2#32) (kernelRun0_C.sl.v98 c i xt0) (kernelRun0_C.sl.v103 c i xt0) (1#32) (0#1) (harg6.unread x2) (harg7.unread x3) (harg8.unread x4) (harg9.unread x5) (arg18.view.writes (Elt F) arg18.view.junk (kernelRun0_C.sl.HS1_3 c arg5 harg5 arg10 harg10 x1 x6)) (arg17.view.writes (Elt F) arg17.view.junk kernelRun0_C.sl.HS0_1) (arg19.view.writes (Elt F) arg19.view.junk (kernelRun0_C.sl.HS2_1 c i arg5 harg5 arg6 harg6 arg8 harg8 arg9 harg9 arg10 harg10 arg18 x1 x2 x4 x5 x6 xt0 k0_hw1)) (arg20.view.writes (Elt F) arg20.view.junk kernelRun0_C.sl.HS3_1) (arg21.view.writes (Elt F) arg21.view.junk kernelRun0_C.sl.HS4_1) (arg22.view.writes (Elt F) arg22.view.junk kernelRun0_C.sl.HS5_1) (k0_pay47, kernelRun0_C.sl.r_2 c i arg5 harg5 arg6 harg6 arg8 harg8 arg9 harg9 arg10 harg10 arg18 x1 x2 x4 x5 x6 xt0 k0_hw1, k0_pay48) (s0 i (tbM0_0.view.readAt (Elt F) (Rect.unit (s := S512) (k0_off2 i) S1.size (k0_off2_inb i)).toLoadRect xt0 (Shape.Idx.first (numel1_S1.symm ▸ Nat.one_pos))) k0_hw1 x1 x2 x4 x5 x6) (by rw [e2, s0_m, s0_mx, s0_al])
    ((read_writes_whole arg17.view _ zero2 _ _ _).trans (s0_acc ..).symm) (e19.trans (s0_sa ..).symm) ((read_writes_whole arg22.view _ zero2 _ _ _).trans (s0_pb ..).symm) (k0_t1_loop i (tbM0_0.view.readAt (Elt F) (Rect.unit (s := S512) (k0_off2 i) S1.size (k0_off2_inb i)).toLoadRect xt0 (Shape.Idx.first (numel1_S1.symm ▸ Nat.one_pos)))).trips le_rfl
  rw [harg6.read_unread, harg7.read_unread, harg8.read_unread, harg9.read_unread, eq] at E
  obtain ⟨E0, E17, E19, E22⟩ := E
  have h2' : (k0_t2_loop i (kernelRun0_C.sl.r_1 c i xt0)).trips = 0 := h2
  have S : sts i (kernelRun0_C.sl.r c i arg4 harg4 x0) (kernelRun0_C.sl.v2 i) (kernelRun0_C.sl.r_1 c i xt0) k0_hw1 x2 x3 x4 x5 (qv x1 x6) (s0 i (tbM0_0.view.readAt (Elt F) (Rect.unit (s := S512) (k0_off2 i) S1.size (k0_off2_inb i)).toLoadRect xt0 (Shape.Idx.first (numel1_S1.symm ▸ Nat.one_pos))) k0_hw1 x1 x2 x4 x5 x6) (k0_t1_loop i (tbM0_0.view.readAt (Elt F) (Rect.unit (s := S512) (k0_off2 i) S1.size (k0_off2_inb i)).toLoadRect xt0 (Shape.Idx.first (numel1_S1.symm ▸ Nat.one_pos)))).trips = (sN i (tbM0_0.view.readAt (Elt F) (Rect.unit (s := S512) (k0_off2 i) S1.size (k0_off2_inb i)).toLoadRect xt0 (Shape.Idx.first (numel1_S1.symm ▸ Nat.one_pos))) k0_hw1 x1 x2 x3 x4 x5 x6 (slopeOf i x0)) := by
    rw [er]; rfl
  rw [S] at E0 E17 E19 E22
  have eL11 : View.readAt (Elt F) arg11.view (Rect.unit (s := S1x64) ![0, 0] S1x64.size inb_S1x64_S1x64_0_0).toLoadRect (harg11.unread x7) = x7 := by
    rw [View.readAt_eq_ld, harg11.read_unread]; exact View.ld_unit_zero zero2 _ _
  have eL12 : View.readAt (Elt F) arg12.view (Rect.unit (s := S1x64) ![0, 0] S1x64.size inb_S1x64_S1x64_0_0).toLoadRect (harg12.unread x8) = x8 := by
    rw [View.readAt_eq_ld, harg12.read_unread]; exact View.ld_unit_zero zero2 _ _
  have eL13 : View.readAt (Elt F) arg13.view (Rect.unit (s := S1x64) ![0, 0] S1x64.size inb_S1x64_S1x64_0_0).toLoadRect (harg13.unread x9) = x9 := by
    rw [View.readAt_eq_ld, harg13.read_unread]; exact View.ld_unit_zero zero2 _ _
  have eL14 : View.readAt (Elt F) arg14.view (Rect.unit (s := S1x64) ![0, 0] S1x64.size inb_S1x64_S1x64_0_0).toLoadRect (harg14.unread x10) = x10 := by
    rw [View.readAt_eq_ld, harg14.read_unread]; exact View.ld_unit_zero zero2 _ _
  have eL15 : View.readAt (Elt F) arg15.view (Rect.unit (s := S128x1) ![0, 0] S128x1.size inb_S128x1_S128x1_0_0).toLoadRect (harg15.unread x11) = x11 := by
    rw [View.readAt_eq_ld, harg15.read_unread]; exact View.ld_unit_zero zero2 _ _
  have eV13 : View.readAt (Elt F) arg7.view (Rect.unit (s := S1x1x16x144x512) (k0_off13 i) S1x1x1x144x512.size (k0_off13_inb i)).toLoadRect (harg7.unread x3)
      = (View.ld x3 (Rect.unit (s := S1x1x16x144x512) (k0_off13 i) S1x1x1x144x512.size (k0_off13_inb i)) : Vec F S1x1x1x144x512 .bf16) := by
    rw [View.readAt_eq_ld, harg7.read_unread]
  have eV14 : View.readAt (Elt F) arg7.view (Rect.unit (s := S1x1x16x144x512) (k0_off14 i) S1x1x1x144x512.size (k0_off14_inb i)).toLoadRect (harg7.unread x3)
      = (View.ld x3 (Rect.unit (s := S1x1x16x144x512) (k0_off14 i) S1x1x1x144x512.size (k0_off14_inb i)) : Vec F S1x1x1x144x512 .bf16) := by
    rw [View.readAt_eq_ld, harg7.read_unread]
  have e204 : kernelRun0_C.sl.v204 c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 xt0 k0_hw1 = ((sN i (tbM0_0.view.readAt (Elt F) (Rect.unit (s := S512) (k0_off2 i) S1.size (k0_off2_inb i)).toLoadRect xt0 (Shape.Idx.first (numel1_S1.symm ▸ Nat.one_pos))) k0_hw1 x1 x2 x3 x4 x5 x6 (slopeOf i x0))).acc := by
    unfold kernelRun0_C.sl.v204
    rw [none2 (h := h2')]
    exact (readCov_cat arg17.view zero2 _ _ _).trans E17
  have e210 : kernelRun0_C.sl.v210 c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 xt0 k0_hw1 = ((sN i (tbM0_0.view.readAt (Elt F) (Rect.unit (s := S512) (k0_off2 i) S1.size (k0_off2_inb i)).toLoadRect xt0 (Shape.Idx.first (numel1_S1.symm ▸ Nat.one_pos))) k0_hw1 x1 x2 x3 x4 x5 x6 (slopeOf i x0))).pb := by
    unfold kernelRun0_C.sl.v210
    rw [none2 (h := h2')]
    exact (readCov_cat arg22.view zero2 _ _ _).trans E22
  have e222 : kernelRun0_C.sl.v222 c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 xt0 k0_hw1 = ((sN i (tbM0_0.view.readAt (Elt F) (Rect.unit (s := S512) (k0_off2 i) S1.size (k0_off2_inb i)).toLoadRect xt0 (Shape.Idx.first (numel1_S1.symm ▸ Nat.one_pos))) k0_hw1 x1 x2 x3 x4 x5 x6 (slopeOf i x0))).sa := by
    unfold kernelRun0_C.sl.v222
    rw [none2 (h := h2')]
    exact (readCov_cat arg19.view zero2 _ _ _).trans E19
  have e3 : kernelRun0_C.sl.r_3 c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 xt0 k0_hw1 = ((sN i (tbM0_0.view.readAt (Elt F) (Rect.unit (s := S512) (k0_off2 i) S1.size (k0_off2_inb i)).toLoadRect xt0 (Shape.Idx.first (numel1_S1.symm ▸ Nat.one_pos))) k0_hw1 x1 x2 x3 x4 x5 x6 (slopeOf i x0))).m := by
    unfold kernelRun0_C.sl.r_3
    rw [none2 (h := h2')]
    exact congrArg (fun p => p.1) E0
  have e4 : kernelRun0_C.sl.r_4 c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 xt0 k0_hw1 = ((sN i (tbM0_0.view.readAt (Elt F) (Rect.unit (s := S512) (k0_off2 i) S1.size (k0_off2_inb i)).toLoadRect xt0 (Shape.Idx.first (numel1_S1.symm ▸ Nat.one_pos))) k0_hw1 x1 x2 x3 x4 x5 x6 (slopeOf i x0))).mx := by
    unfold kernelRun0_C.sl.r_4
    rw [none2 (h := h2')]
    exact congrArg (fun p => p.2.1) E0
  have e5 : kernelRun0_C.sl.r_5 c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 xt0 k0_hw1 = ((sN i (tbM0_0.view.readAt (Elt F) (Rect.unit (s := S512) (k0_off2 i) S1.size (k0_off2_inb i)).toLoadRect xt0 (Shape.Idx.first (numel1_S1.symm ▸ Nat.one_pos))) k0_hw1 x1 x2 x3 x4 x5 x6 (slopeOf i x0))).al := by
    unfold kernelRun0_C.sl.r_5
    rw [none2 (h := h2')]
    exact congrArg (fun p => p.2.2) E0
  have e215 : kernelRun0_C.sl.v215 c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 xt0 k0_hw1 = k0_pay32 ((sN i (tbM0_0.view.readAt (Elt F) (Rect.unit (s := S512) (k0_off2 i) S1.size (k0_off2_inb i)).toLoadRect xt0 (Shape.Idx.first (numel1_S1.symm ▸ Nat.one_pos))) k0_hw1 x1 x2 x3 x4 x5 x6 (slopeOf i x0))).al ((sN i (tbM0_0.view.readAt (Elt F) (Rect.unit (s := S512) (k0_off2 i) S1.size (k0_off2_inb i)).toLoadRect xt0 (Shape.Idx.first (numel1_S1.symm ▸ Nat.one_pos))) k0_hw1 x1 x2 x3 x4 x5 x6 (slopeOf i x0))).acc
      (View.ld x3 (Rect.unit (s := S1x1x16x144x512) (k0_off13 i) S1x1x1x144x512.size (k0_off13_inb i)) : Vec F S1x1x1x144x512 .bf16) ((sN i (tbM0_0.view.readAt (Elt F) (Rect.unit (s := S512) (k0_off2 i) S1.size (k0_off2_inb i)).toLoadRect xt0 (Shape.Idx.first (numel1_S1.symm ▸ Nat.one_pos))) k0_hw1 x1 x2 x3 x4 x5 x6 (slopeOf i x0))).pb := by
    unfold kernelRun0_C.sl.v215 kernelRun0_C.sl.v212 kernelRun0_C.sl.v206 kernelRun0_C.sl.v205 kernelRun0_C.sl.v211 kernelRun0_C.sl.v209
    rw [e204, e210, e5, eV13]
    rfl
  have e234 : kernelRun0_C.sl.v234 c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 xt0 k0_hw1 = k0_pay32 ((sN i (tbM0_0.view.readAt (Elt F) (Rect.unit (s := S512) (k0_off2 i) S1.size (k0_off2_inb i)).toLoadRect xt0 (Shape.Idx.first (numel1_S1.symm ▸ Nat.one_pos))) k0_hw1 x1 x2 x3 x4 x5 x6 (slopeOf i x0))).al ((sN i (tbM0_0.view.readAt (Elt F) (Rect.unit (s := S512) (k0_off2 i) S1.size (k0_off2_inb i)).toLoadRect xt0 (Shape.Idx.first (numel1_S1.symm ▸ Nat.one_pos))) k0_hw1 x1 x2 x3 x4 x5 x6 (slopeOf i x0))).acc
      (View.ld x3 (Rect.unit (s := S1x1x16x144x512) (k0_off13 i) S1x1x1x144x512.size (k0_off13_inb i)) : Vec F S1x1x1x144x512 .bf16) ((sN i (tbM0_0.view.readAt (Elt F) (Rect.unit (s := S512) (k0_off2 i) S1.size (k0_off2_inb i)).toLoadRect xt0 (Shape.Idx.first (numel1_S1.symm ▸ Nat.one_pos))) k0_hw1 x1 x2 x3 x4 x5 x6 (slopeOf i x0))).pb := by
    unfold kernelRun0_C.sl.v234 kernelRun0_C.sl.HS0_1_1
    rw [e215]
    exact (readCov_part arg17.view zero2 _ _ _ _).trans (View.ld_unit_zero zero2 _ _)
  have e236 : kernelRun0_C.sl.v236 c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 xt0 k0_hw1 = k0_pay36 (slopeOf i x0) ((sN i (tbM0_0.view.readAt (Elt F) (Rect.unit (s := S512) (k0_off2 i) S1.size (k0_off2_inb i)).toLoadRect xt0 (Shape.Idx.first (numel1_S1.symm ▸ Nat.one_pos))) k0_hw1 x1 x2 x3 x4 x5 x6 (slopeOf i x0))).m ((sN i (tbM0_0.view.readAt (Elt F) (Rect.unit (s := S512) (k0_off2 i) S1.size (k0_off2_inb i)).toLoadRect xt0 (Shape.Idx.first (numel1_S1.symm ▸ Nat.one_pos))) k0_hw1 x1 x2 x3 x4 x5 x6 (slopeOf i x0))).mx (lastWord i) (k0_pay32 ((sN i (tbM0_0.view.readAt (Elt F) (Rect.unit (s := S512) (k0_off2 i) S1.size (k0_off2_inb i)).toLoadRect xt0 (Shape.Idx.first (numel1_S1.symm ▸ Nat.one_pos))) k0_hw1 x1 x2 x3 x4 x5 x6 (slopeOf i x0))).al ((sN i (tbM0_0.view.readAt (Elt F) (Rect.unit (s := S512) (k0_off2 i) S1.size (k0_off2_inb i)).toLoadRect xt0 (Shape.Idx.first (numel1_S1.symm ▸ Nat.one_pos))) k0_hw1 x1 x2 x3 x4 x5 x6 (slopeOf i x0))).acc
      (View.ld x3 (Rect.unit (s := S1x1x16x144x512) (k0_off13 i) S1x1x1x144x512.size (k0_off13_inb i)) : Vec F S1x1x1x144x512 .bf16) ((sN i (tbM0_0.view.readAt (Elt F) (Rect.unit (s := S512) (k0_off2 i) S1.size (k0_off2_inb i)).toLoadRect xt0 (Shape.Idx.first (numel1_S1.symm ▸ Nat.one_pos))) k0_hw1 x1 x2 x3 x4 x5 x6 (slopeOf i x0))).pb) := by
    unfold kernelRun0_C.sl.v236 kernelRun0_C.sl.v235 kernelRun0_C.sl.v233 kernelRun0_C.sl.v232 kernelRun0_C.sl.v221 kernelRun0_C.sl.v220 kernelRun0_C.sl.v219 kernelRun0_C.sl.v218
    rw [e234, e3, e4, er]
    rfl
  have e240 : kernelRun0_C.sl.v240 c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 xt0 k0_hw1 = k0_pay35 (slopeOf i x0) ((sN i (tbM0_0.view.readAt (Elt F) (Rect.unit (s := S512) (k0_off2 i) S1.size (k0_off2_inb i)).toLoadRect xt0 (Shape.Idx.first (numel1_S1.symm ▸ Nat.one_pos))) k0_hw1 x1 x2 x3 x4 x5 x6 (slopeOf i x0))).m ((sN i (tbM0_0.view.readAt (Elt F) (Rect.unit (s := S512) (k0_off2 i) S1.size (k0_off2_inb i)).toLoadRect xt0 (Shape.Idx.first (numel1_S1.symm ▸ Nat.one_pos))) k0_hw1 x1 x2 x3 x4 x5 x6 (slopeOf i x0))).mx (lastWord i) ((sN i (tbM0_0.view.readAt (Elt F) (Rect.unit (s := S512) (k0_off2 i) S1.size (k0_off2_inb i)).toLoadRect xt0 (Shape.Idx.first (numel1_S1.symm ▸ Nat.one_pos))) k0_hw1 x1 x2 x3 x4 x5 x6 (slopeOf i x0))).sa := by
    unfold kernelRun0_C.sl.v240 kernelRun0_C.sl.HS4_1_1
    refine (readCov_part arg21.view zero2 _ _ _ _).trans ((View.ld_unit_zero zero2 _ _).trans ?_)
    unfold kernelRun0_C.sl.v231 kernelRun0_C.sl.v228 kernelRun0_C.sl.v227 kernelRun0_C.sl.v226 kernelRun0_C.sl.v225 kernelRun0_C.sl.v224 kernelRun0_C.sl.v221 kernelRun0_C.sl.v220 kernelRun0_C.sl.v219 kernelRun0_C.sl.v218
    rw [e222, e3, e4, er]
    rfl
  have e170 : kernelRun0_C.sl.v170 c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 xt0 k0_hw1 = rows (accC i x3 (slopeOf i x0) (sN i (tbM0_0.view.readAt (Elt F) (Rect.unit (s := S512) (k0_off2 i) S1.size (k0_off2_inb i)).toLoadRect xt0 (Shape.Idx.first (numel1_S1.symm ▸ Nat.one_pos))) k0_hw1 x1 x2 x3 x4 x5 x6 (slopeOf i x0))) := by
    unfold kernelRun0_C.sl.v170 kernelRun0_C.sl.HS0_2
    rw [e236, e240]
    refine (readCov_part arg17.view zero2 _ _ _ _).trans (congrArg rows ?_)
    unfold accC
    rw [eV14]
  have e171 : kernelRun0_C.sl.v171 c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 xt0 k0_hw1 = sumRow (accC i x3 (slopeOf i x0) (sN i (tbM0_0.view.readAt (Elt F) (Rect.unit (s := S512) (k0_off2 i) S1.size (k0_off2_inb i)).toLoadRect xt0 (Shape.Idx.first (numel1_S1.symm ▸ Nat.one_pos))) k0_hw1 x1 x2 x3 x4 x5 x6 (slopeOf i x0))) := by
    unfold kernelRun0_C.sl.v171 kernelRun0_C.sl.HS0_2
    rw [e236, e240]
    refine (readCov_part arg17.view zero2 _ _ _ _).trans (congrArg sumRow ?_)
    unfold accC
    rw [eV14]
  unfold out0_C_12
  rw [View.read_writes_eq_canon _ _ _ (cover0_C_12 c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 xt0 hc0 hc1 k0_hw1)]
  unfold kernelRun0_C
  dsimp only
  rw [View.canon_unit_zero zero3]
  unfold kernelRun0_C.sl.r_6 kernelRun0_C.sl.r_7
  rw [e170, e171, eL11, eL12, eL13, eL14, eL15]
  rfl

end Cert.Proof.Attn

end
-- ==== Proof.Attn.Final.lean ====
/-
  What one point of the differential attention's grid leaves, in real numbers: for every query the difference of the two halves' weighted
  means, normalized.
-/
module

public import proofs.«01_k».proof.Proof.Attn.Inv
public import proofs.«01_k».proof.Proof.Attn.Body

@[expose] public section

set_option Elab.async false
set_option maxRecDepth 16384
set_option maxHeartbeats 1000000

noncomputable section

namespace Cert.Proof.Attn

open Cert.Kernel3Ideal Cert.Kernel3Ideal.Gen Idealize.ShloMosaic Idealize.ShloMosaic.TcCoe

variable {κ : Fin 16} {sl : ℝ} {kr : Fin 8192 → Fin 128 → ℝ} {qr : Fin 128 → Fin 1024 → ℝ} {vr : Fin 16 → Fin 144 → Fin 512 → ℝ}
  {x1 : Vec Ideal S1x512x128 .bf16} {x2 : Vec Ideal S1x8192x128 .bf16} {x3 : Vec Ideal S1x1x16x144x512 .bf16} {x4 : Vec Ideal S512x128 .bf16}
  {x5 : Vec Ideal S512x1024 .i32} {x6 : Vec Ideal S1x16x128 .f32}

theorem even_at : ∀ a κ : Fin 16, κ ≤ a → (cond0_0 (at2 a) (wd κ) ↔ (a.val + 1 - κ.val) % 2 = 0) := by decide +kernel
theorem odd_at : ∀ a κ : Fin 16, κ ≤ a → (cond0_1 (at2 a) (wd κ) ↔ (a.val + 1 - κ.val) % 2 = 1) := by decide +kernel
theorem even_of (i : grid0.Coords) (κ : Fin 16) (h : κ.val ≤ (i 2).val) : cond0_0 i (wd κ) ↔ ((i 2).val + 1 - κ.val) % 2 = 0 :=
  even_at (i 2) κ h
theorem odd_of (i : grid0.Coords) (κ : Fin 16) (h : κ.val ≤ (i 2).val) : cond0_1 i (wd κ) ↔ ((i 2).val + 1 - κ.val) % 2 = 1 :=
  odd_at (i 2) κ h
theorem last_at2 : ∀ a : Fin 16, lastWord (at2 a) = BitVec.ofNat 32 a.val := by decide +kernel
theorem lastWord_of (i : grid0.Coords) : lastWord i = BitVec.ofNat 32 (i 2).val := last_at2 (i 2)

/-- The queries' rows. -/
theorem qv_low (x1 : Vec Ideal S1x512x128 .bf16) (x6 : Vec Ideal S1x16x128 .f32) (j : Fin 128) (c : Fin 1024) :
    qv x1 x6 (ix2 ⟨j.val, by omega⟩ c)
      = if j.val / 64 = c.val / 512 then x1 (ix3 0 ⟨c.val % 512, by omega⟩ j) * Ideal.ofBits .f32 0x3E000000#32 else 0 := by
  rw [← q37_at x1 j c]
  unfold qv
  exact dif_pos j.isLt

theorem qv_high (x1 : Vec Ideal S1x512x128 .bf16) (x6 : Vec Ideal S1x16x128 .f32) (j : Fin 128) (c : Fin 1024) :
    qv x1 x6 (ix2 ⟨128 + j.val, by omega⟩ c)
      = if h : j.val < 16 then x6 (ix3 0 ⟨j.val, h⟩ ⟨c.val % 128, by omega⟩) else 0 := by
  unfold qv
  have h0 : ¬ ((ix2 ⟨128 + j.val, by omega⟩ c : S256x1024.Idx) 0).val < 128 := by show ¬ 128 + j.val < 128; omega
  rw [dif_neg h0]
  by_cases h : j.val < 16
  · have h1 : ((ix2 ⟨128 + j.val, by omega⟩ c : S256x1024.Idx) 0).val < 144 := by show 128 + j.val < 144; omega
    rw [dif_pos h1, dif_pos h, ← q38_at x6 ⟨j.val, h⟩ c]
    refine congrArg (k0_pay38 x6) (funext fun d => Fin.ext ?_)
    match d with
    | ⟨0, _⟩ => show 128 + j.val - 128 = j.val; omega
    | ⟨1, _⟩ => rfl
  · have h1 : ¬ ((ix2 ⟨128 + j.val, by omega⟩ c : S256x1024.Idx) 0).val < 144 := by show ¬ 128 + j.val < 144; omega
    rw [dif_neg h1, dif_neg h]
    exact q39_at _ _

theorem pay45_at (v2 w : BitVec 32) (K : Vec Ideal S1x512x128 .bf16) (q : Vec Ideal S256x1024 .bf16) (k : Fin 512) (c : Fin 1024) :
    k0_pay45 v2 w K x4 q x5 (ix2 k c) = k0_pay7 v2 (Scalar.muli w 512#32) K x4 q x5 (ix2 k c) := by
  have e : k0_pay44 v2 w K x4 q x5 = k0_pay7 v2 (Scalar.muli w 512#32) K x4 q x5 := rfl
  rw [← e]; pointwise [k0_pay45]

theorem pay46_at (v2 w : BitVec 32) (K : Vec Ideal S1x512x128 .bf16) (q : Vec Ideal S256x1024 .bf16) (c : Fin 1024) :
    k0_pay46 v2 w K x4 q x5 (ix2 0 c) = Finset.univ.sup fun k : Fin 512 => k0_pay7 v2 (Scalar.muli w 512#32) K x4 q x5 (ix2 k c) :=
  max9_at v2 (Scalar.muli w 512#32) K x4 q x5 c

/-- The state the loop starts from. -/
theorem keeps_start (i : grid0.Coords) (hκ : κ.val ≤ (i 2).val) (hw : k0_chk1 i (wd κ))
    (H : Holds x2 x3 x4 x5 (qv x1 x6) sl kr qr vr) :
    Keeps (i 2) κ sl kr qr vr κ.val (s0 i (wd κ) hw x1 x2 x4 x5 x6) := by
  refine ⟨fun c => Or.inl ⟨?_, fun r => ⟨?_, upTo_start _ _ _ _ _ _ c r⟩⟩, fun t ht k c => ?_, fun c => ?_⟩
  · rw [s0_m]; exact m0_at c
  · rw [s0_al, s0_acc, s0_pb, al0_at]
    beta_reduce
    rw [acc0_at, mul_zero, zero_add]
    refine Finset.sum_eq_zero fun k _ => ?_
    rw [pb0_at, mul_zero]
  · have e : t = κ := Fin.ext (by have := κ.isLt; omega)
    subst e
    rw [s0_sa, pay45_at]
    exact score (a := i 2) H t _ (off3_at t) _ k c
  · rw [s0_mx, pay46_at]
    refine Finset.sup_congr rfl fun k _ => ?_
    rw [s0_sa, pay45_at]

theorem pay51_eq : @k0_pay51 Ideal _ = @k0_pay2 Ideal _ := rfl
theorem pay32_eq : @k0_pay32 Ideal _ = @k0_pay2 Ideal _ := rfl

theorem stands_B (i : grid0.Coords) (hκ : κ.val ≤ (i 2).val) (he : ((i 2).val + 1 - κ.val) % 2 = 0) (s : St Ideal)
    (H : Holds x2 x3 x4 x5 (qv x1 x6) sl kr qr vr)
    (hs : Keeps (i 2) κ sl kr qr vr (κ.val + 2 * (((i 2).val + 1 - κ.val) / 2)) s) (c : Fin 1024) :
    ∃ m, Stands m (fun r : Fin 144 => accB i x3 s (ix2 r c)) (upTo (i 2) κ sl kr qr vr c ((i 2).val + 1)) := by
  have hi : (i 2).val < 16 := (i 2).isLt
  have h0 := hs.stands c
  rw [show κ.val + 2 * (((i 2).val + 1 - κ.val) / 2) = (i 2).val + 1 by omega] at h0
  refine ⟨_, cast (congrArg₂ (Stands _) (funext fun r => ?_) rfl) h0⟩
  unfold accB
  rw [pay51_eq, acc_at]
  refine congrArg (_ + ·) (Finset.sum_congr rfl fun k' _ => ?_)
  rw [val_load H (back ((i 2).val + 1)) _ (by rw [off12_of i, show (back ((i 2).val + 1)).val = (i 2).val by show min ((i 2).val + 1 - 1) 15 = _; omega]) _ r k']

theorem stands_C (i : grid0.Coords) (hκ : κ.val ≤ (i 2).val) (he : ((i 2).val + 1 - κ.val) % 2 = 1) (s : St Ideal)
    (v1 : Elt Ideal .f32) (hv1 : v1 = ((sl : ℝ) : EReal)) (H : Holds x2 x3 x4 x5 (qv x1 x6) sl kr qr vr)
    (hs : Keeps (i 2) κ sl kr qr vr (κ.val + 2 * (((i 2).val + 1 - κ.val) / 2)) s) (c : Fin 1024) :
    ∃ m, Stands m (fun r : Fin 144 => accC i x3 v1 s (ix2 r c)) (upTo (i 2) κ sl kr qr vr c ((i 2).val + 1)) := by
  have hi : (i 2).val < 16 := (i 2).isLt
  rw [show κ.val + 2 * (((i 2).val + 1 - κ.val) / 2) = (i 2).val by omega] at hs
  have ow : k0_pay33 v1 (lastWord i) = ((sl * (512 * ((i 2).val : ℝ)) : ℝ) : EReal) := by
    rw [lastWord_of]; exact off_word ⟨(i 2).val, by omega⟩ v1 hv1
  have hA : Stands (s.m (ix2 0 c)) (fun r : Fin 144 => k0_pay32 s.al s.acc
      (View.ld x3 (Rect.unit (s := S1x1x16x144x512) (k0_off13 i) S1x1x1x144x512.size (k0_off13_inb i)) : Vec Ideal S1x1x1x144x512 .bf16) s.pb (ix2 r c))
      (upTo (i 2) κ sl kr qr vr c (i 2).val) := by
    refine cast (congrArg₂ (Stands _) (funext fun r => ?_) rfl) (hs.stands c)
    rw [pay32_eq, acc_at]
    refine congrArg (_ + ·) (Finset.sum_congr rfl fun k' _ => ?_)
    rw [val_load H (back (i 2).val) _ (by rw [off13_of i, show (back (i 2).val).val = (i 2).val - 1 by show min ((i 2).val - 1) 15 = _; omega]) _ r k']
  have h1 := tile_step (i 2) (i 2) hκ le_rfl c _ _ (fun k' => s.sa (ix2 k' c)) (fun k' => hs.scores (i 2) (by show (i 2).val = _; omega) k' c) hA
    (s.mx (ix2 0 c)) (hs.most c) _ rfl
  refine ⟨_, cast (congrArg₂ (Stands _) (funext fun r => ?_) rfl) h1⟩
  unfold accC
  rw [last_at, acc36_at, ow]
  refine congrArg (_ + ·) (Finset.sum_congr rfl fun k' _ => ?_)
  rw [val_load H (i 2) _ (off14_of i) _ r k', p35_at, ow]

/-- The weighted sums of a query's keys. -/
abbrev num (a κ : Fin 16) (sl : ℝ) (kr : Fin 8192 → Fin 128 → ℝ) (qr : Fin 128 → Fin 1024 → ℝ) (vr : Fin 16 → Fin 144 → Fin 512 → ℝ)
    (c : Fin 1024) (r : Fin 144) : ℝ := upTo a κ sl kr qr vr c (a.val + 1) r

theorem part_nonneg (a : Fin 16) (c : Fin 1024) (t : Fin 16) (r : Fin 144) (h : ∀ k, vr t r k = 1) : 0 ≤ part a sl kr qr vr c t r := by
  unfold part
  exact Finset.sum_nonneg fun k _ => by rw [h, one_mul]; split_ifs; exacts [(Real.exp_pos _).le, le_rfl]

theorem num_pos (a : Fin 16) (hκ : κ.val ≤ a.val) (c : Fin 1024) (r : Fin 144) (h : ∀ t k, vr t r k = 1) : 0 < num a κ sl kr qr vr c r := by
  have hp : 0 < part a sl kr qr vr c a r := by
    unfold part
    refine Finset.sum_pos' (fun k _ => by rw [h, one_mul]; split_ifs; exacts [(Real.exp_pos _).le, le_rfl]) ⟨⟨0, by omega⟩, Finset.mem_univ _, ?_⟩
    rw [h, one_mul, if_pos (by show 0 + _ ≤ _; omega)]
    exact Real.exp_pos _
  show 0 < upTo a κ sl kr qr vr c (a.val + 1) r
  rw [upTo_succ a κ sl kr qr vr c a hκ r]
  refine add_pos_of_nonneg_of_pos (Finset.sum_nonneg fun t _ => ?_) hp
  split_ifs
  exacts [part_nonneg a c t r (h t), le_rfl]

theorem rows_at (A : FVec Ideal S144x1024 .f32) (r : Fin 128) (c : Fin 1024) : rows A (ix2 r c) = A (ix2 ⟨r.val, by omega⟩ c) :=
  View.ld_unit_apply_of (Val := Elt Ideal) (e := .f32) A _ _ _ _ _ (fun d => by
    match d with
    | ⟨0, _⟩ => exact (Nat.zero_add _).symm
    | ⟨1, _⟩ => exact (Nat.zero_add _).symm)

theorem sumRow_at (A : FVec Ideal S144x1024 .f32) (c : Fin 1024) : sumRow A (ix2 0 c) = A (ix2 ⟨128, by omega⟩ c) :=
  View.ld_unit_apply_of (Val := Elt Ideal) (e := .f32) A _ _ _ _ _ (fun d => by
    match d with
    | ⟨0, _⟩ => rfl
    | ⟨1, _⟩ => exact (Nat.zero_add _).symm)

/-- A query's difference of weighted means. -/
def meanDiff (lam : EReal) (N : Fin 1024 → Fin 144 → ℝ) (n : Fin 512) (r : Fin 128) : EReal :=
  ((N ⟨n.val, by omega⟩ ⟨r.val, by omega⟩ / N ⟨n.val, by omega⟩ ⟨128, by omega⟩ : ℝ) : EReal)
    - lam * ((N ⟨512 + n.val, by omega⟩ ⟨r.val, by omega⟩ / N ⟨512 + n.val, by omega⟩ ⟨128, by omega⟩ : ℝ) : EReal)

theorem fin_at (a : Fin 16) (hκ : κ.val ≤ a.val) (x7 x8 x9 x10 : Vec Ideal S1x64 .f32) (x11 : Vec Ideal S128x1 .f32) (A : FVec Ideal S144x1024 .f32)
    (hA : ∀ c, ∃ m, Stands m (fun r : Fin 144 => A (ix2 r c)) (num a κ sl kr qr vr c)) (hone : ∀ t k, vr t ⟨128, by omega⟩ k = 1)
    (n : Fin 512) (r : Fin 128) :
    fin x7 x8 x9 x10 x11 A (ix3 0 n r)
      = meanDiff (lamAt x7 x8 x9 x10) (num a κ sl kr qr vr) n r
        * Ideal.rsqrt (Ideal.div (∑ d : Fin 128, meanDiff (lamAt x7 x8 x9 x10) (num a κ sl kr qr vr) n d
            * meanDiff (lamAt x7 x8 x9 x10) (num a κ sl kr qr vr) n d) (Ideal.ofBits .f32 0x43000000#32) + Ideal.ofBits .f32 0x3727C5AC#32)
        * x11 (ix2 r 0) * Ideal.ofBits .f32 0x3F4CCCCD#32 := by
  have o : ∀ d : Fin 128, k0_pay53 x7 x8 x9 x10 (rows A) (sumRow A) (ix2 d n) = meanDiff (lamAt x7 x8 x9 x10) (num a κ sl kr qr vr) n d := by
    intro d
    have q : ∀ c : Fin 1024, rows A (ix2 d c) * Ideal.div 1 (sumRow A (ix2 0 c))
        = ((num a κ sl kr qr vr c ⟨d.val, by omega⟩ / num a κ sl kr qr vr c ⟨128, by omega⟩ : ℝ) : EReal) := by
      intro c
      obtain ⟨m, hm⟩ := hA c
      rw [rows_at, sumRow_at]
      exact stands_quot m _ _ hm ⟨128, by omega⟩ (num_pos a hκ c _ hone) ⟨d.val, by omega⟩
    rw [o_at, q, q]; rfl
  unfold fin
  rw [out_at, ss_at, o]
  simp only [o]

end Cert.Proof.Attn

end
-- ==== Proof.Attn.Target.lean ====
/-
  The differential attention's output, in real numbers: what both the kernel and the reference come to.
-/
module

public import proofs.«01_k».proof.Proof.Attn.Final

@[expose] public section

noncomputable section

namespace Cert.Proof.Attn

open Idealize.ShloMosaic

variable (sx : Fin 4 → Fin 8192 → Fin 6528 → ℝ) (b : Fin 4) (h : Fin 8) (a : Fin 16)

/-- A head's keys. -/
def krOf (s : Fin 8192) (j : Fin 128) : ℝ := sx b s ⟨1024 + (128 * h.val + j.val), by omega⟩

/-- A tile's queries, an eighth of each: a column for each half of the head. -/
def qrOf (j : Fin 128) (c : Fin 1024) : ℝ :=
  if j.val / 64 = c.val / 512 then sx b ⟨512 * a.val + c.val % 512, by omega⟩ ⟨128 * h.val + j.val, by omega⟩ * (1 / 8) else 0

/-- A head's values by tile, with a row of ones beneath them. -/
def vrOf (t : Fin 16) (r : Fin 144) (k : Fin 512) : ℝ :=
  if hr : r.val < 128 then sx b ⟨512 * t.val + k.val, by omega⟩ ⟨2048 + (128 * h.val + r.val), by omega⟩ else if r.val = 128 then 1 else 0

/-- The weighted sums. -/
abbrev sums (κ : Fin 16) (sl : ℝ) : Fin 1024 → Fin 144 → ℝ := num a κ sl (krOf sx b h) (qrOf sx b h a) (vrOf sx b h)

/-- The normalized difference of the means. -/
def outOf (lam : EReal) (N : Fin 1024 → Fin 144 → ℝ) (w : EReal) (n : Fin 512) (r : Fin 128) : EReal :=
  meanDiff lam N n r
    * Ideal.rsqrt (Ideal.div (∑ d : Fin 128, meanDiff lam N n d * meanDiff lam N n d) (Ideal.ofBits .f32 0x43000000#32) + Ideal.ofBits .f32 0x3727C5AC#32)
    * w * Ideal.ofBits .f32 0x3F4CCCCD#32

end Cert.Proof.Attn

end
-- ==== Proof.Attn.Ones.lean ====
/-
  The host's row of ones: a scatter of ones into the first of sixteen zero rows, read at an index.
-/
module

public import proofs.«01_k».proof.Proof.Gen.Kernel3Ideal
public import Idealize.ShloMosaic.Lib.Pointwise
import Idealize.ShloMosaic.Lib.Routing.OpsPair
import Idealize.ShloMosaic.Lib.Routing.OpsSet

@[expose] public section

set_option maxHeartbeats 1000000
set_option maxRecDepth 16384

noncomputable section

namespace Cert.Proof.Attn

open Cert.Kernel3Ideal Cert.Kernel3Ideal.Gen Idealize.ShloMosaic Idealize.ShloMosaic.Pointwise

/-- Where an update lands: its own place, in row 0. -/
theorem ones_lands (b : Fin 4) (h : Fin 8) (t : Fin 16) (k : Fin 512) (idx : IVec S1 32) (hi : ∀ j, idx j = 0#32)
    (b' : Fin 4) (h' : Fin 8) (t' : Fin 16) (r : Fin 16) (k' : Fin 512) :
    scatter_S4x8x16x16x512_S1_S4x8x16x512_0123_3_3_0.resultIdx? (ix4 b h t k) idx = some (ix5 b' h' t' r k') ↔
      b = b' ∧ h = h' ∧ t = t' ∧ r.val = 0 ∧ k = k' := by
  rw [Routing.resultIdx?_eq_some]
  have s : ∀ a, scatter_S4x8x16x16x512_S1_S4x8x16x512_0123_3_3_0.start (ix4 b h t k) idx a = 0 := by
    intro a
    unfold ScatterDims.start
    split
    · rw [hi]; rfl
    · rfl
  have w0 : scatter_S4x8x16x16x512_S1_S4x8x16x512_0123_3_3_0.window (ix4 b h t k) 0 = b.val := rfl
  have w1 : scatter_S4x8x16x16x512_S1_S4x8x16x512_0123_3_3_0.window (ix4 b h t k) 1 = h.val := rfl
  have w2 : scatter_S4x8x16x16x512_S1_S4x8x16x512_0123_3_3_0.window (ix4 b h t k) 2 = t.val := rfl
  have w3 : scatter_S4x8x16x16x512_S1_S4x8x16x512_0123_3_3_0.window (ix4 b h t k) 3 = 0 := rfl
  have w4 : scatter_S4x8x16x16x512_S1_S4x8x16x512_0123_3_3_0.window (ix4 b h t k) 4 = k.val := rfl
  constructor
  · intro q
    have q0 := q 0
    have q1 := q 1
    have q2 := q 2
    have q3 := q 3
    have q4 := q 4
    rw [s, w0] at q0
    rw [s, w1] at q1
    rw [s, w2] at q2
    rw [s, w3] at q3
    rw [s, w4] at q4
    change (0 : Int) + (b.val : Int) = (b'.val : Int) at q0
    change (0 : Int) + (h.val : Int) = (h'.val : Int) at q1
    change (0 : Int) + (t.val : Int) = (t'.val : Int) at q2
    change (0 : Int) + ((0 : Nat) : Int) = (r.val : Int) at q3
    change (0 : Int) + (k.val : Int) = (k'.val : Int) at q4
    exact ⟨Fin.ext (by omega), Fin.ext (by omega), Fin.ext (by omega), by omega, Fin.ext (by omega)⟩
  · rintro ⟨rfl, rfl, rfl, hr, rfl⟩ a
    rw [s]
    match a with
    | ⟨0, _⟩ => exact (congrArg (fun n : Nat => (0 : Int) + (n : Int)) w0).trans (zero_add _)
    | ⟨1, _⟩ => exact (congrArg (fun n : Nat => (0 : Int) + (n : Int)) w1).trans (zero_add _)
    | ⟨2, _⟩ => exact (congrArg (fun n : Nat => (0 : Int) + (n : Int)) w2).trans (zero_add _)
    | ⟨3, _⟩ => exact (congrArg (fun n : Nat => (0 : Int) + (n : Int)) w3).trans (by show (0 : Int) + ((0 : Nat) : Int) = (r.val : Int); omega)
    | ⟨4, _⟩ => exact (congrArg (fun n : Nat => (0 : Int) + (n : Int)) w4).trans (zero_add _)

/-- The scatter at an index: the ones in row 0, the zeros below. -/
theorem ones_scatter (x0 : FVec Ideal S4x8x16x16x512 .bf16) (idx : IVec S1 32) (upd : FVec Ideal S4x8x16x512 .bf16) (hx : ∀ i, x0 i = 0)
    (hi : ∀ j, idx j = 0#32) (hu : ∀ i, upd i = 1) (b : Fin 4) (h : Fin 8) (t : Fin 16) (r : Fin 16) (k : Fin 512) :
    Host.scatter scatter_S4x8x16x16x512_S1_S4x8x16x512_0123_3_3_0 (fun _ b => b) x0 idx upd (ix5 b h t r k) = if r.val = 0 then (1 : EReal) else 0 := by
  by_cases e : r.val = 0
  · rw [if_pos e]
    exact Routing.scatter_set_hit _ x0 idx upd _ _ (fun i _ => hu i) (ix4 b h t k) ((ones_lands b h t k idx hi b h t r k).2 ⟨rfl, rfl, rfl, e, rfl⟩)
  · rw [if_neg e]
    refine (Routing.scatter_set_miss _ x0 idx upd _ fun i q => ?_).trans (hx _)
    rw [eq_ix4 i] at q
    exact e ((ones_lands _ _ _ _ idx hi b h t r k).1 q).2.2.2.1

end Cert.Proof.Attn

end
-- ==== Proof.Attn.Host.lean ====
/-
  The arrays the host prepares for the differential attention's kernel, read at an index.
-/
module

public import proofs.«01_k».proof.Proof.Gen.Kernel3Ideal.Frame.Runs
public import Idealize.ShloMosaic.Lib.Pointwise
public import proofs.«01_k».proof.Proof.Attn.Ones
import Idealize.ShloMosaic.Lib.StableHlo.ReadAt
import Idealize.ShloMosaic.Lib.KernelVsHost

@[expose] public section

set_option maxHeartbeats 1000000
set_option maxRecDepth 16384

noncomputable section

namespace Cert.Proof.Attn

open Cert.Kernel3Ideal Cert.Kernel3Ideal.Gen Idealize.ShloMosaic Idealize.ShloMosaic.TcCoe Idealize.ShloMosaic.Pointwise

variable {m : (ℓ : Loc nD τ sig) → Buf (Elt Ideal) ℓ} {c : Dev nD}

abbrev slopesV (m : (ℓ : Loc nD τ sig) → Buf (Elt Ideal) ℓ) (c : Dev nD) : Vec Ideal S8 .f32 := m ((c : Thread nD τ).loc main_arg0)
abbrev kminV (m : (ℓ : Loc nD τ sig) → Buf (Elt Ideal) ℓ) (c : Dev nD) : Vec Ideal S4x8x16 .i32 := m ((c : Thread nD τ).loc main_arg1)
abbrev slabV (m : (ℓ : Loc nD τ sig) → Buf (Elt Ideal) ℓ) (c : Dev nD) : Vec Ideal S4x8192x6528 .bf16 := m ((c : Thread nD τ).loc main_arg2)
abbrev lq1V (m : (ℓ : Loc nD τ sig) → Buf (Elt Ideal) ℓ) (c : Dev nD) : Vec Ideal S64 .f32 := m ((c : Thread nD τ).loc main_arg3)
abbrev lk1V (m : (ℓ : Loc nD τ sig) → Buf (Elt Ideal) ℓ) (c : Dev nD) : Vec Ideal S64 .f32 := m ((c : Thread nD τ).loc main_arg4)
abbrev lq2V (m : (ℓ : Loc nD τ sig) → Buf (Elt Ideal) ℓ) (c : Dev nD) : Vec Ideal S64 .f32 := m ((c : Thread nD τ).loc main_arg5)
abbrev lk2V (m : (ℓ : Loc nD τ sig) → Buf (Elt Ideal) ℓ) (c : Dev nD) : Vec Ideal S64 .f32 := m ((c : Thread nD τ).loc main_arg6)
abbrev subwV (m : (ℓ : Loc nD τ sig) → Buf (Elt Ideal) ℓ) (c : Dev nD) : Vec Ideal S128 .f32 := m ((c : Thread nD τ).loc main_arg7)

theorem table_at (b : Fin 4) (h : Fin 8) (i : Fin 16) :
    (V m c main_v3 : Vec Ideal S512 .i32) (ix1 ⟨(b.val * 8 + h.val) * 16 + i.val, by omega⟩) = kminV m c (ix3 b h i) := by
  unfold V
  after_reads_at

theorem lq1_at (j : Fin 64) : (V m c main_v60 : Vec Ideal S1x64 .f32) (ix2 0 j) = lq1V m c (ix1 j) := by
  unfold V
  after_reads_at

theorem lk1_at (j : Fin 64) : (V m c main_v61 : Vec Ideal S1x64 .f32) (ix2 0 j) = lk1V m c (ix1 j) := by
  unfold V
  after_reads_at

theorem lq2_at (j : Fin 64) : (V m c main_v62 : Vec Ideal S1x64 .f32) (ix2 0 j) = lq2V m c (ix1 j) := by
  unfold V
  after_reads_at

theorem lk2_at (j : Fin 64) : (V m c main_v63 : Vec Ideal S1x64 .f32) (ix2 0 j) = lk2V m c (ix1 j) := by
  unfold V
  after_reads_at

theorem subw_at (r : Fin 128) : (V m c main_v64 : Vec Ideal S128x1 .f32) (ix2 r 0) = subwV m c (ix1 r) := by
  unfold V
  after_reads_at

theorem ones_at (b : Fin 4) (h : Fin 8) (t : Fin 16) (r : Fin 144) (k : Fin 512) :
    (V m c main_v8 : Vec Ideal S4x8x16x144x512 .bf16) (ix5 b h t r k) =
      if hr : r.val < 128 then slabV m c (ix3 b ⟨512 * t.val + k.val, by omega⟩ ⟨2048 + (128 * h.val + r.val), by omega⟩)
      else if r.val = 128 then (1 : EReal) else 0 := by
  have hs : (if hr : r.val < 128 then slabV m c (ix3 b ⟨t.val * 512 + k.val, by omega⟩ ⟨2048 + (h.val * 128 + r.val), by omega⟩)
      else Host.scatter scatter_S4x8x16x16x512_S1_S4x8x16x512_0123_3_3_0 (fun _ b => b)
        (broadcastInDim S4x8x16x16x512 ![] bcast_S_S4x8x16x16x512 (constant S_ .bf16 0x0000#16) : FVec Ideal S4x8x16x16x512 .bf16)
        (broadcastInDim S1 ![] bcast_S_S1 (constantI S_ 32 0#32) : IVec S1 32)
        (broadcastInDim S4x8x16x512 ![] bcast_S_S4x8x16x512 (constant S_ .bf16 0x3F80#16) : FVec Ideal S4x8x16x512 .bf16)
        (ix5 b h t ⟨r.val - 128, by omega⟩ k)) =
      (if hr : r.val < 128 then slabV m c (ix3 b ⟨512 * t.val + k.val, by omega⟩ ⟨2048 + (128 * h.val + r.val), by omega⟩)
      else if r.val = 128 then (1 : EReal) else 0) := by
    by_cases hr : r.val < 128
    · rw [dif_pos hr, dif_pos hr]
      congr 2 <;> (apply Fin.ext; simp only []; omega)
    · rw [dif_neg hr, dif_neg hr]
      refine (ones_scatter _ _ _ (fun i => ?_) (fun j => ?_) (fun i => ?_) b h t ⟨r.val - 128, by omega⟩ k).trans ?_
      · show Ideal.ofBits .bf16 0x0000#16 = 0
        simp [Ideal.ofBits, Ideal.ieee]
      · rfl
      · show Ideal.ofBits .bf16 0x3F80#16 = 1
        simp [Ideal.ofBits, Ideal.ieee, -EReal.coe_mul]
        norm_num
      · by_cases e : r.val = 128
        · rw [if_pos (by show r.val - 128 = 0; omega), if_pos e]
        · rw [if_neg (by show ¬ r.val - 128 = 0; omega), if_neg e]
  refine Eq.trans ?_ hs
  unfold V
  after_reads_at

theorem int_small : ∀ n : Fin 1024, (BitVec.ofNat 32 n.val).toInt = (n.val : Int) := by decide +kernel

theorem sub_small (x y : Nat) (hx : x < 512) (hy : y < 512) :
    (IntOp.subi (BitVec.ofNat 32 x) (BitVec.ofNat 32 y)).toInt = (x : Int) - y := by
  show (BitVec.ofNat 32 x - BitVec.ofNat 32 y).toInt = _
  rw [BitVec.toInt_sub, int_small ⟨x, by omega⟩, int_small ⟨y, by omega⟩]
  simp only [Int.bmod]
  omega

def modw (x n : BitVec 32) : BitVec 32 :=
  Scalar.select
    (IntOp.andi
      (IntOp.cmpi .ne (IntOp.cmpi .slt (IntOp.remsi ArithUnit.host x (Scalar.select (IntOp.cmpi .eq n 0#32) 1#32 n)) 0#32)
        (IntOp.cmpi .slt (Scalar.select (IntOp.cmpi .eq n 0#32) 1#32 n) 0#32))
      (IntOp.cmpi .ne (IntOp.remsi ArithUnit.host x (Scalar.select (IntOp.cmpi .eq n 0#32) 1#32 n)) 0#32))
    (IntOp.addi (IntOp.remsi ArithUnit.host x (Scalar.select (IntOp.cmpi .eq n 0#32) 1#32 n)) (Scalar.select (IntOp.cmpi .eq n 0#32) 1#32 n))
    (IntOp.remsi ArithUnit.host x (Scalar.select (IntOp.cmpi .eq n 0#32) 1#32 n))

def floorw (x n : BitVec 32) : BitVec 32 :=
  Scalar.select
    (IntOp.andi
      (IntOp.cmpi .ne (if x = 0 then 0 else if x.msb = true then -1 else 1 : BitVec 32) (if n = 0 then 0 else if n.msb = true then -1 else 1 : BitVec 32))
      (IntOp.cmpi .ne (IntOp.remsi ArithUnit.host x n) 0#32))
    (IntOp.subi (IntOp.divsi ArithUnit.host x n) 1#32)
    (IntOp.divsi ArithUnit.host x n)

theorem mod_word : ∀ q : Fin 1024, modw (BitVec.ofNat 32 q.val) 512#32 = BitVec.ofNat 32 (q.val % 512) := by decide +kernel
theorem mod16_word : ∀ q : Fin 512, modw (BitVec.ofNat 32 q.val) 16#32 = BitVec.ofNat 32 (q.val % 16) := by decide +kernel
theorem floor_word : ∀ q : Fin 512, floorw (BitVec.ofNat 32 q.val) 16#32 = BitVec.ofNat 32 (q.val / 16) := by decide +kernel

theorem slt_word (n : Nat) (hn : n < 8) : ∀ j : Fin 128, IntOp.cmpi .slt (BitVec.ofNat 32 j.val) (BitVec.ofNat 32 n) = if j.val < n then 1#1 else 0#1 := by
  have h : ∀ n : Fin 8, ∀ j : Fin 128, IntOp.cmpi .slt (BitVec.ofNat 32 j.val) (BitVec.ofNat 32 n.val) = if j.val < n.val then 1#1 else 0#1 := by
    decide +kernel
  exact h ⟨n, hn⟩

theorem select_slt {α : Type} (n : Nat) (hn : n < 8) (j : Fin 128) (x y : α) :
    Scalar.select (IntOp.cmpi .slt (BitVec.ofNat 32 j.val) (BitVec.ofNat 32 n)) x y = if j.val < n then x else y := by
  rw [slt_word n hn j]
  by_cases e : j.val < n
  · rw [if_pos e, if_pos e]; rfl
  · rw [if_neg e, if_neg e]; rfl

theorem real_word (n : Nat) (hn : n < 1024) : FloatOps.sitofp (F := Ideal) FTy.f32 (BitVec.ofNat 32 n) = (((n : Nat) : ℝ) : EReal) := by
  show (((BitVec.ofNat 32 n).toInt : ℝ) : EReal) = _
  rw [int_small ⟨n, hn⟩]
  norm_cast

theorem rel_at (k : Fin 512) (q : Fin 1024) :
    ((V m c main_v47 : Vec Ideal S512x1024 .i32) (ix2 k q)).toInt = (k.val : Int) - (q.val % 512 : Nat) := by
  refine Eq.trans ?_ (sub_small k.val (q.val % 512) k.isLt (by omega))
  congr 1
  unfold V
  after_reads_at
  show IntOp.subi (BitVec.ofNat 32 k.val) (modw (BitVec.ofNat 32 q.val) 512#32) = _
  rw [mod_word]

theorem pos_at (k : Fin 512) (j : Fin 128) :
    (V m c main_v59 : Vec Ideal S512x128 .bf16) (ix2 k j) =
      if j.val < 3 then (((k.val / 16 : Nat) : ℝ) : EReal) else if j.val < 6 then (((k.val % 16 : Nat) : ℝ) : EReal) else 0 := by
  unfold V
  after_reads_at
  show FloatOps.sitofp (F := Ideal) FTy.f32 (Scalar.select (IntOp.cmpi .slt (BitVec.ofNat 32 j.val) (BitVec.ofNat 32 3)) (floorw (BitVec.ofNat 32 k.val) 16#32)
    (Scalar.select (IntOp.cmpi .slt (BitVec.ofNat 32 j.val) (BitVec.ofNat 32 6)) (modw (BitVec.ofNat 32 k.val) 16#32) (BitVec.ofNat 32 0))) = _
  rw [select_slt 3 (by omega), select_slt 6 (by omega), mod16_word, floor_word]
  split_ifs
  · exact real_word _ (by omega)
  · exact real_word _ (by omega)
  · exact (real_word 0 (by omega)).trans (by norm_num)

end Cert.Proof.Attn

end
-- ==== Proof.Attn.Srow.lean ====
/-
  The arrays the host prepares for the differential attention's kernel, read at an index: the rows of the slopes.
-/
module

public import proofs.«01_k».proof.Proof.Attn.Host
public import Idealize.ShloMosaic.Lib.Pointwise
import Idealize.ShloMosaic.Lib.StableHlo.ReadAt
import Idealize.ShloMosaic.Lib.KernelVsHost
import Idealize.ShloMosaic.Lib.Pipeline.Value

@[expose] public section

set_option maxHeartbeats 1000000
set_option maxRecDepth 16384

noncomputable section

namespace Cert.Proof.Attn

open Cert.Kernel3Ideal Cert.Kernel3Ideal.Gen Idealize.ShloMosaic Idealize.ShloMosaic.TcCoe Idealize.ShloMosaic.Pointwise

variable {m : (ℓ : Loc nD τ sig) → Buf (Elt Ideal) ℓ} {c : Dev nD}

abbrev srowTerm (s : FVec Ideal S8 .f32) : FVec Ideal S8x16 .f32 :=
  let h1 : FVec Ideal S8 .f32 := extf .f32 (truncf .bf16 s bitsLt_bf16_f32) bitsLt_bf16_f32
  let h2 : FVec Ideal S8 .f32 := extf .f32 (truncf .bf16 (subf s h1) bitsLt_bf16_f32) bitsLt_bf16_f32
  let h3 : FVec Ideal S8 .f32 := extf .f32 (truncf .bf16 (subf (subf s h1) h2) bitsLt_bf16_f32) bitsLt_bf16_f32
  let k : FVec Ideal S8 .f32 := broadcastInDim S8 ![] bcast_S_S8 (constant S_ .f32 0x41800000#32)
  let z : FVec Ideal S8 .f32 := broadcastInDim S8 ![] bcast_S_S8 (constant S_ .f32 0x00000000#32)
  let col : FVec Ideal S8 .f32 → FVec Ideal S8x1 .f32 := broadcastInDim S8x1 ![0] bcast_S8_S8x1_0
  concatenate S8x16 1 [⟨S8x1, col (mulf k h1)⟩, ⟨S8x1, col (mulf k h2)⟩, ⟨S8x1, col (mulf k h3)⟩, ⟨S8x1, col h1⟩, ⟨S8x1, col h2⟩,
    ⟨S8x1, col h3⟩, ⟨S8x1, col z⟩, ⟨S8x1, col z⟩, ⟨S8x1, col z⟩, ⟨S8x1, col z⟩, ⟨S8x1, col z⟩, ⟨S8x1, col z⟩, ⟨S8x1, col z⟩,
    ⟨S8x1, col z⟩, ⟨S8x1, col z⟩, ⟨S8x1, col z⟩]
    concatenates_S8x1_S8x1_S8x1_S8x1_S8x1_S8x1_S8x1_S8x1_S8x1_S8x1_S8x1_S8x1_S8x1_S8x1_S8x1_S8x1_S8x16_d1

theorem srow_eq :
    (V m c main_v43 : Vec Ideal S8x16x128 .f32) =
    (broadcastInDim (α := Ideal .f32) S8x16x128 ![0, 1, 2] bcast_S8x16x1_S8x16x128_0_1_2 (broadcastInDim S8x16x1 ![0, 1] bcast_S8x16_S8x16x1_0_1 (srowTerm (slopesV m c)))) := by
  unfold V
  after_reads_simp
  rfl

theorem sixteen_bits : Ideal.ofBits .f32 0x41800000#32 = ((16 : ℝ) : EReal) := by
  simp [Ideal.ofBits, Ideal.ieee, -EReal.coe_mul]; norm_num

theorem srowTerm_at (s : FVec Ideal S8 .f32) (h : Fin 8) (j : Fin 16) (x : ℝ) (hx : s (ix1 h) = (x : EReal)) :
    srowTerm s (ix2 h j) = ((if j.val = 0 then 16 * x else if j.val = 3 then x else 0 : ℝ) : EReal) := by
  have off : ∀ (k : Fin 16) (b : Fin 2), b.cast rfl ≠ (1 : Fin 2) → ((ix2 h (0 : Fin 1) : S8x1.Idx) b).val = ((ix2 h k : S8x16.Idx) (b.cast rfl)).val := by
    intro k b hb
    match b with
    | ⟨0, _⟩ => rfl
    | ⟨1, _⟩ => exact absurd rfl hb
  have d0 : (x : EReal) - (x : EReal) = ((0 : ℝ) : EReal) := by rw [← EReal.coe_sub, sub_self]
  have w2 : s (ix1 h) - s (ix1 h) = ((0 : ℝ) : EReal) := by rw [hx]; exact d0
  have w3 : s (ix1 h) - s (ix1 h) - (s (ix1 h) - s (ix1 h)) = ((0 : ℝ) : EReal) := by rw [w2, ← EReal.coe_sub, sub_self]
  have z0 : Ideal.ofBits .f32 0x00000000#32 = ((0 : ℝ) : EReal) := by simp [Ideal.ofBits, Ideal.ieee]
  have m0 : Ideal.ofBits .f32 0x41800000#32 * ((0 : ℝ) : EReal) = ((0 : ℝ) : EReal) := by
    rw [sixteen_bits, ← EReal.coe_mul, mul_zero]
  have v0 : Ideal.ofBits .f32 0x41800000#32 * s (ix1 h) = ((16 * x : ℝ) : EReal) := by rw [sixteen_bits, hx, ← EReal.coe_mul]
  have v1 : Ideal.ofBits .f32 0x41800000#32 * (s (ix1 h) - s (ix1 h)) = ((0 : ℝ) : EReal) := by rw [w2]; exact m0
  have v2 : Ideal.ofBits .f32 0x41800000#32 * (s (ix1 h) - s (ix1 h) - (s (ix1 h) - s (ix1 h))) = ((0 : ℝ) : EReal) := by rw [w3]; exact m0
  have rd : ∀ y : FVec Ideal S8 .f32, broadcastInDim S8x1 ![0] bcast_S8_S8x1_0 y (ix2 h (0 : Fin 1)) = y (ix1 h) := by
    intro y
    pointwise
  match j with
  | ⟨0, _⟩ => exact ((concatenate_apply_piece (t := S8x16) (1 : Fin 2) _ _ (ix2 h (0 : Fin 16)) 0 (by show 0 < 16; omega) S8x1 _ rfl rfl 0 rfl (ix2 h 0) (off 0) rfl).trans (rd _)).trans v0
  | ⟨1, _⟩ => exact ((concatenate_apply_piece (t := S8x16) (1 : Fin 2) _ _ (ix2 h (1 : Fin 16)) 1 (by show 1 < 16; omega) S8x1 _ rfl rfl 1 rfl (ix2 h 0) (off 1) rfl).trans (rd _)).trans v1
  | ⟨2, _⟩ => exact ((concatenate_apply_piece (t := S8x16) (1 : Fin 2) _ _ (ix2 h (2 : Fin 16)) 2 (by show 2 < 16; omega) S8x1 _ rfl rfl 2 rfl (ix2 h 0) (off 2) rfl).trans (rd _)).trans v2
  | ⟨3, _⟩ => exact ((concatenate_apply_piece (t := S8x16) (1 : Fin 2) _ _ (ix2 h (3 : Fin 16)) 3 (by show 3 < 16; omega) S8x1 _ rfl rfl 3 rfl (ix2 h 0) (off 3) rfl).trans (rd _)).trans hx
  | ⟨4, _⟩ => exact ((concatenate_apply_piece (t := S8x16) (1 : Fin 2) _ _ (ix2 h (4 : Fin 16)) 4 (by show 4 < 16; omega) S8x1 _ rfl rfl 4 rfl (ix2 h 0) (off 4) rfl).trans (rd _)).trans w2
  | ⟨5, _⟩ => exact ((concatenate_apply_piece (t := S8x16) (1 : Fin 2) _ _ (ix2 h (5 : Fin 16)) 5 (by show 5 < 16; omega) S8x1 _ rfl rfl 5 rfl (ix2 h 0) (off 5) rfl).trans (rd _)).trans w3
  | ⟨6, _⟩ => exact ((concatenate_apply_piece (t := S8x16) (1 : Fin 2) _ _ (ix2 h (6 : Fin 16)) 6 (by show 6 < 16; omega) S8x1 _ rfl rfl 6 rfl (ix2 h 0) (off 6) rfl).trans (rd _)).trans z0
  | ⟨7, _⟩ => exact ((concatenate_apply_piece (t := S8x16) (1 : Fin 2) _ _ (ix2 h (7 : Fin 16)) 7 (by show 7 < 16; omega) S8x1 _ rfl rfl 7 rfl (ix2 h 0) (off 7) rfl).trans (rd _)).trans z0
  | ⟨8, _⟩ => exact ((concatenate_apply_piece (t := S8x16) (1 : Fin 2) _ _ (ix2 h (8 : Fin 16)) 8 (by show 8 < 16; omega) S8x1 _ rfl rfl 8 rfl (ix2 h 0) (off 8) rfl).trans (rd _)).trans z0
  | ⟨9, _⟩ => exact ((concatenate_apply_piece (t := S8x16) (1 : Fin 2) _ _ (ix2 h (9 : Fin 16)) 9 (by show 9 < 16; omega) S8x1 _ rfl rfl 9 rfl (ix2 h 0) (off 9) rfl).trans (rd _)).trans z0
  | ⟨10, _⟩ => exact ((concatenate_apply_piece (t := S8x16) (1 : Fin 2) _ _ (ix2 h (10 : Fin 16)) 10 (by show 10 < 16; omega) S8x1 _ rfl rfl 10 rfl (ix2 h 0) (off 10) rfl).trans (rd _)).trans z0
  | ⟨11, _⟩ => exact ((concatenate_apply_piece (t := S8x16) (1 : Fin 2) _ _ (ix2 h (11 : Fin 16)) 11 (by show 11 < 16; omega) S8x1 _ rfl rfl 11 rfl (ix2 h 0) (off 11) rfl).trans (rd _)).trans z0
  | ⟨12, _⟩ => exact ((concatenate_apply_piece (t := S8x16) (1 : Fin 2) _ _ (ix2 h (12 : Fin 16)) 12 (by show 12 < 16; omega) S8x1 _ rfl rfl 12 rfl (ix2 h 0) (off 12) rfl).trans (rd _)).trans z0
  | ⟨13, _⟩ => exact ((concatenate_apply_piece (t := S8x16) (1 : Fin 2) _ _ (ix2 h (13 : Fin 16)) 13 (by show 13 < 16; omega) S8x1 _ rfl rfl 13 rfl (ix2 h 0) (off 13) rfl).trans (rd _)).trans z0
  | ⟨14, _⟩ => exact ((concatenate_apply_piece (t := S8x16) (1 : Fin 2) _ _ (ix2 h (14 : Fin 16)) 14 (by show 14 < 16; omega) S8x1 _ rfl rfl 14 rfl (ix2 h 0) (off 14) rfl).trans (rd _)).trans z0
  | ⟨15, _⟩ => exact ((concatenate_apply_piece (t := S8x16) (1 : Fin 2) _ _ (ix2 h (15 : Fin 16)) 15 (by show 15 < 16; omega) S8x1 _ rfl rfl 15 rfl (ix2 h 0) (off 15) rfl).trans (rd _)).trans z0
  | ⟨n + 16, hn⟩ => exact absurd hn (by omega)

theorem srow_at (h : Fin 8) (j : Fin 16) (l : Fin 128) (x : ℝ) (hx : slopesV m c (ix1 h) = (x : EReal)) :
    (V m c main_v43 : Vec Ideal S8x16x128 .f32) (ix3 h j l) = ((if j.val = 0 then 16 * x else if j.val = 3 then x else 0 : ℝ) : EReal) := by
  rw [srow_eq, ← srowTerm_at (slopesV m c) h j x hx]
  generalize srowTerm (slopesV m c) = y
  pointwise

end Cert.Proof.Attn

end
-- ==== Proof.Attn.Blocks.lean ====
/-
  The blocks the differential attention's kernel reads at a grid point, in terms of the arguments.
-/
module

public import proofs.«01_k».proof.Proof.Attn.Srow
import Idealize.ShloMosaic.Lib.Pointwise

@[expose] public section

set_option maxHeartbeats 1000000
set_option maxRecDepth 16384

noncomputable section

namespace Cert.Proof.Attn

open Cert.Kernel3Ideal Cert.Kernel3Ideal.Gen Idealize.ShloMosaic Idealize.ShloMosaic.TcCoe Idealize.ShloMosaic.Pointwise

variable {m : (ℓ : Loc nD τ sig) → Buf (Elt Ideal) ℓ} {c : Dev nD}

theorem small_nat (n : Nat) (hn : n < 1024) : (BitVec.ofNat 32 n).toNat = n := by
  rw [BitVec.toNat_ofNat, Nat.mod_eq_of_lt (by omega)]

theorem index1 (i : grid0.Coords) : cc0_transform_1 i = ![(i 0).val, (i 2).val, (i 1).val] := by
  have h0 : (i 0).val < 4 := (i 0).isLt
  have h1 : (i 1).val < 8 := (i 1).isLt
  have h2 : (i 2).val < 16 := (i 2).isLt
  have e : Scalar.addi 0#32 (BitVec.ofNat 32 (i 1).val) = BitVec.ofNat 32 (i 1).val := BitVec.zero_add _
  show ![(BitVec.ofNat 32 (i 0).val).toNat, (BitVec.ofNat 32 (i 2).val).toNat, (Scalar.addi 0#32 (BitVec.ofNat 32 (i 1).val)).toNat] = _
  rw [e, small_nat _ (by omega), small_nat _ (by omega), small_nat _ (by omega)]

theorem index2 (i : grid0.Coords) : cc0_transform_2 i = ![(i 0).val, 0, 8 + (i 1).val] := by
  have h0 : (i 0).val < 4 := (i 0).isLt
  have h1 : (i 1).val < 8 := (i 1).isLt
  have e : Scalar.addi 8#32 (BitVec.ofNat 32 (i 1).val) = BitVec.ofNat 32 (8 + (i 1).val) := (BitVec.ofNat_add _ _).symm
  show ![(BitVec.ofNat 32 (i 0).val).toNat, (0#32).toNat, (Scalar.addi 8#32 (BitVec.ofNat 32 (i 1).val)).toNat] = _
  rw [e, small_nat (i 0).val (by omega), small_nat (8 + (i 1).val) (by omega)]
  rfl

theorem index3 (i : grid0.Coords) : cc0_transform_3 i = ![(i 0).val, (i 1).val, 0, 0, 0] := by
  have h0 : (i 0).val < 4 := (i 0).isLt
  have h1 : (i 1).val < 8 := (i 1).isLt
  show ![(BitVec.ofNat 32 (i 0).val).toNat, (BitVec.ofNat 32 (i 1).val).toNat, (0#32).toNat, (0#32).toNat, (0#32).toNat] = _
  rw [small_nat _ (by omega), small_nat _ (by omega)]
  rfl

theorem index6 (i : grid0.Coords) : cc0_transform_6 i = ![(i 1).val, 0, 0] := by
  have h1 : (i 1).val < 8 := (i 1).isLt
  show ![(BitVec.ofNat 32 (i 1).val).toNat, (0#32).toNat, (0#32).toNat] = _
  rw [small_nat _ (by omega)]
  rfl

theorem index12 (i : grid0.Coords) : cc0_transform_12 i = ![(i 0).val, (i 2).val, (i 1).val] := by
  have h0 : (i 0).val < 4 := (i 0).isLt
  have h1 : (i 1).val < 8 := (i 1).isLt
  have h2 : (i 2).val < 16 := (i 2).isLt
  show ![(BitVec.ofNat 32 (i 0).val).toNat, (BitVec.ofNat 32 (i 2).val).toNat, (BitVec.ofNat 32 (i 1).val).toNat] = _
  rw [small_nat _ (by omega), small_nat _ (by omega), small_nat _ (by omega)]

variable (hO : Ok m) (t : Fin (cfgM m hO).N)

theorem slab_ref : (V m c main_arg2 : Vec Ideal S4x8192x6528 .bf16) = slabV m c := V_main_arg2 m c
theorem slopes_ref : (V m c main_arg0 : Vec Ideal S8 .f32) = slopesV m c := V_main_arg0 m c

theorem blk0_at (h : Fin 8) : (iblk m hO c 0 t : Vec Ideal S8 .f32) (ix1 h) = slopesV m c (ix1 h) := by
  rw [← slopes_ref]
  unfold iblk
  refine Eq.trans (View.read_apply _ _) ?_
  show V m c main_arg0 _ = V m c main_arg0 _
  congr 1
  funext a
  apply Fin.ext
  match a with
  | ⟨0, _⟩ => show 0 * 8 + 1 * h.val = h.val; omega

theorem blk1_at (r : Fin 512) (n : Fin 128) : (iblk m hO c 1 t : Vec Ideal S1x512x128 .bf16) (ix3 0 r n) =
    slabV m c (ix3 (grid0.coords t 0) ⟨512 * (grid0.coords t 2).val + r.val, by have h : (grid0.coords t 2).val < 16 := (grid0.coords t 2).isLt; omega⟩
      ⟨128 * (grid0.coords t 1).val + n.val, by have h : (grid0.coords t 1).val < 8 := (grid0.coords t 1).isLt; omega⟩) := by
  have e := index1 (grid0.coords t)
  rw [← slab_ref]
  unfold iblk
  refine Eq.trans (View.read_apply _ _) ?_
  show V m c main_arg2 _ = V m c main_arg2 _
  congr 1
  funext a
  apply Fin.ext
  match a with
  | ⟨0, _⟩ => show cc0_transform_1 (grid0.coords t) 0 * 1 + 1 * 0 = (grid0.coords t 0).val; rw [e]; show (grid0.coords t 0).val * 1 + 1 * 0 = _; omega
  | ⟨1, _⟩ => show cc0_transform_1 (grid0.coords t) 1 * 512 + 1 * r.val = 512 * (grid0.coords t 2).val + r.val; rw [e]; show (grid0.coords t 2).val * 512 + 1 * r.val = _; omega
  | ⟨2, _⟩ => show cc0_transform_1 (grid0.coords t) 2 * 128 + 1 * n.val = 128 * (grid0.coords t 1).val + n.val; rw [e]; show (grid0.coords t 1).val * 128 + 1 * n.val = _; omega

theorem blk2_at (r : Fin 8192) (n : Fin 128) : (iblk m hO c 2 t : Vec Ideal S1x8192x128 .bf16) (ix3 0 r n) =
    slabV m c (ix3 (grid0.coords t 0) r
      ⟨1024 + (128 * (grid0.coords t 1).val + n.val), by have h : (grid0.coords t 1).val < 8 := (grid0.coords t 1).isLt; omega⟩) := by
  have e := index2 (grid0.coords t)
  rw [← slab_ref]
  unfold iblk
  refine Eq.trans (View.read_apply _ _) ?_
  show V m c main_arg2 _ = V m c main_arg2 _
  congr 1
  funext a
  apply Fin.ext
  match a with
  | ⟨0, _⟩ => show cc0_transform_2 (grid0.coords t) 0 * 1 + 1 * 0 = (grid0.coords t 0).val; rw [e]; show (grid0.coords t 0).val * 1 + 1 * 0 = _; omega
  | ⟨1, _⟩ => show cc0_transform_2 (grid0.coords t) 1 * 8192 + 1 * r.val = r.val; rw [e]; show 0 * 8192 + 1 * r.val = _; omega
  | ⟨2, _⟩ => show cc0_transform_2 (grid0.coords t) 2 * 128 + 1 * n.val = 1024 + (128 * (grid0.coords t 1).val + n.val); rw [e]; show (8 + (grid0.coords t 1).val) * 128 + 1 * n.val = _; omega

theorem blk3_at (s : Fin 16) (r : Fin 144) (k : Fin 512) : (iblk m hO c 3 t : Vec Ideal S1x1x16x144x512 .bf16) (ix5 0 0 s r k) =
    (V m c main_v8 : Vec Ideal S4x8x16x144x512 .bf16) (ix5 (grid0.coords t 0) (grid0.coords t 1) s r k) := by
  have e := index3 (grid0.coords t)
  unfold iblk
  refine Eq.trans (View.read_apply _ _) ?_
  show V m c main_v8 _ = V m c main_v8 _
  congr 1
  funext a
  apply Fin.ext
  match a with
  | ⟨0, _⟩ => show cc0_transform_3 (grid0.coords t) 0 * 1 + 1 * 0 = (grid0.coords t 0).val; rw [e]; show (grid0.coords t 0).val * 1 + 1 * 0 = _; omega
  | ⟨1, _⟩ => show cc0_transform_3 (grid0.coords t) 1 * 1 + 1 * 0 = (grid0.coords t 1).val; rw [e]; show (grid0.coords t 1).val * 1 + 1 * 0 = _; omega
  | ⟨2, _⟩ => show cc0_transform_3 (grid0.coords t) 2 * 16 + 1 * s.val = s.val; rw [e]; show 0 * 16 + 1 * s.val = _; omega
  | ⟨3, _⟩ => show cc0_transform_3 (grid0.coords t) 3 * 144 + 1 * r.val = r.val; rw [e]; show 0 * 144 + 1 * r.val = _; omega
  | ⟨4, _⟩ => show cc0_transform_3 (grid0.coords t) 4 * 512 + 1 * k.val = k.val; rw [e]; show 0 * 512 + 1 * k.val = _; omega

theorem blk4_at (k : Fin 512) (j : Fin 128) : (iblk m hO c 4 t : Vec Ideal S512x128 .bf16) (ix2 k j) = (V m c main_v59 : Vec Ideal S512x128 .bf16) (ix2 k j) := by
  unfold iblk
  refine Eq.trans (View.read_apply _ _) ?_
  show V m c main_v59 _ = V m c main_v59 _
  congr 1
  funext a
  apply Fin.ext
  match a with
  | ⟨0, _⟩ => show 0 * 512 + 1 * k.val = k.val; omega
  | ⟨1, _⟩ => show 0 * 128 + 1 * j.val = j.val; omega

theorem blk5_at (k : Fin 512) (j : Fin 1024) : (iblk m hO c 5 t : Vec Ideal S512x1024 .i32) (ix2 k j) = (V m c main_v47 : Vec Ideal S512x1024 .i32) (ix2 k j) := by
  unfold iblk
  refine Eq.trans (View.read_apply _ _) ?_
  show V m c main_v47 _ = V m c main_v47 _
  congr 1
  funext a
  apply Fin.ext
  match a with
  | ⟨0, _⟩ => show 0 * 512 + 1 * k.val = k.val; omega
  | ⟨1, _⟩ => show 0 * 1024 + 1 * j.val = j.val; omega

theorem blk6_at (j : Fin 16) (l : Fin 128) : (iblk m hO c 6 t : Vec Ideal S1x16x128 .f32) (ix3 0 j l) =
    (V m c main_v43 : Vec Ideal S8x16x128 .f32) (ix3 (grid0.coords t 1) j l) := by
  have e := index6 (grid0.coords t)
  unfold iblk
  refine Eq.trans (View.read_apply _ _) ?_
  show V m c main_v43 _ = V m c main_v43 _
  congr 1
  funext a
  apply Fin.ext
  match a with
  | ⟨0, _⟩ => show cc0_transform_6 (grid0.coords t) 0 * 1 + 1 * 0 = (grid0.coords t 1).val; rw [e]; show (grid0.coords t 1).val * 1 + 1 * 0 = _; omega
  | ⟨1, _⟩ => show cc0_transform_6 (grid0.coords t) 1 * 16 + 1 * j.val = j.val; rw [e]; show 0 * 16 + 1 * j.val = _; omega
  | ⟨2, _⟩ => show cc0_transform_6 (grid0.coords t) 2 * 128 + 1 * l.val = l.val; rw [e]; show 0 * 128 + 1 * l.val = _; omega

theorem blk7_at (j : Fin 64) : (iblk m hO c 7 t : Vec Ideal S1x64 .f32) (ix2 0 j) = lq1V m c (ix1 j) := by
  rw [← lq1_at]
  unfold iblk
  refine Eq.trans (View.read_apply _ _) ?_
  show V m c main_v60 _ = V m c main_v60 _
  congr 1
  funext a
  apply Fin.ext
  match a with
  | ⟨0, _⟩ => rfl
  | ⟨1, _⟩ => show 0 * 64 + 1 * j.val = j.val; omega

theorem blk8_at (j : Fin 64) : (iblk m hO c 8 t : Vec Ideal S1x64 .f32) (ix2 0 j) = lk1V m c (ix1 j) := by
  rw [← lk1_at]
  unfold iblk
  refine Eq.trans (View.read_apply _ _) ?_
  show V m c main_v61 _ = V m c main_v61 _
  congr 1
  funext a
  apply Fin.ext
  match a with
  | ⟨0, _⟩ => rfl
  | ⟨1, _⟩ => show 0 * 64 + 1 * j.val = j.val; omega

theorem blk9_at (j : Fin 64) : (iblk m hO c 9 t : Vec Ideal S1x64 .f32) (ix2 0 j) = lq2V m c (ix1 j) := by
  rw [← lq2_at]
  unfold iblk
  refine Eq.trans (View.read_apply _ _) ?_
  show V m c main_v62 _ = V m c main_v62 _
  congr 1
  funext a
  apply Fin.ext
  match a with
  | ⟨0, _⟩ => rfl
  | ⟨1, _⟩ => show 0 * 64 + 1 * j.val = j.val; omega

theorem blk10_at (j : Fin 64) : (iblk m hO c 10 t : Vec Ideal S1x64 .f32) (ix2 0 j) = lk2V m c (ix1 j) := by
  rw [← lk2_at]
  unfold iblk
  refine Eq.trans (View.read_apply _ _) ?_
  show V m c main_v63 _ = V m c main_v63 _
  congr 1
  funext a
  apply Fin.ext
  match a with
  | ⟨0, _⟩ => rfl
  | ⟨1, _⟩ => show 0 * 64 + 1 * j.val = j.val; omega

theorem blk11_at (r : Fin 128) : (iblk m hO c 11 t : Vec Ideal S128x1 .f32) (ix2 r 0) = subwV m c (ix1 r) := by
  rw [← subw_at]
  unfold iblk
  refine Eq.trans (View.read_apply _ _) ?_
  show V m c main_v64 _ = V m c main_v64 _
  congr 1
  funext a
  apply Fin.ext
  match a with
  | ⟨0, _⟩ => show 0 * 128 + 1 * r.val = r.val; omega
  | ⟨1, _⟩ => rfl

end Cert.Proof.Attn

end
-- ==== Proof.Attn.Value.lean ====
/-
  What a point of the differential attention's grid leaves, in terms of the arguments.
-/
module

public import proofs.«01_k».proof.Proof.Attn.Target
public import proofs.«01_k».proof.Proof.Attn.Blocks

@[expose] public section

set_option maxHeartbeats 1000000
set_option maxRecDepth 16384
set_option Elab.async false

noncomputable section

namespace Cert.Proof.Attn

open Cert.Kernel3Ideal Cert.Kernel3Ideal.Gen Idealize.ShloMosaic Idealize.ShloMosaic.TcCoe Idealize.ShloMosaic.Pointwise

variable {m : (ℓ : Loc nD τ Cert.Kernel3Ideal.sig) → Buf (Elt Ideal) ℓ} {c : Dev nD}

/-- The slopes' rows' words. -/
theorem srow_real (j : Fin 128) (x : ℝ) :
    (if j.val = 0 then 16 * x else if j.val = 3 then x else 0) = (if j = 0 then 16 * x else 0) + (if j = 3 then x else 0) := by
  have e0 : (j = 0) ↔ j.val = 0 := Fin.ext_iff
  have e3 : (j = 3) ↔ j.val = 3 := Fin.ext_iff
  by_cases h0 : j.val = 0
  · have h3 : ¬ j.val = 3 := by omega
    simp only [e0, e3, h0, if_true]; simp
  · by_cases h3 : j.val = 3
    · simp only [e0, e3, h3]; simp
    · simp only [e0, e3, if_neg h0, if_neg h3]; simp

theorem holds_gen (b : Fin 4) (h : Fin 8) (a : Fin 16) (sx : Fin 4 → Fin 8192 → Fin 6528 → ℝ) (X : Vec Ideal S4x8192x6528 .bf16)
    (hsx : ∀ b s n, X (ix3 b s n) = ((sx b s n : ℝ) : EReal)) (x : ℝ)
    (x1 : Vec Ideal S1x512x128 .bf16) (x2 : Vec Ideal S1x8192x128 .bf16) (x3 : Vec Ideal S1x1x16x144x512 .bf16) (x4 : Vec Ideal S512x128 .bf16)
    (x5 : Vec Ideal S512x1024 .i32) (x6 : Vec Ideal S1x16x128 .f32)
    (e1 : ∀ (r : Fin 512) (n : Fin 128), x1 (ix3 0 r n) = X (ix3 b ⟨512 * a.val + r.val, by omega⟩ ⟨128 * h.val + n.val, by omega⟩))
    (e2 : ∀ (s : Fin 8192) (j : Fin 128), x2 (ix3 0 s j) = X (ix3 b s ⟨1024 + (128 * h.val + j.val), by omega⟩))
    (e3 : ∀ (t : Fin 16) (r : Fin 144) (k : Fin 512), x3 (ix5 0 0 t r k) = if hr : r.val < 128 then
      X (ix3 b ⟨512 * t.val + k.val, by omega⟩ ⟨2048 + (128 * h.val + r.val), by omega⟩) else if r.val = 128 then (1 : EReal) else 0)
    (e4 : ∀ (k : Fin 512) (j : Fin 128), x4 (ix2 k j) = if j.val < 3 then (((k.val / 16 : Nat) : ℝ) : EReal) else if j.val < 6 then (((k.val % 16 : Nat) : ℝ) : EReal) else 0)
    (e5 : ∀ (k : Fin 512) (d : Fin 1024), (x5 (ix2 k d)).toInt = (k.val : Int) - ((d.val % 512 : Nat) : Int))
    (e6 : ∀ (j : Fin 16) (l : Fin 128), x6 (ix3 0 j l) = ((if j.val = 0 then 16 * x else if j.val = 3 then x else 0 : ℝ) : EReal)) :
    Holds x2 x3 x4 x5 (qv x1 x6) x (krOf sx b h) (qrOf sx b h a) (vrOf sx b h) := by
  refine ⟨fun s j => ?_, fun s r k => ?_, fun k j => ?_, fun j d => ?_, fun j d => ?_, fun k d => ?_⟩
  · exact (e2 s j).trans (hsx _ _ _)
  · rw [e3]
    unfold vrOf
    by_cases hr : r.val < 128
    · rw [dif_pos hr, dif_pos hr]; exact hsx _ _ _
    · rw [dif_neg hr, dif_neg hr]
      split_ifs
      · exact EReal.coe_one.symm
      · exact EReal.coe_zero.symm
  · rw [e4]
    split_ifs
    · rfl
    · rfl
    · exact EReal.coe_zero.symm
  · rw [qv_low, eighth]
    unfold qrOf
    by_cases hj : j.val / 64 = d.val / 512
    · rw [if_pos hj, if_pos hj, e1, hsx, ← EReal.coe_mul]
    · rw [if_neg hj, if_neg hj]; exact EReal.coe_zero.symm
  · rw [qv_high, ← srow_real]
    by_cases hj : j.val < 16
    · rw [dif_pos hj]; exact e6 _ _
    · have h0 : ¬ j.val = 0 := by omega
      have h3 : ¬ j.val = 3 := by omega
      rw [dif_neg hj, if_neg h0, if_neg h3]; exact EReal.coe_zero.symm
  · exact e5 k d

theorem holds_of (hO : Ok m) (t : Fin (cfgM m hO).N) (sx : Fin 4 → Fin 8192 → Fin 6528 → ℝ)
    (hsx : ∀ b s n, slabV m c (ix3 b s n) = ((sx b s n : ℝ) : EReal)) (x : ℝ)
    (hx : slopesV m c (ix1 (grid0.coords t 1 : Fin 8)) = ((x : ℝ) : EReal)) :
    Holds (iblk m hO c 2 t) (iblk m hO c 3 t) (iblk m hO c 4 t) (iblk m hO c 5 t) (qv (iblk m hO c 1 t) (iblk m hO c 6 t)) x
      (krOf sx (grid0.coords t 0) (grid0.coords t 1)) (qrOf sx (grid0.coords t 0) (grid0.coords t 1) (grid0.coords t 2))
      (vrOf sx (grid0.coords t 0) (grid0.coords t 1)) := by
  refine holds_gen (grid0.coords t 0 : Fin 4) (grid0.coords t 1 : Fin 8) (grid0.coords t 2 : Fin 16) sx (slabV m c) hsx x _ _ _ _ _ _
    (blk1_at hO t) (blk2_at hO t) (fun s r k => (blk3_at hO t s r k).trans (ones_at _ _ _ _ _)) (fun k j => (blk4_at hO t k j).trans (pos_at _ _))
    (fun k d => (congrArg BitVec.toInt (blk5_at hO t k d)).trans (rel_at k d)) (fun j l => (blk6_at hO t j l).trans (srow_at _ j l x hx))

theorem one_row (sx : Fin 4 → Fin 8192 → Fin 6528 → ℝ) (b : Fin 4) (h : Fin 8) (t : Fin 16) (k : Fin 512) :
    vrOf sx b h t ⟨128, by omega⟩ k = 1 := by
  unfold vrOf
  rw [dif_neg (by show ¬ 128 < 128; omega)]
  exact if_pos rfl

theorem slope_of (i : grid0.Coords) (x0 : Vec Ideal S8 .f32) : slopeOf i x0 = x0 (ix1 (i 1 : Fin 8)) := by
  unfold slopeOf
  refine View.ld_unit_apply_of (Val := Elt Ideal) (e := .f32) x0 _ _ _ _ _ (fun d => ?_)
  match d with
  | ⟨0, _⟩ =>
    have h1 : (i 1).val < 8 := (i 1).isLt
    show (i 1).val = (BitVec.ofNat 32 (i 1).val).toNat + 0
    rw [small_nat _ (by omega)]; rfl

section
variable {κ : Fin 16} {sl : ℝ} {kr : Fin 8192 → Fin 128 → ℝ} {qr : Fin 128 → Fin 1024 → ℝ} {vr : Fin 16 → Fin 144 → Fin 512 → ℝ}
  {x1 : Vec Ideal S1x512x128 .bf16} {x2 : Vec Ideal S1x8192x128 .bf16} {x3 : Vec Ideal S1x1x16x144x512 .bf16} {x4 : Vec Ideal S512x128 .bf16}
  {x5 : Vec Ideal S512x1024 .i32} {x6 : Vec Ideal S1x16x128 .f32}

theorem sums_B (i : grid0.Coords) (W : Elt Ideal .i32) (hW : W = wd κ) (hw : k0_chk1 i W) (hκ : κ.val ≤ (i 2).val)
    (he : ((i 2).val + 1 - κ.val) % 2 = 0) (v1 : Elt Ideal .f32) (hv1 : v1 = ((sl : ℝ) : EReal)) (H : Holds x2 x3 x4 x5 (qv x1 x6) sl kr qr vr) (d : Fin 1024) :
    ∃ M, Stands M (fun r : Fin 144 => accB i x3 (sN i W hw x1 x2 x3 x4 x5 x6 v1) (ix2 r d)) (num (i 2) κ sl kr qr vr d) := by
  subst hW
  refine stands_B i hκ he _ H ?_ d
  unfold sN
  have k := keeps_sts i hκ hw v1 hv1 H _ (keeps_start i hκ hw H) _ le_rfl
  rw [trips1 i κ hκ] at k ⊢
  exact k

theorem sums_C (i : grid0.Coords) (W : Elt Ideal .i32) (hW : W = wd κ) (hw : k0_chk1 i W) (hκ : κ.val ≤ (i 2).val)
    (he : ((i 2).val + 1 - κ.val) % 2 = 1) (v1 : Elt Ideal .f32) (hv1 : v1 = ((sl : ℝ) : EReal)) (H : Holds x2 x3 x4 x5 (qv x1 x6) sl kr qr vr) (d : Fin 1024) :
    ∃ M, Stands M (fun r : Fin 144 => accC i x3 v1 (sN i W hw x1 x2 x3 x4 x5 x6 v1) (ix2 r d)) (num (i 2) κ sl kr qr vr d) := by
  subst hW
  refine stands_C i hκ he _ v1 hv1 H ?_ d
  unfold sN
  have k := keeps_sts i hκ hw v1 hv1 H _ (keeps_start i hκ hw H) _ le_rfl
  rw [trips1 i κ hκ] at k ⊢
  exact k
end

theorem lam_of (a b c d : Vec Ideal S1x64 .f32) (a' b' c' d' : Vec Ideal S64 .f32) (ha : ∀ j, a (ix2 0 j) = a' (ix1 j)) (hb : ∀ j, b (ix2 0 j) = b' (ix1 j))
    (hc : ∀ j, c (ix2 0 j) = c' (ix1 j)) (hd : ∀ j, d (ix2 0 j) = d' (ix1 j)) :
    lamAt a b c d = Ideal.exp (∑ j : Fin 64, a' (ix1 j) * b' (ix1 j)) - Ideal.exp (∑ j : Fin 64, c' (ix1 j) * d' (ix1 j)) + Ideal.ofBits .f32 0x3E4CCCCD#32 := by
  unfold lamAt
  simp only [ha, hb, hc, hd]

/-- The kernel's combining weight. -/
theorem lam_blocks (hO : Ok m) (t : Fin (cfgM m hO).N) :
    lamAt (iblk m hO c 7 t) (iblk m hO c 8 t) (iblk m hO c 9 t) (iblk m hO c 10 t)
      = Ideal.exp (∑ j : Fin 64, lq1V m c (ix1 j) * lk1V m c (ix1 j)) - Ideal.exp (∑ j : Fin 64, lq2V m c (ix1 j) * lk2V m c (ix1 j)) + Ideal.ofBits .f32 0x3E4CCCCD#32 :=
  lam_of _ _ _ _ _ _ _ _ (blk7_at hO t) (blk8_at hO t) (blk9_at hO t) (blk10_at hO t)

end Cert.Proof.Attn

end
-- ==== Proof.Attn.Pre.lean ====
/-
  What the differential attention's precondition says of each argument.
-/
module

public import proofs.«01_k».proof.Defs
public import proofs.«01_k».proof.Proof.Gen.Pre_tiles_in_reach
public import Idealize.ShloMosaic.Lib.Pointwise
public import Idealize.ShloMosaic.Lib.ReduceAll
public import Idealize.ShloMosaic.Lib.Affine

@[expose] public section

set_option maxHeartbeats 1000000
set_option maxRecDepth 16384

noncomputable section

namespace Cert.Proof.Attn

open Cert.Pre_tiles_in_reach Cert.Pre_tiles_in_reach.Gen Idealize.ShloMosaic Idealize.ShloMosaic.Pointwise

section
variable {F : FTy → Type} [FloatOps F] (a0 : FVec F S8 .f32) (a1 : IVec S4x8x16 32) (a2 : FVec F S4x8192x6528 .bf16) (a3 a4 a5 a6 : FVec F S64 .f32)
  (a7 : FVec F S128 .f32)

theorem iota_at (b : Fin 4) (h : Fin 8) (i : Fin 16) :
    (broadcastInDim S4x8x16 ![0, 1, 2] bcast_S1x1x16_S4x8x16_0_1_2 (broadcastInDim S1x1x16 ![2] bcast_S16_S1x1x16_2 (iotaInDim S16 32 0))) (ix3 b h i)
      = BitVec.ofNat 32 i.val := by
  pointwise

theorem iota_int : ∀ i : Fin 16, (BitVec.ofNat 32 i.val).toInt = (i.val : Int) := by decide +kernel

/-- The first live tile lies between the first tile and the query's. -/
theorem kmin_of (H : fn (F := F) a0 a1 a2 a3 a4 a5 a6 a7 = fun _ => 1#1) (b : Fin 4) (h : Fin 8) (i : Fin 16) :
    0 ≤ (a1 (ix3 b h i)).toInt ∧ (a1 (ix3 b h i)).toInt ≤ (i.val : Int) := by
  have h43 := congrFun H (ix3 b h i)
  have h37 := (IntOp.andi_eq_one.1 h43).1
  have h31 := (IntOp.andi_eq_one.1 h37).1
  have h25 := (IntOp.andi_eq_one.1 h31).1
  have h19 := (IntOp.andi_eq_one.1 h25).1
  have h12 := (IntOp.andi_eq_one.1 h19).1
  have h6 := (IntOp.andi_eq_one.1 h12).1
  have h1 := (IntOp.andi_eq_one.1 h6).1
  have h5 := (IntOp.andi_eq_one.1 h6).2
  refine ⟨IntOp.cmpi_sge.1 h1, ?_⟩
  have e : (BitVec.ofNat 32 i.val).toInt = _ := iota_int i
  rw [← e, ← iota_at b h i]
  exact IntOp.cmpi_sle.1 h5

/-- The first live tile, a number. -/
theorem kmin_word (w : BitVec 32) (i : Fin 16) (h0 : 0 ≤ w.toInt) (h1 : w.toInt ≤ (i.val : Int)) :
    ∃ κ : Fin 16, κ.val ≤ i.val ∧ w = BitVec.ofNat 32 κ.val := by
  refine ⟨⟨w.toInt.toNat, by omega⟩, by show w.toInt.toNat ≤ _; omega, ?_⟩
  show w = BitVec.ofNat 32 w.toInt.toNat
  have := BitVec.toInt_eq_toNat_cond w
  apply BitVec.eq_of_toNat_eq
  rw [BitVec.toNat_ofNat]
  have hw := w.isLt
  split at this <;> omega

end

theorem real_of_abs (x : EReal) (h : (FloatOps.cmpf (F := Ideal) (φ := .f32) .olt (FloatOps.hostAbsf (F := Ideal) (φ := .f32) x) (Ideal.ofBits .f32 0x7F800000#32)) = 1#1) :
    ∃ r : ℝ, x = (r : EReal) := by
  have ht : Ideal.ofBits .f32 0x7F800000#32 = (⊤ : EReal) := by simp [Ideal.ofBits, Ideal.ieee]
  have h' : (if max x (-x) < Ideal.ofBits .f32 0x7F800000#32 then (1#1 : BitVec 1) else 0#1) = 1#1 := by
    have e : FloatOps.cmpf (F := Ideal) (φ := .f32) .olt (FloatOps.hostAbsf (F := Ideal) (φ := .f32) x) (Ideal.ofBits .f32 0x7F800000#32) = BitVec.ofBool (decide (max x (-x) < Ideal.ofBits .f32 0x7F800000#32)) := by
      first
        | rfl
        | simp [Ideal.cmp]
    rw [e] at h
    by_cases hc : max x (-x) < Ideal.ofBits .f32 0x7F800000#32
    · rw [if_pos hc]
    · simp [hc] at h
  have hlt : max x (-x) < ⊤ := by
    by_contra hc
    rw [ht, if_neg hc] at h'
    exact absurd h' (by decide)
  induction x with
  | bot => simp at hlt
  | top => simp at hlt
  | coe r => exact ⟨r, rfl⟩

section
variable (a0 : FVec Ideal S8 .f32) (a1 : IVec S4x8x16 32) (a2 : FVec Ideal S4x8192x6528 .bf16) (a3 a4 a5 a6 : FVec Ideal S64 .f32)
  (a7 : FVec Ideal S128 .f32)

instance : Subsingleton S_.Idx := ⟨fun x y => funext fun a => a.elim0⟩

theorem finite_of (H : fn (F := Ideal) a0 a1 a2 a3 a4 a5 a6 a7 = fun _ => 1#1) :
    (∀ i, ∃ r : ℝ, a0 i = (r : EReal)) ∧ (∀ i, ∃ r : ℝ, a2 i = (r : EReal)) ∧ (∀ i, ∃ r : ℝ, a3 i = (r : EReal)) ∧ (∀ i, ∃ r : ℝ, a4 i = (r : EReal)) ∧
      (∀ i, ∃ r : ℝ, a5 i = (r : EReal)) ∧ (∀ i, ∃ r : ℝ, a6 i = (r : EReal)) := by
  have h43 := congrFun H (ix3 (0 : Fin 4) (0 : Fin 8) (0 : Fin 16))
  have h37 := (IntOp.andi_eq_one.1 h43).1
  have h42 := (IntOp.andi_eq_one.1 h43).2
  have h31 := (IntOp.andi_eq_one.1 h37).1
  have h36 := (IntOp.andi_eq_one.1 h37).2
  have h25 := (IntOp.andi_eq_one.1 h31).1
  have h30 := (IntOp.andi_eq_one.1 h31).2
  have h19 := (IntOp.andi_eq_one.1 h25).1
  have h24 := (IntOp.andi_eq_one.1 h25).2
  have h12 := (IntOp.andi_eq_one.1 h19).1
  have h18 := (IntOp.andi_eq_one.1 h19).2
  have h11 := (IntOp.andi_eq_one.1 h12).2
  refine ⟨fun i => ?_, fun i => ?_, fun i => ?_, fun i => ?_, fun i => ?_, fun i => ?_⟩
  · exact real_of_abs _ (Host.reduce_andi_all _ _ _ _ _ h11 i)
  · exact real_of_abs _ (Host.reduce_andi_all _ _ _ _ _ h18 i)
  · exact real_of_abs _ (Host.reduce_andi_all _ _ _ _ _ h24 i)
  · exact real_of_abs _ (Host.reduce_andi_all _ _ _ _ _ h30 i)
  · exact real_of_abs _ (Host.reduce_andi_all _ _ _ _ _ h36 i)
  · exact real_of_abs _ (Host.reduce_andi_all _ _ _ _ _ h42 i)

end

end Cert.Proof.Attn

end
-- ==== Proof.Attn.OkKernel3Ideal.lean ====
/-
  The differential attention's table word, and the check on it.
-/
module

public import proofs.«01_k».proof.Proof.Gen.Kernel3Ideal.Frame
public import proofs.«01_k».proof.Proof.Attn.Pre
public import Idealize.ShloMosaic.Lib.Pointwise
import Idealize.ShloMosaic.Lib.StableHlo.ReadAt
import Idealize.ShloMosaic.Lib.KernelVsHost

@[expose] public section

set_option maxHeartbeats 1000000
set_option maxRecDepth 16384

noncomputable section

namespace Cert.Proof.Attn.OkKernel3Ideal

open Cert.Kernel3Ideal Cert.Kernel3Ideal.Gen Idealize.ShloMosaic Idealize.ShloMosaic.TcCoe Idealize.ShloMosaic.Pointwise

variable {m : (ℓ : Loc nD τ sig) → Buf (Elt Ideal) ℓ}

theorem table_at (c : Dev nD) (b : Fin 4) (h : Fin 8) (i : Fin 16) :
    (V m c main_v3 : Vec Ideal S512 .i32) (ix1 ⟨(b.val * 8 + h.val) * 16 + i.val, by omega⟩)
      = (m ((c : Thread nD τ).loc main_arg1) : Vec Ideal S4x8x16 .i32) (ix3 b h i) := by
  unfold V
  after_reads_at

theorem off2_at : ∀ (b : Fin 4) (h : Fin 8) (a : Fin 16),
    k0_off2 (fun | ⟨0, _⟩ => b | ⟨1, _⟩ => h | ⟨2, _⟩ => a) = ![(b.val * 8 + h.val) * 16 + a.val] := by decide +kernel

theorem off2_of (i : grid0.Coords) : k0_off2 i = ![((i 0).val * 8 + (i 1).val) * 16 + (i 2).val] := by
  refine Eq.trans (congrArg k0_off2 ?_) (off2_at (i 0) (i 1) (i 2))
  funext a
  match a with
  | ⟨0, _⟩ => rfl
  | ⟨1, _⟩ => rfl
  | ⟨2, _⟩ => rfl

theorem chk_at : ∀ a κ : Fin 16, κ ≤ a →
    k0_chk1 (fun | ⟨0, _⟩ => (0 : Fin 4) | ⟨1, _⟩ => (0 : Fin 8) | ⟨2, _⟩ => a) (BitVec.ofNat 32 κ.val) := by decide +kernel

theorem chk_of (i : grid0.Coords) (κ : Fin 16) (h : κ.val ≤ (i 2).val) : k0_chk1 i (BitVec.ofNat 32 κ.val) := chk_at (i 2) κ h

/-- The table's word at a point of the grid. -/
theorem word_at (i : grid0.Coords) :
    tbM0_0.view.readAt (Elt Ideal) (Rect.unit (s := S512) (k0_off2 i) S1.size (k0_off2_inb i)).toLoadRect (tbl m 0) (Shape.Idx.first (numel1_S1.symm ▸ Nat.one_pos))
      = (m (((0 : Dev nD) : Thread nD τ).loc main_arg1) : Vec Ideal S4x8x16 .i32) (ix3 (i 0) (i 1) (i 2)) := by
  refine Eq.trans ?_ (table_at 0 (i 0) (i 1) (i 2))
  refine Eq.trans (View.readAt_apply _ _ _) ?_
  refine Eq.trans (View.read_apply _ _) ?_
  show V m 0 main_v3 _ = V m 0 main_v3 _
  congr 1
  funext a
  apply Fin.ext
  match a with
  | ⟨0, _⟩ =>
    have h0 := congrFun (off2_of i) 0
    show k0_off2 i 0 + 1 * 0 = _
    rw [h0]
    rfl

section
attribute [local irreducible] k0_chk1

theorem ok_of_pre (m : (ℓ : Loc nD τ sig) → Buf (Elt Ideal) ℓ) (_ : Cert.Pre_Kernel3Ideal m) : Ok m := trivial

theorem kmin_pre (m : (ℓ : Loc nD τ sig) → Buf (Elt Ideal) ℓ) (h : Cert.Pre_Kernel3Ideal m) (i : grid0.Coords) :
    ∃ κ : Fin 16, κ.val ≤ (i 2).val ∧
      (m (((0 : Dev nD) : Thread nD τ).loc main_arg1) : Vec Ideal S4x8x16 .i32) (ix3 (i 0) (i 1) (i 2)) = BitVec.ofNat 32 κ.val := by
  obtain ⟨h0, h1⟩ := kmin_of _ _ _ _ _ _ _ _ (h 0) (i 0) (i 1) (i 2)
  exact kmin_word _ (i 2) h0 h1

theorem hyps_of_pre (m : (ℓ : Loc nD τ sig) → Buf (Elt Ideal) ℓ) (h : Cert.Pre_Kernel3Ideal m) (hO : Ok m) : Hyps m hO := by
  refine Hyps.of ?_
  intro c t
  obtain ⟨κ, hκ, e⟩ := kmin_pre m h (grid0.coords t)
  show k0_chk1 (grid0.coords t) _
  rw [word_at, e]
  exact chk_of _ κ hκ

end

end Cert.Proof.Attn.OkKernel3Ideal

end
-- ==== Proof.Attn.Point.lean ====
/-
  The differential attention's output at a point of its grid.
-/
module

public import proofs.«01_k».proof.Proof.Attn.Value
public import proofs.«01_k».proof.Proof.Attn.OkKernel3Ideal

@[expose] public section

set_option maxHeartbeats 1000000
set_option maxRecDepth 16384
set_option Elab.async false

noncomputable section

namespace Cert.Proof.Attn

open Cert.Kernel3Ideal Cert.Kernel3Ideal.Gen Idealize.ShloMosaic Idealize.ShloMosaic.TcCoe Idealize.ShloMosaic.Pointwise

variable {m : (ℓ : Loc nD τ Cert.Kernel3Ideal.sig) → Buf (Elt Ideal) ℓ} {c : Dev nD}

/-- The kernel's combining weight. -/
def lamV (m : (ℓ : Loc nD τ Cert.Kernel3Ideal.sig) → Buf (Elt Ideal) ℓ) (c : Dev nD) : EReal :=
  Ideal.exp (∑ j : Fin 64, lq1V m c (ix1 j) * lk1V m c (ix1 j)) - Ideal.exp (∑ j : Fin 64, lq2V m c (ix1 j) * lk2V m c (ix1 j)) + Ideal.ofBits .f32 0x3E4CCCCD#32

theorem point_fin (hO : Ok m) (t : Fin (cfgM m hO).N) (κ : Fin 16) (hκ : κ.val ≤ (grid0.coords t 2).val) (sx : Fin 4 → Fin 8192 → Fin 6528 → ℝ) (x : ℝ)
    (A : FVec Ideal S144x1024 .f32)
    (hA : ∀ d, ∃ M, Stands M (fun r : Fin 144 => A (ix2 r d)) (sums sx (grid0.coords t 0) (grid0.coords t 1) (grid0.coords t 2) κ x d)) (n : Fin 512) (r : Fin 128) :
    fin (iblk m hO c 7 t) (iblk m hO c 8 t) (iblk m hO c 9 t) (iblk m hO c 10 t) (iblk m hO c 11 t) A (ix3 0 n r)
      = outOf (lamV m c) (sums sx (grid0.coords t 0) (grid0.coords t 1) (grid0.coords t 2) κ x) (subwV m c (ix1 r)) n r := by
  refine (fin_at (grid0.coords t 2) hκ _ _ _ _ _ A hA (one_row sx _ _) n r).trans ?_
  have e := lam_blocks (c := c) hO t
  have w := blk11_at (c := c) hO t r
  have key : ∀ (l l' z z' : EReal) (N : Fin 1024 → Fin 144 → ℝ), l = l' → z = z' →
      meanDiff l N n r * Ideal.rsqrt (Ideal.div (∑ d : Fin 128, meanDiff l N n d * meanDiff l N n d) (Ideal.ofBits .f32 0x43000000#32) + Ideal.ofBits .f32 0x3727C5AC#32)
        * z * Ideal.ofBits .f32 0x3F4CCCCD#32 = outOf l' N z' n r := by
    intro l l' z z' N hl hz
    subst hl hz
    rfl
  exact key _ _ _ _ _ e w

set_option maxHeartbeats 400000 in
theorem point_at (hO : Ok m) (hH : Hyps m hO) (t : Fin (cfgM m hO).N) (κ : Fin 16) (hκ : κ.val ≤ (grid0.coords t 2).val)
    (hk : (m (((0 : Dev nD) : Thread nD τ).loc main_arg1) : Vec Ideal S4x8x16 .i32) (ix3 (grid0.coords t 0) (grid0.coords t 1) (grid0.coords t 2)) = wd κ)
    (sx : Fin 4 → Fin 8192 → Fin 6528 → ℝ) (hsx : ∀ b s n, slabV m c (ix3 b s n) = ((sx b s n : ℝ) : EReal)) (x : ℝ)
    (hx : slopesV m c (ix1 (grid0.coords t 1 : Fin 8)) = ((x : ℝ) : EReal)) (n : Fin 512) (r : Fin 128) :
    outsAt0 m hO hH c t (ix3 0 n r)
      = outOf (lamV m c) (sums sx (grid0.coords t 0) (grid0.coords t 1) (grid0.coords t 2) κ x) (subwV m c (ix1 r)) n r := by
  have hW := (OkKernel3Ideal.word_at (m := m) (grid0.coords t)).trans hk
  have H := holds_of hO t sx hsx x hx
  have hv : slopeOf (grid0.coords t) (iblk m hO c 0 t) = ((x : ℝ) : EReal) :=
    (slope_of (grid0.coords t) (iblk m hO c 0 t)).trans ((blk0_at hO t _).trans hx)
  have h2 := trips2 (grid0.coords t) κ hκ
  rw [← hW] at h2
  by_cases he : ((grid0.coords t 2).val + 1 - κ.val) % 2 = 0
  · have h0 := (even_of (grid0.coords t) κ hκ).2 he
    have h1 : ¬ cond0_1 (grid0.coords t) (wd κ) := fun h => by
      have := (odd_of (grid0.coords t) κ hκ).1 h
      omega
    rw [← hW] at h0 h1
    refine (congrFun ((outsAt0_B m hO hH c t h0 h1).trans (out_B c (grid0.coords t) _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0) h0 h1 (Hyps.c0 hH c t) h2)) (ix3 0 n r)).trans ?_
    exact point_fin hO t κ hκ sx x _ (fun d => sums_B (grid0.coords t) _ hW _ hκ he _ hv H d) n r
  · have he' : ((grid0.coords t 2).val + 1 - κ.val) % 2 = 1 := by omega
    have h0 : ¬ cond0_0 (grid0.coords t) (wd κ) := fun h => he ((even_of (grid0.coords t) κ hκ).1 h)
    have h1 := (odd_of (grid0.coords t) κ hκ).2 he'
    rw [← hW] at h0 h1
    refine (congrFun ((outsAt0_C m hO hH c t h0 h1).trans (out_C c (grid0.coords t) _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0) h0 h1 (Hyps.c0 hH c t) h2)) (ix3 0 n r)).trans ?_
    exact point_fin hO t κ hκ sx x _ (fun d => sums_C (grid0.coords t) _ hW _ hκ he' _ hv H d) n r

end Cert.Proof.Attn

end
-- ==== Proof.Attn.Arr.lean ====
/-
  The differential attention's output array after the run.
-/
module

public import proofs.«01_k».proof.Proof.Attn.Point
public import proofs.«01_k».proof.Proof.Gen.Kernel3Ideal.Frame
public import Idealize.ShloMosaic.Lib.Pipeline.Value

@[expose] public section

set_option maxHeartbeats 1000000
set_option maxRecDepth 16384
set_option Elab.async false

noncomputable section

namespace Cert.Proof.Attn

open Cert.Kernel3Ideal Cert.Kernel3Ideal.Gen Idealize.ShloMosaic Idealize.ShloMosaic.TcCoe Idealize.ShloMosaic.Pointwise Idealize.SL.Sem

variable {m : (ℓ : Loc nD τ Cert.Kernel3Ideal.sig) → Buf (Elt Ideal) ℓ} {c : Dev nD}

section
variable (m c) (κ : Fin 4 → Fin 8 → Fin 16 → Fin 16) (sx : Fin 4 → Fin 8192 → Fin 6528 → ℝ) (x : Fin 8 → ℝ)

/-- The output by batch, head, tile, query of the tile and column of the head. -/
def cell (b : Fin 4) (h : Fin 8) (a : Fin 16) (n : Fin 512) (r : Fin 128) : EReal :=
  outOf (lamV m c) (sums sx b h a (κ b h a) (x h)) (subwV m c (ix1 r)) n r

/-- The output array. -/
def G12 : Vec Ideal S4x8192x1024 .bf16 := fun i =>
  cell m c κ sx x (i 0) ⟨(i 2).val / 128, by have h : (i 2).val < 1024 := (i 2).isLt; omega⟩ ⟨(i 1).val / 512, by have h : (i 1).val < 8192 := (i 1).isLt; omega⟩
    ⟨(i 1).val % 512, by omega⟩ ⟨(i 2).val % 128, by omega⟩

theorem G12_at (i : S4x8192x1024.Idx) (b : Fin 4) (h : Fin 8) (a : Fin 16) (n : Fin 512) (r : Fin 128) (e0 : (i 0).val = b.val)
    (e1 : (i 1).val = a.val * 512 + n.val) (e2 : (i 2).val = h.val * 128 + r.val) : G12 m c κ sx x i = cell m c κ sx x b h a n r := by
  unfold G12
  congr 1
  · exact Fin.ext e0
  · apply Fin.ext; show (i 2).val / 128 = _; omega
  · apply Fin.ext; show (i 1).val / 512 = _; omega
  · apply Fin.ext; show (i 1).val % 512 = _; omega
  · apply Fin.ext; show (i 2).val % 128 = _; omega
end

section
variable (hO : Ok m) (hH : Hyps m hO) (κ : Fin 4 → Fin 8 → Fin 16 → Fin 16) (sx : Fin 4 → Fin 8192 → Fin 6528 → ℝ) (x : Fin 8 → ℝ)
  (hκ : ∀ b h a, (κ b h a).val ≤ a.val ∧ (m (((0 : Dev nD) : Thread nD τ).loc main_arg1) : Vec Ideal S4x8x16 .i32) (ix3 b h a) = wd (κ b h a))
  (hsx : ∀ b s n, slabV m c (ix3 b s n) = ((sx b s n : ℝ) : EReal)) (hx : ∀ h, slopesV m c (ix1 h) = ((x h : ℝ) : EReal))

/-- Where a block's element lies in the array. -/
def embOf (t : Fin (cfgM m hO).N) (y : S1x512x128.Idx) : S4x8192x1024.Idx := (((cfgM m hO).win 12).blk t).view.emb y

theorem embOf0 (t : Fin (cfgM m hO).N) (y : S1x512x128.Idx) : (embOf hO t y 0).val = cc0_transform_12 (grid0.coords t) 0 * 1 + 1 * (y 0).val := rfl
theorem embOf1 (t : Fin (cfgM m hO).N) (y : S1x512x128.Idx) : (embOf hO t y 1).val = cc0_transform_12 (grid0.coords t) 1 * 512 + 1 * (y 1).val := rfl
theorem embOf2 (t : Fin (cfgM m hO).N) (y : S1x512x128.Idx) : (embOf hO t y 2).val = cc0_transform_12 (grid0.coords t) 2 * 128 + 1 * (y 2).val := rfl

include hκ hsx hx in
theorem flushed12_eq (t : Fin (cfgM m hO).N) :
    (dats m hO hH 0 c).flushed 12 t = (((cfgM m hO).win 12).blk t).view.read (Elt Ideal) (G12 m c κ sx x) := by
  show ((cfgM m hO).win 12).cut (grid0.coords t) ((dats m hO hH 0 c).after 12 t) = _
  rw [after0_12]
  refine funext fun (y : S1x512x128.Idx) => ?_
  have e := index12 (grid0.coords t)
  have f0 : cc0_transform_12 (grid0.coords t) 0 = (grid0.coords t 0).val := congrFun e 0
  have f1 : cc0_transform_12 (grid0.coords t) 1 = (grid0.coords t 2).val := congrFun e 1
  have f2 : cc0_transform_12 (grid0.coords t) 2 = (grid0.coords t 1).val := congrFun e 2
  have hy0 : (y 0).val < 1 := (y 0).isLt
  have hy1 : (y 1).val < 512 := (y 1).isLt
  have hy2 : (y 2).val < 128 := (y 2).isLt
  have hb0 := embOf0 hO t y
  have hb1 := embOf1 hO t y
  have hb2 := embOf2 hO t y
  have hr : (((cfgM m hO).win 12).blk t).view.read (Elt Ideal) (G12 m c κ sx x) y = G12 m c κ sx x (embOf hO t y) := by
    refine Eq.trans (View.read_apply _ _) ?_
    rfl
  refine Eq.trans ?_ (Eq.trans (G12_at m c κ sx x (embOf hO t y) (grid0.coords t 0 : Fin 4) (grid0.coords t 1 : Fin 8) (grid0.coords t 2 : Fin 16) ⟨(y 1).val, hy1⟩ ⟨(y 2).val, hy2⟩
    (by rw [hb0, f0]; omega) (by rw [hb1, f1]; show _ = _ + (y 1).val; omega) (by rw [hb2, f2]; show _ = _ + (y 2).val; omega)).symm hr.symm)
  refine Eq.trans ?_ (point_at (c := c) hO hH t (κ (grid0.coords t 0) (grid0.coords t 1) (grid0.coords t 2)) (hκ _ _ _).1 (hκ _ _ _).2 sx hsx (x (grid0.coords t 1)) (hx _) ⟨(y 1).val, hy1⟩ ⟨(y 2).val, hy2⟩)
  show outsAt0 m hO hH c t _ = outsAt0 m hO hH c t _
  congr 1
  funext d
  apply Fin.ext
  match d with
  | ⟨0, _⟩ => show (y 0).val = 0; omega
  | ⟨1, _⟩ => rfl
  | ⟨2, _⟩ => rfl

theorem mem_blk12 (t : Fin (cfgM m hO).N) (i : S4x8192x1024.Idx) :
    i ∈ (((cfgM m hO).win 12).blk t).view.set ↔
      ∀ a : Fin 3, cc0_transform_12 (grid0.coords t) a * S1x512x128.size a ≤ (i a).val ∧ (i a).val < cc0_transform_12 (grid0.coords t) a * S1x512x128.size a + S1x512x128.size a := by
  show i ∈ ((View.whole main_v65).slice (((cfgM m hO).win 12).rect t)).set ↔ _
  refine (Iff.of_eq (congrArg (i ∈ ·) (View.set_slice_whole _ _))).trans ?_
  exact Rect.mem_set_unit

theorem onto12 : ∀ (b : Fin 4) (h : Fin 8) (a : Fin 16), ∃ t : Fin grid0.N, (grid0.coords t 0).val = b.val ∧ (grid0.coords t 1).val = h.val ∧ (grid0.coords t 2).val = a.val := by
  intro b h a
  have key : ∀ t : Fin 512, (grid0.coords (⟨t.val, t.isLt⟩ : Fin grid0.N) 0).val = t.val / 128 ∧ (grid0.coords (⟨t.val, t.isLt⟩ : Fin grid0.N) 1).val = t.val / 16 % 8
      ∧ (grid0.coords (⟨t.val, t.isLt⟩ : Fin grid0.N) 2).val = t.val % 16 := by decide +kernel
  obtain ⟨k0, k1, k2⟩ := key ⟨(b.val * 8 + h.val) * 16 + a.val, by omega⟩
  refine ⟨⟨(b.val * 8 + h.val) * 16 + a.val, by show _ < 512; omega⟩, k0.trans ?_, k1.trans ?_, k2.trans ?_⟩
  · show ((b.val * 8 + h.val) * 16 + a.val) / 128 = b.val; omega
  · show ((b.val * 8 + h.val) * 16 + a.val) / 16 % 8 = h.val; omega
  · show ((b.val * 8 + h.val) * 16 + a.val) % 16 = a.val; omega

theorem covered12 (i : S4x8192x1024.Idx) : ∃ t : Fin (cfgM m hO).N, ((cfgM m hO).win 12).flush t = true ∧ i ∈ (((cfgM m hO).win 12).blk t).view.set := by
  have hi0 : (i 0).val < 4 := (i 0).isLt
  have hi1 : (i 1).val < 8192 := (i 1).isLt
  have hi2 : (i 2).val < 1024 := (i 2).isLt
  obtain ⟨t, h0, h1, h2⟩ := onto12 ⟨(i 0).val, hi0⟩ ⟨(i 2).val / 128, by omega⟩ ⟨(i 1).val / 512, by omega⟩
  refine ⟨t, flush0_12 _ t, ?_⟩
  rw [mem_blk12]
  have e := index12 (grid0.coords t)
  have f0 : cc0_transform_12 (grid0.coords t) 0 = (grid0.coords t 0).val := congrFun e 0
  have f1 : cc0_transform_12 (grid0.coords t) 1 = (grid0.coords t 2).val := congrFun e 1
  have f2 : cc0_transform_12 (grid0.coords t) 2 = (grid0.coords t 1).val := congrFun e 2
  have h0' : (grid0.coords t 0).val = (i 0).val := h0
  have h1' : (grid0.coords t 1).val = (i 2).val / 128 := h1
  have h2' : (grid0.coords t 2).val = (i 1).val / 512 := h2
  intro a
  match a with
  | ⟨0, _⟩ => show cc0_transform_12 (grid0.coords t) 0 * 1 ≤ (i 0).val ∧ (i 0).val < cc0_transform_12 (grid0.coords t) 0 * 1 + 1; rw [f0, h0']; omega
  | ⟨1, _⟩ => show cc0_transform_12 (grid0.coords t) 1 * 512 ≤ (i 1).val ∧ (i 1).val < cc0_transform_12 (grid0.coords t) 1 * 512 + 512; rw [f1, h2']; omega
  | ⟨2, _⟩ => show cc0_transform_12 (grid0.coords t) 2 * 128 ≤ (i 2).val ∧ (i 2).val < cc0_transform_12 (grid0.coords t) 2 * 128 + 128; rw [f2, h1']; omega

include hκ hsx hx in
theorem final12 : (dats m hO hH 0 c).arrAt 12 (cfgM m hO).N = G12 m c κ sx x :=
  (dats m hO hH 0 c).arrAt_eq_of_cover 12 _ (fun t _ => flushed12_eq hO hH κ sx x hκ hsx hx t) (covered12 hO)

end

end Cert.Proof.Attn

end
-- ==== Proof.Attn.Ref.lean ====
/-
  The differential attention's reference, read at an index.
-/
module

public import proofs.«01_k».proof.Proof.Gen.Reference3Ideal.Run
public import Idealize.ShloMosaic.Lib.Pointwise
import Idealize.ShloMosaic.Lib.KernelVsHost

@[expose] public section

set_option maxHeartbeats 1000000
set_option maxRecDepth 16384

noncomputable section

namespace Cert.Proof.Attn.Ref

open Cert.Reference3Ideal Cert.Reference3Ideal.Gen Idealize.ShloMosaic Idealize.ShloMosaic.TcCoe Idealize.ShloMosaic.Pointwise

variable {F : FTy → Type} [FloatOps F]

def qT (x : FVec F S4x8192x6528 .bf16) : FVec F S4x8x2x8192x64 .f32 :=
  mulf (transpose S4x8x2x8192x64 [0, 2, 3, 1, 4] (shapeCast _ (extf .f32 (extractStridedSlice S4x8192x1024 ![0, 0, 0] x slices_S4x8192x6528_S4x8192x1024_0_0_0) bitsLt_bf16_f32) shapeCasts_S4x8192x1024_S4x8192x8x2x64) transposes_S4x8192x8x2x64_S4x8x2x8192x64_0_2_3_1_4)
    (broadcastInDim S4x8x2x8192x64 ![] bcast_S_S4x8x2x8192x64 (constant S_ .f32 0x3E000000#32))

def kT (x : FVec F S4x8192x6528 .bf16) : FVec F S4x8x2x8192x64 .f32 :=
  transpose S4x8x2x8192x64 [0, 2, 3, 1, 4] (shapeCast _ (extf .f32 (extractStridedSlice S4x8192x1024 ![0, 0, 1024] x slices_S4x8192x6528_S4x8192x1024_0_0_1024) bitsLt_bf16_f32) shapeCasts_S4x8192x1024_S4x8192x8x2x64) transposes_S4x8192x8x2x64_S4x8x2x8192x64_0_2_3_1_4

def vT (x : FVec F S4x8192x6528 .bf16) : FVec F S4x8x8192x128 .f32 :=
  transpose S4x8x8192x128 [0, 2, 1, 3] (shapeCast _ (extf .f32 (extractStridedSlice S4x8192x1024 ![0, 0, 2048] x slices_S4x8192x6528_S4x8192x1024_0_0_2048) bitsLt_bf16_f32) shapeCasts_S4x8192x1024_S4x8192x8x128) transposes_S4x8192x8x128_S4x8x8192x128_0_2_1_3

def lamT (a b c d : FVec F S64 .f32) : FVec F S_ .f32 :=
  addf (subf (Host.exp (Host.reduceAdd (mulf a b) (constant S_ .f32 0x00000000#32) reducesTo_S64_S_d0 h_S_))
    (Host.exp (Host.reduceAdd (mulf c d) (constant S_ .f32 0x00000000#32) reducesTo_S64_S_d0 h_S_))) (constant S_ .f32 0x3E4CCCCD#32)

def distT : IVec S8192x8192 32 :=
  subi (broadcastInDim S8192x8192 ![0, 1] bcast_S8192x1_S8192x8192_0_1 (broadcastInDim S8192x1 ![0] bcast_S8192_S8192x1_0 (iotaInDim S8192 32 0)))
    (broadcastInDim S8192x8192 ![0, 1] bcast_S1x8192_S8192x8192_0_1 (broadcastInDim S1x8192 ![1] bcast_S8192_S1x8192_1 (iotaInDim S8192 32 0)))

def firstT (km : IVec S4x8x16 32) : IVec S4x8x8192 32 :=
  shapeCast _ (broadcastInDim S4x8x16x512 ![0, 1, 2] bcast_S4x8x16_S4x8x16x512_0_1_2 (muli km (broadcastInDim S4x8x16 ![] bcast_S_S4x8x16 (constantI S_ 32 512#32)))) shapeCasts_S4x8x16x512_S4x8x8192

def liveT (km : IVec S4x8x16 32) : IVec S4x8x1x8192x8192 1 :=
  andi (broadcastInDim S4x8x1x8192x8192 ![0, 1, 2, 3, 4] bcast_S1x1x1x8192x8192_S4x8x1x8192x8192_0_1_2_3_4 (broadcastInDim S1x1x1x8192x8192 ![3, 4] bcast_S8192x8192_S1x1x1x8192x8192_3_4
      (cmpi .sge distT (broadcastInDim S8192x8192 ![] bcast_S_S8192x8192 (constantI S_ 32 0#32)))))
    (cmpi .sge (broadcastInDim S4x8x1x8192x8192 ![0, 1, 2, 3, 4] bcast_S1x1x1x1x8192_S4x8x1x8192x8192_0_1_2_3_4 (broadcastInDim S1x1x1x1x8192 ![4] bcast_S8192_S1x1x1x1x8192_4 (iotaInDim S8192 32 0)))
      (broadcastInDim S4x8x1x8192x8192 ![0, 1, 2, 3, 4] bcast_S4x8x1x8192x1_S4x8x1x8192x8192_0_1_2_3_4 (broadcastInDim S4x8x1x8192x1 ![0, 1, 3] bcast_S4x8x8192_S4x8x1x8192x1_0_1_3 (firstT km))))

def scT (s : FVec F S8 .f32) (q k : FVec F S4x8x2x8192x64 .f32) : FVec F S4x8x2x8192x8192 .f32 :=
  subf (Host.dotGeneral dot_S4x8x2x8192x64_S4x8x2x8192x64_S4x8x2x8192x8192_4_4_3_3_012_012 none q k)
    (broadcastInDim S4x8x2x8192x8192 ![0, 1, 2, 3, 4] bcast_S1x8x1x8192x8192_S4x8x2x8192x8192_0_1_2_3_4
      (mulf (broadcastInDim S1x8x1x8192x8192 ![0, 1, 2, 3, 4] bcast_S1x8x1x1x1_S1x8x1x8192x8192_0_1_2_3_4 (broadcastInDim S1x8x1x1x1 ![1] bcast_S8_S1x8x1x1x1_1 s))
        (broadcastInDim S1x8x1x8192x8192 ![0, 1, 2, 3, 4] bcast_S1x1x1x8192x8192_S1x8x1x8192x8192_0_1_2_3_4 (broadcastInDim S1x1x1x8192x8192 ![3, 4] bcast_S8192x8192_S1x1x1x8192x8192_3_4 (sitofp .f32 distT)))))

def maskT (km : IVec S4x8x16 32) (sc : FVec F S4x8x2x8192x8192 .f32) : FVec F S4x8x2x8192x8192 .f32 :=
  select (broadcastInDim S4x8x2x8192x8192 ![0, 1, 2, 3, 4] bcast_S4x8x1x8192x8192_S4x8x2x8192x8192_0_1_2_3_4 (liveT km)) sc
    (broadcastInDim S4x8x2x8192x8192 ![] bcast_S_S4x8x2x8192x8192 (id (constant S_ .f32 0xFF800000#32)))

def maxT (w : FVec F S4x8x2x8192x8192 .f32) : FVec F S4x8x2x8192 .f32 :=
  maximumf (broadcastInDim S4x8x2x8192 ![] bcast_S_S4x8x2x8192 (constant S_ .f32 0xFF800000#32))
    (Host.reduce FloatOps.maximumf w (constant S_ .f32 0xFF800000#32) reducesTo_S4x8x2x8192x8192_S4x8x2x8192_d4 h_S_)

def expT (w : FVec F S4x8x2x8192x8192 .f32) : FVec F S4x8x2x8192x8192 .f32 :=
  Host.exp (subf w (broadcastInDim S4x8x2x8192x8192 ![0, 1, 2, 3, 4] bcast_S4x8x2x8192x1_S4x8x2x8192x8192_0_1_2_3_4 (broadcastInDim S4x8x2x8192x1 ![0, 1, 2, 3] bcast_S4x8x2x8192_S4x8x2x8192x1_0_1_2_3 (maxT w))))

def probT (e : FVec F S4x8x2x8192x8192 .f32) : FVec F S4x8x2x8192x8192 .f32 :=
  Host.divf e (broadcastInDim S4x8x2x8192x8192 ![0, 1, 2, 3, 4] bcast_S4x8x2x8192x1_S4x8x2x8192x8192_0_1_2_3_4 (broadcastInDim S4x8x2x8192x1 ![0, 1, 2, 3] bcast_S4x8x2x8192_S4x8x2x8192x1_0_1_2_3
    (Host.reduceAdd e (constant S_ .f32 0x00000000#32) reducesTo_S4x8x2x8192x8192_S4x8x2x8192_d4 h_S_)))

def diffT (l : FVec F S_ .f32) (p : FVec F S4x8x2x8192x8192 .f32) : FVec F S4x8x8192x8192 .f32 :=
  subf (shapeCast _ (extractStridedSlice S4x8x1x8192x8192 ![0, 0, 0, 0, 0] p slices_S4x8x2x8192x8192_S4x8x1x8192x8192_0_0_0_0_0) shapeCasts_S4x8x1x8192x8192_S4x8x8192x8192)
    (mulf (broadcastInDim S4x8x8192x8192 ![] bcast_S_S4x8x8192x8192 l)
      (shapeCast _ (extractStridedSlice S4x8x1x8192x8192 ![0, 0, 1, 0, 0] p slices_S4x8x2x8192x8192_S4x8x1x8192x8192_0_0_1_0_0) shapeCasts_S4x8x1x8192x8192_S4x8x8192x8192))

def oT (d : FVec F S4x8x8192x8192 .f32) (v : FVec F S4x8x8192x128 .f32) : FVec F S4x8x8192x128 .f32 :=
  Host.dotGeneral dot_S4x8x8192x8192_S4x8x8192x128_S4x8x8192x128_3_2_2_3_01_01 none d v

def outT (w : FVec F S128 .f32) (o : FVec F S4x8x8192x128 .f32) : FVec F S4x8192x1024 .bf16 :=
  truncf .bf16 (shapeCast _ (transpose S4x8192x8x128 [0, 2, 1, 3] (mulf (mulf (mulf o
    (broadcastInDim S4x8x8192x128 ![0, 1, 2, 3] bcast_S4x8x8192x1_S4x8x8192x128_0_1_2_3 (Host.rsqrt (addf (Host.divf (broadcastInDim S4x8x8192x1 ![0, 1, 2] bcast_S4x8x8192_S4x8x8192x1_0_1_2
      (Host.reduceAdd (mulf o o) (constant S_ .f32 0x00000000#32) reducesTo_S4x8x8192x128_S4x8x8192_d3 h_S_))
      (broadcastInDim S4x8x8192x1 ![] bcast_S_S4x8x8192x1 (constant S_ .f32 0x43000000#32)))
      (broadcastInDim S4x8x8192x1 ![] bcast_S_S4x8x8192x1 (constant S_ .f32 0x3727C5AC#32))))))
    (broadcastInDim S4x8x8192x128 ![0, 1, 2, 3] bcast_S1x1x1x128_S4x8x8192x128_0_1_2_3 (broadcastInDim S1x1x1x128 ![3] bcast_S128_S1x1x1x128_3 w)))
    (broadcastInDim S4x8x8192x128 ![] bcast_S_S4x8x8192x128 (constant S_ .f32 0x3F4CCCCD#32)))
    transposes_S4x8x8192x128_S4x8192x8x128_0_2_1_3) shapeCasts_S4x8192x8x128_S4x8192x1024) bitsLt_bf16_f32

def refT (s : FVec F S8 .f32) (km : IVec S4x8x16 32) (x : FVec F S4x8192x6528 .bf16) (a b c d : FVec F S64 .f32) (w : FVec F S128 .f32) : FVec F S4x8192x1024 .bf16 :=
  outT w (oT (diffT (lamT a b c d) (probT (expT (maskT km (scT s (qT x) (kT x)))))) (vT x))

theorem ref_eq (m : (ℓ : Loc nD τ sig) → Buf (Elt F) ℓ) (c : Dev nD) :
    Value.res_main_v90 m c = refT (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Value.res_main_v90
  rfl

theorem qT_at (x : FVec Ideal S4x8192x6528 .bf16) (b : Fin 4) (h : Fin 8) (c : Fin 2) (r : Fin 8192) (j : Fin 64) :
    qT x (ix5 b h c r j) = x (ix3 b r ⟨(h.val * 128 + c.val * 64) + j.val, by omega⟩) * Ideal.ofBits .f32 0x3E000000#32 := by
  pointwise [qT]

theorem kT_at (x : FVec Ideal S4x8192x6528 .bf16) (b : Fin 4) (h : Fin 8) (c : Fin 2) (r : Fin 8192) (j : Fin 64) :
    kT x (ix5 b h c r j) = x (ix3 b r ⟨1024 + ((h.val * 128 + c.val * 64) + j.val), by omega⟩) := by
  pointwise [kT]

theorem vT_at (x : FVec Ideal S4x8192x6528 .bf16) (b : Fin 4) (h : Fin 8) (r : Fin 8192) (j : Fin 128) :
    vT x (ix4 b h r j) = x (ix3 b r ⟨2048 + (h.val * 128 + j.val), by omega⟩) := by
  pointwise [vT]

theorem dist_at (q k : Fin 8192) : distT (ix2 q k) = IntOp.subi (BitVec.ofNat 32 q.val) (BitVec.ofNat 32 k.val) := by
  pointwise [distT]

theorem first_at (km : IVec S4x8x16 32) (b : Fin 4) (h : Fin 8) (q : Fin 8192) :
    firstT km (ix3 b h q) = IntOp.muli (km (ix3 b h ⟨q.val / 512, by omega⟩)) 512#32 := by
  pointwise [firstT]

theorem live_at (km : IVec S4x8x16 32) (b : Fin 4) (h : Fin 8) (q k : Fin 8192) :
    liveT km (ix5 b h 0 q k) = IntOp.andi (IntOp.cmpi .sge (distT (ix2 q k)) 0#32) (IntOp.cmpi .sge (BitVec.ofNat 32 k.val) (firstT km (ix3 b h q))) := by
  pointwise [liveT]

theorem sc_at (s : FVec Ideal S8 .f32) (x y : FVec Ideal S4x8x2x8192x64 .f32) (b : Fin 4) (h : Fin 8) (c : Fin 2) (q k : Fin 8192) :
    scT s x y (ix5 b h c q k) = (∑ j : Fin 64, x (ix5 b h c q j) * y (ix5 b h c k j)) - s (ix1 h) * (((distT (ix2 q k)).toInt : ℝ) : EReal) := by
  pointwise [scT]
  rfl

theorem mask_at (km : IVec S4x8x16 32) (s : FVec Ideal S4x8x2x8192x8192 .f32) (b : Fin 4) (h : Fin 8) (c : Fin 2) (q k : Fin 8192) :
    maskT km s (ix5 b h c q k) = Scalar.select (liveT km (ix5 b h 0 q k)) (s (ix5 b h c q k)) (Ideal.ofBits .f32 0xFF800000#32) := by
  pointwise [maskT]
  rfl

theorem exp_at (w : FVec Ideal S4x8x2x8192x8192 .f32) (b : Fin 4) (h : Fin 8) (c : Fin 2) (q k : Fin 8192) :
    expT w (ix5 b h c q k) = Ideal.exp (w (ix5 b h c q k) - maxT w (ix4 b h c q)) := by
  pointwise [expT]

theorem prob_at (e : FVec Ideal S4x8x2x8192x8192 .f32) (b : Fin 4) (h : Fin 8) (c : Fin 2) (q k : Fin 8192) :
    probT e (ix5 b h c q k) = Ideal.div (e (ix5 b h c q k)) (∑ j : Fin 8192, e (ix5 b h c q j)) := by
  pointwise [probT]

theorem diff_at (l : FVec Ideal S_ .f32) (p : FVec Ideal S4x8x2x8192x8192 .f32) (b : Fin 4) (h : Fin 8) (q k : Fin 8192) :
    diffT l p (ix4 b h q k) = p (ix5 b h 0 q k) - l ix0 * p (ix5 b h 1 q k) := by
  pointwise [diffT]

theorem o_at (d : FVec Ideal S4x8x8192x8192 .f32) (v : FVec Ideal S4x8x8192x128 .f32) (b : Fin 4) (h : Fin 8) (q : Fin 8192) (n : Fin 128) :
    oT d v (ix4 b h q n) = ∑ k : Fin 8192, d (ix4 b h q k) * v (ix4 b h k n) := by
  pointwise [oT]

theorem out_at (w : FVec Ideal S128 .f32) (o : FVec Ideal S4x8x8192x128 .f32) (b : Fin 4) (h : Fin 8) (q : Fin 8192) (n : Fin 128) :
    outT w o (ix3 b q ⟨128 * h.val + n.val, by omega⟩) = o (ix4 b h q n) *
      Ideal.rsqrt (Ideal.div (∑ d : Fin 128, o (ix4 b h q d) * o (ix4 b h q d)) (Ideal.ofBits .f32 0x43000000#32) + Ideal.ofBits .f32 0x3727C5AC#32) *
      w (ix1 n) * Ideal.ofBits .f32 0x3F4CCCCD#32 := by
  pointwise [outT]

theorem lam_at (a b c d : FVec Ideal S64 .f32) : lamT a b c d ix0 =
    Ideal.exp (∑ j : Fin 64, a (ix1 j) * b (ix1 j)) - Ideal.exp (∑ j : Fin 64, c (ix1 j) * d (ix1 j)) + Ideal.ofBits .f32 0x3E4CCCCD#32 := by
  pointwise [lamT]

end Cert.Proof.Attn.Ref

end
-- ==== Proof.Attn.RefSoft.lean ====
/-
  The reference's softmax, row by row, at exact reals.
-/
module

public import proofs.«01_k».proof.Proof.Attn.Ref
public import proofs.«01_k».proof.Proof.Attn.Softmax
import Idealize.ShloMosaic.Lib.KernelVsHost

@[expose] public section

set_option maxHeartbeats 1000000
set_option maxRecDepth 16384

noncomputable section

namespace Cert.Proof.Attn.Ref

open Cert.Reference3Ideal Cert.Reference3Ideal.Gen Idealize.ShloMosaic Idealize.ShloMosaic.TcCoe Idealize.ShloMosaic.Pointwise

theorem red4 : S4x8x2x8192x8192.Reduces [4] S4x8x2x8192 := by decide

theorem lift4 (h : S4x8x2x8192x8192.Reduces [4] S4x8x2x8192) (b : Fin 4) (g : Fin 8) (c : Fin 2) (q : Fin 8192) (k : Fin (S4x8x2x8192x8192.size 4)) :
    h.lift (ix4 b g c q) k = ix5 b g c q (⟨k.val, k.isLt⟩ : Fin 8192) := by
  funext a
  apply Fin.ext
  fin_cases a <;> rfl

theorem neg_inf : Ideal.ofBits .f32 0xFF800000#32 = (⊥ : EReal) := by simp [Ideal.ofBits, Ideal.ieee]

theorem fold_real {ι : Type} [Fintype ι] (f : ι → EReal) (z : EReal) (hz : z = ⊥) (hf : ∀ i, f i = ⊥ ∨ ∃ r : ℝ, f i = (r : EReal)) (i0 : ι)
    (h0 : ∃ r : ℝ, f i0 = (r : EReal)) : ∃ M : ℝ, Finset.univ.fold max z f = (M : EReal) := by
  subst hz
  have key : ∀ t : Finset ι, (t.fold max ⊥ f = ⊥ ∨ ∃ r : ℝ, t.fold max ⊥ f = (r : EReal)) ∧ (i0 ∈ t → ∃ r : ℝ, t.fold max ⊥ f = (r : EReal)) := by
    classical
    intro t
    induction t using Finset.induction_on with
    | empty => exact ⟨Or.inl Finset.fold_empty, fun h => absurd h (Finset.notMem_empty _)⟩
    | insert a s ha ih =>
      rw [Finset.fold_insert ha]
      have mx : ∀ x y : ℝ, ∃ r : ℝ, max (x : EReal) (y : EReal) = (r : EReal) := fun x y => ⟨max x y, (EReal.coe_strictMono.monotone.map_max).symm⟩
      refine ⟨?_, fun h => ?_⟩
      · rcases hf a with e | ⟨x, e⟩ <;> rcases ih.1 with e' | ⟨y, e'⟩ <;> rw [e, e']
        · exact Or.inl (max_self _)
        · exact Or.inr ⟨y, max_eq_right bot_le⟩
        · exact Or.inr ⟨x, max_eq_left bot_le⟩
        · exact Or.inr (mx x y)
      · rcases Finset.mem_insert.1 h with e0 | hs
        · subst e0
          obtain ⟨x, e⟩ := h0
          rw [e]
          rcases ih.1 with e' | ⟨y, e'⟩ <;> rw [e']
          · exact ⟨x, max_eq_left bot_le⟩
          · exact mx x y
        · obtain ⟨y, e'⟩ := ih.2 hs
          rw [e']
          rcases hf a with e | ⟨x, e⟩ <;> rw [e]
          · exact ⟨y, max_eq_right bot_le⟩
          · exact mx x y
  exact (key Finset.univ).2 (Finset.mem_univ _)

theorem reduce_real {s t u : Shape} {a : Fin s.rank} (x : FVec Ideal s .f32) (init : FVec Ideal u .f32) (h' : s.ReducesTo [a] t) (h : s.Reduces [a] t) (hu : 0 < u.numel)
    (j : t.Idx) (hz : init (Shape.Idx.first hu) = (⊥ : EReal)) (hf : ∀ i, x (h.lift j i) = (⊥ : EReal) ∨ ∃ r : ℝ, x (h.lift j i) = (r : EReal)) (i0 : Fin (s.size a))
    (h0 : ∃ r : ℝ, x (h.lift j i0) = (r : EReal)) (z : FVec Ideal t .f32) (hz' : z j = (⊥ : EReal)) :
    ∃ M : ℝ, maximumf z (Host.reduce FloatOps.maximumf x init h' hu) j = (M : EReal) := by
  obtain ⟨M, hM⟩ := fold_real (x ∘ h.lift j) (init (Shape.Idx.first hu)) hz hf i0 h0
  refine ⟨M, ?_⟩
  have e := Host.reduce_eq_fold_single FloatOps.maximumf x init h' h hu j
  show max (z j) (Host.reduce FloatOps.maximumf x init h' hu j) = _
  rw [e, hz']
  exact (max_eq_right bot_le).trans hM

/-- The largest score of a row that has a live key is a real number. -/
theorem max_at (w : FVec Ideal S4x8x2x8192x8192 .f32) (b : Fin 4) (h : Fin 8) (c : Fin 2) (q : Fin 8192)
    (hf : ∀ k : Fin 8192, w (ix5 b h c q k) = (⊥ : EReal) ∨ ∃ r : ℝ, w (ix5 b h c q k) = (r : EReal)) (k0 : Fin 8192)
    (h0 : ∃ r : ℝ, w (ix5 b h c q k0) = (r : EReal)) : ∃ M : ℝ, maxT w (ix4 b h c q) = (M : EReal) := by
  unfold maxT
  refine reduce_real w _ reducesTo_S4x8x2x8192x8192_S4x8x2x8192_d4 red4 h_S_ (ix4 b h c q) neg_inf (fun k => ?_) (⟨k0.val, k0.isLt⟩ : Fin (S4x8x2x8192x8192.size 4)) ?_ _ neg_inf
  · rw [lift4 red4 b h c q k]
    exact hf _
  · rw [lift4 red4 b h c q]
    exact h0

/-- A row's softmax weight. -/
def weight {K : Type} [Fintype K] (live : K → Prop) [DecidablePred live] (σ : K → ℝ) (k : K) : ℝ :=
  (if live k then Real.exp (σ k) else 0) / ∑ j, (if live j then Real.exp (σ j) else 0)

theorem soft_row {K : Type} [Fintype K] (live : K → Prop) [DecidablePred live] (σ : K → ℝ) (s : K → EReal)
    (hs : ∀ k, s k = if live k then ((σ k : ℝ) : EReal) else ⊥) (M : ℝ) (k0 : K) (h0 : live k0) (k : K) :
    Ideal.div (Ideal.exp (s k - (M : EReal))) (∑ j, Ideal.exp (s j - (M : EReal))) = ((weight live σ k : ℝ) : EReal) := by
  have he : ∀ j, Ideal.exp (s j - (M : EReal)) = ((Real.exp (-M) * (if live j then Real.exp (σ j) else 0) : ℝ) : EReal) := by
    intro j
    rw [hs j]
    by_cases hl : live j
    · rw [if_pos hl, if_pos hl, ← EReal.coe_sub, Ideal.exp_coe, ← Real.exp_add, neg_add_eq_sub]
    · rw [if_neg hl, if_neg hl, mul_zero, EReal.bot_sub, EReal.coe_zero]
      exact Ideal.exp_bot
  have hpos : 0 < ∑ j, (if live j then Real.exp (σ j) else 0) := by
    refine Finset.sum_pos' (fun j _ => ?_) ⟨k0, Finset.mem_univ _, ?_⟩
    · split_ifs
      · exact (Real.exp_pos _).le
      · exact le_rfl
    · rw [if_pos h0]; exact Real.exp_pos _
  simp only [he]
  rw [coe_sum, ← Finset.mul_sum, Ideal.div_coe (mul_pos (Real.exp_pos _) hpos).ne', ← EReal.coe_mul]
  congr 1
  unfold weight
  have := (Real.exp_pos (-M)).ne'
  have := hpos.ne'
  field_simp

end Cert.Proof.Attn.Ref

end
-- ==== Proof.Attn.RefValue.lean ====
/-
  The reference's output at an index, in real numbers.
-/
module

public import proofs.«01_k».proof.Proof.Attn.Target
public import proofs.«01_k».proof.Proof.Attn.RefSoft
public import Idealize.ShloMosaic.Lib.Affine

@[expose] public section

set_option maxHeartbeats 1000000
set_option maxRecDepth 16384
set_option Elab.async false

noncomputable section

namespace Cert.Proof.Attn

open Idealize.ShloMosaic Idealize.ShloMosaic.Pointwise

/-- A sum by tiles. -/
theorem sum_tiles {N n p : ℕ} (h : N = n * p) (f : Fin N → ℝ) (g : Fin n → Fin p → ℝ) (hg : ∀ (k : Fin N) (t : Fin n) (j : Fin p), k.val = p * t.val + j.val → f k = g t j) :
    ∑ k : Fin N, f k = ∑ t : Fin n, ∑ j : Fin p, g t j := by
  subst h
  rw [← finProdFinEquiv.sum_comp, Fintype.sum_prod_type]
  refine Finset.sum_congr rfl fun t _ => Finset.sum_congr rfl fun j _ => hg _ t j ?_
  show j.val + p * t.val = _
  omega

section
variable (sx : Fin 4 → Fin 8192 → Fin 6528 → ℝ) (b : Fin 4) (h : Fin 8) (a κ : Fin 16) (sl : ℝ) (n : Fin 512)

/-- The query's place. -/
abbrev qOf (a : Fin 16) (n : Fin 512) : Fin 8192 := ⟨512 * a.val + n.val, by omega⟩

/-- A half head's product of a query with a key. -/
def prodOf (c : Fin 2) (k : Fin 8192) : ℝ :=
  ∑ j : Fin 64, (sx b (qOf a n) ⟨(h.val * 128 + c.val * 64) + j.val, by omega⟩ * (1 / 8)) * sx b k ⟨1024 + ((h.val * 128 + c.val * 64) + j.val), by omega⟩

/-- The reference's score. -/
def scoreOf (c : Fin 2) (k : Fin 8192) : ℝ := prodOf sx b h a n c k - sl * (((qOf a n).val : ℝ) - (k.val : ℝ))

/-- The keys a query sees. -/
abbrev seen (a κ : Fin 16) (n : Fin 512) (k : Fin 8192) : Prop := k.val ≤ (qOf a n).val ∧ 512 * κ.val ≤ k.val

theorem sum_half (c : Fin 2) (col : Fin 1024) (hc : col.val = 512 * c.val + n.val) (k : Fin 8192) :
    ∑ j : Fin 128, krOf sx b h k j * qrOf sx b h a j col = prodOf sx b h a n c k := by
  rw [sum_tiles (N := 128) (n := 2) (p := 64) rfl _ (fun (c' : Fin 2) (j : Fin 64) => if c' = c then
    (sx b (qOf a n) ⟨(h.val * 128 + c.val * 64) + j.val, by omega⟩ * (1 / 8)) * sx b k ⟨1024 + ((h.val * 128 + c.val * 64) + j.val), by omega⟩ else 0)]
  · rw [Finset.sum_eq_single c]
    · unfold prodOf
      exact Finset.sum_congr rfl fun j _ => if_pos rfl
    · intro c' _ hne
      exact Finset.sum_eq_zero fun j _ => if_neg hne
    · intro hne
      exact absurd (Finset.mem_univ c) hne
  · intro j c' j' hj
    unfold krOf qrOf
    have hd : j.val / 64 = c'.val := by omega
    have hcol : col.val / 512 = c.val := by omega
    rw [hd, hcol]
    by_cases e : c' = c
    · subst e
      rw [if_pos rfl, if_pos rfl, mul_comm]
      have q1 : (⟨512 * a.val + col.val % 512, by omega⟩ : Fin 8192) = qOf a n := Fin.ext (by show 512 * a.val + col.val % 512 = 512 * a.val + n.val; omega)
      have q2 : (⟨128 * h.val + j.val, by omega⟩ : Fin 6528) = ⟨(h.val * 128 + c'.val * 64) + j'.val, by omega⟩ :=
        Fin.ext (by show 128 * h.val + j.val = (h.val * 128 + c'.val * 64) + j'.val; omega)
      have q3 : (⟨1024 + (128 * h.val + j.val), by omega⟩ : Fin 6528) = ⟨1024 + ((h.val * 128 + c'.val * 64) + j'.val), by omega⟩ :=
        Fin.ext (by show 1024 + (128 * h.val + j.val) = 1024 + ((h.val * 128 + c'.val * 64) + j'.val); omega)
      rw [q1, q2, q3]
    · rw [if_neg (fun e' => e (Fin.ext e')), if_neg e, mul_zero]

/-- The kernel's sums are the reference's, times the query's own factor. -/
theorem sums_eq (c : Fin 2) (col : Fin 1024) (hc : col.val = 512 * c.val + n.val) (r : Fin 144) (v : Fin 8192 → ℝ)
    (hv : ∀ (k : Fin 8192) (t : Fin 16) (j : Fin 512), k.val = 512 * t.val + j.val → vrOf sx b h t r j = v k) :
    sums sx b h a κ sl col r
      = Real.exp (sl * ((qOf a n).val : ℝ)) * ∑ k : Fin 8192, v k * (if seen a κ n k then Real.exp (scoreOf sx b h a sl n c k) else 0) := by
  rw [Finset.mul_sum]
  show upTo a κ sl _ _ _ col (a.val + 1) r = _
  unfold upTo
  symm
  have e : ∀ t : Fin 16, (if κ.val ≤ t.val ∧ t.val < a.val + 1 then part a sl (krOf sx b h) (qrOf sx b h a) (vrOf sx b h) col t r else 0)
      = ∑ j : Fin 512, if κ.val ≤ t.val ∧ t.val < a.val + 1 then vrOf sx b h t r j *
        (if live a col t j then Real.exp (Cert.Proof.Attn.sig sl (krOf sx b h) (qrOf sx b h a) col t j + sl * (512 * (t.val : ℝ))) else 0) else 0 := by
    intro t
    by_cases hl : κ.val ≤ t.val ∧ t.val < a.val + 1
    · rw [if_pos hl]
      simp only [if_pos hl]
      rfl
    · rw [if_neg hl]
      simp only [if_neg hl, Finset.sum_const_zero]
  rw [Finset.sum_congr rfl fun t _ => e t]
  refine sum_tiles (N := 8192) (n := 16) (p := 512) rfl _ _ ?_
  intro k t j hk
  have ht := t.isLt
  have hj := j.isLt
  have hn := n.isLt
  have hm : col.val % 512 = n.val := by omega
  rw [hv k t j hk]
  by_cases hs : seen a κ n k
  · have hs' : k.val ≤ 512 * a.val + n.val ∧ 512 * κ.val ≤ k.val := hs
    have h1 : κ.val ≤ t.val ∧ t.val < a.val + 1 := by omega
    have h2 : live a col t j := by show j.val + 512 * t.val ≤ col.val % 512 + 512 * a.val; omega
    rw [if_pos hs, if_pos h1, if_pos h2, mul_left_comm, ← Real.exp_add]
    congr 2
    unfold Cert.Proof.Attn.sig scoreOf
    have ek : (⟨512 * t.val + j.val, by omega⟩ : Fin 8192) = k := Fin.ext hk.symm
    rw [ek, sum_half sx b h a n c col hc k]
    have er : (k.val : ℝ) = 512 * (t.val : ℝ) + (j.val : ℝ) := by rw [hk]; push_cast; ring
    rw [er]
    ring
  · rw [if_neg hs, mul_zero, mul_zero]
    by_cases h1 : κ.val ≤ t.val ∧ t.val < a.val + 1
    · have h2 : ¬ live a col t j := by
        intro h2
        have h2' : j.val + 512 * t.val ≤ col.val % 512 + 512 * a.val := h2
        refine hs ?_
        show k.val ≤ 512 * a.val + n.val ∧ 512 * κ.val ≤ k.val
        omega
      rw [if_pos h1, if_neg h2, mul_zero]
    · rw [if_neg h1]

/-- A half's weighted mean. -/
theorem mean_eq (c : Fin 2) (col : Fin 1024) (hc : col.val = 512 * c.val + n.val) (r : Fin 128) (v : Fin 8192 → ℝ)
    (hv : ∀ k : Fin 8192, v k = sx b k ⟨2048 + (h.val * 128 + r.val), by omega⟩) :
    ∑ k : Fin 8192, Ref.weight (seen a κ n) (scoreOf sx b h a sl n c) k * v k
      = sums sx b h a κ sl col ⟨r.val, by omega⟩ / sums sx b h a κ sl col ⟨128, by omega⟩ := by
  rw [sums_eq sx b h a κ sl n c col hc ⟨r.val, by omega⟩ v, sums_eq sx b h a κ sl n c col hc ⟨128, by omega⟩ (fun _ => 1),
    mul_div_mul_left _ _ (Real.exp_pos _).ne', Finset.sum_div]
  · refine Finset.sum_congr rfl fun k _ => ?_
    unfold Ref.weight
    simp only [one_mul]
    rw [div_mul_eq_mul_div, mul_comm (v k)]
  · intro k t j _
    unfold vrOf
    rw [dif_neg (by show ¬ 128 < 128; omega)]
    exact if_pos rfl
  · intro k t j hk
    unfold vrOf
    have hr : r.val < 128 := r.isLt
    rw [dif_pos (show ((⟨r.val, by omega⟩ : Fin 144)).val < 128 from hr), hv]
    congr 1
    · exact Fin.ext hk.symm
    · apply Fin.ext
      show 2048 + (128 * h.val + r.val) = 2048 + (h.val * 128 + r.val)
      omega
end

end Cert.Proof.Attn

end
-- ==== Proof.Attn.RefFinal.lean ====
/-
  The reference's output at an index is the kernel's.
-/
module

public import proofs.«01_k».proof.Proof.Attn.RefValue
public import Idealize.ShloMosaic.Lib.Affine

@[expose] public section

set_option maxHeartbeats 1000000
set_option maxRecDepth 16384
set_option Elab.async false

noncomputable section

namespace Cert.Proof.Attn

open Cert.Reference3Ideal Cert.Reference3Ideal.Gen Idealize.ShloMosaic Idealize.ShloMosaic.Pointwise

theorem int_8192 (q : ℕ) (hq : q < 8192) : (BitVec.ofNat 32 q).toInt = (q : Int) := by
  rw [BitVec.toInt_ofNat']
  simp only [Int.bmod]
  omega

theorem sub_8192 (q k : Fin 8192) : (IntOp.subi (BitVec.ofNat 32 q.val) (BitVec.ofNat 32 k.val)).toInt = (q.val : Int) - (k.val : Int) := by
  have hq := q.isLt
  have hk := k.isLt
  show (BitVec.ofNat 32 q.val - BitVec.ofNat 32 k.val).toInt = _
  rw [BitVec.toInt_sub, int_8192 _ hq, int_8192 _ hk]
  simp only [Int.bmod]
  omega

theorem first_int : ∀ κ : Fin 16, (IntOp.muli (wd κ) 512#32).toInt = 512 * (κ.val : Int) := by decide +kernel

section
variable (s : FVec Ideal S8 .f32) (km : IVec S4x8x16 32) (X : FVec Ideal S4x8192x6528 .bf16)
  (sx : Fin 4 → Fin 8192 → Fin 6528 → ℝ) (b : Fin 4) (h : Fin 8) (a κ : Fin 16) (sl : ℝ) (n : Fin 512)
  (hsx : ∀ b s n, X (ix3 b s n) = ((sx b s n : ℝ) : EReal)) (hs : s (ix1 h) = ((sl : ℝ) : EReal)) (hk : km (ix3 b h a) = wd κ)

include hk in
theorem live_iff (k : Fin 8192) : Ref.liveT km (ix5 b h 0 (qOf a n) k) = 1#1 ↔ seen a κ n k := by
  have hq : (⟨(qOf a n).val / 512, by omega⟩ : Fin 16) = a := Fin.ext (by show (512 * a.val + n.val) / 512 = a.val; omega)
  rw [Ref.live_at, IntOp.andi_eq_one, IntOp.cmpi_sge, IntOp.cmpi_sge, Ref.dist_at, Ref.first_at, hq, hk, first_int, int_8192 _ k.isLt, sub_8192]
  show (0#32).toInt ≤ ((qOf a n).val : Int) - (k.val : Int) ∧ 512 * (κ.val : Int) ≤ (k.val : Int) ↔ k.val ≤ (qOf a n).val ∧ 512 * κ.val ≤ k.val
  rw [show (0#32).toInt = 0 from by decide]
  omega

include hsx hs in
theorem score_real (c : Fin 2) (k : Fin 8192) :
    Ref.scT s (Ref.qT X) (Ref.kT X) (ix5 b h c (qOf a n) k) = ((scoreOf sx b h a sl n c k : ℝ) : EReal) := by
  rw [Ref.sc_at, Ref.dist_at, sub_8192, hs]
  have e : ∀ j : Fin 64, Ref.qT X (ix5 b h c (qOf a n) j) * Ref.kT X (ix5 b h c k j)
      = ((((sx b (qOf a n) ⟨(h.val * 128 + c.val * 64) + j.val, by omega⟩ * (1 / 8)) * sx b k ⟨1024 + ((h.val * 128 + c.val * 64) + j.val), by omega⟩ : ℝ)) : EReal) := by
    intro j
    rw [Ref.qT_at, Ref.kT_at, hsx, hsx, eighth, ← EReal.coe_mul, ← EReal.coe_mul]
  rw [Finset.sum_congr rfl fun j _ => e j, coe_sum, ← EReal.coe_mul, ← EReal.coe_sub]
  unfold scoreOf prodOf
  push_cast
  rfl

include hsx hs hk in
theorem masked (c : Fin 2) (k : Fin 8192) :
    Ref.maskT km (Ref.scT s (Ref.qT X) (Ref.kT X)) (ix5 b h c (qOf a n) k)
      = if seen a κ n k then ((scoreOf sx b h a sl n c k : ℝ) : EReal) else ⊥ := by
  rw [Ref.mask_at, score_real s X sx b h a sl n hsx hs c k, Ref.neg_inf]
  have hl := live_iff km b h a κ n hk k
  by_cases e : seen a κ n k
  · rw [if_pos e, hl.2 e]; rfl
  · rw [if_neg e]
    exact if_neg (fun h' => e (hl.1 h'))

include hsx hs hk in
theorem probs (hκ : κ.val ≤ a.val) (c : Fin 2) (k : Fin 8192) :
    Ref.probT (Ref.expT (Ref.maskT km (Ref.scT s (Ref.qT X) (Ref.kT X)))) (ix5 b h c (qOf a n) k)
      = ((Ref.weight (seen a κ n) (scoreOf sx b h a sl n c) k : ℝ) : EReal) := by
  have hm := masked s km X sx b h a κ sl n hsx hs hk c
  have h0 : seen a κ n (qOf a n) := by
    show 512 * a.val + n.val ≤ 512 * a.val + n.val ∧ 512 * κ.val ≤ 512 * a.val + n.val
    omega
  obtain ⟨M, hM⟩ := Ref.max_at (Ref.maskT km (Ref.scT s (Ref.qT X) (Ref.kT X))) b h c (qOf a n)
    (fun k => by
      rw [hm k]
      by_cases e : seen a κ n k
      · rw [if_pos e]; exact Or.inr ⟨_, rfl⟩
      · rw [if_neg e]; exact Or.inl rfl) (qOf a n) ⟨_, (hm _).trans (if_pos h0)⟩
  rw [Ref.prob_at]
  have e : ∀ j, Ref.expT (Ref.maskT km (Ref.scT s (Ref.qT X) (Ref.kT X))) (ix5 b h c (qOf a n) j)
      = Ideal.exp (Ref.maskT km (Ref.scT s (Ref.qT X) (Ref.kT X)) (ix5 b h c (qOf a n) j) - (M : EReal)) := by
    intro j
    rw [Ref.exp_at, hM]
  rw [Finset.sum_congr rfl fun j _ => e j, e k]
  exact Ref.soft_row (seen a κ n) (scoreOf sx b h a sl n c) (fun j => Ref.maskT km (Ref.scT s (Ref.qT X) (Ref.kT X)) (ix5 b h c (qOf a n) j)) hm M (qOf a n) h0 k

include hsx hs hk in
theorem diff_real (hκ : κ.val ≤ a.val) (l : FVec Ideal S_ .f32) (L : ℝ) (hl : l ix0 = ((L : ℝ) : EReal)) (r : Fin 128) :
    Ref.oT (Ref.diffT l (Ref.probT (Ref.expT (Ref.maskT km (Ref.scT s (Ref.qT X) (Ref.kT X)))))) (Ref.vT X) (ix4 b h (qOf a n) r)
      = meanDiff (L : EReal) (sums sx b h a κ sl) n r := by
  rw [Ref.o_at]
  have e : ∀ k : Fin 8192, Ref.diffT l (Ref.probT (Ref.expT (Ref.maskT km (Ref.scT s (Ref.qT X) (Ref.kT X))))) (ix4 b h (qOf a n) k) * Ref.vT X (ix4 b h k r)
      = (((Ref.weight (seen a κ n) (scoreOf sx b h a sl n 0) k - L * Ref.weight (seen a κ n) (scoreOf sx b h a sl n 1) k)
        * sx b k ⟨2048 + (h.val * 128 + r.val), by omega⟩ : ℝ) : EReal) := by
    intro k
    rw [Ref.diff_at, probs s km X sx b h a κ sl n hsx hs hk hκ 0 k, probs s km X sx b h a κ sl n hsx hs hk hκ 1 k, hl, Ref.vT_at, hsx,
      ← EReal.coe_mul, ← EReal.coe_sub, ← EReal.coe_mul]
  rw [Finset.sum_congr rfl fun k _ => e k, coe_sum]
  unfold meanDiff
  rw [← EReal.coe_mul, ← EReal.coe_sub,
    ← mean_eq sx b h a κ sl n 0 ⟨n.val, by omega⟩ (by show n.val = 512 * 0 + n.val; omega) r (fun k => sx b k ⟨2048 + (h.val * 128 + r.val), by omega⟩) (fun _ => rfl),
    ← mean_eq sx b h a κ sl n 1 ⟨512 + n.val, by omega⟩ (by show 512 + n.val = 512 * 1 + n.val; omega) r (fun k => sx b k ⟨2048 + (h.val * 128 + r.val), by omega⟩) (fun _ => rfl),
    Finset.mul_sum, ← Finset.sum_sub_distrib]
  congr 1
  refine Finset.sum_congr rfl fun k _ => ?_
  ring

theorem lam_real (x y z w : FVec Ideal S64 .f32) (hx : ∀ i, ∃ r : ℝ, x i = (r : EReal)) (hy : ∀ i, ∃ r : ℝ, y i = (r : EReal))
    (hz : ∀ i, ∃ r : ℝ, z i = (r : EReal)) (hw : ∀ i, ∃ r : ℝ, w i = (r : EReal)) : ∃ L : ℝ, Ref.lamT x y z w ix0 = (L : EReal) := by
  choose fx hx using hx
  choose fy hy using hy
  choose fz hz using hz
  choose fw hw using hw
  have hc : ∃ r : ℝ, Ideal.ofBits .f32 0x3E4CCCCD#32 = (r : EReal) := by
    simp [Ideal.ofBits, Ideal.ieee, -EReal.coe_mul]
  obtain ⟨r, hr⟩ := hc
  rw [Ref.lam_at, hr]
  simp only [hx, hy, hz, hw, ← EReal.coe_mul, coe_sum, Ideal.exp_coe, ← EReal.coe_sub, ← EReal.coe_add]
  exact ⟨_, rfl⟩

include hsx hs hk in
/-- The reference's output. -/
theorem ref_at (hκ : κ.val ≤ a.val) (x y z u : FVec Ideal S64 .f32) (w : FVec Ideal S128 .f32) (L : ℝ) (hl : Ref.lamT x y z u ix0 = ((L : ℝ) : EReal)) (r : Fin 128) :
    Ref.refT s km X x y z u w (ix3 b (qOf a n) ⟨128 * h.val + r.val, by omega⟩)
      = outOf (Ref.lamT x y z u ix0) (sums sx b h a κ sl) (w (ix1 r)) n r := by
  unfold Ref.refT
  rw [Ref.out_at]
  have o := fun d => diff_real s km X sx b h a κ sl n hsx hs hk hκ (Ref.lamT x y z u) L hl d
  simp only [o]
  rw [hl]
  rfl

end

end Cert.Proof.Attn

end
-- ==== Proof.Attn.OkKernel3.lean ====
/-
  The differential attention's table word, and the check on it.
-/
module

public import proofs.«01_k».proof.Proof.Gen.Kernel3.Frame
public import proofs.«01_k».proof.Proof.Attn.Pre
public import Idealize.ShloMosaic.Lib.Pointwise
import Idealize.ShloMosaic.Lib.StableHlo.ReadAt
import Idealize.ShloMosaic.Lib.KernelVsHost

@[expose] public section

set_option maxHeartbeats 1000000
set_option maxRecDepth 16384

noncomputable section

namespace Cert.Proof.Attn.OkKernel3

open Cert.Kernel3 Cert.Kernel3.Gen Idealize.ShloMosaic Idealize.ShloMosaic.TcCoe Idealize.ShloMosaic.Pointwise

variable {m : (ℓ : Loc nD τ sig) → Buf (Elt Bits) ℓ}

theorem table_at (c : Dev nD) (b : Fin 4) (h : Fin 8) (i : Fin 16) :
    (V m c main_v3 : Vec Bits S512 .i32) (ix1 ⟨(b.val * 8 + h.val) * 16 + i.val, by omega⟩)
      = (m ((c : Thread nD τ).loc main_arg1) : Vec Bits S4x8x16 .i32) (ix3 b h i) := by
  unfold V
  after_reads_at

theorem off2_at : ∀ (b : Fin 4) (h : Fin 8) (a : Fin 16),
    k0_off2 (fun | ⟨0, _⟩ => b | ⟨1, _⟩ => h | ⟨2, _⟩ => a) = ![(b.val * 8 + h.val) * 16 + a.val] := by decide +kernel

theorem off2_of (i : grid0.Coords) : k0_off2 i = ![((i 0).val * 8 + (i 1).val) * 16 + (i 2).val] := by
  refine Eq.trans (congrArg k0_off2 ?_) (off2_at (i 0) (i 1) (i 2))
  funext a
  match a with
  | ⟨0, _⟩ => rfl
  | ⟨1, _⟩ => rfl
  | ⟨2, _⟩ => rfl

theorem chk_at : ∀ a κ : Fin 16, κ ≤ a →
    k0_chk1 (fun | ⟨0, _⟩ => (0 : Fin 4) | ⟨1, _⟩ => (0 : Fin 8) | ⟨2, _⟩ => a) (BitVec.ofNat 32 κ.val) := by decide +kernel

theorem chk_of (i : grid0.Coords) (κ : Fin 16) (h : κ.val ≤ (i 2).val) : k0_chk1 i (BitVec.ofNat 32 κ.val) := chk_at (i 2) κ h

/-- The table's word at a point of the grid. -/
theorem word_at (i : grid0.Coords) :
    tbM0_0.view.readAt (Elt Bits) (Rect.unit (s := S512) (k0_off2 i) S1.size (k0_off2_inb i)).toLoadRect (tbl m 0) (Shape.Idx.first (numel1_S1.symm ▸ Nat.one_pos))
      = (m (((0 : Dev nD) : Thread nD τ).loc main_arg1) : Vec Bits S4x8x16 .i32) (ix3 (i 0) (i 1) (i 2)) := by
  refine Eq.trans ?_ (table_at 0 (i 0) (i 1) (i 2))
  refine Eq.trans (View.readAt_apply _ _ _) ?_
  refine Eq.trans (View.read_apply _ _) ?_
  show V m 0 main_v3 _ = V m 0 main_v3 _
  congr 1
  funext a
  apply Fin.ext
  match a with
  | ⟨0, _⟩ =>
    have h0 := congrFun (off2_of i) 0
    show k0_off2 i 0 + 1 * 0 = _
    rw [h0]
    rfl

section
attribute [local irreducible] k0_chk1

theorem ok_of_pre (m : (ℓ : Loc nD τ sig) → Buf (Elt Bits) ℓ) (_ : Cert.Pre_Kernel3 m) : Ok m := trivial

theorem kmin_pre (m : (ℓ : Loc nD τ sig) → Buf (Elt Bits) ℓ) (h : Cert.Pre_Kernel3 m) (i : grid0.Coords) :
    ∃ κ : Fin 16, κ.val ≤ (i 2).val ∧
      (m (((0 : Dev nD) : Thread nD τ).loc main_arg1) : Vec Bits S4x8x16 .i32) (ix3 (i 0) (i 1) (i 2)) = BitVec.ofNat 32 κ.val := by
  obtain ⟨h0, h1⟩ := kmin_of _ _ _ _ _ _ _ _ (h 0) (i 0) (i 1) (i 2)
  exact kmin_word _ (i 2) h0 h1

theorem hyps_of_pre (m : (ℓ : Loc nD τ sig) → Buf (Elt Bits) ℓ) (h : Cert.Pre_Kernel3 m) (hO : Ok m) : Hyps m hO := by
  refine Hyps.of ?_
  intro c t
  obtain ⟨κ, hκ, e⟩ := kmin_pre m h (grid0.coords t)
  show k0_chk1 (grid0.coords t) _
  rw [word_at, e]
  exact chk_of _ κ hκ

end

end Cert.Proof.Attn.OkKernel3

end
-- ==== Proof.Attn.Claims.lean ====
/-
  The differential attention's claims, from the two programs' runs.
-/
module

public import proofs.«01_k».proof.Defs
public import proofs.«01_k».proof.Proof.Attn.Arr
public import proofs.«01_k».proof.Proof.Attn.RefFinal
public import proofs.«01_k».proof.Proof.Attn.OkKernel3
public import proofs.«01_k».proof.Proof.Attn.OkKernel3Ideal
public import proofs.«01_k».proof.Proof.Gen.Kernel3.Frame

@[expose] public section

set_option Elab.async false
set_option maxHeartbeats 1000000
set_option maxRecDepth 16384

noncomputable section

namespace Cert.Proof.Attn

open Idealize.ShloMosaic Idealize.ShloMosaic.TcCoe Idealize.ShloMosaic.Pointwise Idealize.SL.Sem

/-- The kernel's frame. -/
theorem frame_kernel : Cert.quiescent_Kernel3 := fun m ρ h =>
  Cert.Kernel3.Gen.frame m ρ (OkKernel3.ok_of_pre m h) (OkKernel3.hyps_of_pre m h _)

theorem frame_kernelIdeal : Cert.quiescent_Kernel3Ideal := fun m ρ h =>
  Cert.Kernel3Ideal.Gen.frame m ρ (OkKernel3Ideal.ok_of_pre m h) (OkKernel3Ideal.hyps_of_pre m h _)

theorem frame_referenceIdeal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem preserves : Cert.preserves_Kernel3_Kernel3Ideal :=
  IdealRules.named_const.statement Cert.Kernel3Ideal.κ "mask" .f32 0xF149F2CA#32 ⊥ rfl

section
variable (m : (ℓ : Loc Cert.Kernel3Ideal.nD Cert.Kernel3Ideal.τ Cert.Kernel3Ideal.sig) → Buf (Elt Ideal) ℓ)

/-- The first key tiles, the slab and the slopes as numbers. -/
def kOf (c : Dev Cert.Kernel3Ideal.nD) (b : Fin 4) (h : Fin 8) (a : Fin 16) : Fin 16 :=
  ⟨((m ((c.tc : Thread Cert.Kernel3Ideal.nD Cert.Kernel3Ideal.τ).loc Cert.Kernel3Ideal.main_arg1) : Vec Ideal Cert.Kernel3Ideal.S4x8x16 .i32) (ix3 b h a)).toNat % 16, by omega⟩

def sxOf (c : Dev Cert.Kernel3Ideal.nD) (b : Fin 4) (s : Fin 8192) (n : Fin 6528) : ℝ := (slabV m c (ix3 b s n) : EReal).toReal

def slOf (c : Dev Cert.Kernel3Ideal.nD) (h : Fin 8) : ℝ := (slopesV m c (ix1 h) : EReal).toReal

variable (hpre : Cert.Pre_Kernel3Ideal m) (c : Dev Cert.Kernel3Ideal.nD)

include hpre in
theorem kOf_at (b : Fin 4) (h : Fin 8) (a : Fin 16) : (kOf m c b h a).val ≤ a.val ∧
    (m ((c.tc : Thread Cert.Kernel3Ideal.nD Cert.Kernel3Ideal.τ).loc Cert.Kernel3Ideal.main_arg1) : Vec Ideal Cert.Kernel3Ideal.S4x8x16 .i32) (ix3 b h a) = BitVec.ofNat 32 (kOf m c b h a).val := by
  have hk := kmin_of _ _ _ _ _ _ _ _ (hpre c) b h a
  obtain ⟨κ, h1, h2⟩ := kmin_word _ a hk.1 hk.2
  have hv : (kOf m c b h a).val = κ.val := by
    show BitVec.toNat _ % 16 = _
    rw [h2]
    have := κ.isLt
    simp only [BitVec.toNat_ofNat]
    omega
  rw [hv]
  exact ⟨h1, h2⟩

include hpre in
theorem sxOf_at (b : Fin 4) (s : Fin 8192) (n : Fin 6528) : slabV m c (ix3 b s n) = ((sxOf m c b s n : ℝ) : EReal) := by
  obtain ⟨r, hr⟩ := (finite_of _ _ _ _ _ _ _ _ (hpre c)).2.1 (ix3 b s n)
  have hr' : slabV m c (ix3 b s n) = (r : EReal) := hr
  unfold sxOf
  rw [hr', EReal.toReal_coe]

include hpre in
theorem slOf_at (h : Fin 8) : slopesV m c (ix1 h) = ((slOf m c h : ℝ) : EReal) := by
  obtain ⟨r, hr⟩ := (finite_of _ _ _ _ _ _ _ _ (hpre c)).1 (ix1 h)
  have hr' : slopesV m c (ix1 h) = (r : EReal) := hr
  unfold slOf
  rw [hr', EReal.toReal_coe]

include hpre in
/-- The reference's function of the arguments is the array that the kernel leaves. -/
theorem ref_kernel :
    Ref.refT (F := Ideal) (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5))
      (m ((c.tc : Thread Cert.Kernel3Ideal.nD Cert.Kernel3Ideal.τ).loc Cert.Kernel3Ideal.main_arg6))
      (m ((c.tc : Thread Cert.Kernel3Ideal.nD Cert.Kernel3Ideal.τ).loc Cert.Kernel3Ideal.main_arg7))
      = G12 m c (kOf m c) (sxOf m c) (slOf m c) := by
  have f := finite_of _ _ _ _ _ _ _ _ (hpre c)
  obtain ⟨L, hL⟩ := lam_real _ _ _ _ f.2.2.1 f.2.2.2.1 f.2.2.2.2.1 f.2.2.2.2.2
  funext i
  have h1 : (i 1).val < 8192 := (i 1).isLt
  have h2 : (i 2).val < 1024 := (i 2).isLt
  obtain ⟨b, h, a, n, r, e0, e1, e2⟩ : ∃ (b : Fin 4) (h : Fin 8) (a : Fin 16) (n : Fin 512) (r : Fin 128),
      (i 0).val = b.val ∧ (i 1).val = a.val * 512 + n.val ∧ (i 2).val = h.val * 128 + r.val :=
    ⟨i 0, ⟨(i 2).val / 128, by omega⟩, ⟨(i 1).val / 512, by omega⟩, ⟨(i 1).val % 512, by omega⟩, ⟨(i 2).val % 128, by omega⟩, rfl,
      by show _ = (i 1).val / 512 * 512 + (i 1).val % 512; omega, by show _ = (i 2).val / 128 * 128 + (i 2).val % 128; omega⟩
  have hi : i = ix3 b (qOf a n) ⟨128 * h.val + r.val, by omega⟩ := by
    funext d
    apply Fin.ext
    fin_cases d
    · exact e0
    · show (i 1).val = 512 * a.val + n.val; omega
    · show (i 2).val = 128 * h.val + r.val; omega
  refine Eq.trans ?_ (G12_at m c (kOf m c) (sxOf m c) (slOf m c) i b h a n r e0 e1 e2).symm
  rw [hi]
  have hk := kOf_at m hpre c b h a
  refine (ref_at _ _ _ (sxOf m c) b h a (kOf m c b h a) (slOf m c h) n (fun b s n => sxOf_at m hpre c b s n) (slOf_at m hpre c h) hk.2 hk.1
    _ _ _ _ _ L hL r).trans ?_
  unfold cell
  rw [Ref.lam_at]
  rfl

end

/-- At exact reals the kernel leaves what the reference computes. -/
theorem value_ideal : Cert.algebraic_Kernel3Ideal_Reference3Ideal := fun m ρ m' ρ' hpre hm =>
  ⟨fun c => G12 m c (kOf m c) (sxOf m c) (slOf m c),
    (θ_run Cert.Kernel3Ideal.defs _ _).mono (fun _ h c => ⟨by
        obtain rfl : c = 0 := Subsingleton.elim _ _
        exact ((h.1.1 0).1 12).trans (final12 (OkKernel3Ideal.ok_of_pre m hpre) (OkKernel3Ideal.hyps_of_pre m hpre _) _ _ _
          (kOf_at m hpre 0) (sxOf_at m hpre 0) (slOf_at m hpre 0)), h.2 c⟩)
      (θ_run_and (Cert.Kernel3Ideal.Gen.run_main_quiescent m ρ (OkKernel3Ideal.ok_of_pre m hpre) (OkKernel3Ideal.hyps_of_pre m hpre _))
        (Cert.Kernel3Ideal.Gen.unchanged m ρ (OkKernel3Ideal.ok_of_pre m hpre) (OkKernel3Ideal.hyps_of_pre m hpre _))),
    (θ_run Cert.Reference3Ideal.defs _ _).mono (fun _ h c => ⟨(h c).1.trans (by
      obtain ⟨e0, e1, e2, e3, e4, e5, e6, e7⟩ := hm c
      refine (Ref.ref_eq m' c).trans ?_
      rw [e0, e1, e2, e3, e4, e5, e6, e7]
      exact ref_kernel m hpre c), (h c).2⟩)
      (Cert.Reference3Ideal.Value.run (F := Ideal) m' ρ')⟩

end Cert.Proof.Attn

end
-- ==== Proof.lean ====
/-
  The certificate's claims: the programs' frames, the idealization, and the value claims, each proved in Proof/Claims.lean (the gather),
  Proof/InProj/Claims.lean (the input projection) and Proof/Attn/Claims.lean (the differential attention).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Pre_dest_in_rows
public import proofs.«01_k».proof.Proof.Gen.Pre_tiles_in_reach
public import proofs.«01_k».proof.Proof.Claims
public import proofs.«01_k».proof.Proof.InProj.Claims
public import proofs.«01_k».proof.Proof.Attn.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Reference.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_dest_in_rows.Gen.facts, Cert.Pre_tiles_in_reach.Gen.facts,
  Gather.frame_kernel, Gather.frame_kernelIdeal, Gather.frame_referenceIdeal, Gather.frame_reference,
  InProj.frame_kernel, InProj.frame_kernelIdeal, InProj.frame_referenceIdeal,
  Attn.frame_kernel, Attn.frame_kernelIdeal, Attn.frame_referenceIdeal,
  trivial, Gather.value_ideal, Gather.value_bits, trivial, InProj.value_ideal, Attn.preserves, Attn.value_ideal⟩

end Cert.Proof

end
